-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attn [hPre_finite_attn : Cert.Pre_finite_attn.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attn.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_In3Kernel (m : (ℓ : Loc Cert.In3Kernel.nD Cert.In3Kernel.τ Cert.In3Kernel.sig) → Buf (Elt Bits) ℓ) : Prop :=
  True

def Pre_In3KernelIdeal (m : (ℓ : Loc Cert.In3KernelIdeal.nD Cert.In3KernelIdeal.τ Cert.In3KernelIdeal.sig) → Buf (Elt Ideal) ℓ) : Prop :=
  True

def Pre_In3ReferenceIdeal (m : (ℓ : Loc Cert.In3ReferenceIdeal.nD Cert.In3ReferenceIdeal.τ Cert.In3ReferenceIdeal.sig) → Buf (Elt Ideal) ℓ) : Prop :=
  True

def Pre_In2Kernel (m : (ℓ : Loc Cert.In2Kernel.nD Cert.In2Kernel.τ Cert.In2Kernel.sig) → Buf (Elt Bits) ℓ) : Prop :=
  True

def Pre_In2KernelIdeal (m : (ℓ : Loc Cert.In2KernelIdeal.nD Cert.In2KernelIdeal.τ Cert.In2KernelIdeal.sig) → Buf (Elt Ideal) ℓ) : Prop :=
  True

def Pre_In2ReferenceIdeal (m : (ℓ : Loc Cert.In2ReferenceIdeal.nD Cert.In2ReferenceIdeal.τ Cert.In2ReferenceIdeal.sig) → Buf (Elt Ideal) ℓ) : Prop :=
  True

def Pre_In1Kernel (m : (ℓ : Loc Cert.In1Kernel.nD Cert.In1Kernel.τ Cert.In1Kernel.sig) → Buf (Elt Bits) ℓ) : Prop :=
  True

def Pre_In1KernelIdeal (m : (ℓ : Loc Cert.In1KernelIdeal.nD Cert.In1KernelIdeal.τ Cert.In1KernelIdeal.sig) → Buf (Elt Ideal) ℓ) : Prop :=
  True

def Pre_In1ReferenceIdeal (m : (ℓ : Loc Cert.In1ReferenceIdeal.nD Cert.In1ReferenceIdeal.τ Cert.In1ReferenceIdeal.sig) → Buf (Elt Ideal) ℓ) : Prop :=
  True

def Pre_InFKernel (m : (ℓ : Loc Cert.InFKernel.nD Cert.InFKernel.τ Cert.InFKernel.sig) → Buf (Elt Bits) ℓ) : Prop :=
  True

def Pre_InFKernelIdeal (m : (ℓ : Loc Cert.InFKernelIdeal.nD Cert.InFKernelIdeal.τ Cert.InFKernelIdeal.sig) → Buf (Elt Ideal) ℓ) : Prop :=
  True

def Pre_InFReferenceIdeal (m : (ℓ : Loc Cert.InFReferenceIdeal.nD Cert.InFReferenceIdeal.τ Cert.InFReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_finite_attn [hAttnKernelIdeal : Cert.AttnKernelIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attn m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5)
      ∧ r.2.mem ((c.tc : Thread Cert.LossKernel.nD Cert.LossKernel.τ).loc Cert.LossKernel.main_arg6) = m ((c.tc : Thread Cert.LossKernel.nD Cert.LossKernel.τ).loc Cert.LossKernel.main_arg6))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6))
      ∧ r.2.sem = fun _ => 0)

def quiescent_In3Kernel [hIn3Kernel : Cert.In3Kernel.Facts] : Prop :=
  ∀ (m : (ℓ : Loc Cert.In3Kernel.nD Cert.In3Kernel.τ Cert.In3Kernel.sig) → Buf (Elt Bits) ℓ) (g : Dev Cert.In3Kernel.nD → PrngReg), Pre_In3Kernel m →
    θ_run (Cert.In3Kernel.defs (F := Bits)) (onTc (τ := Cert.In3Kernel.τ) (Cert.In3Kernel.main (F := Bits))) ⟨m, fun _ => 0, g⟩ (fun r => (∀ c : Dev Cert.In3Kernel.nD,
      r.2.mem ((c.tc : Thread Cert.In3Kernel.nD Cert.In3Kernel.τ).loc Cert.In3Kernel.main_arg0) = m ((c.tc : Thread Cert.In3Kernel.nD Cert.In3Kernel.τ).loc Cert.In3Kernel.main_arg0)
      ∧ r.2.mem ((c.tc : Thread Cert.In3Kernel.nD Cert.In3Kernel.τ).loc Cert.In3Kernel.main_arg1) = m ((c.tc : Thread Cert.In3Kernel.nD Cert.In3Kernel.τ).loc Cert.In3Kernel.main_arg1)
      ∧ r.2.mem ((c.tc : Thread Cert.In3Kernel.nD Cert.In3Kernel.τ).loc Cert.In3Kernel.main_arg2) = m ((c.tc : Thread Cert.In3Kernel.nD Cert.In3Kernel.τ).loc Cert.In3Kernel.main_arg2)
      ∧ r.2.mem ((c.tc : Thread Cert.In3Kernel.nD Cert.In3Kernel.τ).loc Cert.In3Kernel.main_arg3) = m ((c.tc : Thread Cert.In3Kernel.nD Cert.In3Kernel.τ).loc Cert.In3Kernel.main_arg3)
      ∧ r.2.mem ((c.tc : Thread Cert.In3Kernel.nD Cert.In3Kernel.τ).loc Cert.In3Kernel.main_arg4) = m ((c.tc : Thread Cert.In3Kernel.nD Cert.In3Kernel.τ).loc Cert.In3Kernel.main_arg4)
      ∧ r.2.mem ((c.tc : Thread Cert.In3Kernel.nD Cert.In3Kernel.τ).loc Cert.In3Kernel.main_arg5) = m ((c.tc : Thread Cert.In3Kernel.nD Cert.In3Kernel.τ).loc Cert.In3Kernel.main_arg5)
      ∧ r.2.mem ((c.tc : Thread Cert.In3Kernel.nD Cert.In3Kernel.τ).loc Cert.In3Kernel.main_arg6) = m ((c.tc : Thread Cert.In3Kernel.nD Cert.In3Kernel.τ).loc Cert.In3Kernel.main_arg6))
      ∧ r.2.sem = fun _ => 0)

def quiescent_In3KernelIdeal [hIn3KernelIdeal : Cert.In3KernelIdeal.Facts] : Prop :=
  ∀ (m : (ℓ : Loc Cert.In3KernelIdeal.nD Cert.In3KernelIdeal.τ Cert.In3KernelIdeal.sig) → Buf (Elt Ideal) ℓ) (g : Dev Cert.In3KernelIdeal.nD → PrngReg), Pre_In3KernelIdeal m →
    θ_run (Cert.In3KernelIdeal.defs (F := Ideal)) (onTc (τ := Cert.In3KernelIdeal.τ) (Cert.In3KernelIdeal.main (F := Ideal))) ⟨m, fun _ => 0, g⟩ (fun r => (∀ c : Dev Cert.In3KernelIdeal.nD,
      r.2.mem ((c.tc : Thread Cert.In3KernelIdeal.nD Cert.In3KernelIdeal.τ).loc Cert.In3KernelIdeal.main_arg0) = m ((c.tc : Thread Cert.In3KernelIdeal.nD Cert.In3KernelIdeal.τ).loc Cert.In3KernelIdeal.main_arg0)
      ∧ r.2.mem ((c.tc : Thread Cert.In3KernelIdeal.nD Cert.In3KernelIdeal.τ).loc Cert.In3KernelIdeal.main_arg1) = m ((c.tc : Thread Cert.In3KernelIdeal.nD Cert.In3KernelIdeal.τ).loc Cert.In3KernelIdeal.main_arg1)
      ∧ r.2.mem ((c.tc : Thread Cert.In3KernelIdeal.nD Cert.In3KernelIdeal.τ).loc Cert.In3KernelIdeal.main_arg2) = m ((c.tc : Thread Cert.In3KernelIdeal.nD Cert.In3KernelIdeal.τ).loc Cert.In3KernelIdeal.main_arg2)
      ∧ r.2.mem ((c.tc : Thread Cert.In3KernelIdeal.nD Cert.In3KernelIdeal.τ).loc Cert.In3KernelIdeal.main_arg3) = m ((c.tc : Thread Cert.In3KernelIdeal.nD Cert.In3KernelIdeal.τ).loc Cert.In3KernelIdeal.main_arg3)
      ∧ r.2.mem ((c.tc : Thread Cert.In3KernelIdeal.nD Cert.In3KernelIdeal.τ).loc Cert.In3KernelIdeal.main_arg4) = m ((c.tc : Thread Cert.In3KernelIdeal.nD Cert.In3KernelIdeal.τ).loc Cert.In3KernelIdeal.main_arg4)
      ∧ r.2.mem ((c.tc : Thread Cert.In3KernelIdeal.nD Cert.In3KernelIdeal.τ).loc Cert.In3KernelIdeal.main_arg5) = m ((c.tc : Thread Cert.In3KernelIdeal.nD Cert.In3KernelIdeal.τ).loc Cert.In3KernelIdeal.main_arg5)
      ∧ r.2.mem ((c.tc : Thread Cert.In3KernelIdeal.nD Cert.In3KernelIdeal.τ).loc Cert.In3KernelIdeal.main_arg6) = m ((c.tc : Thread Cert.In3KernelIdeal.nD Cert.In3KernelIdeal.τ).loc Cert.In3KernelIdeal.main_arg6))
      ∧ r.2.sem = fun _ => 0)

def quiescent_In3ReferenceIdeal [hIn3ReferenceIdeal : Cert.In3ReferenceIdeal.Facts] : Prop :=
  ∀ (m : (ℓ : Loc Cert.In3ReferenceIdeal.nD Cert.In3ReferenceIdeal.τ Cert.In3ReferenceIdeal.sig) → Buf (Elt Ideal) ℓ) (g : Dev Cert.In3ReferenceIdeal.nD → PrngReg), Pre_In3ReferenceIdeal m →
    θ_run (Cert.In3ReferenceIdeal.defs (F := Ideal)) (onTc (τ := Cert.In3ReferenceIdeal.τ) (Cert.In3ReferenceIdeal.main (F := Ideal))) ⟨m, fun _ => 0, g⟩ (fun r => (∀ c : Dev Cert.In3ReferenceIdeal.nD,
      r.2.mem ((c.tc : Thread Cert.In3ReferenceIdeal.nD Cert.In3ReferenceIdeal.τ).loc Cert.In3ReferenceIdeal.main_arg0) = m ((c.tc : Thread Cert.In3ReferenceIdeal.nD Cert.In3ReferenceIdeal.τ).loc Cert.In3ReferenceIdeal.main_arg0)
      ∧ r.2.mem ((c.tc : Thread Cert.In3ReferenceIdeal.nD Cert.In3ReferenceIdeal.τ).loc Cert.In3ReferenceIdeal.main_arg1) = m ((c.tc : Thread Cert.In3ReferenceIdeal.nD Cert.In3ReferenceIdeal.τ).loc Cert.In3ReferenceIdeal.main_arg1)
      ∧ r.2.mem ((c.tc : Thread Cert.In3ReferenceIdeal.nD Cert.In3ReferenceIdeal.τ).loc Cert.In3ReferenceIdeal.main_arg2) = m ((c.tc : Thread Cert.In3ReferenceIdeal.nD Cert.In3ReferenceIdeal.τ).loc Cert.In3ReferenceIdeal.main_arg2)
      ∧ r.2.mem ((c.tc : Thread Cert.In3ReferenceIdeal.nD Cert.In3ReferenceIdeal.τ).loc Cert.In3ReferenceIdeal.main_arg3) = m ((c.tc : Thread Cert.In3ReferenceIdeal.nD Cert.In3ReferenceIdeal.τ).loc Cert.In3ReferenceIdeal.main_arg3)
      ∧ r.2.mem ((c.tc : Thread Cert.In3ReferenceIdeal.nD Cert.In3ReferenceIdeal.τ).loc Cert.In3ReferenceIdeal.main_arg4) = m ((c.tc : Thread Cert.In3ReferenceIdeal.nD Cert.In3ReferenceIdeal.τ).loc Cert.In3ReferenceIdeal.main_arg4)
      ∧ r.2.mem ((c.tc : Thread Cert.In3ReferenceIdeal.nD Cert.In3ReferenceIdeal.τ).loc Cert.In3ReferenceIdeal.main_arg5) = m ((c.tc : Thread Cert.In3ReferenceIdeal.nD Cert.In3ReferenceIdeal.τ).loc Cert.In3ReferenceIdeal.main_arg5)
      ∧ r.2.mem ((c.tc : Thread Cert.In3ReferenceIdeal.nD Cert.In3ReferenceIdeal.τ).loc Cert.In3ReferenceIdeal.main_arg6) = m ((c.tc : Thread Cert.In3ReferenceIdeal.nD Cert.In3ReferenceIdeal.τ).loc Cert.In3ReferenceIdeal.main_arg6))
      ∧ r.2.sem = fun _ => 0)

def quiescent_In2Kernel [hIn2Kernel : Cert.In2Kernel.Facts] : Prop :=
  ∀ (m : (ℓ : Loc Cert.In2Kernel.nD Cert.In2Kernel.τ Cert.In2Kernel.sig) → Buf (Elt Bits) ℓ) (g : Dev Cert.In2Kernel.nD → PrngReg), Pre_In2Kernel m →
    θ_run (Cert.In2Kernel.defs (F := Bits)) (onTc (τ := Cert.In2Kernel.τ) (Cert.In2Kernel.main (F := Bits))) ⟨m, fun _ => 0, g⟩ (fun r => (∀ c : Dev Cert.In2Kernel.nD,
      r.2.mem ((c.tc : Thread Cert.In2Kernel.nD Cert.In2Kernel.τ).loc Cert.In2Kernel.main_arg0) = m ((c.tc : Thread Cert.In2Kernel.nD Cert.In2Kernel.τ).loc Cert.In2Kernel.main_arg0)
      ∧ r.2.mem ((c.tc : Thread Cert.In2Kernel.nD Cert.In2Kernel.τ).loc Cert.In2Kernel.main_arg1) = m ((c.tc : Thread Cert.In2Kernel.nD Cert.In2Kernel.τ).loc Cert.In2Kernel.main_arg1)
      ∧ r.2.mem ((c.tc : Thread Cert.In2Kernel.nD Cert.In2Kernel.τ).loc Cert.In2Kernel.main_arg2) = m ((c.tc : Thread Cert.In2Kernel.nD Cert.In2Kernel.τ).loc Cert.In2Kernel.main_arg2)
      ∧ r.2.mem ((c.tc : Thread Cert.In2Kernel.nD Cert.In2Kernel.τ).loc Cert.In2Kernel.main_arg3) = m ((c.tc : Thread Cert.In2Kernel.nD Cert.In2Kernel.τ).loc Cert.In2Kernel.main_arg3)
      ∧ r.2.mem ((c.tc : Thread Cert.In2Kernel.nD Cert.In2Kernel.τ).loc Cert.In2Kernel.main_arg4) = m ((c.tc : Thread Cert.In2Kernel.nD Cert.In2Kernel.τ).loc Cert.In2Kernel.main_arg4)
      ∧ r.2.mem ((c.tc : Thread Cert.In2Kernel.nD Cert.In2Kernel.τ).loc Cert.In2Kernel.main_arg5) = m ((c.tc : Thread Cert.In2Kernel.nD Cert.In2Kernel.τ).loc Cert.In2Kernel.main_arg5)
      ∧ r.2.mem ((c.tc : Thread Cert.In2Kernel.nD Cert.In2Kernel.τ).loc Cert.In2Kernel.main_arg6) = m ((c.tc : Thread Cert.In2Kernel.nD Cert.In2Kernel.τ).loc Cert.In2Kernel.main_arg6))
      ∧ r.2.sem = fun _ => 0)

def quiescent_In2KernelIdeal [hIn2KernelIdeal : Cert.In2KernelIdeal.Facts] : Prop :=
  ∀ (m : (ℓ : Loc Cert.In2KernelIdeal.nD Cert.In2KernelIdeal.τ Cert.In2KernelIdeal.sig) → Buf (Elt Ideal) ℓ) (g : Dev Cert.In2KernelIdeal.nD → PrngReg), Pre_In2KernelIdeal m →
    θ_run (Cert.In2KernelIdeal.defs (F := Ideal)) (onTc (τ := Cert.In2KernelIdeal.τ) (Cert.In2KernelIdeal.main (F := Ideal))) ⟨m, fun _ => 0, g⟩ (fun r => (∀ c : Dev Cert.In2KernelIdeal.nD,
      r.2.mem ((c.tc : Thread Cert.In2KernelIdeal.nD Cert.In2KernelIdeal.τ).loc Cert.In2KernelIdeal.main_arg0) = m ((c.tc : Thread Cert.In2KernelIdeal.nD Cert.In2KernelIdeal.τ).loc Cert.In2KernelIdeal.main_arg0)
      ∧ r.2.mem ((c.tc : Thread Cert.In2KernelIdeal.nD Cert.In2KernelIdeal.τ).loc Cert.In2KernelIdeal.main_arg1) = m ((c.tc : Thread Cert.In2KernelIdeal.nD Cert.In2KernelIdeal.τ).loc Cert.In2KernelIdeal.main_arg1)
      ∧ r.2.mem ((c.tc : Thread Cert.In2KernelIdeal.nD Cert.In2KernelIdeal.τ).loc Cert.In2KernelIdeal.main_arg2) = m ((c.tc : Thread Cert.In2KernelIdeal.nD Cert.In2KernelIdeal.τ).loc Cert.In2KernelIdeal.main_arg2)
      ∧ r.2.mem ((c.tc : Thread Cert.In2KernelIdeal.nD Cert.In2KernelIdeal.τ).loc Cert.In2KernelIdeal.main_arg3) = m ((c.tc : Thread Cert.In2KernelIdeal.nD Cert.In2KernelIdeal.τ).loc Cert.In2KernelIdeal.main_arg3)
      ∧ r.2.mem ((c.tc : Thread Cert.In2KernelIdeal.nD Cert.In2KernelIdeal.τ).loc Cert.In2KernelIdeal.main_arg4) = m ((c.tc : Thread Cert.In2KernelIdeal.nD Cert.In2KernelIdeal.τ).loc Cert.In2KernelIdeal.main_arg4)
      ∧ r.2.mem ((c.tc : Thread Cert.In2KernelIdeal.nD Cert.In2KernelIdeal.τ).loc Cert.In2KernelIdeal.main_arg5) = m ((c.tc : Thread Cert.In2KernelIdeal.nD Cert.In2KernelIdeal.τ).loc Cert.In2KernelIdeal.main_arg5)
      ∧ r.2.mem ((c.tc : Thread Cert.In2KernelIdeal.nD Cert.In2KernelIdeal.τ).loc Cert.In2KernelIdeal.main_arg6) = m ((c.tc : Thread Cert.In2KernelIdeal.nD Cert.In2KernelIdeal.τ).loc Cert.In2KernelIdeal.main_arg6))
      ∧ r.2.sem = fun _ => 0)

def quiescent_In2ReferenceIdeal [hIn2ReferenceIdeal : Cert.In2ReferenceIdeal.Facts] : Prop :=
  ∀ (m : (ℓ : Loc Cert.In2ReferenceIdeal.nD Cert.In2ReferenceIdeal.τ Cert.In2ReferenceIdeal.sig) → Buf (Elt Ideal) ℓ) (g : Dev Cert.In2ReferenceIdeal.nD → PrngReg), Pre_In2ReferenceIdeal m →
    θ_run (Cert.In2ReferenceIdeal.defs (F := Ideal)) (onTc (τ := Cert.In2ReferenceIdeal.τ) (Cert.In2ReferenceIdeal.main (F := Ideal))) ⟨m, fun _ => 0, g⟩ (fun r => (∀ c : Dev Cert.In2ReferenceIdeal.nD,
      r.2.mem ((c.tc : Thread Cert.In2ReferenceIdeal.nD Cert.In2ReferenceIdeal.τ).loc Cert.In2ReferenceIdeal.main_arg0) = m ((c.tc : Thread Cert.In2ReferenceIdeal.nD Cert.In2ReferenceIdeal.τ).loc Cert.In2ReferenceIdeal.main_arg0)
      ∧ r.2.mem ((c.tc : Thread Cert.In2ReferenceIdeal.nD Cert.In2ReferenceIdeal.τ).loc Cert.In2ReferenceIdeal.main_arg1) = m ((c.tc : Thread Cert.In2ReferenceIdeal.nD Cert.In2ReferenceIdeal.τ).loc Cert.In2ReferenceIdeal.main_arg1)
      ∧ r.2.mem ((c.tc : Thread Cert.In2ReferenceIdeal.nD Cert.In2ReferenceIdeal.τ).loc Cert.In2ReferenceIdeal.main_arg2) = m ((c.tc : Thread Cert.In2ReferenceIdeal.nD Cert.In2ReferenceIdeal.τ).loc Cert.In2ReferenceIdeal.main_arg2)
      ∧ r.2.mem ((c.tc : Thread Cert.In2ReferenceIdeal.nD Cert.In2ReferenceIdeal.τ).loc Cert.In2ReferenceIdeal.main_arg3) = m ((c.tc : Thread Cert.In2ReferenceIdeal.nD Cert.In2ReferenceIdeal.τ).loc Cert.In2ReferenceIdeal.main_arg3)
      ∧ r.2.mem ((c.tc : Thread Cert.In2ReferenceIdeal.nD Cert.In2ReferenceIdeal.τ).loc Cert.In2ReferenceIdeal.main_arg4) = m ((c.tc : Thread Cert.In2ReferenceIdeal.nD Cert.In2ReferenceIdeal.τ).loc Cert.In2ReferenceIdeal.main_arg4)
      ∧ r.2.mem ((c.tc : Thread Cert.In2ReferenceIdeal.nD Cert.In2ReferenceIdeal.τ).loc Cert.In2ReferenceIdeal.main_arg5) = m ((c.tc : Thread Cert.In2ReferenceIdeal.nD Cert.In2ReferenceIdeal.τ).loc Cert.In2ReferenceIdeal.main_arg5)
      ∧ r.2.mem ((c.tc : Thread Cert.In2ReferenceIdeal.nD Cert.In2ReferenceIdeal.τ).loc Cert.In2ReferenceIdeal.main_arg6) = m ((c.tc : Thread Cert.In2ReferenceIdeal.nD Cert.In2ReferenceIdeal.τ).loc Cert.In2ReferenceIdeal.main_arg6))
      ∧ r.2.sem = fun _ => 0)

def quiescent_In1Kernel [hIn1Kernel : Cert.In1Kernel.Facts] : Prop :=
  ∀ (m : (ℓ : Loc Cert.In1Kernel.nD Cert.In1Kernel.τ Cert.In1Kernel.sig) → Buf (Elt Bits) ℓ) (g : Dev Cert.In1Kernel.nD → PrngReg), Pre_In1Kernel m →
    θ_run (Cert.In1Kernel.defs (F := Bits)) (onTc (τ := Cert.In1Kernel.τ) (Cert.In1Kernel.main (F := Bits))) ⟨m, fun _ => 0, g⟩ (fun r => (∀ c : Dev Cert.In1Kernel.nD,
      r.2.mem ((c.tc : Thread Cert.In1Kernel.nD Cert.In1Kernel.τ).loc Cert.In1Kernel.main_arg0) = m ((c.tc : Thread Cert.In1Kernel.nD Cert.In1Kernel.τ).loc Cert.In1Kernel.main_arg0)
      ∧ r.2.mem ((c.tc : Thread Cert.In1Kernel.nD Cert.In1Kernel.τ).loc Cert.In1Kernel.main_arg1) = m ((c.tc : Thread Cert.In1Kernel.nD Cert.In1Kernel.τ).loc Cert.In1Kernel.main_arg1)
      ∧ r.2.mem ((c.tc : Thread Cert.In1Kernel.nD Cert.In1Kernel.τ).loc Cert.In1Kernel.main_arg2) = m ((c.tc : Thread Cert.In1Kernel.nD Cert.In1Kernel.τ).loc Cert.In1Kernel.main_arg2)
      ∧ r.2.mem ((c.tc : Thread Cert.In1Kernel.nD Cert.In1Kernel.τ).loc Cert.In1Kernel.main_arg3) = m ((c.tc : Thread Cert.In1Kernel.nD Cert.In1Kernel.τ).loc Cert.In1Kernel.main_arg3)
      ∧ r.2.mem ((c.tc : Thread Cert.In1Kernel.nD Cert.In1Kernel.τ).loc Cert.In1Kernel.main_arg4) = m ((c.tc : Thread Cert.In1Kernel.nD Cert.In1Kernel.τ).loc Cert.In1Kernel.main_arg4)
      ∧ r.2.mem ((c.tc : Thread Cert.In1Kernel.nD Cert.In1Kernel.τ).loc Cert.In1Kernel.main_arg5) = m ((c.tc : Thread Cert.In1Kernel.nD Cert.In1Kernel.τ).loc Cert.In1Kernel.main_arg5)
      ∧ r.2.mem ((c.tc : Thread Cert.In1Kernel.nD Cert.In1Kernel.τ).loc Cert.In1Kernel.main_arg6) = m ((c.tc : Thread Cert.In1Kernel.nD Cert.In1Kernel.τ).loc Cert.In1Kernel.main_arg6)
      ∧ r.2.mem ((c.tc : Thread Cert.In1Kernel.nD Cert.In1Kernel.τ).loc Cert.In1Kernel.main_arg7) = m ((c.tc : Thread Cert.In1Kernel.nD Cert.In1Kernel.τ).loc Cert.In1Kernel.main_arg7))
      ∧ r.2.sem = fun _ => 0)

def quiescent_In1KernelIdeal [hIn1KernelIdeal : Cert.In1KernelIdeal.Facts] : Prop :=
  ∀ (m : (ℓ : Loc Cert.In1KernelIdeal.nD Cert.In1KernelIdeal.τ Cert.In1KernelIdeal.sig) → Buf (Elt Ideal) ℓ) (g : Dev Cert.In1KernelIdeal.nD → PrngReg), Pre_In1KernelIdeal m →
    θ_run (Cert.In1KernelIdeal.defs (F := Ideal)) (onTc (τ := Cert.In1KernelIdeal.τ) (Cert.In1KernelIdeal.main (F := Ideal))) ⟨m, fun _ => 0, g⟩ (fun r => (∀ c : Dev Cert.In1KernelIdeal.nD,
      r.2.mem ((c.tc : Thread Cert.In1KernelIdeal.nD Cert.In1KernelIdeal.τ).loc Cert.In1KernelIdeal.main_arg0) = m ((c.tc : Thread Cert.In1KernelIdeal.nD Cert.In1KernelIdeal.τ).loc Cert.In1KernelIdeal.main_arg0)
      ∧ r.2.mem ((c.tc : Thread Cert.In1KernelIdeal.nD Cert.In1KernelIdeal.τ).loc Cert.In1KernelIdeal.main_arg1) = m ((c.tc : Thread Cert.In1KernelIdeal.nD Cert.In1KernelIdeal.τ).loc Cert.In1KernelIdeal.main_arg1)
      ∧ r.2.mem ((c.tc : Thread Cert.In1KernelIdeal.nD Cert.In1KernelIdeal.τ).loc Cert.In1KernelIdeal.main_arg2) = m ((c.tc : Thread Cert.In1KernelIdeal.nD Cert.In1KernelIdeal.τ).loc Cert.In1KernelIdeal.main_arg2)
      ∧ r.2.mem ((c.tc : Thread Cert.In1KernelIdeal.nD Cert.In1KernelIdeal.τ).loc Cert.In1KernelIdeal.main_arg3) = m ((c.tc : Thread Cert.In1KernelIdeal.nD Cert.In1KernelIdeal.τ).loc Cert.In1KernelIdeal.main_arg3)
      ∧ r.2.mem ((c.tc : Thread Cert.In1KernelIdeal.nD Cert.In1KernelIdeal.τ).loc Cert.In1KernelIdeal.main_arg4) = m ((c.tc : Thread Cert.In1KernelIdeal.nD Cert.In1KernelIdeal.τ).loc Cert.In1KernelIdeal.main_arg4)
      ∧ r.2.mem ((c.tc : Thread Cert.In1KernelIdeal.nD Cert.In1KernelIdeal.τ).loc Cert.In1KernelIdeal.main_arg5) = m ((c.tc : Thread Cert.In1KernelIdeal.nD Cert.In1KernelIdeal.τ).loc Cert.In1KernelIdeal.main_arg5)
      ∧ r.2.mem ((c.tc : Thread Cert.In1KernelIdeal.nD Cert.In1KernelIdeal.τ).loc Cert.In1KernelIdeal.main_arg6) = m ((c.tc : Thread Cert.In1KernelIdeal.nD Cert.In1KernelIdeal.τ).loc Cert.In1KernelIdeal.main_arg6)
      ∧ r.2.mem ((c.tc : Thread Cert.In1KernelIdeal.nD Cert.In1KernelIdeal.τ).loc Cert.In1KernelIdeal.main_arg7) = m ((c.tc : Thread Cert.In1KernelIdeal.nD Cert.In1KernelIdeal.τ).loc Cert.In1KernelIdeal.main_arg7))
      ∧ r.2.sem = fun _ => 0)

def quiescent_In1ReferenceIdeal [hIn1ReferenceIdeal : Cert.In1ReferenceIdeal.Facts] : Prop :=
  ∀ (m : (ℓ : Loc Cert.In1ReferenceIdeal.nD Cert.In1ReferenceIdeal.τ Cert.In1ReferenceIdeal.sig) → Buf (Elt Ideal) ℓ) (g : Dev Cert.In1ReferenceIdeal.nD → PrngReg), Pre_In1ReferenceIdeal m →
    θ_run (Cert.In1ReferenceIdeal.defs (F := Ideal)) (onTc (τ := Cert.In1ReferenceIdeal.τ) (Cert.In1ReferenceIdeal.main (F := Ideal))) ⟨m, fun _ => 0, g⟩ (fun r => (∀ c : Dev Cert.In1ReferenceIdeal.nD,
      r.2.mem ((c.tc : Thread Cert.In1ReferenceIdeal.nD Cert.In1ReferenceIdeal.τ).loc Cert.In1ReferenceIdeal.main_arg0) = m ((c.tc : Thread Cert.In1ReferenceIdeal.nD Cert.In1ReferenceIdeal.τ).loc Cert.In1ReferenceIdeal.main_arg0)
      ∧ r.2.mem ((c.tc : Thread Cert.In1ReferenceIdeal.nD Cert.In1ReferenceIdeal.τ).loc Cert.In1ReferenceIdeal.main_arg1) = m ((c.tc : Thread Cert.In1ReferenceIdeal.nD Cert.In1ReferenceIdeal.τ).loc Cert.In1ReferenceIdeal.main_arg1)
      ∧ r.2.mem ((c.tc : Thread Cert.In1ReferenceIdeal.nD Cert.In1ReferenceIdeal.τ).loc Cert.In1ReferenceIdeal.main_arg2) = m ((c.tc : Thread Cert.In1ReferenceIdeal.nD Cert.In1ReferenceIdeal.τ).loc Cert.In1ReferenceIdeal.main_arg2)
      ∧ r.2.mem ((c.tc : Thread Cert.In1ReferenceIdeal.nD Cert.In1ReferenceIdeal.τ).loc Cert.In1ReferenceIdeal.main_arg3) = m ((c.tc : Thread Cert.In1ReferenceIdeal.nD Cert.In1ReferenceIdeal.τ).loc Cert.In1ReferenceIdeal.main_arg3)
      ∧ r.2.mem ((c.tc : Thread Cert.In1ReferenceIdeal.nD Cert.In1ReferenceIdeal.τ).loc Cert.In1ReferenceIdeal.main_arg4) = m ((c.tc : Thread Cert.In1ReferenceIdeal.nD Cert.In1ReferenceIdeal.τ).loc Cert.In1ReferenceIdeal.main_arg4)
      ∧ r.2.mem ((c.tc : Thread Cert.In1ReferenceIdeal.nD Cert.In1ReferenceIdeal.τ).loc Cert.In1ReferenceIdeal.main_arg5) = m ((c.tc : Thread Cert.In1ReferenceIdeal.nD Cert.In1ReferenceIdeal.τ).loc Cert.In1ReferenceIdeal.main_arg5)
      ∧ r.2.mem ((c.tc : Thread Cert.In1ReferenceIdeal.nD Cert.In1ReferenceIdeal.τ).loc Cert.In1ReferenceIdeal.main_arg6) = m ((c.tc : Thread Cert.In1ReferenceIdeal.nD Cert.In1ReferenceIdeal.τ).loc Cert.In1ReferenceIdeal.main_arg6)
      ∧ r.2.mem ((c.tc : Thread Cert.In1ReferenceIdeal.nD Cert.In1ReferenceIdeal.τ).loc Cert.In1ReferenceIdeal.main_arg7) = m ((c.tc : Thread Cert.In1ReferenceIdeal.nD Cert.In1ReferenceIdeal.τ).loc Cert.In1ReferenceIdeal.main_arg7))
      ∧ r.2.sem = fun _ => 0)

def quiescent_InFKernel [hInFKernel : Cert.InFKernel.Facts] : Prop :=
  ∀ (m : (ℓ : Loc Cert.InFKernel.nD Cert.InFKernel.τ Cert.InFKernel.sig) → Buf (Elt Bits) ℓ) (g : Dev Cert.InFKernel.nD → PrngReg), Pre_InFKernel m →
    θ_run (Cert.InFKernel.defs (F := Bits)) (onTc (τ := Cert.InFKernel.τ) (Cert.InFKernel.main (F := Bits))) ⟨m, fun _ => 0, g⟩ (fun r => (∀ c : Dev Cert.InFKernel.nD,
      r.2.mem ((c.tc : Thread Cert.InFKernel.nD Cert.InFKernel.τ).loc Cert.InFKernel.main_arg0) = m ((c.tc : Thread Cert.InFKernel.nD Cert.InFKernel.τ).loc Cert.InFKernel.main_arg0)
      ∧ r.2.mem ((c.tc : Thread Cert.InFKernel.nD Cert.InFKernel.τ).loc Cert.InFKernel.main_arg1) = m ((c.tc : Thread Cert.InFKernel.nD Cert.InFKernel.τ).loc Cert.InFKernel.main_arg1)
      ∧ r.2.mem ((c.tc : Thread Cert.InFKernel.nD Cert.InFKernel.τ).loc Cert.InFKernel.main_arg2) = m ((c.tc : Thread Cert.InFKernel.nD Cert.InFKernel.τ).loc Cert.InFKernel.main_arg2)
      ∧ r.2.mem ((c.tc : Thread Cert.InFKernel.nD Cert.InFKernel.τ).loc Cert.InFKernel.main_arg3) = m ((c.tc : Thread Cert.InFKernel.nD Cert.InFKernel.τ).loc Cert.InFKernel.main_arg3))
      ∧ r.2.sem = fun _ => 0)

def quiescent_InFKernelIdeal [hInFKernelIdeal : Cert.InFKernelIdeal.Facts] : Prop :=
  ∀ (m : (ℓ : Loc Cert.InFKernelIdeal.nD Cert.InFKernelIdeal.τ Cert.InFKernelIdeal.sig) → Buf (Elt Ideal) ℓ) (g : Dev Cert.InFKernelIdeal.nD → PrngReg), Pre_InFKernelIdeal m →
    θ_run (Cert.InFKernelIdeal.defs (F := Ideal)) (onTc (τ := Cert.InFKernelIdeal.τ) (Cert.InFKernelIdeal.main (F := Ideal))) ⟨m, fun _ => 0, g⟩ (fun r => (∀ c : Dev Cert.InFKernelIdeal.nD,
      r.2.mem ((c.tc : Thread Cert.InFKernelIdeal.nD Cert.InFKernelIdeal.τ).loc Cert.InFKernelIdeal.main_arg0) = m ((c.tc : Thread Cert.InFKernelIdeal.nD Cert.InFKernelIdeal.τ).loc Cert.InFKernelIdeal.main_arg0)
      ∧ r.2.mem ((c.tc : Thread Cert.InFKernelIdeal.nD Cert.InFKernelIdeal.τ).loc Cert.InFKernelIdeal.main_arg1) = m ((c.tc : Thread Cert.InFKernelIdeal.nD Cert.InFKernelIdeal.τ).loc Cert.InFKernelIdeal.main_arg1)
      ∧ r.2.mem ((c.tc : Thread Cert.InFKernelIdeal.nD Cert.InFKernelIdeal.τ).loc Cert.InFKernelIdeal.main_arg2) = m ((c.tc : Thread Cert.InFKernelIdeal.nD Cert.InFKernelIdeal.τ).loc Cert.InFKernelIdeal.main_arg2)
      ∧ r.2.mem ((c.tc : Thread Cert.InFKernelIdeal.nD Cert.InFKernelIdeal.τ).loc Cert.InFKernelIdeal.main_arg3) = m ((c.tc : Thread Cert.InFKernelIdeal.nD Cert.InFKernelIdeal.τ).loc Cert.InFKernelIdeal.main_arg3))
      ∧ r.2.sem = fun _ => 0)

def quiescent_InFReferenceIdeal [hInFReferenceIdeal : Cert.InFReferenceIdeal.Facts] : Prop :=
  ∀ (m : (ℓ : Loc Cert.InFReferenceIdeal.nD Cert.InFReferenceIdeal.τ Cert.InFReferenceIdeal.sig) → Buf (Elt Ideal) ℓ) (g : Dev Cert.InFReferenceIdeal.nD → PrngReg), Pre_InFReferenceIdeal m →
    θ_run (Cert.InFReferenceIdeal.defs (F := Ideal)) (onTc (τ := Cert.InFReferenceIdeal.τ) (Cert.InFReferenceIdeal.main (F := Ideal))) ⟨m, fun _ => 0, g⟩ (fun r => (∀ c : Dev Cert.InFReferenceIdeal.nD,
      r.2.mem ((c.tc : Thread Cert.InFReferenceIdeal.nD Cert.InFReferenceIdeal.τ).loc Cert.InFReferenceIdeal.main_arg0) = m ((c.tc : Thread Cert.InFReferenceIdeal.nD Cert.InFReferenceIdeal.τ).loc Cert.InFReferenceIdeal.main_arg0)
      ∧ r.2.mem ((c.tc : Thread Cert.InFReferenceIdeal.nD Cert.InFReferenceIdeal.τ).loc Cert.InFReferenceIdeal.main_arg1) = m ((c.tc : Thread Cert.InFReferenceIdeal.nD Cert.InFReferenceIdeal.τ).loc Cert.InFReferenceIdeal.main_arg1)
      ∧ r.2.mem ((c.tc : Thread Cert.InFReferenceIdeal.nD Cert.InFReferenceIdeal.τ).loc Cert.InFReferenceIdeal.main_arg2) = m ((c.tc : Thread Cert.InFReferenceIdeal.nD Cert.InFReferenceIdeal.τ).loc Cert.InFReferenceIdeal.main_arg2)
      ∧ r.2.mem ((c.tc : Thread Cert.InFReferenceIdeal.nD Cert.InFReferenceIdeal.τ).loc Cert.InFReferenceIdeal.main_arg3) = m ((c.tc : Thread Cert.InFReferenceIdeal.nD Cert.InFReferenceIdeal.τ).loc Cert.InFReferenceIdeal.main_arg3))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8)
      ∧ r.2.mem ((c.tc : Thread Cert.MlaKernel.nD Cert.MlaKernel.τ).loc Cert.MlaKernel.main_arg9) = m ((c.tc : Thread Cert.MlaKernel.nD Cert.MlaKernel.τ).loc Cert.MlaKernel.main_arg9)
      ∧ r.2.mem ((c.tc : Thread Cert.MlaKernel.nD Cert.MlaKernel.τ).loc Cert.MlaKernel.main_arg10) = m ((c.tc : Thread Cert.MlaKernel.nD Cert.MlaKernel.τ).loc Cert.MlaKernel.main_arg10))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
      ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9)
      ∧ r.2.mem ((c.tc : Thread Cert.MlaReferenceIdeal.nD Cert.MlaReferenceIdeal.τ).loc Cert.MlaReferenceIdeal.main_arg10) = m ((c.tc : Thread Cert.MlaReferenceIdeal.nD Cert.MlaReferenceIdeal.τ).loc Cert.MlaReferenceIdeal.main_arg10))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v18_0)) (v1 : (c : Dev Cert.MergeKernelIdeal.nD) → Buf (Elt Ideal) ((c.tc : Thread Cert.MergeKernelIdeal.nD Cert.MergeKernelIdeal.τ).loc Cert.MergeKernelIdeal.main_v18_1)) (v2 : (c : Dev Cert.MergeKernelIdeal.nD) → Buf (Elt Ideal) ((c.tc : Thread Cert.MergeKernelIdeal.nD Cert.MergeKernelIdeal.τ).loc Cert.MergeKernelIdeal.main_v18_2)) (v3 : (c : Dev Cert.MergeKernelIdeal.nD) → Buf (Elt Ideal) ((c.tc : Thread Cert.MergeKernelIdeal.nD Cert.MergeKernelIdeal.τ).loc Cert.MergeKernelIdeal.main_v18_3)) (v4 : (c : Dev Cert.MergeKernelIdeal.nD) → Buf (Elt Ideal) ((c.tc : Thread Cert.MergeKernelIdeal.nD Cert.MergeKernelIdeal.τ).loc Cert.MergeKernelIdeal.main_v18_4)) (v5 : (c : Dev Cert.MergeKernelIdeal.nD) → Buf (Elt Ideal) ((c.tc : Thread Cert.MergeKernelIdeal.nD Cert.MergeKernelIdeal.τ).loc Cert.MergeKernelIdeal.main_v18_5)) (v6 : (c : Dev Cert.MergeKernelIdeal.nD) → Buf (Elt Ideal) ((c.tc : Thread Cert.MergeKernelIdeal.nD Cert.MergeKernelIdeal.τ).loc Cert.MergeKernelIdeal.main_v18_6)) (v7 : (c : Dev Cert.MergeKernelIdeal.nD) → Buf (Elt Ideal) ((c.tc : Thread Cert.MergeKernelIdeal.nD Cert.MergeKernelIdeal.τ).loc Cert.MergeKernelIdeal.main_v18_7)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v18_0) = v0 c
          ∧ r.2.mem ((c.tc : Thread Cert.MergeKernelIdeal.nD Cert.MergeKernelIdeal.τ).loc Cert.MergeKernelIdeal.main_v18_1) = v1 c
          ∧ r.2.mem ((c.tc : Thread Cert.MergeKernelIdeal.nD Cert.MergeKernelIdeal.τ).loc Cert.MergeKernelIdeal.main_v18_2) = v2 c
          ∧ r.2.mem ((c.tc : Thread Cert.MergeKernelIdeal.nD Cert.MergeKernelIdeal.τ).loc Cert.MergeKernelIdeal.main_v18_3) = v3 c
          ∧ r.2.mem ((c.tc : Thread Cert.MergeKernelIdeal.nD Cert.MergeKernelIdeal.τ).loc Cert.MergeKernelIdeal.main_v18_4) = v4 c
          ∧ r.2.mem ((c.tc : Thread Cert.MergeKernelIdeal.nD Cert.MergeKernelIdeal.τ).loc Cert.MergeKernelIdeal.main_v18_5) = v5 c
          ∧ r.2.mem ((c.tc : Thread Cert.MergeKernelIdeal.nD Cert.MergeKernelIdeal.τ).loc Cert.MergeKernelIdeal.main_v18_6) = v6 c
          ∧ r.2.mem ((c.tc : Thread Cert.MergeKernelIdeal.nD Cert.MergeKernelIdeal.τ).loc Cert.MergeKernelIdeal.main_v18_7) = v7 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v56) = v0 c
          ∧ r.2.mem ((c.tc : Thread Cert.MergeReferenceIdeal.nD Cert.MergeReferenceIdeal.τ).loc Cert.MergeReferenceIdeal.main_v59) = v1 c
          ∧ r.2.mem ((c.tc : Thread Cert.MergeReferenceIdeal.nD Cert.MergeReferenceIdeal.τ).loc Cert.MergeReferenceIdeal.main_v60) = v2 c
          ∧ r.2.mem ((c.tc : Thread Cert.MergeReferenceIdeal.nD Cert.MergeReferenceIdeal.τ).loc Cert.MergeReferenceIdeal.main_v61) = v3 c
          ∧ r.2.mem ((c.tc : Thread Cert.MergeReferenceIdeal.nD Cert.MergeReferenceIdeal.τ).loc Cert.MergeReferenceIdeal.main_v62) = v4 c
          ∧ r.2.mem ((c.tc : Thread Cert.MergeReferenceIdeal.nD Cert.MergeReferenceIdeal.τ).loc Cert.MergeReferenceIdeal.main_v63) = v5 c
          ∧ r.2.mem ((c.tc : Thread Cert.MergeReferenceIdeal.nD Cert.MergeReferenceIdeal.τ).loc Cert.MergeReferenceIdeal.main_v53) = v6 c
          ∧ r.2.mem ((c.tc : Thread Cert.MergeReferenceIdeal.nD Cert.MergeReferenceIdeal.τ).loc Cert.MergeReferenceIdeal.main_v64) = v7 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_AttnKernel_AttnKernelIdeal : Prop :=
  True

def algebraic_AttnKernelIdeal_AttnReferenceIdeal_pre_finite_attn [hAttnKernelIdeal : Cert.AttnKernelIdeal.Facts] [hAttnReferenceIdeal : Cert.AttnReferenceIdeal.Facts] [hPre_finite_attn : Cert.Pre_finite_attn.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attn m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v44_0)) (v1 : (c : Dev Cert.AttnKernelIdeal.nD) → Buf (Elt Ideal) ((c.tc : Thread Cert.AttnKernelIdeal.nD Cert.AttnKernelIdeal.τ).loc Cert.AttnKernelIdeal.main_v44_1)) (v2 : (c : Dev Cert.AttnKernelIdeal.nD) → Buf (Elt Ideal) ((c.tc : Thread Cert.AttnKernelIdeal.nD Cert.AttnKernelIdeal.τ).loc Cert.AttnKernelIdeal.main_v44_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v44_0) = v0 c
          ∧ r.2.mem ((c.tc : Thread Cert.AttnKernelIdeal.nD Cert.AttnKernelIdeal.τ).loc Cert.AttnKernelIdeal.main_v44_1) = v1 c
          ∧ r.2.mem ((c.tc : Thread Cert.AttnKernelIdeal.nD Cert.AttnKernelIdeal.τ).loc Cert.AttnKernelIdeal.main_v44_2) = v2 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v76) = v0 c
          ∧ r.2.mem ((c.tc : Thread Cert.AttnReferenceIdeal.nD Cert.AttnReferenceIdeal.τ).loc Cert.AttnReferenceIdeal.main_v77) = v1 c
          ∧ r.2.mem ((c.tc : Thread Cert.AttnReferenceIdeal.nD Cert.AttnReferenceIdeal.τ).loc Cert.AttnReferenceIdeal.main_v79) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)
      ∧ m' ((c.tc : Thread Cert.LossReferenceIdeal.nD Cert.LossReferenceIdeal.τ).loc Cert.LossReferenceIdeal.main_arg6) = m ((c.tc : Thread Cert.LossKernelIdeal.nD Cert.LossKernelIdeal.τ).loc Cert.LossKernelIdeal.main_arg6)) →
    ∃ (v0 : (c : Dev Cert.LossKernelIdeal.nD) → Buf (Elt Ideal) ((c.tc : Thread Cert.LossKernelIdeal.nD Cert.LossKernelIdeal.τ).loc Cert.LossKernelIdeal.main_v10_0)) (v1 : (c : Dev Cert.LossKernelIdeal.nD) → Buf (Elt Ideal) ((c.tc : Thread Cert.LossKernelIdeal.nD Cert.LossKernelIdeal.τ).loc Cert.LossKernelIdeal.main_v10_1)) (v2 : (c : Dev Cert.LossKernelIdeal.nD) → Buf (Elt Ideal) ((c.tc : Thread Cert.LossKernelIdeal.nD Cert.LossKernelIdeal.τ).loc Cert.LossKernelIdeal.main_v10_2)) (v3 : (c : Dev Cert.LossKernelIdeal.nD) → Buf (Elt Ideal) ((c.tc : Thread Cert.LossKernelIdeal.nD Cert.LossKernelIdeal.τ).loc Cert.LossKernelIdeal.main_v10_3)) (v4 : (c : Dev Cert.LossKernelIdeal.nD) → Buf (Elt Ideal) ((c.tc : Thread Cert.LossKernelIdeal.nD Cert.LossKernelIdeal.τ).loc Cert.LossKernelIdeal.main_v10_4)) (v5 : (c : Dev Cert.LossKernelIdeal.nD) → Buf (Elt Ideal) ((c.tc : Thread Cert.LossKernelIdeal.nD Cert.LossKernelIdeal.τ).loc Cert.LossKernelIdeal.main_v10_5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v10_0) = v0 c
          ∧ r.2.mem ((c.tc : Thread Cert.LossKernelIdeal.nD Cert.LossKernelIdeal.τ).loc Cert.LossKernelIdeal.main_v10_1) = v1 c
          ∧ r.2.mem ((c.tc : Thread Cert.LossKernelIdeal.nD Cert.LossKernelIdeal.τ).loc Cert.LossKernelIdeal.main_v10_2) = v2 c
          ∧ r.2.mem ((c.tc : Thread Cert.LossKernelIdeal.nD Cert.LossKernelIdeal.τ).loc Cert.LossKernelIdeal.main_v10_3) = v3 c
          ∧ r.2.mem ((c.tc : Thread Cert.LossKernelIdeal.nD Cert.LossKernelIdeal.τ).loc Cert.LossKernelIdeal.main_v10_4) = v4 c
          ∧ r.2.mem ((c.tc : Thread Cert.LossKernelIdeal.nD Cert.LossKernelIdeal.τ).loc Cert.LossKernelIdeal.main_v10_5) = v5 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
          ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v100) = v0 c
          ∧ r.2.mem ((c.tc : Thread Cert.LossReferenceIdeal.nD Cert.LossReferenceIdeal.τ).loc Cert.LossReferenceIdeal.main_v101) = v1 c
          ∧ r.2.mem ((c.tc : Thread Cert.LossReferenceIdeal.nD Cert.LossReferenceIdeal.τ).loc Cert.LossReferenceIdeal.main_v91) = v2 c
          ∧ r.2.mem ((c.tc : Thread Cert.LossReferenceIdeal.nD Cert.LossReferenceIdeal.τ).loc Cert.LossReferenceIdeal.main_v99) = v3 c
          ∧ r.2.mem ((c.tc : Thread Cert.LossReferenceIdeal.nD Cert.LossReferenceIdeal.τ).loc Cert.LossReferenceIdeal.main_v98) = v4 c
          ∧ r.2.mem ((c.tc : Thread Cert.LossReferenceIdeal.nD Cert.LossReferenceIdeal.τ).loc Cert.LossReferenceIdeal.main_v102) = v5 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6))

def preserves_In3Kernel_In3KernelIdeal : Prop :=
  True

def algebraic_In3KernelIdeal_In3ReferenceIdeal [hIn3KernelIdeal : Cert.In3KernelIdeal.Facts] [hIn3ReferenceIdeal : Cert.In3ReferenceIdeal.Facts] : Prop :=
  ∀ (m : (ℓ : Loc Cert.In3KernelIdeal.nD Cert.In3KernelIdeal.τ Cert.In3KernelIdeal.sig) → Buf (Elt Ideal) ℓ) (g : Dev Cert.In3KernelIdeal.nD → PrngReg)
    (m' : (ℓ : Loc Cert.In3ReferenceIdeal.nD Cert.In3ReferenceIdeal.τ Cert.In3ReferenceIdeal.sig) → Buf (Elt Ideal) ℓ) (g' : Dev Cert.In3ReferenceIdeal.nD → PrngReg), Pre_In3KernelIdeal m →
    (∀ c : Dev Cert.In3KernelIdeal.nD,
      m' ((c.tc : Thread Cert.In3ReferenceIdeal.nD Cert.In3ReferenceIdeal.τ).loc Cert.In3ReferenceIdeal.main_arg0) = m ((c.tc : Thread Cert.In3KernelIdeal.nD Cert.In3KernelIdeal.τ).loc Cert.In3KernelIdeal.main_arg0)
      ∧ m' ((c.tc : Thread Cert.In3ReferenceIdeal.nD Cert.In3ReferenceIdeal.τ).loc Cert.In3ReferenceIdeal.main_arg1) = m ((c.tc : Thread Cert.In3KernelIdeal.nD Cert.In3KernelIdeal.τ).loc Cert.In3KernelIdeal.main_arg1)
      ∧ m' ((c.tc : Thread Cert.In3ReferenceIdeal.nD Cert.In3ReferenceIdeal.τ).loc Cert.In3ReferenceIdeal.main_arg2) = m ((c.tc : Thread Cert.In3KernelIdeal.nD Cert.In3KernelIdeal.τ).loc Cert.In3KernelIdeal.main_arg2)
      ∧ m' ((c.tc : Thread Cert.In3ReferenceIdeal.nD Cert.In3ReferenceIdeal.τ).loc Cert.In3ReferenceIdeal.main_arg3) = m ((c.tc : Thread Cert.In3KernelIdeal.nD Cert.In3KernelIdeal.τ).loc Cert.In3KernelIdeal.main_arg3)
      ∧ m' ((c.tc : Thread Cert.In3ReferenceIdeal.nD Cert.In3ReferenceIdeal.τ).loc Cert.In3ReferenceIdeal.main_arg4) = m ((c.tc : Thread Cert.In3KernelIdeal.nD Cert.In3KernelIdeal.τ).loc Cert.In3KernelIdeal.main_arg4)
      ∧ m' ((c.tc : Thread Cert.In3ReferenceIdeal.nD Cert.In3ReferenceIdeal.τ).loc Cert.In3ReferenceIdeal.main_arg5) = m ((c.tc : Thread Cert.In3KernelIdeal.nD Cert.In3KernelIdeal.τ).loc Cert.In3KernelIdeal.main_arg5)
      ∧ m' ((c.tc : Thread Cert.In3ReferenceIdeal.nD Cert.In3ReferenceIdeal.τ).loc Cert.In3ReferenceIdeal.main_arg6) = m ((c.tc : Thread Cert.In3KernelIdeal.nD Cert.In3KernelIdeal.τ).loc Cert.In3KernelIdeal.main_arg6)) →
    ∃ (v0 : (c : Dev Cert.In3KernelIdeal.nD) → Buf (Elt Ideal) ((c.tc : Thread Cert.In3KernelIdeal.nD Cert.In3KernelIdeal.τ).loc Cert.In3KernelIdeal.main_v6_0)) (v1 : (c : Dev Cert.In3KernelIdeal.nD) → Buf (Elt Ideal) ((c.tc : Thread Cert.In3KernelIdeal.nD Cert.In3KernelIdeal.τ).loc Cert.In3KernelIdeal.main_v6_1)) (v2 : (c : Dev Cert.In3KernelIdeal.nD) → Buf (Elt Ideal) ((c.tc : Thread Cert.In3KernelIdeal.nD Cert.In3KernelIdeal.τ).loc Cert.In3KernelIdeal.main_v6_2)) (v3 : (c : Dev Cert.In3KernelIdeal.nD) → Buf (Elt Ideal) ((c.tc : Thread Cert.In3KernelIdeal.nD Cert.In3KernelIdeal.τ).loc Cert.In3KernelIdeal.main_v6_3)),
      θ_run (Cert.In3KernelIdeal.defs (F := Ideal)) (onTc (τ := Cert.In3KernelIdeal.τ) (Cert.In3KernelIdeal.main (F := Ideal))) ⟨m, fun _ => 0, g⟩ (fun r => ∀ c : Dev Cert.In3KernelIdeal.nD,
          r.2.mem ((c.tc : Thread Cert.In3KernelIdeal.nD Cert.In3KernelIdeal.τ).loc Cert.In3KernelIdeal.main_v6_0) = v0 c
          ∧ r.2.mem ((c.tc : Thread Cert.In3KernelIdeal.nD Cert.In3KernelIdeal.τ).loc Cert.In3KernelIdeal.main_v6_1) = v1 c
          ∧ r.2.mem ((c.tc : Thread Cert.In3KernelIdeal.nD Cert.In3KernelIdeal.τ).loc Cert.In3KernelIdeal.main_v6_2) = v2 c
          ∧ r.2.mem ((c.tc : Thread Cert.In3KernelIdeal.nD Cert.In3KernelIdeal.τ).loc Cert.In3KernelIdeal.main_v6_3) = v3 c
          ∧ r.2.mem ((c.tc : Thread Cert.In3KernelIdeal.nD Cert.In3KernelIdeal.τ).loc Cert.In3KernelIdeal.main_arg0) = m ((c.tc : Thread Cert.In3KernelIdeal.nD Cert.In3KernelIdeal.τ).loc Cert.In3KernelIdeal.main_arg0)
          ∧ r.2.mem ((c.tc : Thread Cert.In3KernelIdeal.nD Cert.In3KernelIdeal.τ).loc Cert.In3KernelIdeal.main_arg1) = m ((c.tc : Thread Cert.In3KernelIdeal.nD Cert.In3KernelIdeal.τ).loc Cert.In3KernelIdeal.main_arg1)
          ∧ r.2.mem ((c.tc : Thread Cert.In3KernelIdeal.nD Cert.In3KernelIdeal.τ).loc Cert.In3KernelIdeal.main_arg2) = m ((c.tc : Thread Cert.In3KernelIdeal.nD Cert.In3KernelIdeal.τ).loc Cert.In3KernelIdeal.main_arg2)
          ∧ r.2.mem ((c.tc : Thread Cert.In3KernelIdeal.nD Cert.In3KernelIdeal.τ).loc Cert.In3KernelIdeal.main_arg3) = m ((c.tc : Thread Cert.In3KernelIdeal.nD Cert.In3KernelIdeal.τ).loc Cert.In3KernelIdeal.main_arg3)
          ∧ r.2.mem ((c.tc : Thread Cert.In3KernelIdeal.nD Cert.In3KernelIdeal.τ).loc Cert.In3KernelIdeal.main_arg4) = m ((c.tc : Thread Cert.In3KernelIdeal.nD Cert.In3KernelIdeal.τ).loc Cert.In3KernelIdeal.main_arg4)
          ∧ r.2.mem ((c.tc : Thread Cert.In3KernelIdeal.nD Cert.In3KernelIdeal.τ).loc Cert.In3KernelIdeal.main_arg5) = m ((c.tc : Thread Cert.In3KernelIdeal.nD Cert.In3KernelIdeal.τ).loc Cert.In3KernelIdeal.main_arg5)
          ∧ r.2.mem ((c.tc : Thread Cert.In3KernelIdeal.nD Cert.In3KernelIdeal.τ).loc Cert.In3KernelIdeal.main_arg6) = m ((c.tc : Thread Cert.In3KernelIdeal.nD Cert.In3KernelIdeal.τ).loc Cert.In3KernelIdeal.main_arg6))
      ∧ θ_run (Cert.In3ReferenceIdeal.defs (F := Ideal)) (onTc (τ := Cert.In3ReferenceIdeal.τ) (Cert.In3ReferenceIdeal.main (F := Ideal))) ⟨m', fun _ => 0, g'⟩ (fun r => ∀ c : Dev Cert.In3ReferenceIdeal.nD,
          r.2.mem ((c.tc : Thread Cert.In3ReferenceIdeal.nD Cert.In3ReferenceIdeal.τ).loc Cert.In3ReferenceIdeal.main_v74) = v0 c
          ∧ r.2.mem ((c.tc : Thread Cert.In3ReferenceIdeal.nD Cert.In3ReferenceIdeal.τ).loc Cert.In3ReferenceIdeal.main_v40) = v1 c
          ∧ r.2.mem ((c.tc : Thread Cert.In3ReferenceIdeal.nD Cert.In3ReferenceIdeal.τ).loc Cert.In3ReferenceIdeal.main_v47) = v2 c
          ∧ r.2.mem ((c.tc : Thread Cert.In3ReferenceIdeal.nD Cert.In3ReferenceIdeal.τ).loc Cert.In3ReferenceIdeal.main_v75) = v3 c
          ∧ r.2.mem ((c.tc : Thread Cert.In3ReferenceIdeal.nD Cert.In3ReferenceIdeal.τ).loc Cert.In3ReferenceIdeal.main_arg0) = m' ((c.tc : Thread Cert.In3ReferenceIdeal.nD Cert.In3ReferenceIdeal.τ).loc Cert.In3ReferenceIdeal.main_arg0)
          ∧ r.2.mem ((c.tc : Thread Cert.In3ReferenceIdeal.nD Cert.In3ReferenceIdeal.τ).loc Cert.In3ReferenceIdeal.main_arg1) = m' ((c.tc : Thread Cert.In3ReferenceIdeal.nD Cert.In3ReferenceIdeal.τ).loc Cert.In3ReferenceIdeal.main_arg1)
          ∧ r.2.mem ((c.tc : Thread Cert.In3ReferenceIdeal.nD Cert.In3ReferenceIdeal.τ).loc Cert.In3ReferenceIdeal.main_arg2) = m' ((c.tc : Thread Cert.In3ReferenceIdeal.nD Cert.In3ReferenceIdeal.τ).loc Cert.In3ReferenceIdeal.main_arg2)
          ∧ r.2.mem ((c.tc : Thread Cert.In3ReferenceIdeal.nD Cert.In3ReferenceIdeal.τ).loc Cert.In3ReferenceIdeal.main_arg3) = m' ((c.tc : Thread Cert.In3ReferenceIdeal.nD Cert.In3ReferenceIdeal.τ).loc Cert.In3ReferenceIdeal.main_arg3)
          ∧ r.2.mem ((c.tc : Thread Cert.In3ReferenceIdeal.nD Cert.In3ReferenceIdeal.τ).loc Cert.In3ReferenceIdeal.main_arg4) = m' ((c.tc : Thread Cert.In3ReferenceIdeal.nD Cert.In3ReferenceIdeal.τ).loc Cert.In3ReferenceIdeal.main_arg4)
          ∧ r.2.mem ((c.tc : Thread Cert.In3ReferenceIdeal.nD Cert.In3ReferenceIdeal.τ).loc Cert.In3ReferenceIdeal.main_arg5) = m' ((c.tc : Thread Cert.In3ReferenceIdeal.nD Cert.In3ReferenceIdeal.τ).loc Cert.In3ReferenceIdeal.main_arg5)
          ∧ r.2.mem ((c.tc : Thread Cert.In3ReferenceIdeal.nD Cert.In3ReferenceIdeal.τ).loc Cert.In3ReferenceIdeal.main_arg6) = m' ((c.tc : Thread Cert.In3ReferenceIdeal.nD Cert.In3ReferenceIdeal.τ).loc Cert.In3ReferenceIdeal.main_arg6))

def preserves_In2Kernel_In2KernelIdeal : Prop :=
  True

def algebraic_In2KernelIdeal_In2ReferenceIdeal [hIn2KernelIdeal : Cert.In2KernelIdeal.Facts] [hIn2ReferenceIdeal : Cert.In2ReferenceIdeal.Facts] : Prop :=
  ∀ (m : (ℓ : Loc Cert.In2KernelIdeal.nD Cert.In2KernelIdeal.τ Cert.In2KernelIdeal.sig) → Buf (Elt Ideal) ℓ) (g : Dev Cert.In2KernelIdeal.nD → PrngReg)
    (m' : (ℓ : Loc Cert.In2ReferenceIdeal.nD Cert.In2ReferenceIdeal.τ Cert.In2ReferenceIdeal.sig) → Buf (Elt Ideal) ℓ) (g' : Dev Cert.In2ReferenceIdeal.nD → PrngReg), Pre_In2KernelIdeal m →
    (∀ c : Dev Cert.In2KernelIdeal.nD,
      m' ((c.tc : Thread Cert.In2ReferenceIdeal.nD Cert.In2ReferenceIdeal.τ).loc Cert.In2ReferenceIdeal.main_arg0) = m ((c.tc : Thread Cert.In2KernelIdeal.nD Cert.In2KernelIdeal.τ).loc Cert.In2KernelIdeal.main_arg0)
      ∧ m' ((c.tc : Thread Cert.In2ReferenceIdeal.nD Cert.In2ReferenceIdeal.τ).loc Cert.In2ReferenceIdeal.main_arg1) = m ((c.tc : Thread Cert.In2KernelIdeal.nD Cert.In2KernelIdeal.τ).loc Cert.In2KernelIdeal.main_arg1)
      ∧ m' ((c.tc : Thread Cert.In2ReferenceIdeal.nD Cert.In2ReferenceIdeal.τ).loc Cert.In2ReferenceIdeal.main_arg2) = m ((c.tc : Thread Cert.In2KernelIdeal.nD Cert.In2KernelIdeal.τ).loc Cert.In2KernelIdeal.main_arg2)
      ∧ m' ((c.tc : Thread Cert.In2ReferenceIdeal.nD Cert.In2ReferenceIdeal.τ).loc Cert.In2ReferenceIdeal.main_arg3) = m ((c.tc : Thread Cert.In2KernelIdeal.nD Cert.In2KernelIdeal.τ).loc Cert.In2KernelIdeal.main_arg3)
      ∧ m' ((c.tc : Thread Cert.In2ReferenceIdeal.nD Cert.In2ReferenceIdeal.τ).loc Cert.In2ReferenceIdeal.main_arg4) = m ((c.tc : Thread Cert.In2KernelIdeal.nD Cert.In2KernelIdeal.τ).loc Cert.In2KernelIdeal.main_arg4)
      ∧ m' ((c.tc : Thread Cert.In2ReferenceIdeal.nD Cert.In2ReferenceIdeal.τ).loc Cert.In2ReferenceIdeal.main_arg5) = m ((c.tc : Thread Cert.In2KernelIdeal.nD Cert.In2KernelIdeal.τ).loc Cert.In2KernelIdeal.main_arg5)
      ∧ m' ((c.tc : Thread Cert.In2ReferenceIdeal.nD Cert.In2ReferenceIdeal.τ).loc Cert.In2ReferenceIdeal.main_arg6) = m ((c.tc : Thread Cert.In2KernelIdeal.nD Cert.In2KernelIdeal.τ).loc Cert.In2KernelIdeal.main_arg6)) →
    ∃ (v0 : (c : Dev Cert.In2KernelIdeal.nD) → Buf (Elt Ideal) ((c.tc : Thread Cert.In2KernelIdeal.nD Cert.In2KernelIdeal.τ).loc Cert.In2KernelIdeal.main_v6_0)) (v1 : (c : Dev Cert.In2KernelIdeal.nD) → Buf (Elt Ideal) ((c.tc : Thread Cert.In2KernelIdeal.nD Cert.In2KernelIdeal.τ).loc Cert.In2KernelIdeal.main_v6_1)) (v2 : (c : Dev Cert.In2KernelIdeal.nD) → Buf (Elt Ideal) ((c.tc : Thread Cert.In2KernelIdeal.nD Cert.In2KernelIdeal.τ).loc Cert.In2KernelIdeal.main_v6_2)) (v3 : (c : Dev Cert.In2KernelIdeal.nD) → Buf (Elt Ideal) ((c.tc : Thread Cert.In2KernelIdeal.nD Cert.In2KernelIdeal.τ).loc Cert.In2KernelIdeal.main_v6_3)),
      θ_run (Cert.In2KernelIdeal.defs (F := Ideal)) (onTc (τ := Cert.In2KernelIdeal.τ) (Cert.In2KernelIdeal.main (F := Ideal))) ⟨m, fun _ => 0, g⟩ (fun r => ∀ c : Dev Cert.In2KernelIdeal.nD,
          r.2.mem ((c.tc : Thread Cert.In2KernelIdeal.nD Cert.In2KernelIdeal.τ).loc Cert.In2KernelIdeal.main_v6_0) = v0 c
          ∧ r.2.mem ((c.tc : Thread Cert.In2KernelIdeal.nD Cert.In2KernelIdeal.τ).loc Cert.In2KernelIdeal.main_v6_1) = v1 c
          ∧ r.2.mem ((c.tc : Thread Cert.In2KernelIdeal.nD Cert.In2KernelIdeal.τ).loc Cert.In2KernelIdeal.main_v6_2) = v2 c
          ∧ r.2.mem ((c.tc : Thread Cert.In2KernelIdeal.nD Cert.In2KernelIdeal.τ).loc Cert.In2KernelIdeal.main_v6_3) = v3 c
          ∧ r.2.mem ((c.tc : Thread Cert.In2KernelIdeal.nD Cert.In2KernelIdeal.τ).loc Cert.In2KernelIdeal.main_arg0) = m ((c.tc : Thread Cert.In2KernelIdeal.nD Cert.In2KernelIdeal.τ).loc Cert.In2KernelIdeal.main_arg0)
          ∧ r.2.mem ((c.tc : Thread Cert.In2KernelIdeal.nD Cert.In2KernelIdeal.τ).loc Cert.In2KernelIdeal.main_arg1) = m ((c.tc : Thread Cert.In2KernelIdeal.nD Cert.In2KernelIdeal.τ).loc Cert.In2KernelIdeal.main_arg1)
          ∧ r.2.mem ((c.tc : Thread Cert.In2KernelIdeal.nD Cert.In2KernelIdeal.τ).loc Cert.In2KernelIdeal.main_arg2) = m ((c.tc : Thread Cert.In2KernelIdeal.nD Cert.In2KernelIdeal.τ).loc Cert.In2KernelIdeal.main_arg2)
          ∧ r.2.mem ((c.tc : Thread Cert.In2KernelIdeal.nD Cert.In2KernelIdeal.τ).loc Cert.In2KernelIdeal.main_arg3) = m ((c.tc : Thread Cert.In2KernelIdeal.nD Cert.In2KernelIdeal.τ).loc Cert.In2KernelIdeal.main_arg3)
          ∧ r.2.mem ((c.tc : Thread Cert.In2KernelIdeal.nD Cert.In2KernelIdeal.τ).loc Cert.In2KernelIdeal.main_arg4) = m ((c.tc : Thread Cert.In2KernelIdeal.nD Cert.In2KernelIdeal.τ).loc Cert.In2KernelIdeal.main_arg4)
          ∧ r.2.mem ((c.tc : Thread Cert.In2KernelIdeal.nD Cert.In2KernelIdeal.τ).loc Cert.In2KernelIdeal.main_arg5) = m ((c.tc : Thread Cert.In2KernelIdeal.nD Cert.In2KernelIdeal.τ).loc Cert.In2KernelIdeal.main_arg5)
          ∧ r.2.mem ((c.tc : Thread Cert.In2KernelIdeal.nD Cert.In2KernelIdeal.τ).loc Cert.In2KernelIdeal.main_arg6) = m ((c.tc : Thread Cert.In2KernelIdeal.nD Cert.In2KernelIdeal.τ).loc Cert.In2KernelIdeal.main_arg6))
      ∧ θ_run (Cert.In2ReferenceIdeal.defs (F := Ideal)) (onTc (τ := Cert.In2ReferenceIdeal.τ) (Cert.In2ReferenceIdeal.main (F := Ideal))) ⟨m', fun _ => 0, g'⟩ (fun r => ∀ c : Dev Cert.In2ReferenceIdeal.nD,
          r.2.mem ((c.tc : Thread Cert.In2ReferenceIdeal.nD Cert.In2ReferenceIdeal.τ).loc Cert.In2ReferenceIdeal.main_v74) = v0 c
          ∧ r.2.mem ((c.tc : Thread Cert.In2ReferenceIdeal.nD Cert.In2ReferenceIdeal.τ).loc Cert.In2ReferenceIdeal.main_v40) = v1 c
          ∧ r.2.mem ((c.tc : Thread Cert.In2ReferenceIdeal.nD Cert.In2ReferenceIdeal.τ).loc Cert.In2ReferenceIdeal.main_v47) = v2 c
          ∧ r.2.mem ((c.tc : Thread Cert.In2ReferenceIdeal.nD Cert.In2ReferenceIdeal.τ).loc Cert.In2ReferenceIdeal.main_v75) = v3 c
          ∧ r.2.mem ((c.tc : Thread Cert.In2ReferenceIdeal.nD Cert.In2ReferenceIdeal.τ).loc Cert.In2ReferenceIdeal.main_arg0) = m' ((c.tc : Thread Cert.In2ReferenceIdeal.nD Cert.In2ReferenceIdeal.τ).loc Cert.In2ReferenceIdeal.main_arg0)
          ∧ r.2.mem ((c.tc : Thread Cert.In2ReferenceIdeal.nD Cert.In2ReferenceIdeal.τ).loc Cert.In2ReferenceIdeal.main_arg1) = m' ((c.tc : Thread Cert.In2ReferenceIdeal.nD Cert.In2ReferenceIdeal.τ).loc Cert.In2ReferenceIdeal.main_arg1)
          ∧ r.2.mem ((c.tc : Thread Cert.In2ReferenceIdeal.nD Cert.In2ReferenceIdeal.τ).loc Cert.In2ReferenceIdeal.main_arg2) = m' ((c.tc : Thread Cert.In2ReferenceIdeal.nD Cert.In2ReferenceIdeal.τ).loc Cert.In2ReferenceIdeal.main_arg2)
          ∧ r.2.mem ((c.tc : Thread Cert.In2ReferenceIdeal.nD Cert.In2ReferenceIdeal.τ).loc Cert.In2ReferenceIdeal.main_arg3) = m' ((c.tc : Thread Cert.In2ReferenceIdeal.nD Cert.In2ReferenceIdeal.τ).loc Cert.In2ReferenceIdeal.main_arg3)
          ∧ r.2.mem ((c.tc : Thread Cert.In2ReferenceIdeal.nD Cert.In2ReferenceIdeal.τ).loc Cert.In2ReferenceIdeal.main_arg4) = m' ((c.tc : Thread Cert.In2ReferenceIdeal.nD Cert.In2ReferenceIdeal.τ).loc Cert.In2ReferenceIdeal.main_arg4)
          ∧ r.2.mem ((c.tc : Thread Cert.In2ReferenceIdeal.nD Cert.In2ReferenceIdeal.τ).loc Cert.In2ReferenceIdeal.main_arg5) = m' ((c.tc : Thread Cert.In2ReferenceIdeal.nD Cert.In2ReferenceIdeal.τ).loc Cert.In2ReferenceIdeal.main_arg5)
          ∧ r.2.mem ((c.tc : Thread Cert.In2ReferenceIdeal.nD Cert.In2ReferenceIdeal.τ).loc Cert.In2ReferenceIdeal.main_arg6) = m' ((c.tc : Thread Cert.In2ReferenceIdeal.nD Cert.In2ReferenceIdeal.τ).loc Cert.In2ReferenceIdeal.main_arg6))

def preserves_In1Kernel_In1KernelIdeal : Prop :=
  True

def algebraic_In1KernelIdeal_In1ReferenceIdeal [hIn1KernelIdeal : Cert.In1KernelIdeal.Facts] [hIn1ReferenceIdeal : Cert.In1ReferenceIdeal.Facts] : Prop :=
  ∀ (m : (ℓ : Loc Cert.In1KernelIdeal.nD Cert.In1KernelIdeal.τ Cert.In1KernelIdeal.sig) → Buf (Elt Ideal) ℓ) (g : Dev Cert.In1KernelIdeal.nD → PrngReg)
    (m' : (ℓ : Loc Cert.In1ReferenceIdeal.nD Cert.In1ReferenceIdeal.τ Cert.In1ReferenceIdeal.sig) → Buf (Elt Ideal) ℓ) (g' : Dev Cert.In1ReferenceIdeal.nD → PrngReg), Pre_In1KernelIdeal m →
    (∀ c : Dev Cert.In1KernelIdeal.nD,
      m' ((c.tc : Thread Cert.In1ReferenceIdeal.nD Cert.In1ReferenceIdeal.τ).loc Cert.In1ReferenceIdeal.main_arg0) = m ((c.tc : Thread Cert.In1KernelIdeal.nD Cert.In1KernelIdeal.τ).loc Cert.In1KernelIdeal.main_arg0)
      ∧ m' ((c.tc : Thread Cert.In1ReferenceIdeal.nD Cert.In1ReferenceIdeal.τ).loc Cert.In1ReferenceIdeal.main_arg1) = m ((c.tc : Thread Cert.In1KernelIdeal.nD Cert.In1KernelIdeal.τ).loc Cert.In1KernelIdeal.main_arg1)
      ∧ m' ((c.tc : Thread Cert.In1ReferenceIdeal.nD Cert.In1ReferenceIdeal.τ).loc Cert.In1ReferenceIdeal.main_arg2) = m ((c.tc : Thread Cert.In1KernelIdeal.nD Cert.In1KernelIdeal.τ).loc Cert.In1KernelIdeal.main_arg2)
      ∧ m' ((c.tc : Thread Cert.In1ReferenceIdeal.nD Cert.In1ReferenceIdeal.τ).loc Cert.In1ReferenceIdeal.main_arg3) = m ((c.tc : Thread Cert.In1KernelIdeal.nD Cert.In1KernelIdeal.τ).loc Cert.In1KernelIdeal.main_arg3)
      ∧ m' ((c.tc : Thread Cert.In1ReferenceIdeal.nD Cert.In1ReferenceIdeal.τ).loc Cert.In1ReferenceIdeal.main_arg4) = m ((c.tc : Thread Cert.In1KernelIdeal.nD Cert.In1KernelIdeal.τ).loc Cert.In1KernelIdeal.main_arg4)
      ∧ m' ((c.tc : Thread Cert.In1ReferenceIdeal.nD Cert.In1ReferenceIdeal.τ).loc Cert.In1ReferenceIdeal.main_arg5) = m ((c.tc : Thread Cert.In1KernelIdeal.nD Cert.In1KernelIdeal.τ).loc Cert.In1KernelIdeal.main_arg5)
      ∧ m' ((c.tc : Thread Cert.In1ReferenceIdeal.nD Cert.In1ReferenceIdeal.τ).loc Cert.In1ReferenceIdeal.main_arg6) = m ((c.tc : Thread Cert.In1KernelIdeal.nD Cert.In1KernelIdeal.τ).loc Cert.In1KernelIdeal.main_arg6)
      ∧ m' ((c.tc : Thread Cert.In1ReferenceIdeal.nD Cert.In1ReferenceIdeal.τ).loc Cert.In1ReferenceIdeal.main_arg7) = m ((c.tc : Thread Cert.In1KernelIdeal.nD Cert.In1KernelIdeal.τ).loc Cert.In1KernelIdeal.main_arg7)) →
    ∃ (v0 : (c : Dev Cert.In1KernelIdeal.nD) → Buf (Elt Ideal) ((c.tc : Thread Cert.In1KernelIdeal.nD Cert.In1KernelIdeal.τ).loc Cert.In1KernelIdeal.main_v20_0)) (v1 : (c : Dev Cert.In1KernelIdeal.nD) → Buf (Elt Ideal) ((c.tc : Thread Cert.In1KernelIdeal.nD Cert.In1KernelIdeal.τ).loc Cert.In1KernelIdeal.main_v20_1)) (v2 : (c : Dev Cert.In1KernelIdeal.nD) → Buf (Elt Ideal) ((c.tc : Thread Cert.In1KernelIdeal.nD Cert.In1KernelIdeal.τ).loc Cert.In1KernelIdeal.main_v20_2)) (v3 : (c : Dev Cert.In1KernelIdeal.nD) → Buf (Elt Ideal) ((c.tc : Thread Cert.In1KernelIdeal.nD Cert.In1KernelIdeal.τ).loc Cert.In1KernelIdeal.main_v20_3)),
      θ_run (Cert.In1KernelIdeal.defs (F := Ideal)) (onTc (τ := Cert.In1KernelIdeal.τ) (Cert.In1KernelIdeal.main (F := Ideal))) ⟨m, fun _ => 0, g⟩ (fun r => ∀ c : Dev Cert.In1KernelIdeal.nD,
          r.2.mem ((c.tc : Thread Cert.In1KernelIdeal.nD Cert.In1KernelIdeal.τ).loc Cert.In1KernelIdeal.main_v20_0) = v0 c
          ∧ r.2.mem ((c.tc : Thread Cert.In1KernelIdeal.nD Cert.In1KernelIdeal.τ).loc Cert.In1KernelIdeal.main_v20_1) = v1 c
          ∧ r.2.mem ((c.tc : Thread Cert.In1KernelIdeal.nD Cert.In1KernelIdeal.τ).loc Cert.In1KernelIdeal.main_v20_2) = v2 c
          ∧ r.2.mem ((c.tc : Thread Cert.In1KernelIdeal.nD Cert.In1KernelIdeal.τ).loc Cert.In1KernelIdeal.main_v20_3) = v3 c
          ∧ r.2.mem ((c.tc : Thread Cert.In1KernelIdeal.nD Cert.In1KernelIdeal.τ).loc Cert.In1KernelIdeal.main_arg0) = m ((c.tc : Thread Cert.In1KernelIdeal.nD Cert.In1KernelIdeal.τ).loc Cert.In1KernelIdeal.main_arg0)
          ∧ r.2.mem ((c.tc : Thread Cert.In1KernelIdeal.nD Cert.In1KernelIdeal.τ).loc Cert.In1KernelIdeal.main_arg1) = m ((c.tc : Thread Cert.In1KernelIdeal.nD Cert.In1KernelIdeal.τ).loc Cert.In1KernelIdeal.main_arg1)
          ∧ r.2.mem ((c.tc : Thread Cert.In1KernelIdeal.nD Cert.In1KernelIdeal.τ).loc Cert.In1KernelIdeal.main_arg2) = m ((c.tc : Thread Cert.In1KernelIdeal.nD Cert.In1KernelIdeal.τ).loc Cert.In1KernelIdeal.main_arg2)
          ∧ r.2.mem ((c.tc : Thread Cert.In1KernelIdeal.nD Cert.In1KernelIdeal.τ).loc Cert.In1KernelIdeal.main_arg3) = m ((c.tc : Thread Cert.In1KernelIdeal.nD Cert.In1KernelIdeal.τ).loc Cert.In1KernelIdeal.main_arg3)
          ∧ r.2.mem ((c.tc : Thread Cert.In1KernelIdeal.nD Cert.In1KernelIdeal.τ).loc Cert.In1KernelIdeal.main_arg4) = m ((c.tc : Thread Cert.In1KernelIdeal.nD Cert.In1KernelIdeal.τ).loc Cert.In1KernelIdeal.main_arg4)
          ∧ r.2.mem ((c.tc : Thread Cert.In1KernelIdeal.nD Cert.In1KernelIdeal.τ).loc Cert.In1KernelIdeal.main_arg5) = m ((c.tc : Thread Cert.In1KernelIdeal.nD Cert.In1KernelIdeal.τ).loc Cert.In1KernelIdeal.main_arg5)
          ∧ r.2.mem ((c.tc : Thread Cert.In1KernelIdeal.nD Cert.In1KernelIdeal.τ).loc Cert.In1KernelIdeal.main_arg6) = m ((c.tc : Thread Cert.In1KernelIdeal.nD Cert.In1KernelIdeal.τ).loc Cert.In1KernelIdeal.main_arg6)
          ∧ r.2.mem ((c.tc : Thread Cert.In1KernelIdeal.nD Cert.In1KernelIdeal.τ).loc Cert.In1KernelIdeal.main_arg7) = m ((c.tc : Thread Cert.In1KernelIdeal.nD Cert.In1KernelIdeal.τ).loc Cert.In1KernelIdeal.main_arg7))
      ∧ θ_run (Cert.In1ReferenceIdeal.defs (F := Ideal)) (onTc (τ := Cert.In1ReferenceIdeal.τ) (Cert.In1ReferenceIdeal.main (F := Ideal))) ⟨m', fun _ => 0, g'⟩ (fun r => ∀ c : Dev Cert.In1ReferenceIdeal.nD,
          r.2.mem ((c.tc : Thread Cert.In1ReferenceIdeal.nD Cert.In1ReferenceIdeal.τ).loc Cert.In1ReferenceIdeal.main_v82) = v0 c
          ∧ r.2.mem ((c.tc : Thread Cert.In1ReferenceIdeal.nD Cert.In1ReferenceIdeal.τ).loc Cert.In1ReferenceIdeal.main_v43) = v1 c
          ∧ r.2.mem ((c.tc : Thread Cert.In1ReferenceIdeal.nD Cert.In1ReferenceIdeal.τ).loc Cert.In1ReferenceIdeal.main_v50) = v2 c
          ∧ r.2.mem ((c.tc : Thread Cert.In1ReferenceIdeal.nD Cert.In1ReferenceIdeal.τ).loc Cert.In1ReferenceIdeal.main_v86) = v3 c
          ∧ r.2.mem ((c.tc : Thread Cert.In1ReferenceIdeal.nD Cert.In1ReferenceIdeal.τ).loc Cert.In1ReferenceIdeal.main_arg0) = m' ((c.tc : Thread Cert.In1ReferenceIdeal.nD Cert.In1ReferenceIdeal.τ).loc Cert.In1ReferenceIdeal.main_arg0)
          ∧ r.2.mem ((c.tc : Thread Cert.In1ReferenceIdeal.nD Cert.In1ReferenceIdeal.τ).loc Cert.In1ReferenceIdeal.main_arg1) = m' ((c.tc : Thread Cert.In1ReferenceIdeal.nD Cert.In1ReferenceIdeal.τ).loc Cert.In1ReferenceIdeal.main_arg1)
          ∧ r.2.mem ((c.tc : Thread Cert.In1ReferenceIdeal.nD Cert.In1ReferenceIdeal.τ).loc Cert.In1ReferenceIdeal.main_arg2) = m' ((c.tc : Thread Cert.In1ReferenceIdeal.nD Cert.In1ReferenceIdeal.τ).loc Cert.In1ReferenceIdeal.main_arg2)
          ∧ r.2.mem ((c.tc : Thread Cert.In1ReferenceIdeal.nD Cert.In1ReferenceIdeal.τ).loc Cert.In1ReferenceIdeal.main_arg3) = m' ((c.tc : Thread Cert.In1ReferenceIdeal.nD Cert.In1ReferenceIdeal.τ).loc Cert.In1ReferenceIdeal.main_arg3)
          ∧ r.2.mem ((c.tc : Thread Cert.In1ReferenceIdeal.nD Cert.In1ReferenceIdeal.τ).loc Cert.In1ReferenceIdeal.main_arg4) = m' ((c.tc : Thread Cert.In1ReferenceIdeal.nD Cert.In1ReferenceIdeal.τ).loc Cert.In1ReferenceIdeal.main_arg4)
          ∧ r.2.mem ((c.tc : Thread Cert.In1ReferenceIdeal.nD Cert.In1ReferenceIdeal.τ).loc Cert.In1ReferenceIdeal.main_arg5) = m' ((c.tc : Thread Cert.In1ReferenceIdeal.nD Cert.In1ReferenceIdeal.τ).loc Cert.In1ReferenceIdeal.main_arg5)
          ∧ r.2.mem ((c.tc : Thread Cert.In1ReferenceIdeal.nD Cert.In1ReferenceIdeal.τ).loc Cert.In1ReferenceIdeal.main_arg6) = m' ((c.tc : Thread Cert.In1ReferenceIdeal.nD Cert.In1ReferenceIdeal.τ).loc Cert.In1ReferenceIdeal.main_arg6)
          ∧ r.2.mem ((c.tc : Thread Cert.In1ReferenceIdeal.nD Cert.In1ReferenceIdeal.τ).loc Cert.In1ReferenceIdeal.main_arg7) = m' ((c.tc : Thread Cert.In1ReferenceIdeal.nD Cert.In1ReferenceIdeal.τ).loc Cert.In1ReferenceIdeal.main_arg7))

def preserves_InFKernel_InFKernelIdeal : Prop :=
  True

def algebraic_InFKernelIdeal_InFReferenceIdeal [hInFKernelIdeal : Cert.InFKernelIdeal.Facts] [hInFReferenceIdeal : Cert.InFReferenceIdeal.Facts] : Prop :=
  ∀ (m : (ℓ : Loc Cert.InFKernelIdeal.nD Cert.InFKernelIdeal.τ Cert.InFKernelIdeal.sig) → Buf (Elt Ideal) ℓ) (g : Dev Cert.InFKernelIdeal.nD → PrngReg)
    (m' : (ℓ : Loc Cert.InFReferenceIdeal.nD Cert.InFReferenceIdeal.τ Cert.InFReferenceIdeal.sig) → Buf (Elt Ideal) ℓ) (g' : Dev Cert.InFReferenceIdeal.nD → PrngReg), Pre_InFKernelIdeal m →
    (∀ c : Dev Cert.InFKernelIdeal.nD,
      m' ((c.tc : Thread Cert.InFReferenceIdeal.nD Cert.InFReferenceIdeal.τ).loc Cert.InFReferenceIdeal.main_arg0) = m ((c.tc : Thread Cert.InFKernelIdeal.nD Cert.InFKernelIdeal.τ).loc Cert.InFKernelIdeal.main_arg0)
      ∧ m' ((c.tc : Thread Cert.InFReferenceIdeal.nD Cert.InFReferenceIdeal.τ).loc Cert.InFReferenceIdeal.main_arg1) = m ((c.tc : Thread Cert.InFKernelIdeal.nD Cert.InFKernelIdeal.τ).loc Cert.InFKernelIdeal.main_arg1)
      ∧ m' ((c.tc : Thread Cert.InFReferenceIdeal.nD Cert.InFReferenceIdeal.τ).loc Cert.InFReferenceIdeal.main_arg2) = m ((c.tc : Thread Cert.InFKernelIdeal.nD Cert.InFKernelIdeal.τ).loc Cert.InFKernelIdeal.main_arg2)
      ∧ m' ((c.tc : Thread Cert.InFReferenceIdeal.nD Cert.InFReferenceIdeal.τ).loc Cert.InFReferenceIdeal.main_arg3) = m ((c.tc : Thread Cert.InFKernelIdeal.nD Cert.InFKernelIdeal.τ).loc Cert.InFKernelIdeal.main_arg3)) →
    ∃ (v0 : (c : Dev Cert.InFKernelIdeal.nD) → Buf (Elt Ideal) ((c.tc : Thread Cert.InFKernelIdeal.nD Cert.InFKernelIdeal.τ).loc Cert.InFKernelIdeal.main_v21_0)) (v1 : (c : Dev Cert.InFKernelIdeal.nD) → Buf (Elt Ideal) ((c.tc : Thread Cert.InFKernelIdeal.nD Cert.InFKernelIdeal.τ).loc Cert.InFKernelIdeal.main_v21_1)) (v2 : (c : Dev Cert.InFKernelIdeal.nD) → Buf (Elt Ideal) ((c.tc : Thread Cert.InFKernelIdeal.nD Cert.InFKernelIdeal.τ).loc Cert.InFKernelIdeal.main_v21_2)) (v3 : (c : Dev Cert.InFKernelIdeal.nD) → Buf (Elt Ideal) ((c.tc : Thread Cert.InFKernelIdeal.nD Cert.InFKernelIdeal.τ).loc Cert.InFKernelIdeal.main_v21_3)) (v4 : (c : Dev Cert.InFKernelIdeal.nD) → Buf (Elt Ideal) ((c.tc : Thread Cert.InFKernelIdeal.nD Cert.InFKernelIdeal.τ).loc Cert.InFKernelIdeal.main_v21_4)) (v5 : (c : Dev Cert.InFKernelIdeal.nD) → Buf (Elt Ideal) ((c.tc : Thread Cert.InFKernelIdeal.nD Cert.InFKernelIdeal.τ).loc Cert.InFKernelIdeal.main_v21_5)),
      θ_run (Cert.InFKernelIdeal.defs (F := Ideal)) (onTc (τ := Cert.InFKernelIdeal.τ) (Cert.InFKernelIdeal.main (F := Ideal))) ⟨m, fun _ => 0, g⟩ (fun r => ∀ c : Dev Cert.InFKernelIdeal.nD,
          r.2.mem ((c.tc : Thread Cert.InFKernelIdeal.nD Cert.InFKernelIdeal.τ).loc Cert.InFKernelIdeal.main_v21_0) = v0 c
          ∧ r.2.mem ((c.tc : Thread Cert.InFKernelIdeal.nD Cert.InFKernelIdeal.τ).loc Cert.InFKernelIdeal.main_v21_1) = v1 c
          ∧ r.2.mem ((c.tc : Thread Cert.InFKernelIdeal.nD Cert.InFKernelIdeal.τ).loc Cert.InFKernelIdeal.main_v21_2) = v2 c
          ∧ r.2.mem ((c.tc : Thread Cert.InFKernelIdeal.nD Cert.InFKernelIdeal.τ).loc Cert.InFKernelIdeal.main_v21_3) = v3 c
          ∧ r.2.mem ((c.tc : Thread Cert.InFKernelIdeal.nD Cert.InFKernelIdeal.τ).loc Cert.InFKernelIdeal.main_v21_4) = v4 c
          ∧ r.2.mem ((c.tc : Thread Cert.InFKernelIdeal.nD Cert.InFKernelIdeal.τ).loc Cert.InFKernelIdeal.main_v21_5) = v5 c
          ∧ r.2.mem ((c.tc : Thread Cert.InFKernelIdeal.nD Cert.InFKernelIdeal.τ).loc Cert.InFKernelIdeal.main_arg0) = m ((c.tc : Thread Cert.InFKernelIdeal.nD Cert.InFKernelIdeal.τ).loc Cert.InFKernelIdeal.main_arg0)
          ∧ r.2.mem ((c.tc : Thread Cert.InFKernelIdeal.nD Cert.InFKernelIdeal.τ).loc Cert.InFKernelIdeal.main_arg1) = m ((c.tc : Thread Cert.InFKernelIdeal.nD Cert.InFKernelIdeal.τ).loc Cert.InFKernelIdeal.main_arg1)
          ∧ r.2.mem ((c.tc : Thread Cert.InFKernelIdeal.nD Cert.InFKernelIdeal.τ).loc Cert.InFKernelIdeal.main_arg2) = m ((c.tc : Thread Cert.InFKernelIdeal.nD Cert.InFKernelIdeal.τ).loc Cert.InFKernelIdeal.main_arg2)
          ∧ r.2.mem ((c.tc : Thread Cert.InFKernelIdeal.nD Cert.InFKernelIdeal.τ).loc Cert.InFKernelIdeal.main_arg3) = m ((c.tc : Thread Cert.InFKernelIdeal.nD Cert.InFKernelIdeal.τ).loc Cert.InFKernelIdeal.main_arg3))
      ∧ θ_run (Cert.InFReferenceIdeal.defs (F := Ideal)) (onTc (τ := Cert.InFReferenceIdeal.τ) (Cert.InFReferenceIdeal.main (F := Ideal))) ⟨m', fun _ => 0, g'⟩ (fun r => ∀ c : Dev Cert.InFReferenceIdeal.nD,
          r.2.mem ((c.tc : Thread Cert.InFReferenceIdeal.nD Cert.InFReferenceIdeal.τ).loc Cert.InFReferenceIdeal.main_v30) = v0 c
          ∧ r.2.mem ((c.tc : Thread Cert.InFReferenceIdeal.nD Cert.InFReferenceIdeal.τ).loc Cert.InFReferenceIdeal.main_v34) = v1 c
          ∧ r.2.mem ((c.tc : Thread Cert.InFReferenceIdeal.nD Cert.InFReferenceIdeal.τ).loc Cert.InFReferenceIdeal.main_v35) = v2 c
          ∧ r.2.mem ((c.tc : Thread Cert.InFReferenceIdeal.nD Cert.InFReferenceIdeal.τ).loc Cert.InFReferenceIdeal.main_v36) = v3 c
          ∧ r.2.mem ((c.tc : Thread Cert.InFReferenceIdeal.nD Cert.InFReferenceIdeal.τ).loc Cert.InFReferenceIdeal.main_v37) = v4 c
          ∧ r.2.mem ((c.tc : Thread Cert.InFReferenceIdeal.nD Cert.InFReferenceIdeal.τ).loc Cert.InFReferenceIdeal.main_v38) = v5 c
          ∧ r.2.mem ((c.tc : Thread Cert.InFReferenceIdeal.nD Cert.InFReferenceIdeal.τ).loc Cert.InFReferenceIdeal.main_arg0) = m' ((c.tc : Thread Cert.InFReferenceIdeal.nD Cert.InFReferenceIdeal.τ).loc Cert.InFReferenceIdeal.main_arg0)
          ∧ r.2.mem ((c.tc : Thread Cert.InFReferenceIdeal.nD Cert.InFReferenceIdeal.τ).loc Cert.InFReferenceIdeal.main_arg1) = m' ((c.tc : Thread Cert.InFReferenceIdeal.nD Cert.InFReferenceIdeal.τ).loc Cert.InFReferenceIdeal.main_arg1)
          ∧ r.2.mem ((c.tc : Thread Cert.InFReferenceIdeal.nD Cert.InFReferenceIdeal.τ).loc Cert.InFReferenceIdeal.main_arg2) = m' ((c.tc : Thread Cert.InFReferenceIdeal.nD Cert.InFReferenceIdeal.τ).loc Cert.InFReferenceIdeal.main_arg2)
          ∧ r.2.mem ((c.tc : Thread Cert.InFReferenceIdeal.nD Cert.InFReferenceIdeal.τ).loc Cert.InFReferenceIdeal.main_arg3) = m' ((c.tc : Thread Cert.InFReferenceIdeal.nD Cert.InFReferenceIdeal.τ).loc Cert.InFReferenceIdeal.main_arg3))

def preserves_PostKernel_PostKernelIdeal : Prop :=
  True

def preserves_MlaKernel_MlaKernelIdeal : Prop :=
  True

def Claim : Prop :=
  ∃ (hMergeKernel : Cert.MergeKernel.Facts) (hMergeKernelIdeal : Cert.MergeKernelIdeal.Facts) (hMergeReferenceIdeal : Cert.MergeReferenceIdeal.Facts) (hAttnKernel : Cert.AttnKernel.Facts) (hAttnKernelIdeal : Cert.AttnKernelIdeal.Facts) (hAttnReferenceIdeal : Cert.AttnReferenceIdeal.Facts) (hLossKernel : Cert.LossKernel.Facts) (hLossKernelIdeal : Cert.LossKernelIdeal.Facts) (hLossReferenceIdeal : Cert.LossReferenceIdeal.Facts) (hIn3Kernel : Cert.In3Kernel.Facts) (hIn3KernelIdeal : Cert.In3KernelIdeal.Facts) (hIn3ReferenceIdeal : Cert.In3ReferenceIdeal.Facts) (hIn2Kernel : Cert.In2Kernel.Facts) (hIn2KernelIdeal : Cert.In2KernelIdeal.Facts) (hIn2ReferenceIdeal : Cert.In2ReferenceIdeal.Facts) (hIn1Kernel : Cert.In1Kernel.Facts) (hIn1KernelIdeal : Cert.In1KernelIdeal.Facts) (hIn1ReferenceIdeal : Cert.In1ReferenceIdeal.Facts) (hInFKernel : Cert.InFKernel.Facts) (hInFKernelIdeal : Cert.InFKernelIdeal.Facts) (hInFReferenceIdeal : Cert.InFReferenceIdeal.Facts) (hPostKernel : Cert.PostKernel.Facts) (hPostKernelIdeal : Cert.PostKernelIdeal.Facts) (hPostReferenceIdeal : Cert.PostReferenceIdeal.Facts) (hMlaKernel : Cert.MlaKernel.Facts) (hMlaKernelIdeal : Cert.MlaKernelIdeal.Facts) (hMlaReferenceIdeal : Cert.MlaReferenceIdeal.Facts) (hPre_finite_attn : Cert.Pre_finite_attn.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_AttnKernel (hAttnKernel := hAttnKernel)
    ∧ quiescent_AttnKernelIdeal (hAttnKernelIdeal := hAttnKernelIdeal)
    ∧ quiescent_AttnKernelIdeal_pre_finite_attn (hAttnKernelIdeal := hAttnKernelIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_In3Kernel (hIn3Kernel := hIn3Kernel)
    ∧ quiescent_In3KernelIdeal (hIn3KernelIdeal := hIn3KernelIdeal)
    ∧ quiescent_In3ReferenceIdeal (hIn3ReferenceIdeal := hIn3ReferenceIdeal)
    ∧ quiescent_In2Kernel (hIn2Kernel := hIn2Kernel)
    ∧ quiescent_In2KernelIdeal (hIn2KernelIdeal := hIn2KernelIdeal)
    ∧ quiescent_In2ReferenceIdeal (hIn2ReferenceIdeal := hIn2ReferenceIdeal)
    ∧ quiescent_In1Kernel (hIn1Kernel := hIn1Kernel)
    ∧ quiescent_In1KernelIdeal (hIn1KernelIdeal := hIn1KernelIdeal)
    ∧ quiescent_In1ReferenceIdeal (hIn1ReferenceIdeal := hIn1ReferenceIdeal)
    ∧ quiescent_InFKernel (hInFKernel := hInFKernel)
    ∧ quiescent_InFKernelIdeal (hInFKernelIdeal := hInFKernelIdeal)
    ∧ quiescent_InFReferenceIdeal (hInFReferenceIdeal := hInFReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_MlaKernel (hMlaKernel := hMlaKernel)
    ∧ quiescent_MlaKernelIdeal (hMlaKernelIdeal := hMlaKernelIdeal)
    ∧ quiescent_MlaReferenceIdeal (hMlaReferenceIdeal := hMlaReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_AttnKernel_AttnKernelIdeal
    ∧ algebraic_AttnKernelIdeal_AttnReferenceIdeal_pre_finite_attn (hAttnKernelIdeal := hAttnKernelIdeal) (hAttnReferenceIdeal := hAttnReferenceIdeal) (hPre_finite_attn := hPre_finite_attn)
    ∧ preserves_LossKernel_LossKernelIdeal
    ∧ algebraic_LossKernelIdeal_LossReferenceIdeal (hLossKernelIdeal := hLossKernelIdeal) (hLossReferenceIdeal := hLossReferenceIdeal)
    ∧ preserves_In3Kernel_In3KernelIdeal
    ∧ algebraic_In3KernelIdeal_In3ReferenceIdeal (hIn3KernelIdeal := hIn3KernelIdeal) (hIn3ReferenceIdeal := hIn3ReferenceIdeal)
    ∧ preserves_In2Kernel_In2KernelIdeal
    ∧ algebraic_In2KernelIdeal_In2ReferenceIdeal (hIn2KernelIdeal := hIn2KernelIdeal) (hIn2ReferenceIdeal := hIn2ReferenceIdeal)
    ∧ preserves_In1Kernel_In1KernelIdeal
    ∧ algebraic_In1KernelIdeal_In1ReferenceIdeal (hIn1KernelIdeal := hIn1KernelIdeal) (hIn1ReferenceIdeal := hIn1ReferenceIdeal)
    ∧ preserves_InFKernel_InFKernelIdeal
    ∧ algebraic_InFKernelIdeal_InFReferenceIdeal (hInFKernelIdeal := hInFKernelIdeal) (hInFReferenceIdeal := hInFReferenceIdeal)
    ∧ preserves_PostKernel_PostKernelIdeal
    ∧ preserves_MlaKernel_MlaKernelIdeal
-- ==== Pre_finite_attn.lean ====
abbrev S1x4096x8x96 : Shape := ⟨4, ![1, 4096, 8, 96]⟩
abbrev S1x4096x8x128 : Shape := ⟨4, ![1, 4096, 8, 128]⟩
abbrev S1x4096x1x32 : Shape := ⟨4, ![1, 4096, 1, 32]⟩
abbrev S1x4096x8x64 : Shape := ⟨4, ![1, 4096, 8, 64]⟩
abbrev S1x4096x8x32 : Shape := ⟨4, ![1, 4096, 8, 32]⟩
abbrev S1x4096x8x320 : Shape := ⟨4, ![1, 4096, 8, 320]⟩
abbrev S_ : Shape := ⟨0, ![]⟩

class Facts : Prop where
  bcast_S1x4096x1x32_S1x4096x8x32_0_1_2_3 : S1x4096x1x32.BroadcastsInDim S1x4096x8x32 (![0, 1, 2, 3] : Fin 4 → Fin S1x4096x8x32.rank)
  concatenates_S1x4096x8x96_S1x4096x8x128_S1x4096x8x32_S1x4096x8x64_S1x4096x8x320_d3 : Shape.Concatenates [S1x4096x8x96, S1x4096x8x128, S1x4096x8x32, S1x4096x8x64] S1x4096x8x320 3
  bcast_S_S1x4096x8x320 : S_.BroadcastsInDim S1x4096x8x320 (![] : Fin 0 → Fin S1x4096x8x320.rank)

variable [Facts]

def fn {F : FTy → Type} [FloatOps F] (main_arg0 : FVec F S1x4096x8x96 .f32) (main_arg1 : FVec F S1x4096x8x128 .f32) (main_arg2 : FVec F S1x4096x1x32 .f32) (main_arg3 : FVec F S1x4096x8x64 .f32) : IVec S1x4096x8x320 1 :=
  let main_v0 : FVec F S1x4096x8x32 .f32 := broadcastInDim S1x4096x8x32 ![0, 1, 2, 3] bcast_S1x4096x1x32_S1x4096x8x32_0_1_2_3 main_arg2
  let main_v1 : FVec F S1x4096x8x320 .f32 := concatenate S1x4096x8x320 3 [⟨S1x4096x8x96, main_arg0⟩, ⟨S1x4096x8x128, main_arg1⟩, ⟨S1x4096x8x32, main_v0⟩, ⟨S1x4096x8x64, main_arg3⟩] concatenates_S1x4096x8x96_S1x4096x8x128_S1x4096x8x32_S1x4096x8x64_S1x4096x8x320_d3
  let main_v2 : FVec F S1x4096x8x320 .f32 := Host.absf main_v1
  let main_cst : FVec F S_ .f32 := constant S_ .f32 0x7F800000#32
  let main_v3 : FVec F S1x4096x8x320 .f32 := broadcastInDim S1x4096x8x320 ![] bcast_S_S1x4096x8x320 main_cst
  let main_v4 : IVec S1x4096x8x320 1 := cmpf .olt main_v2 main_v3
  main_v4
-- ==== MergeKernel.lean ====
abbrev S1x4096x512 : Shape := ⟨3, ![1, 4096, 512]⟩
abbrev S1x4096x1024 : Shape := ⟨3, ![1, 4096, 1024]⟩
abbrev S1x512x1024 : Shape := ⟨3, ![1, 512, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S4096x8x64 : Shape := ⟨3, ![4096, 8, 64]⟩
abbrev S4096x8x128 : Shape := ⟨3, ![4096, 8, 128]⟩
abbrev S4096x1024 : Shape := ⟨2, ![4096, 1024]⟩
abbrev S4096x512 : Shape := ⟨2, ![4096, 512]⟩
abbrev S256x1024 : Shape := ⟨2, ![256, 1024]⟩
abbrev S256x512 : Shape := ⟨2, ![256, 512]⟩

abbrev nBuf : Space → Nat
  | .hbm => 41
  | .vmem => 30
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x1024, .f32⟩
  | .hbm, ⟨5, _⟩ => ⟨S1x4096x1024, .f32⟩
  | .hbm, ⟨6, _⟩ => ⟨S1x512x1024, .f32⟩
  | .hbm, ⟨7, _⟩ => ⟨S1x512x1024, .f32⟩
  | .hbm, ⟨8, _⟩ => ⟨S1x4096x1024, .f32⟩
  | .hbm, ⟨9, _⟩ => ⟨S512x1024, .f32⟩
  | .hbm, ⟨10, _⟩ => ⟨S512x1024, .bf16⟩
  | .hbm, ⟨11, _⟩ => ⟨S8x64x1024, .bf16⟩
  | .hbm, ⟨12, _⟩ => ⟨S_, .i32⟩
  | .hbm, ⟨13, _⟩ => ⟨S_, .bf16⟩
  | .hbm, ⟨14, _⟩ => ⟨S8x128x1024, .bf16⟩
  | .hbm, ⟨15, _⟩ => ⟨S1024x1024, .bf16⟩
  | .hbm, ⟨16, _⟩ => ⟨S4096x8x64, .f32⟩
  | .hbm, ⟨17, _⟩ => ⟨S_, .i32⟩
  | .hbm, ⟨18, _⟩ => ⟨S_, .f32⟩
  | .hbm, ⟨19, _⟩ => ⟨S4096x8x128, .f32⟩
  | .hbm, ⟨20, _⟩ => ⟨S4096x1024, .f32⟩
  | .hbm, ⟨21, _⟩ => ⟨S4096x8x64, .f32⟩
  | .hbm, ⟨22, _⟩ => ⟨S_, .i32⟩
  | .hbm, ⟨23, _⟩ => ⟨S_, .f32⟩
  | .hbm, ⟨24, _⟩ => ⟨S4096x8x128, .f32⟩
  | .hbm, ⟨25, _⟩ => ⟨S4096x1024, .f32⟩
  | .hbm, ⟨26, _⟩ => ⟨S4096x512, .f32⟩
  | .hbm, ⟨27, _⟩ => ⟨S4096x512, .f32⟩
  | .hbm, ⟨28, _⟩ => ⟨S4096x1024, .f32⟩
  | .hbm, ⟨29, _⟩ => ⟨S4096x1024, .f32⟩
  | .hbm, ⟨30, _⟩ => ⟨S512x1024, .f32⟩
  | .hbm, ⟨31, _⟩ => ⟨S512x1024, .bf16⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S512x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1024x1024, .f32⟩
  | .local _ .vmem, ⟨29, _⟩ => ⟨S512x1024, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev main_v18_4 : Ref sig .tc := ⟨.hbm, 37, rfl⟩
abbrev main_v18_5 : Ref sig .tc := ⟨.hbm, 38, rfl⟩
abbrev main_v18_6 : Ref sig .tc := ⟨.hbm, 39, rfl⟩
abbrev main_v18_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeReferenceIdeal.lean ====
abbrev S1x4096x512 : Shape := ⟨3, ![1, 4096, 512]⟩
abbrev S1x4096x1024 : Shape := ⟨3, ![1, 4096, 1024]⟩
abbrev S1x512x1024 : Shape := ⟨3, ![1, 512, 1024]⟩
abbrev S512x1024 : Shape := ⟨2, ![512, 1024]⟩
abbrev S_ : Shape := ⟨0, ![]⟩
abbrev S1024x512 : Shape := ⟨2, ![1024, 512]⟩
abbrev S8x64x1024 : Shape := ⟨3, ![8, 64, 1024]⟩
abbrev S8x128x1024 : Shape := ⟨3, ![8, 128, 1024]⟩
abbrev S1024x1024 : Shape := ⟨2, ![1024, 1024]⟩
abbrev S4096x8x64 : Shape := ⟨3, ![4096, 8, 64]⟩
abbrev S4096x8x128 : Shape := ⟨3, ![4096, 8, 128]⟩
abbrev S4096x1024 : Shape := ⟨2, ![4096, 1024]⟩
abbrev S4096x512 : Shape := ⟨2, ![4096, 512]⟩

abbrev nBuf : Space → Nat
  | .hbm => 116
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x1024, .f32⟩
  | .hbm, ⟨5, _⟩ => ⟨S1x4096x1024, .f32⟩
  | .hbm, ⟨6, _⟩ => ⟨S1x512x1024, .f32⟩
  | .hbm, ⟨7, _⟩ => ⟨S1x512x1024, .f32⟩
  | .hbm, ⟨8, _⟩ => ⟨S1x4096x1024, .f32⟩
  | .hbm, ⟨9, _⟩ => ⟨S512x1024, .f32⟩
  | .hbm, ⟨10, _⟩ => ⟨S512x1024, .f32⟩
  | .hbm, ⟨11, _⟩ => ⟨S1x4096x512, .f32⟩
  | .hbm, ⟨12, _⟩ => ⟨S1x4096x512, .f32⟩
  | .hbm, ⟨13, _⟩ => ⟨S_, .f32⟩
  | .hbm, ⟨14, _⟩ => ⟨S1x4096x512, .f32⟩
  | .hbm, ⟨15, _⟩ => ⟨S1x4096x512, .f32⟩
  | .hbm, ⟨16, _⟩ => ⟨S_, .f32⟩
  | .hbm, ⟨17, _⟩ => ⟨S1x4096x512, .f32⟩
  | .hbm, ⟨18, _⟩ => ⟨S1x4096x512, .f32⟩
  | .hbm, ⟨19, _⟩ => ⟨S_, .f32⟩
  | .hbm, ⟨20, _⟩ => ⟨S1x4096x512, .f32⟩
  | .hbm, ⟨21, _⟩ => ⟨S1x4096x512, .f32⟩
  | .hbm, ⟨22, _⟩ => ⟨S1x4096x512, .f32⟩
  | .hbm, ⟨23, _⟩ => ⟨S1x4096x512, .f32⟩
  | .hbm, ⟨24, _⟩ => ⟨S1x4096x512, .f32⟩
  | .hbm, ⟨25, _⟩ => ⟨S1x4096x1024, .f32⟩
  | .hbm, ⟨26, _⟩ => ⟨S1x4096x512, .f32⟩
  | .hbm, ⟨27, _⟩ => ⟨S1x4096x512, .f32⟩
  | .hbm, ⟨28, _⟩ => ⟨S_, .f32⟩
  | .hbm, ⟨29, _⟩ => ⟨S1x4096x512, .f32⟩
  | .hbm, ⟨30, _⟩ => ⟨S1x4096x512, .f32⟩
  | .hbm, ⟨31, _⟩ => ⟨S_, .f32⟩
  | .hbm, ⟨32, _⟩ => ⟨S1x4096x512, .f32⟩
  | .hbm, ⟨33, _⟩ => ⟨S1x4096x512, .f32⟩
  | .hbm, ⟨34, _⟩ => ⟨S_, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x4096x512, .f32⟩
  | .hbm, ⟨39, _⟩ => ⟨S1x4096x512, .f32⟩
  | .hbm, ⟨40, _⟩ => ⟨S1x4096x1024, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S_, .f32⟩
  | .hbm, ⟨57, _⟩ => ⟨S1x4096x1024, .f32⟩
  | .hbm, ⟨58, _⟩ => ⟨S1x4096x1024, .f32⟩
  | .hbm, ⟨59, _⟩ => ⟨S_, .f32⟩
  | .hbm, ⟨60, _⟩ => ⟨S1x4096x1024, .f32⟩
  | .hbm, ⟨61, _⟩ => ⟨S1x4096x1024, .f32⟩
  | .hbm, ⟨62, _⟩ => ⟨S_, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1024x512, .f32⟩
  | .hbm, ⟨77, _⟩ => ⟨S512x1024, .f32⟩
  | .hbm, ⟨78, _⟩ => ⟨S1x4096x512, .f32⟩
  | .hbm, ⟨79, _⟩ => ⟨S1x4096x512, .f32⟩
  | .hbm, ⟨80, _⟩ => ⟨S1x4096x512, .f32⟩
  | .hbm, ⟨81, _⟩ => ⟨S1x4096x512, .f32⟩
  | .hbm, ⟨82, _⟩ => ⟨S1x4096x512, .f32⟩
  | .hbm, ⟨83, _⟩ => ⟨S1x4096x512, .f32⟩
  | .hbm, ⟨84, _⟩ => ⟨S1x4096x512, .f32⟩
  | .hbm, ⟨85, _⟩ => ⟨S1024x512, .f32⟩
  | .hbm, ⟨86, _⟩ => ⟨S512x1024, .f32⟩
  | .hbm, ⟨87, _⟩ => ⟨S1x4096x512, .f32⟩
  | .hbm, ⟨88, _⟩ => ⟨S1x4096x512, .f32⟩
  | .hbm, ⟨89, _⟩ => ⟨S1x4096x512, .f32⟩
  | .hbm, ⟨90, _⟩ => ⟨S1x4096x512, .f32⟩
  | .hbm, ⟨91, _⟩ => ⟨S1x4096x512, .f32⟩
  | .hbm, ⟨92, _⟩ => ⟨S1x4096x512, .f32⟩
  | .hbm, ⟨93, _⟩ => ⟨S1x4096x512, .f32⟩
  | .hbm, ⟨94, _⟩ => ⟨S1x512x1024, .f32⟩
  | .hbm, ⟨95, _⟩ => ⟨S1x512x1024, .f32⟩
  | .hbm, ⟨96, _⟩ => ⟨S8x64x1024, .f32⟩
  | .hbm, ⟨97, _⟩ => ⟨S_, .i32⟩
  | .hbm, ⟨98, _⟩ => ⟨S_, .f32⟩
  | .hbm, ⟨99, _⟩ => ⟨S8x128x1024, .f32⟩
  | .hbm, ⟨100, _⟩ => ⟨S1024x1024, .f32⟩
  | .hbm, ⟨101, _⟩ => ⟨S4096x8x64, .f32⟩
  | .hbm, ⟨102, _⟩ => ⟨S_, .i32⟩
  | .hbm, ⟨103, _⟩ => ⟨S_, .f32⟩
  | .hbm, ⟨104, _⟩ => ⟨S4096x8x128, .f32⟩
  | .hbm, ⟨105, _⟩ => ⟨S4096x1024, .f32⟩
  | .hbm, ⟨106, _⟩ => ⟨S4096x8x64, .f32⟩
  | .hbm, ⟨107, _⟩ => ⟨S_, .i32⟩
  | .hbm, ⟨108, _⟩ => ⟨S_, .f32⟩
  | .hbm, ⟨109, _⟩ => ⟨S4096x8x128, .f32⟩
  | .hbm, ⟨110, _⟩ => ⟨S4096x1024, .f32⟩
  | .hbm, ⟨111, _⟩ => ⟨S4096x512, .f32⟩
  | .hbm, ⟨112, _⟩ => ⟨S4096x512, .f32⟩
  | .hbm, ⟨113, _⟩ => ⟨S4096x1024, .f32⟩
  | .hbm, ⟨114, _⟩ => ⟨S4096x1024, .f32⟩
  | .hbm, ⟨115, _⟩ => ⟨S512x1024, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v2_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v2_1 : Ref sig .tc := ⟨.hbm, 22, rfl⟩
abbrev main_v2_0 : Ref sig .tc := ⟨.hbm, 23, rfl⟩
abbrev main_v3 : Ref sig .tc := ⟨.hbm, 24, rfl⟩
abbrev main_v4 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v5_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v5_1 : Ref sig .tc := ⟨.hbm, 37, rfl⟩
abbrev main_v5_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst : Ref sig .tc := ⟨.hbm, 43, rfl⟩
abbrev main_v10 : Ref sig .tc := ⟨.hbm, 44, rfl⟩
abbrev main_v11 : Ref sig .tc := ⟨.hbm, 45, rfl⟩
abbrev main_cst_0 : Ref sig .tc := ⟨.hbm, 46, rfl⟩
abbrev main_v12 : Ref sig .tc := ⟨.hbm, 47, rfl⟩
abbrev main_v13 : Ref sig .tc := ⟨.hbm, 48, rfl⟩
abbrev main_cst_1 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_2 : Ref sig .tc := ⟨.hbm, 56, rfl⟩
abbrev main_v20 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_v23 : Ref sig .tc := ⟨.hbm, 61, rfl⟩
abbrev main_cst_4 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c : Ref sig .tc := ⟨.hbm, 97, rfl⟩
abbrev main_call4_v0 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_5 : Ref sig .tc := ⟨.hbm, 102, rfl⟩
abbrev main_call5_v0 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_c_6 : Ref sig .tc := ⟨.hbm, 107, rfl⟩
abbrev main_call6_v0 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩

abbrev nD : Nat := 1
abbrev τ : Topo := Topo.v7x

variable {F : FTy → Type} [FloatOps F]
-- ==== AttnKernel.lean ====
abbrev S1x4096x8x96 : Shape := ⟨4, ![1, 4096, 8, 96]⟩
abbrev S1x4096x8x128 : Shape := ⟨4, ![1, 4096, 8, 128]⟩
abbrev S1x4096x1x32 : Shape := ⟨4, ![1, 4096, 1, 32]⟩
abbrev S1x4096x8x64 : Shape := ⟨4, ![1, 4096, 8, 64]⟩
abbrev S4096x8x96 : Shape := ⟨3, ![4096, 8, 96]⟩
abbrev S_ : Shape := ⟨0, ![]⟩
abbrev S4096x8x128 : Shape := ⟨3, ![4096, 8, 128]⟩
abbrev S4096x1024 : Shape := ⟨2, ![4096, 1024]⟩
abbrev S4096x32 : Shape := ⟨2, ![4096, 32]⟩
abbrev S4096x128 : Shape := ⟨2, ![4096, 128]⟩
abbrev S4096x8x64 : Shape := ⟨3, ![4096, 8, 64]⟩
abbrev S1x4096x8x32 : Shape := ⟨4, ![1, 4096, 8, 32]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x4096x1 : Shape := ⟨3, ![8, 4096, 1]⟩
abbrev S4096x8x1 : Shape := ⟨3, ![4096, 8, 1]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 83
  | .vmem => 21
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x128, .f32⟩
  | .hbm, ⟨2, _⟩ => ⟨S1x4096x1x32, .f32⟩
  | .hbm, ⟨3, _⟩ => ⟨S1x4096x8x64, .f32⟩
  | .hbm, ⟨4, _⟩ => ⟨S4096x8x96, .f32⟩
  | .hbm, ⟨5, _⟩ => ⟨S_, .i32⟩
  | .hbm, ⟨6, _⟩ => ⟨S_, .f32⟩
  | .hbm, ⟨7, _⟩ => ⟨S4096x8x128, .f32⟩
  | .hbm, ⟨8, _⟩ => ⟨S4096x1024, .f32⟩
  | .hbm, ⟨9, _⟩ => ⟨S4096x1024, .f32⟩
  | .hbm, ⟨10, _⟩ => ⟨S4096x32, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x8x64, .f32⟩
  | .hbm, ⟨15, _⟩ => ⟨S_, .i32⟩
  | .hbm, ⟨16, _⟩ => ⟨S_, .f32⟩
  | .hbm, ⟨17, _⟩ => ⟨S4096x8x128, .f32⟩
  | .hbm, ⟨18, _⟩ => ⟨S4096x1024, .f32⟩
  | .hbm, ⟨19, _⟩ => ⟨S1x4096x8x64, .f32⟩
  | .hbm, ⟨20, _⟩ => ⟨S1x4096x8x64, .f32⟩
  | .hbm, ⟨21, _⟩ => ⟨S1x4096x8x32, .f32⟩
  | .hbm, ⟨22, _⟩ => ⟨S1x4096x8x96, .f32⟩
  | .hbm, ⟨23, _⟩ => ⟨S1x8x4096x4096, .f32⟩
  | .hbm, ⟨24, _⟩ => ⟨S_, .f32⟩
  | .hbm, ⟨25, _⟩ => ⟨S1x8x4096x4096, .f32⟩
  | .hbm, ⟨26, _⟩ => ⟨S1x8x4096x4096, .f32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .f32⟩
  | .hbm, ⟨52, _⟩ => ⟨S_, .f32⟩
  | .hbm, ⟨53, _⟩ => ⟨S1x8x4096x4096, .i1⟩
  | .hbm, ⟨54, _⟩ => ⟨S1x8x4096x4096, .f32⟩
  | .hbm, ⟨55, _⟩ => ⟨S1x8x4096x4096, .f32⟩
  | .hbm, ⟨56, _⟩ => ⟨S_, .f32⟩
  | .hbm, ⟨57, _⟩ => ⟨S1x8x4096, .f32⟩
  | .hbm, ⟨58, _⟩ => ⟨S1x8x4096x1, .f32⟩
  | .hbm, ⟨59, _⟩ => ⟨S1x8x4096x4096, .f32⟩
  | .hbm, ⟨60, _⟩ => ⟨S1x8x4096x4096, .f32⟩
  | .hbm, ⟨61, _⟩ => ⟨S1x8x4096x4096, .f32⟩
  | .hbm, ⟨62, _⟩ => ⟨S_, .f32⟩
  | .hbm, ⟨63, _⟩ => ⟨S1x8x4096, .f32⟩
  | .hbm, ⟨64, _⟩ => ⟨S1x8x4096x1, .f32⟩
  | .hbm, ⟨65, _⟩ => ⟨S1x8x4096x4096, .f32⟩
  | .hbm, ⟨66, _⟩ => ⟨S1x8x4096x4096, .f32⟩
  | .hbm, ⟨67, _⟩ => ⟨S1x8x64x4096, .f32⟩
  | .hbm, ⟨68, _⟩ => ⟨S1x4096x8x64, .f32⟩
  | .hbm, ⟨69, _⟩ => ⟨S4096x8x64, .f32⟩
  | .hbm, ⟨70, _⟩ => ⟨S_, .i32⟩
  | .hbm, ⟨71, _⟩ => ⟨S_, .f32⟩
  | .hbm, ⟨72, _⟩ => ⟨S4096x8x128, .f32⟩
  | .hbm, ⟨73, _⟩ => ⟨S4096x1024, .f32⟩
  | .hbm, ⟨74, _⟩ => ⟨S1x8x4096x1, .f32⟩
  | .hbm, ⟨75, _⟩ => ⟨S1x8x4096x1, .f32⟩
  | .hbm, ⟨76, _⟩ => ⟨S8x4096x1, .f32⟩
  | .hbm, ⟨77, _⟩ => ⟨S4096x8x1, .f32⟩
  | .hbm, ⟨78, _⟩ => ⟨S4096x8x128, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_call3_v5 : Ref sig .tc := ⟨.hbm, 34, rfl⟩
abbrev main_call3_v6 : Ref sig .tc := ⟨.hbm, 35, rfl⟩
abbrev main_call3_v7 : Ref sig .tc := ⟨.hbm, 36, rfl⟩
abbrev main_call3_v8 : Ref sig .tc := ⟨.hbm, 37, rfl⟩
abbrev main_call3_c : Ref sig .tc := ⟨.hbm, 38, rfl⟩
abbrev main_call3_v9 : Ref sig .tc := ⟨.hbm, 39, rfl⟩
abbrev main_call3_v10 : Ref sig .tc := ⟨.hbm, 40, rfl⟩
abbrev main_call3_v11 : Ref sig .tc := ⟨.hbm, 41, rfl⟩
abbrev main_call3_c_0 : Ref sig .tc := ⟨.hbm, 42, rfl⟩
abbrev main_call3_v12 : Ref sig .tc := ⟨.hbm, 43, rfl⟩
abbrev main_call3_v13 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_6 : Ref sig .tc := ⟨.hbm, 70, rfl⟩
abbrev main_call5_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44_0 : Ref sig .tc := ⟨.hbm, 80, rfl⟩
abbrev main_v44_1 : Ref sig .tc := ⟨.hbm, 81, rfl⟩
abbrev main_v44_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c16_i32 : BitVec 32 := 16#32
  let v7 : BitVec 32 := Scalar.addi c0_i32_2 c16_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg15 : BitVec 32 := Scf.iv c0_i32_2 c1_i32 k0_t1
  let c256_i32 : BitVec 32 := 256#32
  let v17 : BitVec 32 := Scalar.muli arg15 c256_i32
  v17
def k0_off1 (k0_t1 : Fin k0_t1_loop.trips) : Fin 2 → Nat :=
  let c0_i32_2 : BitVec 32 := 0#32
  let c1_i32 : BitVec 32 := 1#32
  let arg15 : BitVec 32 := Scf.iv c0_i32_2 c1_i32 k0_t1
  let c256_i32 : BitVec 32 := 256#32
  let v17 : BitVec 32 := Scalar.muli arg15 c256_i32
  let v18 : BitVec 32 := v17
  let v19 : Index := Scalar.indexCast v18
  let c0_12 : Index := 0#32
  ![v19.toNat, 0]
@[reducible] def k0_t2_loop : Scf.Loop 32 :=
  let c0_i32_4 : BitVec 32 := 0#32
  let c16_i32_5 : BitVec 32 := 16#32
  let v8 : BitVec 32 := Scalar.addi c0_i32_4 c16_i32_5
  let c1_i32_6 : BitVec 32 := 1#32
  ⟨c0_i32_4, v8, c1_i32_6⟩
def k0_mult2 (k0_t2 : Fin k0_t2_loop.trips) : BitVec 32 :=
  let c0_i32_4 : BitVec 32 := 0#32
  let c1_i32_6 : BitVec 32 := 1#32
  let arg15 : BitVec 32 := Scf.iv c0_i32_4 c1_i32_6 k0_t2
  let c256_i32 : BitVec 32 := 256#32
  let v17 : BitVec 32 := Scalar.muli arg15 c256_i32
  v17
def k0_off2 (k0_t2 : Fin k0_t2_loop.trips) : Fin 2 → Nat :=
  let c0_i32_4 : BitVec 32 := 0#32
  let c1_i32_6 : BitVec 32 := 1#32
  let arg15 : BitVec 32 := Scf.iv c0_i32_4 c1_i32_6 k0_t2
  let c256_i32 : BitVec 32 := 256#32
  let v17 : BitVec 32 := Scalar.muli arg15 c256_i32
  let v18 : BitVec 32 := v17
  let v19 : Index := Scalar.indexCast v18
  let c0_12 : Index := 0#32
  ![v19.toNat, 0]
@[reducible] def k0_t3_loop : Scf.Loop 32 :=
  let c0_i32_9 : BitVec 32 := 0#32
  let c8_i32 : BitVec 32 := 8#32
  let v16 : BitVec 32 := Scalar.addi c0_i32_9 c8_i32
  let c1_i32_10 : BitVec 32 := 1#32
  ⟨c0_i32_9, v16, c1_i32_10⟩
def k0_mult3 (k0_t3 : Fin k0_t3_loop.trips) : BitVec 32 :=
  let c2_i32 : BitVec 32 := 2#32
  let c0_i32_9 : BitVec 32 := 0#32
  let c1_i32_10 : BitVec 32 := 1#32
  let arg15 : BitVec 32 := Scf.iv c0_i32_9 c1_i32_10 k0_t3
  let v17 : BitVec 32 := Scalar.muli c2_i32 arg15
  let c256_i32 : BitVec 32 := 256#32
  let v20 : BitVec 32 := Scalar.muli v17 c256_i32
  v20
def k0_mult4 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c256_i32_14 : BitVec 32 := 256#32
  let v22 : BitVec 32 := Scalar.muli v19 c256_i32_14
  v22
def k0_off3 (k0_t3 : Fin k0_t3_loop.trips) : Fin 2 → Nat :=
  let c2_i32 : BitVec 32 := 2#32
  let c0_i32_9 : BitVec 32 := 0#32
  let c1_i32_10 : BitVec 32 := 1#32
  let arg15 : BitVec 32 := Scf.iv c0_i32_9 c1_i32_10 k0_t3
  let v17 : BitVec 32 := Scalar.muli c2_i32 arg15
  let c256_i32 : BitVec 32 := 256#32
  let v20 : BitVec 32 := Scalar.muli v17 c256_i32
  let v21 : BitVec 32 := v20
  let v24 : Index := Scalar.indexCast v21
  let c0_15 : Index := 0#32
  ![v24.toNat, 0]
def k0_off4 (k0_t3 : Fin k0_t3_loop.trips) : Fin 2 → Nat :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c256_i32_14 : BitVec 32 := 256#32
  let v22 : BitVec 32 := Scalar.muli v19 c256_i32_14
  let v23 : BitVec 32 := v22
  let v28 : Index := Scalar.indexCast v23
  let c0_17 : Index := 0#32
  ![v28.toNat, 0]
def k0_mult5 (k0_t3 : Fin k0_t3_loop.trips) : BitVec 32 :=
  let c2_i32 : BitVec 32 := 2#32
  let c0_i32_9 : BitVec 32 := 0#32
  let c1_i32_10 : BitVec 32 := 1#32
  let arg15 : BitVec 32 := Scf.iv c0_i32_9 c1_i32_10 k0_t3
  let v17 : BitVec 32 := Scalar.muli c2_i32 arg15
  let c256_i32_20 : BitVec 32 := 256#32
  let v33 : BitVec 32 := Scalar.muli v17 c256_i32_20
  v33
def k0_mult6 (k0_t3 : Fin k0_t3_loop.trips) : BitVec 32 :=
  let c2_i32 : BitVec 32 := 2#32
  let c0_i32_9 : BitVec 32 := 0#32
  let c1_i32_10 : BitVec 32 := 1#32
  let arg15 : BitVec 32 := Scf.iv c0_i32_9 c1_i32_10 k0_t3
  let v17 : BitVec 32 := Scalar.muli c2_i32 arg15
  let c256_i32_25 : BitVec 32 := 256#32
  let v41 : BitVec 32 := Scalar.muli v17 c256_i32_25
  v41
def k0_mult7 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c256_i32_38 : BitVec 32 := 256#32
  let v77 : BitVec 32 := Scalar.muli v19 c256_i32_38
  v77
def k0_mult8 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c256_i32_43 : BitVec 32 := 256#32
  let v85 : BitVec 32 := Scalar.muli v19 c256_i32_43
  v85
def k0_mult9 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c256_i32_53 : BitVec 32 := 256#32
  let v113 : BitVec 32 := Scalar.muli v19 c256_i32_53
  v113
def k0_mult10 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c256_i32_58 : BitVec 32 := 256#32
  let v121 : BitVec 32 := Scalar.muli v19 c256_i32_58
  v121
def k0_mult11 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_71 : BitVec 32 := 1#32
  let v158 : BitVec 32 := Scalar.addi v19 c1_i32_71
  let c15_i32 : BitVec 32 := 15#32
  let v159 : BitVec 32 := Scalar.minsi v158 c15_i32
  let c256_i32_73 : BitVec 32 := 256#32
  let v161 : BitVec 32 := Scalar.muli v159 c256_i32_73
  v161
def k0_off5 (k0_t3 : Fin k0_t3_loop.trips) : Fin 2 → Nat :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_71 : BitVec 32 := 1#32
  let v158 : BitVec 32 := Scalar.addi v19 c1_i32_71
  let c15_i32 : BitVec 32 := 15#32
  let v159 : BitVec 32 := Scalar.minsi v158 c15_i32
  let c256_i32_73 : BitVec 32 := 256#32
  let v161 : BitVec 32 := Scalar.muli v159 c256_i32_73
  let v162 : BitVec 32 := v161
  let v163 : Index := Scalar.indexCast v162
  let c0_74 : Index := 0#32
  ![v163.toNat, 0]
def k0_mult12 (k0_t3 : Fin k0_t3_loop.trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_71 : BitVec 32 := 1#32
  let v158 : BitVec 32 := Scalar.addi v19 c1_i32_71
  let c15_i32 : BitVec 32 := 15#32
  let v159 : BitVec 32 := Scalar.minsi v158 c15_i32
  let c256_i32_78 : BitVec 32 := 256#32
  let v169 : BitVec 32 := Scalar.muli v159 c256_i32_78
  v169
@[reducible] def k0_t4_loop (k0_t3 : Fin k0_t3_loop.trips) : Scf.Loop 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_85 : BitVec 32 := 1#32
  ⟨v160, v181, c1_i32_85⟩
def k0_mult13 (k0_t3 : Fin k0_t3_loop.trips) (k0_t4 : Fin (k0_t4_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c1_i32_99 : BitVec 32 := 1#32
  let v220 : BitVec 32 := Scalar.addi arg16 c1_i32_99
  let c15_i32_100 : BitVec 32 := 15#32
  let v221 : BitVec 32 := Scalar.minsi v220 c15_i32_100
  let c256_i32_101 : BitVec 32 := 256#32
  let v222 : BitVec 32 := Scalar.muli v221 c256_i32_101
  v222
def k0_off6 (k0_t3 : Fin k0_t3_loop.trips) (k0_t4 : Fin (k0_t4_loop k0_t3).trips) : Fin 2 → Nat :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c1_i32_99 : BitVec 32 := 1#32
  let v220 : BitVec 32 := Scalar.addi arg16 c1_i32_99
  let c15_i32_100 : BitVec 32 := 15#32
  let v221 : BitVec 32 := Scalar.minsi v220 c15_i32_100
  let c256_i32_101 : BitVec 32 := 256#32
  let v222 : BitVec 32 := Scalar.muli v221 c256_i32_101
  let v223 : BitVec 32 := v222
  let v224 : Index := Scalar.indexCast v223
  let c0_102 : Index := 0#32
  ![v224.toNat, 0]
def k0_mult14 (k0_t3 : Fin k0_t3_loop.trips) (k0_t4 : Fin (k0_t4_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c1_i32_99 : BitVec 32 := 1#32
  let v220 : BitVec 32 := Scalar.addi arg16 c1_i32_99
  let c15_i32_100 : BitVec 32 := 15#32
  let v221 : BitVec 32 := Scalar.minsi v220 c15_i32_100
  let c256_i32_106 : BitVec 32 := 256#32
  let v230 : BitVec 32 := Scalar.muli v221 c256_i32_106
  v230
def k0_mult15 (k0_t3 : Fin k0_t3_loop.trips) (k0_t4 : Fin (k0_t4_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c256_i32_111 : BitVec 32 := 256#32
  let v238 : BitVec 32 := Scalar.muli arg16 c256_i32_111
  v238
def k0_off7 (k0_t3 : Fin k0_t3_loop.trips) (k0_t4 : Fin (k0_t4_loop k0_t3).trips) : Fin 2 → Nat :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c256_i32_111 : BitVec 32 := 256#32
  let v238 : BitVec 32 := Scalar.muli arg16 c256_i32_111
  let v239 : BitVec 32 := v238
  let v240 : Index := Scalar.indexCast v239
  let c0_112 : Index := 0#32
  ![v240.toNat, 0]
def k0_mult16 (k0_t3 : Fin k0_t3_loop.trips) (k0_t4 : Fin (k0_t4_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c256_i32_121 : BitVec 32 := 256#32
  let v266 : BitVec 32 := Scalar.muli arg16 c256_i32_121
  v266
def k0_mult17 (k0_t3 : Fin k0_t3_loop.trips) (k0_t4 : Fin (k0_t4_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c1_i32_85 : BitVec 32 := 1#32
  let arg16 : BitVec 32 := Scf.iv v160 c1_i32_85 k0_t4
  let c256_i32_131 : BitVec 32 := 256#32
  let v294 : BitVec 32 := Scalar.muli arg16 c256_i32_131
  v294
@[reducible] def k0_t5_loop (k0_t3 : Fin k0_t3_loop.trips) : Scf.Loop 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let v178 : BitVec 32 := Scalar.addi v160 v177
  let c1_i32_86 : BitVec 32 := 1#32
  ⟨v181, v178, c1_i32_86⟩
def k0_mult18 (k0_t3 : Fin k0_t3_loop.trips) (k0_t5 : Fin (k0_t5_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c1_i32_99 : BitVec 32 := 1#32
  let v220 : BitVec 32 := Scalar.addi arg16 c1_i32_99
  let c15_i32_100 : BitVec 32 := 15#32
  let v221 : BitVec 32 := Scalar.minsi v220 c15_i32_100
  let c256_i32_101 : BitVec 32 := 256#32
  let v222 : BitVec 32 := Scalar.muli v221 c256_i32_101
  v222
def k0_off8 (k0_t3 : Fin k0_t3_loop.trips) (k0_t5 : Fin (k0_t5_loop k0_t3).trips) : Fin 2 → Nat :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c1_i32_99 : BitVec 32 := 1#32
  let v220 : BitVec 32 := Scalar.addi arg16 c1_i32_99
  let c15_i32_100 : BitVec 32 := 15#32
  let v221 : BitVec 32 := Scalar.minsi v220 c15_i32_100
  let c256_i32_101 : BitVec 32 := 256#32
  let v222 : BitVec 32 := Scalar.muli v221 c256_i32_101
  let v223 : BitVec 32 := v222
  let v224 : Index := Scalar.indexCast v223
  let c0_102 : Index := 0#32
  ![v224.toNat, 0]
def k0_mult19 (k0_t3 : Fin k0_t3_loop.trips) (k0_t5 : Fin (k0_t5_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c1_i32_99 : BitVec 32 := 1#32
  let v220 : BitVec 32 := Scalar.addi arg16 c1_i32_99
  let c15_i32_100 : BitVec 32 := 15#32
  let v221 : BitVec 32 := Scalar.minsi v220 c15_i32_100
  let c256_i32_106 : BitVec 32 := 256#32
  let v230 : BitVec 32 := Scalar.muli v221 c256_i32_106
  v230
def k0_mult20 (k0_t3 : Fin k0_t3_loop.trips) (k0_t5 : Fin (k0_t5_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c256_i32_111 : BitVec 32 := 256#32
  let v238 : BitVec 32 := Scalar.muli arg16 c256_i32_111
  v238
def k0_off9 (k0_t3 : Fin k0_t3_loop.trips) (k0_t5 : Fin (k0_t5_loop k0_t3).trips) : Fin 2 → Nat :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c256_i32_111 : BitVec 32 := 256#32
  let v238 : BitVec 32 := Scalar.muli arg16 c256_i32_111
  let v239 : BitVec 32 := v238
  let v240 : Index := Scalar.indexCast v239
  let c0_112 : Index := 0#32
  ![v240.toNat, 0]
def k0_mult21 (k0_t3 : Fin k0_t3_loop.trips) (k0_t5 : Fin (k0_t5_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c256_i32_121 : BitVec 32 := 256#32
  let v266 : BitVec 32 := Scalar.muli arg16 c256_i32_121
  v266
def k0_mult22 (k0_t3 : Fin k0_t3_loop.trips) (k0_t5 : Fin (k0_t5_loop k0_t3).trips) : BitVec 32 :=
  let c2_i32_12 : BitVec 32 := 2#32
  let c0_i32_9 : BitVec 32 := 0#32
  let c1_i32_10 : BitVec 32 := 1#32
  let arg15 : BitVec 32 := Scf.iv c0_i32_9 c1_i32_10 k0_t3
  let v18 : BitVec 32 := Scalar.muli c2_i32_12 arg15
  let c1_i32_13 : BitVec 32 := 1#32
  let v19 : BitVec 32 := Scalar.addi v18 c1_i32_13
  let c1_i32_72 : BitVec 32 := 1#32
  let v160 : BitVec 32 := Scalar.addi v19 c1_i32_72
  let c16_i32_83 : BitVec 32 := 16#32
  let v177 : BitVec 32 := Scalar.subi c16_i32_83 v160
  let c1_i32_84 : BitVec 32 := 1#32
  let v179 : BitVec 32 := Scalar.divsi v177 c1_i32_84
  let v180 : BitVec 32 := Scalar.muli v179 c1_i32_84
  let v181 : BitVec 32 := Scalar.addi v160 v180
  let c1_i32_86 : BitVec 32 := 1#32
  let arg16 : BitVec 32 := Scf.iv v181 c1_i32_86 k0_t5
  let c256_i32_131 : BitVec 32 := 256#32
  let v294 : BitVec 32 := Scalar.muli arg16 c256_i32_131
  v294
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnReferenceIdeal.lean ====
abbrev S1x4096x8x96 : Shape := ⟨4, ![1, 4096, 8, 96]⟩
abbrev S1x4096x8x128 : Shape := ⟨4, ![1, 4096, 8, 128]⟩
abbrev S1x4096x1x32 : Shape := ⟨4, ![1, 4096, 1, 32]⟩
abbrev S1x4096x8x64 : Shape := ⟨4, ![1, 4096, 8, 64]⟩
abbrev S1x4096x8x32 : Shape := ⟨4, ![1, 4096, 8, 32]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x4096 : Shape := ⟨2, ![8, 4096]⟩
abbrev S1x8x4096x96 : Shape := ⟨4, ![1, 8, 4096, 96]⟩
abbrev S4096x32 : Shape := ⟨2, ![4096, 32]⟩
abbrev S4096x8x96 : Shape := ⟨3, ![4096, 8, 96]⟩
abbrev S4096x8x128 : Shape := ⟨3, ![4096, 8, 128]⟩
abbrev S4096x1024 : Shape := ⟨2, ![4096, 1024]⟩
abbrev S4096x128 : Shape := ⟨2, ![4096, 128]⟩

abbrev nBuf : Space → Nat
  | .hbm => 128
  | .vmem => 0
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x128, .f32⟩
  | .hbm, ⟨2, _⟩ => ⟨S1x4096x1x32, .f32⟩
  | .hbm, ⟨3, _⟩ => ⟨S1x4096x8x64, .f32⟩
  | .hbm, ⟨4, _⟩ => ⟨S1x4096x8x64, .f32⟩
  | .hbm, ⟨5, _⟩ => ⟨S1x4096x8x64, .f32⟩
  | .hbm, ⟨6, _⟩ => ⟨S1x4096x8x32, .f32⟩
  | .hbm, ⟨7, _⟩ => ⟨S1x4096x8x96, .f32⟩
  | .hbm, ⟨8, _⟩ => ⟨S1x8x4096x4096, .f32⟩
  | .hbm, ⟨9, _⟩ => ⟨S_, .f32⟩
  | .hbm, ⟨10, _⟩ => ⟨S1x8x4096x4096, .f32⟩
  | .hbm, ⟨11, _⟩ => ⟨S1x8x4096x4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S1x8x4096x4096, .i1⟩
  | .hbm, ⟨39, _⟩ => ⟨S1x8x4096x4096, .f32⟩
  | .hbm, ⟨40, _⟩ => ⟨S1x8x4096x4096, .f32⟩
  | .hbm, ⟨41, _⟩ => ⟨S_, .f32⟩
  | .hbm, ⟨42, _⟩ => ⟨S1x8x4096x4096, .f32⟩
  | .hbm, ⟨43, _⟩ => ⟨S_, .f32⟩
  | .hbm, ⟨44, _⟩ => ⟨S1x8x4096, .f32⟩
  | .hbm, ⟨45, _⟩ => ⟨S1x8x4096x1, .f32⟩
  | .hbm, ⟨46, _⟩ => ⟨S1x8x4096x4096, .f32⟩
  | .hbm, ⟨47, _⟩ => ⟨S1x8x4096x4096, .i1⟩
  | .hbm, ⟨48, _⟩ => ⟨S1x8x4096x4096, .f32⟩
  | .hbm, ⟨49, _⟩ => ⟨S_, .f32⟩
  | .hbm, ⟨50, _⟩ => ⟨S1x8x4096, .f32⟩
  | .hbm, ⟨51, _⟩ => ⟨S_, .f32⟩
  | .hbm, ⟨52, _⟩ => ⟨S1x8x4096, .f32⟩
  | .hbm, ⟨53, _⟩ => ⟨S1x8x4096, .f32⟩
  | .hbm, ⟨54, _⟩ => ⟨S_, .f32⟩
  | .hbm, ⟨55, _⟩ => ⟨S1x8x4096, .f32⟩
  | .hbm, ⟨56, _⟩ => ⟨S1x8x4096, .i1⟩
  | .hbm, ⟨57, _⟩ => ⟨S_, .f32⟩
  | .hbm, ⟨58, _⟩ => ⟨S1x8x4096, .f32⟩
  | .hbm, ⟨59, _⟩ => ⟨S1x8x4096, .i1⟩
  | .hbm, ⟨60, _⟩ => ⟨S_, .f32⟩
  | .hbm, ⟨61, _⟩ => ⟨S1x8x4096, .f32⟩
  | .hbm, ⟨62, _⟩ => ⟨S_, .f32⟩
  | .hbm, ⟨63, _⟩ => ⟨S1x8x4096, .f32⟩
  | .hbm, ⟨64, _⟩ => ⟨S_, .f32⟩
  | .hbm, ⟨65, _⟩ => ⟨S1x8x4096, .f32⟩
  | .hbm, ⟨66, _⟩ => ⟨S1x8x4096, .f32⟩
  | .hbm, ⟨67, _⟩ => ⟨S1x8x4096, .f32⟩
  | .hbm, ⟨68, _⟩ => ⟨S1x8x4096x1, .f32⟩
  | .hbm, ⟨69, _⟩ => ⟨S1x8x4096x4096, .f32⟩
  | .hbm, ⟨70, _⟩ => ⟨S1x8x4096x4096, .f32⟩
  | .hbm, ⟨71, _⟩ => ⟨S1x8x4096x4096, .f32⟩
  | .hbm, ⟨72, _⟩ => ⟨S_, .f32⟩
  | .hbm, ⟨73, _⟩ => ⟨S1x8x4096, .f32⟩
  | .hbm, ⟨74, _⟩ => ⟨S1x8x4096x1, .f32⟩
  | .hbm, ⟨75, _⟩ => ⟨S1x8x4096x4096, .f32⟩
  | .hbm, ⟨76, _⟩ => ⟨S1x8x4096x4096, .f32⟩
  | .hbm, ⟨77, _⟩ => ⟨S1x8x4096x1, .f32⟩
  | .hbm, ⟨78, _⟩ => ⟨S_, .f32⟩
  | .hbm, ⟨79, _⟩ => ⟨S1x8x4096x1, .f32⟩
  | .hbm, ⟨80, _⟩ => ⟨S1x8x4096x1, .f32⟩
  | .hbm, ⟨81, _⟩ => ⟨S1x8x64x4096, .f32⟩
  | .hbm, ⟨82, _⟩ => ⟨S1x4096x8x64, .f32⟩
  | .hbm, ⟨83, _⟩ => ⟨S1x8x64x4096, .f32⟩
  | .hbm, ⟨84, _⟩ => ⟨S1x8x4096x4096, .f32⟩
  | .hbm, ⟨85, _⟩ => ⟨S1x8x64x4096, .f32⟩
  | .hbm, ⟨86, _⟩ => ⟨S1x4096x8x64, .f32⟩
  | .hbm, ⟨87, _⟩ => ⟨S1x8x4096x4096, .f32⟩
  | .hbm, ⟨88, _⟩ => ⟨S1x8x4096x4096, .f32⟩
  | .hbm, ⟨89, _⟩ => ⟨S1x8x4096x4096, .f32⟩
  | .hbm, ⟨90, _⟩ => ⟨S_, .f32⟩
  | .hbm, ⟨91, _⟩ => ⟨S1x8x4096, .f32⟩
  | .hbm, ⟨92, _⟩ => ⟨S1x8x4096x1, .f32⟩
  | .hbm, ⟨93, _⟩ => ⟨S1x8x4096x1, .f32⟩
  | .hbm, ⟨94, _⟩ => ⟨S1x8x4096x4096, .f32⟩
  | .hbm, ⟨95, _⟩ => ⟨S1x8x4096x4096, .f32⟩
  | .hbm, ⟨96, _⟩ => ⟨S_, .f32⟩
  | .hbm, ⟨97, _⟩ => ⟨S8x4096, .f32⟩
  | .hbm, ⟨98, _⟩ => ⟨S1x8x4096, .f32⟩
  | .hbm, ⟨99, _⟩ => ⟨S1x8x4096x4096, .f32⟩
  | .hbm, ⟨100, _⟩ => ⟨S1x8x4096x4096, .f32⟩
  | .hbm, ⟨101, _⟩ => ⟨S1x8x4096x4096, .f32⟩
  | .hbm, ⟨102, _⟩ => ⟨S_, .f32⟩
  | .hbm, ⟨103, _⟩ => ⟨S1x8x4096x4096, .f32⟩
  | .hbm, ⟨104, _⟩ => ⟨S1x8x4096x4096, .f32⟩
  | .hbm, ⟨105, _⟩ => ⟨S_, .f32⟩
  | .hbm, ⟨106, _⟩ => ⟨S1x8x4096x4096, .f32⟩
  | .hbm, ⟨107, _⟩ => ⟨S1x8x4096x4096, .f32⟩
  | .hbm, ⟨108, _⟩ => ⟨S1x8x4096x96, .f32⟩
  | .hbm, ⟨109, _⟩ => ⟨S1x4096x8x96, .f32⟩
  | .hbm, ⟨110, _⟩ => ⟨S1x8x4096x96, .f32⟩
  | .hbm, ⟨111, _⟩ => ⟨S1x4096x8x96, .f32⟩
  | .hbm, ⟨112, _⟩ => ⟨S1x4096x8x64, .f32⟩
  | .hbm, ⟨113, _⟩ => ⟨S1x4096x8x32, .f32⟩
  | .hbm, ⟨114, _⟩ => ⟨S_, .f32⟩
  | .hbm, ⟨115, _⟩ => ⟨S4096x32, .f32⟩
  | .hbm, ⟨116, _⟩ => ⟨S1x4096x1x32, .f32⟩
  | .hbm, ⟨117, _⟩ => ⟨S1x4096x8x128, .f32⟩
  | .hbm, ⟨118, _⟩ => ⟨S4096x8x96, .f32⟩
  | .hbm, ⟨119, _⟩ => ⟨S_, .i32⟩
  | .hbm, ⟨120, _⟩ => ⟨S_, .f32⟩
  | .hbm, ⟨121, _⟩ => ⟨S4096x8x128, .f32⟩
  | .hbm, ⟨122, _⟩ => ⟨S4096x1024, .f32⟩
  | .hbm, ⟨123, _⟩ => ⟨S4096x1024, .f32⟩
  | .hbm, ⟨124, _⟩ => ⟨S4096x32, .f32⟩
  | .hbm, ⟨125, _⟩ => ⟨S_, .i32⟩
  | .hbm, ⟨126, _⟩ => ⟨S_, .f32⟩
  | .hbm, ⟨127, _⟩ => ⟨S4096x128, .f32⟩
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_call1_v0 : Ref sig .tc := ⟨.hbm, 37, rfl⟩
abbrev main_v14_1 : Ref sig .tc := ⟨.hbm, 38, rfl⟩
abbrev main_call1_v2 : Ref sig .tc := ⟨.hbm, 39, rfl⟩
abbrev main_v14_0 : Ref sig .tc := ⟨.hbm, 40, rfl⟩
abbrev main_call1_cst : Ref sig .tc := ⟨.hbm, 41, rfl⟩
abbrev main_v14_2 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_cst_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_10 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_11 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call2_cst : Ref sig .tc := ⟨.hbm, 102, rfl⟩
abbrev main_call2_v0 : Ref sig .tc := ⟨.hbm, 103, rfl⟩
abbrev main_v62 : Ref sig .tc := ⟨.hbm, 104, rfl⟩
abbrev main_cst_13 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_14 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_15 : Ref sig .tc := ⟨.hbm, 119, rfl⟩
abbrev main_call3_v0 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_16 : Ref sig .tc := ⟨.hbm, 125, rfl⟩
abbrev main_call4_v0 : Ref sig .tc := ⟨.hbm, 126, rfl⟩
abbrev main_v79 : Ref sig .tc := ⟨.hbm, 127, rfl⟩

abbrev nD : Nat := 1
abbrev τ : Topo := Topo.v7x

variable {F : FTy → Type} [FloatOps F]
-- ==== LossKernel.lean ====
abbrev S1x4096x1024 : Shape := ⟨3, ![1, 4096, 1024]⟩
abbrev S1x1024 : Shape := ⟨2, ![1, 1024]⟩
abbrev S1x1024x1024 : Shape := ⟨3, ![1, 1024, 1024]⟩
abbrev S128 : Shape := ⟨1, ![128]⟩
abbrev S_ : Shape := ⟨0, ![]⟩
abbrev S4096x128 : Shape := ⟨2, ![4096, 128]⟩
abbrev S4096x1024 : Shape := ⟨2, ![4096, 1024]⟩
abbrev S1024x1024 : Shape := ⟨2, ![1024, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 24
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i1⟩
  | .hbm, ⟨11, _⟩ => ⟨S128, .f32⟩
  | .hbm, ⟨12, _⟩ => ⟨S4096x128, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024x1024, .f32⟩
  | .hbm, ⟨17, _⟩ => ⟨S1024x1024, .bf16⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossReferenceIdeal.lean ====
abbrev S1x4096x1024 : Shape := ⟨3, ![1, 4096, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S1x1x1024 : Shape := ⟨3, ![1, 1, 1024]⟩
abbrev S1x4096 : Shape := ⟨2, ![1, 4096]⟩
abbrev S1x4096x1 : Shape := ⟨3, ![1, 4096, 1]⟩
abbrev S4096 : Shape := ⟨1, ![4096]⟩
abbrev S4096x1024 : Shape := ⟨2, ![4096, 1024]⟩

abbrev nBuf : Space → Nat
  | .hbm => 139
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x1024, .f32⟩
  | 3 => ⟨S1x1024, .f32⟩
  | 4 => ⟨S1x1024, .f32⟩
  | 5 => ⟨S1x1024, .f32⟩
  | 6 => ⟨S1x1024x1024, .f32⟩
  | 7 => ⟨S1024, .f32⟩
  | 8 => ⟨S1024, .f32⟩
  | 9 => ⟨S1024x1024, .f32⟩
  | 10 => ⟨S1x4096x1024, .f32⟩
  | 11 => ⟨S_, .f32⟩
  | 12 => ⟨S1x4096x1024, .f32⟩
  | 13 => ⟨S1x4096x1024, .f32⟩
  | 14 => ⟨S1x1x1024, .f32⟩
  | 15 => ⟨S_, .f32⟩
  | 16 => ⟨S1x1x1024, .f32⟩
  | 17 => ⟨S1x1x1024, .f32⟩
  | 18 => ⟨S1x4096x1024, .f32⟩
  | 19 => ⟨S1x4096x1024, .f32⟩
  | 20 => ⟨S1x4096x1024, .f32⟩
  | 21 => ⟨S_, .f32⟩
  | 22 => ⟨S1x4096, .f32⟩
  | 23 => ⟨S1x4096x1, .f32⟩
  | 24 => ⟨S_, .f32⟩
  | 25 => ⟨S1x4096x1, .f32⟩
  | 26 => ⟨S1x4096x1, .f32⟩
  | 27 => ⟨S1x4096x1024, .f32⟩
  | 28 => ⟨S1x4096x1024, .f32⟩
  | 29 => ⟨S1x4096x1024, .f32⟩
  | 30 => ⟨S_, .f32⟩
  | 31 => ⟨S1x4096, .f32⟩
  | 32 => ⟨S1x4096x1, .f32⟩
  | 33 => ⟨S_, .f32⟩
  | 34 => ⟨S1x4096x1, .f32⟩
  | 35 => ⟨S1x4096x1, .f32⟩
  | 36 => ⟨S_, .f32⟩
  | 37 => ⟨S1x4096x1, .f32⟩
  | 38 => ⟨S1x4096x1, .f32⟩
  | 39 => ⟨S1x4096x1, .f32⟩
  | 40 => ⟨S1x4096x1, .f32⟩
  | 41 => ⟨S_, .f32⟩
  | 42 => ⟨S1x4096x1, .f32⟩
  | 43 => ⟨S1x4096x1, .f32⟩
  | 44 => ⟨S1x4096x1024, .f32⟩
  | 45 => ⟨S1x4096x1024, .f32⟩
  | 46 => ⟨S1x1x1024, .f32⟩
  | 47 => ⟨S1x4096x1024, .f32⟩
  | 48 => ⟨S1x4096x1024, .f32⟩
  | 49 => ⟨S1x1x1024, .f32⟩
  | 50 => ⟨S1x4096x1024, .f32⟩
  | 51 => ⟨S1x4096x1024, .f32⟩
  | 52 => ⟨S1x4096x1024, .f32⟩
  | 53 => ⟨S1x4096x1024, .f32⟩
  | 54 => ⟨S_, .f32⟩
  | 55 => ⟨S1x4096x1024, .f32⟩
  | 56 => ⟨S1x4096x1024, .f32⟩
  | 57 => ⟨S_, .f32⟩
  | 58 => ⟨S1x4096, .f32⟩
  | 59 => ⟨S_, .f32⟩
  | 60 => ⟨S1x4096, .f32⟩
  | 61 => ⟨S1x4096, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1x4096, .f32⟩
  | 70 => ⟨S_, .f32⟩
  | 71 => ⟨S1x4096, .f32⟩
  | 72 => ⟨S1x4096, .f32⟩
  | 73 => ⟨S1x4096x1024, .f32⟩
  | 74 => ⟨S1x4096x1024, .f32⟩
  | 75 => ⟨S_, .f32⟩
  | 76 => ⟨S1x1024, .f32⟩
  | 77 => ⟨S1x1x1024, .f32⟩
  | 78 => ⟨S_, .f32⟩
  | 79 => ⟨S1024, .f32⟩
  | 80 => ⟨S1x4096x1024, .f32⟩
  | 81 => ⟨S_, .f32⟩
  | 82 => ⟨S1x1024, .f32⟩
  | 83 => ⟨S1x1x1024, .f32⟩
  | 84 => ⟨S1x4096x1024, .f32⟩
  | 85 => ⟨S1x4096x1024, .f32⟩
  | 86 => ⟨S_, .f32⟩
  | 87 => ⟨S1024, .f32⟩
  | 88 => ⟨S1x4096x1024, .f32⟩
  | 89 => ⟨S_, .f32⟩
  | 90 => ⟨S1x4096, .f32⟩
  | 91 => ⟨S1x4096x1, .f32⟩
  | 92 => ⟨S1x4096x1024, .f32⟩
  | 93 => ⟨S1x4096x1024, .f32⟩
  | 94 => ⟨S1x4096x1, .f32⟩
  | 95 => ⟨S_, .f32⟩
  | 96 => ⟨S1x4096x1, .f32⟩
  | 97 => ⟨S1x4096x1, .f32⟩
  | 98 => ⟨S_, .f32⟩
  | 99 => ⟨S4096, .f32⟩
  | 100 => ⟨S1x4096, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S_, .f32⟩
  | 108 => ⟨S1x4096, .f32⟩
  | 109 => ⟨S1x4096x1, .f32⟩
  | 110 => ⟨S_, .f32⟩
  | 111 => ⟨S1x4096x1, .f32⟩
  | 112 => ⟨S1x4096x1, .f32⟩
  | 113 => ⟨S_, .f32⟩
  | 114 => ⟨S4096, .f32⟩
  | 115 => ⟨S1x4096, .f32⟩
  | 116 => ⟨S1x4096x1024, .f32⟩
  | 117 => ⟨S1x4096x1024, .f32⟩
  | 118 => ⟨S1x4096x1024, .f32⟩
  | 119 => ⟨S1x4096x1024, .f32⟩
  | 120 => ⟨S1x4096x1024, .f32⟩
  | 121 => ⟨S_, .f32⟩
  | 122 => ⟨S1x1024, .f32⟩
  | 123 => ⟨S1x1x1024, .f32⟩
  | 124 => ⟨S_, .f32⟩
  | 125 => ⟨S1024, .f32⟩
  | 126 => ⟨S1x1024, .f32⟩
  | 127 => ⟨S_, .f32⟩
  | _ => ⟨S1x4096x1024, .f32⟩

abbrev hbmTy0_1 (i : Nat) : BufTy := match i % 128 with
  | 0 => ⟨S1x4096x1024, .f32⟩
  | 1 => ⟨S1x4096x1024, .f32⟩
  | 2 => ⟨S1024x1024, .f32⟩
  | 3 => ⟨S1024x1024, .f32⟩
  | 4 => ⟨S1x4096x1024, .f32⟩
  | 5 => ⟨S1x1024x1024, .f32⟩
  | 6 => ⟨S1x1024, .f32⟩
  | 7 => ⟨S1x1024, .f32⟩
  | 8 => ⟨S4096x1024, .f32⟩
  | 9 => ⟨S4096x1024, .f32⟩
  | 10 => ⟨S1024x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_cst_12 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_cst_17 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_cst_19 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_cst_21 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_22 : Ref sig .tc := ⟨.hbm, 107, rfl⟩
abbrev main_v77 : Ref sig .tc := ⟨.hbm, 108, rfl⟩
abbrev main_v78 : Ref sig .tc := ⟨.hbm, 109, rfl⟩
abbrev main_cst_23 : Ref sig .tc := ⟨.hbm, 110, rfl⟩
abbrev main_v79 : Ref sig .tc := ⟨.hbm, 111, rfl⟩
abbrev main_v80 : Ref sig .tc := ⟨.hbm, 112, rfl⟩
abbrev main_cst_24 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_25 : Ref sig .tc := ⟨.hbm, 121, rfl⟩
abbrev main_v88 : Ref sig .tc := ⟨.hbm, 122, rfl⟩
abbrev main_v89 : Ref sig .tc := ⟨.hbm, 123, rfl⟩
abbrev main_cst_26 : Ref sig .tc := ⟨.hbm, 124, rfl⟩
abbrev main_v90 : Ref sig .tc := ⟨.hbm, 125, rfl⟩
abbrev main_v91 : Ref sig .tc := ⟨.hbm, 126, rfl⟩
abbrev main_cst_27 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== In3Kernel.lean ====
abbrev S1x4096x1024 : Shape := ⟨3, ![1, 4096, 1024]⟩
abbrev S1x1024 : Shape := ⟨2, ![1, 1024]⟩
abbrev S1x1024x2048 : Shape := ⟨3, ![1, 1024, 2048]⟩
abbrev S4096x1024 : Shape := ⟨2, ![4096, 1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1024 : Shape := ⟨1, ![1024]⟩

abbrev nBuf : Space → Nat
  | .hbm => 17
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x2048, .f32⟩
  | .hbm, ⟨4, _⟩ => ⟨S1x4096x1024, .f32⟩
  | .hbm, ⟨5, _⟩ => ⟨S1x4096x1024, .f32⟩
  | .hbm, ⟨6, _⟩ => ⟨S1x4096x1024, .f32⟩
  | .hbm, ⟨7, _⟩ => ⟨S4096x1024, .f32⟩
  | .hbm, ⟨8, _⟩ => ⟨S1024x2048, .f32⟩
  | .hbm, ⟨9, _⟩ => ⟨S1024x2048, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1x1024, .f32⟩
  | .hbm, ⟨16, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1024x2048, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== In3ReferenceIdeal.lean ====
abbrev S1x4096x1024 : Shape := ⟨3, ![1, 4096, 1024]⟩
abbrev S1x1024 : Shape := ⟨2, ![1, 1024]⟩
abbrev S1x1024x2048 : Shape := ⟨3, ![1, 1024, 2048]⟩
abbrev S1024x2048 : Shape := ⟨2, ![1024, 2048]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2048 : Shape := ⟨3, ![1, 4096, 2048]⟩
abbrev S2048x1024 : Shape := ⟨2, ![2048, 1024]⟩
abbrev S1024 : Shape := ⟨1, ![1024]⟩
abbrev S4096 : Shape := ⟨1, ![4096]⟩
abbrev S4096x1024 : Shape := ⟨2, ![4096, 1024]⟩

abbrev nBuf : Space → Nat
  | .hbm => 102
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x2048, .f32⟩
  | .hbm, ⟨4, _⟩ => ⟨S1x4096x1024, .f32⟩
  | .hbm, ⟨5, _⟩ => ⟨S1x4096x1024, .f32⟩
  | .hbm, ⟨6, _⟩ => ⟨S1x4096x1024, .f32⟩
  | .hbm, ⟨7, _⟩ => ⟨S1024x2048, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S_, .f32⟩
  | .hbm, ⟨18, _⟩ => ⟨S1x4096, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S1x4096x1024, .f32⟩
  | .hbm, ⟨32, _⟩ => ⟨S1x4096x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S1x4096x1024, .f32⟩
  | .hbm, ⟨41, _⟩ => ⟨S1x4096x1024, .f32⟩
  | .hbm, ⟨42, _⟩ => ⟨S1x4096x2048, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096x2048, .f32⟩
  | .hbm, ⟨47, _⟩ => ⟨S_, .f32⟩
  | .hbm, ⟨48, _⟩ => ⟨S1x4096x2048, .f32⟩
  | .hbm, ⟨49, _⟩ => ⟨S1x4096x2048, .f32⟩
  | .hbm, ⟨50, _⟩ => ⟨S2048x1024, .f32⟩
  | .hbm, ⟨51, _⟩ => ⟨S1024x2048, .f32⟩
  | .hbm, ⟨52, _⟩ => ⟨S1x4096x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S1x4096x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x4096x1024, .f32⟩
  | .hbm, ⟨64, _⟩ => ⟨S1x4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1, .f32⟩
  | .hbm, ⟨75, _⟩ => ⟨S_, .f32⟩
  | .hbm, ⟨76, _⟩ => ⟨S1x4096x1, .f32⟩
  | .hbm, ⟨77, _⟩ => ⟨S1x4096x1, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S_, .f32⟩
  | .hbm, ⟨88, _⟩ => ⟨S1x4096, .f32⟩
  | .hbm, ⟨89, _⟩ => ⟨S1x4096x1, .f32⟩
  | .hbm, ⟨90, _⟩ => ⟨S_, .f32⟩
  | .hbm, ⟨91, _⟩ => ⟨S1x4096x1, .f32⟩
  | .hbm, ⟨92, _⟩ => ⟨S1x4096x1, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S1x4096x1024, .f32⟩
  | .hbm, ⟨97, _⟩ => ⟨S1x4096x1024, .f32⟩
  | .hbm, ⟨98, _⟩ => ⟨S1x1024x2048, .f32⟩
  | .hbm, ⟨99, _⟩ => ⟨S1x4096x1024, .f32⟩
  | .hbm, ⟨100, _⟩ => ⟨S4096x1024, .f32⟩
  | .hbm, ⟨101, _⟩ => ⟨S1024x2048, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== In2Kernel.lean ====
abbrev S1x4096x1024 : Shape := ⟨3, ![1, 4096, 1024]⟩
abbrev S1x1024 : Shape := ⟨2, ![1, 1024]⟩
abbrev S1x1024x2176 : Shape := ⟨3, ![1, 1024, 2176]⟩
abbrev S1x4096x1664 : Shape := ⟨3, ![1, 4096, 1664]⟩
abbrev S1x4096x512 : Shape := ⟨3, ![1, 4096, 512]⟩
abbrev S4096x1024 : Shape := ⟨2, ![4096, 1024]⟩
abbrev S1024x2176 : Shape := ⟨2, ![1024, 2176]⟩
abbrev S4096x1664 : Shape := ⟨2, ![4096, 1664]⟩
abbrev S4096x512 : Shape := ⟨2, ![4096, 512]⟩
abbrev S256x1024 : Shape := ⟨2, ![256, 1024]⟩
abbrev S256x1664 : Shape := ⟨2, ![256, 1664]⟩
abbrev S256x512 : Shape := ⟨2, ![256, 512]⟩
abbrev S256 : Shape := ⟨1, ![256]⟩
abbrev S256x1 : Shape := ⟨2, ![256, 1]⟩
abbrev S256x2176 : Shape := ⟨2, ![256, 2176]⟩
abbrev S1024 : Shape := ⟨1, ![1024]⟩

abbrev nBuf : Space → Nat
  | .hbm => 17
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x2176, .f32⟩
  | .hbm, ⟨4, _⟩ => ⟨S1x4096x1664, .f32⟩
  | .hbm, ⟨5, _⟩ => ⟨S1x4096x512, .f32⟩
  | .hbm, ⟨6, _⟩ => ⟨S1x4096x1024, .f32⟩
  | .hbm, ⟨7, _⟩ => ⟨S4096x1024, .f32⟩
  | .hbm, ⟨8, _⟩ => ⟨S1024x2176, .f32⟩
  | .hbm, ⟨9, _⟩ => ⟨S1024x2176, .bf16⟩
  | .hbm, ⟨10, _⟩ => ⟨S4096x1664, .f32⟩
  | .hbm, ⟨11, _⟩ => ⟨S4096x512, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1x1024, .f32⟩
  | .hbm, ⟨16, _⟩ => ⟨S1024x2176, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x2176, .bf16⟩
  | .local _ .vmem, ⟨5, _⟩ => ⟨S256x1664, .f32⟩
  | .local _ .vmem, ⟨6, _⟩ => ⟨S256x1664, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1024x2176, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2176 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== In2ReferenceIdeal.lean ====
abbrev S1x4096x1024 : Shape := ⟨3, ![1, 4096, 1024]⟩
abbrev S1x1024 : Shape := ⟨2, ![1, 1024]⟩
abbrev S1x1024x2176 : Shape := ⟨3, ![1, 1024, 2176]⟩
abbrev S1x4096x1664 : Shape := ⟨3, ![1, 4096, 1664]⟩
abbrev S1x4096x512 : Shape := ⟨3, ![1, 4096, 512]⟩
abbrev S1024x2176 : Shape := ⟨2, ![1024, 2176]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2176 : Shape := ⟨3, ![1, 4096, 2176]⟩
abbrev S2176x1024 : Shape := ⟨2, ![2176, 1024]⟩
abbrev S1024 : Shape := ⟨1, ![1024]⟩
abbrev S4096 : Shape := ⟨1, ![4096]⟩
abbrev S4096x1024 : Shape := ⟨2, ![4096, 1024]⟩

abbrev nBuf : Space → Nat
  | .hbm => 102
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x2176, .f32⟩
  | .hbm, ⟨4, _⟩ => ⟨S1x4096x1664, .f32⟩
  | .hbm, ⟨5, _⟩ => ⟨S1x4096x512, .f32⟩
  | .hbm, ⟨6, _⟩ => ⟨S1x4096x1024, .f32⟩
  | .hbm, ⟨7, _⟩ => ⟨S1024x2176, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S_, .f32⟩
  | .hbm, ⟨18, _⟩ => ⟨S1x4096, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S_, .f32⟩
  | .hbm, ⟨29, _⟩ => ⟨S1x4096x1, .f32⟩
  | .hbm, ⟨30, _⟩ => ⟨S1x4096x1, .f32⟩
  | .hbm, ⟨31, _⟩ => ⟨S1x4096x1024, .f32⟩
  | .hbm, ⟨32, _⟩ => ⟨S1x4096x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S1x4096x1024, .f32⟩
  | .hbm, ⟨41, _⟩ => ⟨S1x4096x1024, .f32⟩
  | .hbm, ⟨42, _⟩ => ⟨S1x4096x2176, .f32⟩
  | .hbm, ⟨43, _⟩ => ⟨S1x4096x1664, .f32⟩
  | .hbm, ⟨44, _⟩ => ⟨S1x4096x512, .f32⟩
  | .hbm, ⟨45, _⟩ => ⟨S_, .f32⟩
  | .hbm, ⟨46, _⟩ => ⟨S1x4096x2176, .f32⟩
  | .hbm, ⟨47, _⟩ => ⟨S_, .f32⟩
  | .hbm, ⟨48, _⟩ => ⟨S1x4096x2176, .f32⟩
  | .hbm, ⟨49, _⟩ => ⟨S1x4096x2176, .f32⟩
  | .hbm, ⟨50, _⟩ => ⟨S2176x1024, .f32⟩
  | .hbm, ⟨51, _⟩ => ⟨S1024x2176, .f32⟩
  | .hbm, ⟨52, _⟩ => ⟨S1x4096x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S1x4096x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S1x4096x1024, .f32⟩
  | .hbm, ⟨64, _⟩ => ⟨S1x4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S1x4096x1024, .f32⟩
  | .hbm, ⟨69, _⟩ => ⟨S_, .f32⟩
  | .hbm, ⟨70, _⟩ => ⟨S1x4096, .f32⟩
  | .hbm, ⟨71, _⟩ => ⟨S1x4096x1, .f32⟩
  | .hbm, ⟨72, _⟩ => ⟨S1x4096x1024, .f32⟩
  | .hbm, ⟨73, _⟩ => ⟨S1x4096x1024, .f32⟩
  | .hbm, ⟨74, _⟩ => ⟨S1x4096x1, .f32⟩
  | .hbm, ⟨75, _⟩ => ⟨S_, .f32⟩
  | .hbm, ⟨76, _⟩ => ⟨S1x4096x1, .f32⟩
  | .hbm, ⟨77, _⟩ => ⟨S1x4096x1, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S1x4096x1024, .f32⟩
  | .hbm, ⟨87, _⟩ => ⟨S_, .f32⟩
  | .hbm, ⟨88, _⟩ => ⟨S1x4096, .f32⟩
  | .hbm, ⟨89, _⟩ => ⟨S1x4096x1, .f32⟩
  | .hbm, ⟨90, _⟩ => ⟨S_, .f32⟩
  | .hbm, ⟨91, _⟩ => ⟨S1x4096x1, .f32⟩
  | .hbm, ⟨92, _⟩ => ⟨S1x4096x1, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S1x4096x1024, .f32⟩
  | .hbm, ⟨97, _⟩ => ⟨S1x4096x1024, .f32⟩
  | .hbm, ⟨98, _⟩ => ⟨S1x1024x2176, .f32⟩
  | .hbm, ⟨99, _⟩ => ⟨S1x4096x1024, .f32⟩
  | .hbm, ⟨100, _⟩ => ⟨S4096x1024, .f32⟩
  | .hbm, ⟨101, _⟩ => ⟨S1024x2176, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== In1Kernel.lean ====
abbrev S1x4096x1024 : Shape := ⟨3, ![1, 4096, 1024]⟩
abbrev S1x1024 : Shape := ⟨2, ![1, 1024]⟩
abbrev S1x1024x928 : Shape := ⟨3, ![1, 1024, 928]⟩
abbrev S1x4096x384 : Shape := ⟨3, ![1, 4096, 384]⟩
abbrev S1x4096x32 : Shape := ⟨3, ![1, 4096, 32]⟩
abbrev S1x4096x512 : Shape := ⟨3, ![1, 4096, 512]⟩
abbrev S1024x928 : Shape := ⟨2, ![1024, 928]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x1536 : Shape := ⟨2, ![1024, 1536]⟩
abbrev S4096x384 : Shape := ⟨2, ![4096, 384]⟩
abbrev S4096x32 : Shape := ⟨2, ![4096, 32]⟩
abbrev S4096x128 : Shape := ⟨2, ![4096, 128]⟩
abbrev S4096x512 : Shape := ⟨2, ![4096, 512]⟩
abbrev S4096x8x64 : Shape := ⟨3, ![4096, 8, 64]⟩
abbrev S4096x8x128 : Shape := ⟨3, ![4096, 8, 128]⟩
abbrev S4096x1024 : Shape := ⟨2, ![4096, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩
abbrev S1024 : Shape := ⟨1, ![1024]⟩

abbrev nBuf : Space → Nat
  | .hbm => 40
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x928, .f32⟩
  | .hbm, ⟨4, _⟩ => ⟨S1x4096x384, .f32⟩
  | .hbm, ⟨5, _⟩ => ⟨S1x4096x32, .f32⟩
  | .hbm, ⟨6, _⟩ => ⟨S1x4096x512, .f32⟩
  | .hbm, ⟨7, _⟩ => ⟨S1x4096x1024, .f32⟩
  | .hbm, ⟨8, _⟩ => ⟨S1024x928, .f32⟩
  | .hbm, ⟨9, _⟩ => ⟨S1024x928, .bf16⟩
  | .hbm, ⟨10, _⟩ => ⟨S1024x384, .bf16⟩
  | .hbm, ⟨11, _⟩ => ⟨S_, .bf16⟩
  | .hbm, ⟨12, _⟩ => ⟨S1024x64, .bf16⟩
  | .hbm, ⟨13, _⟩ => ⟨S1024x32, .bf16⟩
  | .hbm, ⟨14, _⟩ => ⟨S_, .bf16⟩
  | .hbm, ⟨15, _⟩ => ⟨S1024x32, .bf16⟩
  | .hbm, ⟨16, _⟩ => ⟨S1024x512, .bf16⟩
  | .hbm, ⟨17, _⟩ => ⟨S1024x8x64, .bf16⟩
  | .hbm, ⟨18, _⟩ => ⟨S_, .i32⟩
  | .hbm, ⟨19, _⟩ => ⟨S_, .bf16⟩
  | .hbm, ⟨20, _⟩ => ⟨S1024x8x128, .bf16⟩
  | .hbm, ⟨21, _⟩ => ⟨S1024x1024, .bf16⟩
  | .hbm, ⟨22, _⟩ => ⟨S1024x1536, .bf16⟩
  | .hbm, ⟨23, _⟩ => ⟨S4096x384, .f32⟩
  | .hbm, ⟨24, _⟩ => ⟨S4096x32, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x512, .f32⟩
  | .hbm, ⟨29, _⟩ => ⟨S4096x8x64, .f32⟩
  | .hbm, ⟨30, _⟩ => ⟨S_, .i32⟩
  | .hbm, ⟨31, _⟩ => ⟨S_, .f32⟩
  | .hbm, ⟨32, _⟩ => ⟨S4096x8x128, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S1x1024, .f32⟩
  | .hbm, ⟨39, _⟩ => ⟨S1024x1536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x1536, .bf16⟩
  | .local _ .vmem, ⟨5, _⟩ => ⟨S256x512, .f32⟩
  | .local _ .vmem, ⟨6, _⟩ => ⟨S256x512, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1024x1536, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev main_v20_2 : Ref sig .tc := ⟨.hbm, 38, rfl⟩
abbrev main_v20_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== In1ReferenceIdeal.lean ====
abbrev S1x4096x1024 : Shape := ⟨3, ![1, 4096, 1024]⟩
abbrev S1x1024 : Shape := ⟨2, ![1, 1024]⟩
abbrev S1x1024x928 : Shape := ⟨3, ![1, 1024, 928]⟩
abbrev S1x4096x384 : Shape := ⟨3, ![1, 4096, 384]⟩
abbrev S1x4096x32 : Shape := ⟨3, ![1, 4096, 32]⟩
abbrev S1x4096x512 : Shape := ⟨3, ![1, 4096, 512]⟩
abbrev S1024x928 : Shape := ⟨2, ![1024, 928]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x928 : Shape := ⟨3, ![1, 4096, 928]⟩
abbrev S928x1024 : Shape := ⟨2, ![928, 1024]⟩
abbrev S1024 : Shape := ⟨1, ![1024]⟩
abbrev S4096 : Shape := ⟨1, ![4096]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S4096x1024 : Shape := ⟨2, ![4096, 1024]⟩
abbrev S1024x384 : Shape := ⟨2, ![1024, 384]⟩
abbrev S1024x32 : Shape := ⟨2, ![1024, 32]⟩
abbrev S1024x128 : Shape := ⟨2, ![1024, 128]⟩
abbrev S1024x1536 : Shape := ⟨2, ![1024, 1536]⟩

abbrev nBuf : Space → Nat
  | .hbm => 119
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x928, .f32⟩
  | .hbm, ⟨4, _⟩ => ⟨S1x4096x384, .f32⟩
  | .hbm, ⟨5, _⟩ => ⟨S1x4096x32, .f32⟩
  | .hbm, ⟨6, _⟩ => ⟨S1x4096x512, .f32⟩
  | .hbm, ⟨7, _⟩ => ⟨S1x4096x1024, .f32⟩
  | .hbm, ⟨8, _⟩ => ⟨S1024x928, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S1x4096x1024, .f32⟩
  | .hbm, ⟨33, _⟩ => ⟨S1x4096x1024, .f32⟩
  | .hbm, ⟨34, _⟩ => ⟨S1x1x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x4096x1024, .f32⟩
  | .hbm, ⟨39, _⟩ => ⟨S1x4096x1024, .f32⟩
  | .hbm, ⟨40, _⟩ => ⟨S1x1x1024, .f32⟩
  | .hbm, ⟨41, _⟩ => ⟨S1x4096x1024, .f32⟩
  | .hbm, ⟨42, _⟩ => ⟨S1x4096x1024, .f32⟩
  | .hbm, ⟨43, _⟩ => ⟨S1x4096x928, .f32⟩
  | .hbm, ⟨44, _⟩ => ⟨S1x4096x384, .f32⟩
  | .hbm, ⟨45, _⟩ => ⟨S1x4096x32, .f32⟩
  | .hbm, ⟨46, _⟩ => ⟨S1x4096x512, .f32⟩
  | .hbm, ⟨47, _⟩ => ⟨S_, .f32⟩
  | .hbm, ⟨48, _⟩ => ⟨S1x4096x928, .f32⟩
  | .hbm, ⟨49, _⟩ => ⟨S_, .f32⟩
  | .hbm, ⟨50, _⟩ => ⟨S1x4096x928, .f32⟩
  | .hbm, ⟨51, _⟩ => ⟨S1x4096x928, .f32⟩
  | .hbm, ⟨52, _⟩ => ⟨S_, .f32⟩
  | .hbm, ⟨53, _⟩ => ⟨S1x4096x928, .f32⟩
  | .hbm, ⟨54, _⟩ => ⟨S1x4096x928, .f32⟩
  | .hbm, ⟨55, _⟩ => ⟨S928x1024, .f32⟩
  | .hbm, ⟨56, _⟩ => ⟨S1024x928, .f32⟩
  | .hbm, ⟨57, _⟩ => ⟨S1x4096x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x4096x1024, .f32⟩
  | .hbm, ⟨65, _⟩ => ⟨S_, .f32⟩
  | .hbm, ⟨66, _⟩ => ⟨S1x1024, .f32⟩
  | .hbm, ⟨67, _⟩ => ⟨S1x1x1024, .f32⟩
  | .hbm, ⟨68, _⟩ => ⟨S1x4096x1024, .f32⟩
  | .hbm, ⟨69, _⟩ => ⟨S1x4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S1x4096x1024, .f32⟩
  | .hbm, ⟨74, _⟩ => ⟨S_, .f32⟩
  | .hbm, ⟨75, _⟩ => ⟨S1x4096, .f32⟩
  | .hbm, ⟨76, _⟩ => ⟨S1x4096x1, .f32⟩
  | .hbm, ⟨77, _⟩ => ⟨S1x4096x1024, .f32⟩
  | .hbm, ⟨78, _⟩ => ⟨S1x4096x1024, .f32⟩
  | .hbm, ⟨79, _⟩ => ⟨S1x4096x1, .f32⟩
  | .hbm, ⟨80, _⟩ => ⟨S_, .f32⟩
  | .hbm, ⟨81, _⟩ => ⟨S1x4096x1, .f32⟩
  | .hbm, ⟨82, _⟩ => ⟨S1x4096x1, .f32⟩
  | .hbm, ⟨83, _⟩ => ⟨S_, .f32⟩
  | .hbm, ⟨84, _⟩ => ⟨S4096, .f32⟩
  | .hbm, ⟨85, _⟩ => ⟨S1x4096, .f32⟩
  | .hbm, ⟨86, _⟩ => ⟨S1x4096x1024, .f32⟩
  | .hbm, ⟨87, _⟩ => ⟨S1x4096x1024, .f32⟩
  | .hbm, ⟨88, _⟩ => ⟨S1x4096x1024, .f32⟩
  | .hbm, ⟨89, _⟩ => ⟨S1x4096x1024, .f32⟩
  | .hbm, ⟨90, _⟩ => ⟨S1x4096x1024, .f32⟩
  | .hbm, ⟨91, _⟩ => ⟨S1x4096x1024, .f32⟩
  | .hbm, ⟨92, _⟩ => ⟨S_, .f32⟩
  | .hbm, ⟨93, _⟩ => ⟨S1x4096, .f32⟩
  | .hbm, ⟨94, _⟩ => ⟨S1x4096x1, .f32⟩
  | .hbm, ⟨95, _⟩ => ⟨S_, .f32⟩
  | .hbm, ⟨96, _⟩ => ⟨S1x4096x1, .f32⟩
  | .hbm, ⟨97, _⟩ => ⟨S1x4096x1, .f32⟩
  | .hbm, ⟨98, _⟩ => ⟨S_, .f32⟩
  | .hbm, ⟨99, _⟩ => ⟨S4096, .f32⟩
  | .hbm, ⟨100, _⟩ => ⟨S1x4096, .f32⟩
  | .hbm, ⟨101, _⟩ => ⟨S1x4096x1024, .f32⟩
  | .hbm, ⟨102, _⟩ => ⟨S1x4096x1024, .f32⟩
  | .hbm, ⟨103, _⟩ => ⟨S1x1024x928, .f32⟩
  | .hbm, ⟨104, _⟩ => ⟨S1024x928, .f32⟩
  | .hbm, ⟨105, _⟩ => ⟨S1024x512, .f32⟩
  | .hbm, ⟨106, _⟩ => ⟨S1024x8x64, .f32⟩
  | .hbm, ⟨107, _⟩ => ⟨S_, .i32⟩
  | .hbm, ⟨108, _⟩ => ⟨S_, .f32⟩
  | .hbm, ⟨109, _⟩ => ⟨S1024x8x128, .f32⟩
  | .hbm, ⟨110, _⟩ => ⟨S1024x1024, .f32⟩
  | .hbm, ⟨111, _⟩ => ⟨S1x4096x1024, .f32⟩
  | .hbm, ⟨112, _⟩ => ⟨S4096x1024, .f32⟩
  | .hbm, ⟨113, _⟩ => ⟨S1024x384, .f32⟩
  | .hbm, ⟨114, _⟩ => ⟨S1024x32, .f32⟩
  | .hbm, ⟨115, _⟩ => ⟨S_, .i32⟩
  | .hbm, ⟨116, _⟩ => ⟨S_, .f32⟩
  | .hbm, ⟨117, _⟩ => ⟨S1024x128, .f32⟩
  | .hbm, ⟨118, _⟩ => ⟨S1024x1536, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c : Ref sig .tc := ⟨.hbm, 107, rfl⟩
abbrev main_call0_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_19 : Ref sig .tc := ⟨.hbm, 115, rfl⟩
abbrev main_call1_v0 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]
-- ==== InFKernel.lean ====
abbrev S1x4096x1024 : Shape := ⟨3, ![1, 4096, 1024]⟩
abbrev S1x1024 : Shape := ⟨2, ![1, 1024]⟩
abbrev S1x1024x5152 : Shape := ⟨3, ![1, 1024, 5152]⟩
abbrev S1024x5152 : Shape := ⟨2, ![1024, 5152]⟩
abbrev S1024x1288 : Shape := ⟨2, ![1024, 1288]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x1536 : Shape := ⟨2, ![1024, 1536]⟩
abbrev S1024x360 : Shape := ⟨2, ![1024, 360]⟩
abbrev S1024x528 : Shape := ⟨2, ![1024, 528]⟩
abbrev S1024x2176 : Shape := ⟨2, ![1024, 2176]⟩
abbrev S1024x760 : Shape := ⟨2, ![1024, 760]⟩
abbrev S1024x2048 : Shape := ⟨2, ![1024, 2048]⟩
abbrev S4096x1024 : Shape := ⟨2, ![4096, 1024]⟩
abbrev S4096x512 : Shape := ⟨2, ![4096, 512]⟩
abbrev S4096x1664 : Shape := ⟨2, ![4096, 1664]⟩
abbrev S256x1024 : Shape := ⟨2, ![256, 1024]⟩
abbrev S256x512 : Shape := ⟨2, ![256, 512]⟩
abbrev S256x1664 : Shape := ⟨2, ![256, 1664]⟩
abbrev S256 : Shape := ⟨1, ![256]⟩
abbrev S256x1 : Shape := ⟨2, ![256, 1]⟩
abbrev S256x1536 : Shape := ⟨2, ![256, 1536]⟩
abbrev S256x2176 : Shape := ⟨2, ![256, 2176]⟩
abbrev S256x2048 : Shape := ⟨2, ![256, 2048]⟩

abbrev nBuf : Space → Nat
  | .hbm => 35
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x5152, .f32⟩
  | .hbm, ⟨4, _⟩ => ⟨S1024x5152, .f32⟩
  | .hbm, ⟨5, _⟩ => ⟨S1024x5152, .bf16⟩
  | .hbm, ⟨6, _⟩ => ⟨S1024x1288, .bf16⟩
  | .hbm, ⟨7, _⟩ => ⟨S1024x1288, .bf16⟩
  | .hbm, ⟨8, _⟩ => ⟨S1024x1288, .bf16⟩
  | .hbm, ⟨9, _⟩ => ⟨S1024x1288, .bf16⟩
  | .hbm, ⟨10, _⟩ => ⟨S1024x384, .bf16⟩
  | .hbm, ⟨11, _⟩ => ⟨S_, .bf16⟩
  | .hbm, ⟨12, _⟩ => ⟨S1024x64, .bf16⟩
  | .hbm, ⟨13, _⟩ => ⟨S1024x32, .bf16⟩
  | .hbm, ⟨14, _⟩ => ⟨S_, .bf16⟩
  | .hbm, ⟨15, _⟩ => ⟨S1024x32, .bf16⟩
  | .hbm, ⟨16, _⟩ => ⟨S1024x512, .bf16⟩
  | .hbm, ⟨17, _⟩ => ⟨S1024x8x64, .bf16⟩
  | .hbm, ⟨18, _⟩ => ⟨S_, .i32⟩
  | .hbm, ⟨19, _⟩ => ⟨S_, .bf16⟩
  | .hbm, ⟨20, _⟩ => ⟨S1024x8x128, .bf16⟩
  | .hbm, ⟨21, _⟩ => ⟨S1024x1024, .bf16⟩
  | .hbm, ⟨22, _⟩ => ⟨S1024x1536, .bf16⟩
  | .hbm, ⟨23, _⟩ => ⟨S1024x360, .bf16⟩
  | .hbm, ⟨24, _⟩ => ⟨S1024x528, .bf16⟩
  | .hbm, ⟨25, _⟩ => ⟨S1024x2176, .bf16⟩
  | .hbm, ⟨26, _⟩ => ⟨S1024x760, .bf16⟩
  | .hbm, ⟨27, _⟩ => ⟨S1024x2048, .bf16⟩
  | .hbm, ⟨28, _⟩ => ⟨S4096x1024, .f32⟩
  | .hbm, ⟨29, _⟩ => ⟨S4096x512, .f32⟩
  | .hbm, ⟨30, _⟩ => ⟨S4096x1024, .f32⟩
  | .hbm, ⟨31, _⟩ => ⟨S4096x1664, .f32⟩
  | .hbm, ⟨32, _⟩ => ⟨S4096x512, .f32⟩
  | .hbm, ⟨33, _⟩ => ⟨S4096x1024, .f32⟩
  | .hbm, ⟨34, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x1536, .bf16⟩
  | .local _ .vmem, ⟨5, _⟩ => ⟨S1024x2176, .bf16⟩
  | .local _ .vmem, ⟨6, _⟩ => ⟨S1024x2048, .bf16⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x1664, .f32⟩
  | .local _ .vmem, ⟨12, _⟩ => ⟨S256x1664, .f32⟩
  | .local _ .vmem, ⟨13, _⟩ => ⟨S256x512, .f32⟩
  | .local _ .vmem, ⟨14, _⟩ => ⟨S256x512, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev main_v21_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InFReferenceIdeal.lean ====
abbrev S1x4096x1024 : Shape := ⟨3, ![1, 4096, 1024]⟩
abbrev S1x1024 : Shape := ⟨2, ![1, 1024]⟩
abbrev S1x1024x5152 : Shape := ⟨3, ![1, 1024, 5152]⟩
abbrev S1024x5152 : Shape := ⟨2, ![1024, 5152]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5152 : Shape := ⟨3, ![1, 4096, 5152]⟩
abbrev S4096x5152 : Shape := ⟨2, ![4096, 5152]⟩
abbrev S4096x384 : Shape := ⟨2, ![4096, 384]⟩
abbrev S4096x32 : Shape := ⟨2, ![4096, 32]⟩
abbrev S4096x128 : Shape := ⟨2, ![4096, 128]⟩
abbrev S4096x512 : Shape := ⟨2, ![4096, 512]⟩
abbrev S4096x8x64 : Shape := ⟨3, ![4096, 8, 64]⟩
abbrev S4096x8x128 : Shape := ⟨3, ![4096, 8, 128]⟩
abbrev S4096x1024 : Shape := ⟨2, ![4096, 1024]⟩
abbrev S4096x1664 : Shape := ⟨2, ![4096, 1664]⟩

abbrev nBuf : Space → Nat
  | .hbm => 53
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024, .f32⟩
  | .hbm, ⟨3, _⟩ => ⟨S1x1024x5152, .f32⟩
  | .hbm, ⟨4, _⟩ => ⟨S1024x5152, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S_, .f32⟩
  | .hbm, ⟨15, _⟩ => ⟨S1x4096, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S1x4096x1024, .f32⟩
  | .hbm, ⟨31, _⟩ => ⟨S1x4096x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x4096x5152, .f32⟩
  | .hbm, ⟨36, _⟩ => ⟨S4096x5152, .f32⟩
  | .hbm, ⟨37, _⟩ => ⟨S4096x384, .f32⟩
  | .hbm, ⟨38, _⟩ => ⟨S4096x32, .f32⟩
  | .hbm, ⟨39, _⟩ => ⟨S_, .i32⟩
  | .hbm, ⟨40, _⟩ => ⟨S_, .f32⟩
  | .hbm, ⟨41, _⟩ => ⟨S4096x128, .f32⟩
  | .hbm, ⟨42, _⟩ => ⟨S4096x512, .f32⟩
  | .hbm, ⟨43, _⟩ => ⟨S4096x512, .f32⟩
  | .hbm, ⟨44, _⟩ => ⟨S4096x8x64, .f32⟩
  | .hbm, ⟨45, _⟩ => ⟨S_, .i32⟩
  | .hbm, ⟨46, _⟩ => ⟨S_, .f32⟩
  | .hbm, ⟨47, _⟩ => ⟨S4096x8x128, .f32⟩
  | .hbm, ⟨48, _⟩ => ⟨S4096x1024, .f32⟩
  | .hbm, ⟨49, _⟩ => ⟨S4096x1664, .f32⟩
  | .hbm, ⟨50, _⟩ => ⟨S4096x512, .f32⟩
  | .hbm, ⟨51, _⟩ => ⟨S4096x1024, .f32⟩
  | .hbm, ⟨52, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== PostKernel.lean ====
abbrev S1x4096x8x64 : Shape := ⟨4, ![1, 4096, 8, 64]⟩
abbrev S1x8x64 : Shape := ⟨3, ![1, 8, 64]⟩
abbrev S1x512 : Shape := ⟨2, ![1, 512]⟩
abbrev S1x4096x512 : Shape := ⟨3, ![1, 4096, 512]⟩
abbrev S256x256 : Shape := ⟨2, ![256, 256]⟩
abbrev S4096x512 : Shape := ⟨2, ![4096, 512]⟩
abbrev S256x512 : Shape := ⟨2, ![256, 512]⟩
abbrev S512 : Shape := ⟨1, ![512]⟩

abbrev nBuf : Space → Nat
  | .hbm => 22
  | .vmem => 25
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x8x64, .f32⟩
  | .hbm, ⟨2, _⟩ => ⟨S1x4096x8x64, .f32⟩
  | .hbm, ⟨3, _⟩ => ⟨S1x4096x8x64, .f32⟩
  | .hbm, ⟨4, _⟩ => ⟨S1x8x64, .f32⟩
  | .hbm, ⟨5, _⟩ => ⟨S1x512, .f32⟩
  | .hbm, ⟨6, _⟩ => ⟨S1x512, .f32⟩
  | .hbm, ⟨7, _⟩ => ⟨S1x4096x512, .f32⟩
  | .hbm, ⟨8, _⟩ => ⟨S256x256, .bf16⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S1x512, .f32⟩
  | .hbm, ⟨21, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S256x256, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostReferenceIdeal.lean ====
abbrev S1x4096x8x64 : Shape := ⟨4, ![1, 4096, 8, 64]⟩
abbrev S1x8x64 : Shape := ⟨3, ![1, 8, 64]⟩
abbrev S1x512 : Shape := ⟨2, ![1, 512]⟩
abbrev S1x4096x512 : Shape := ⟨3, ![1, 4096, 512]⟩
abbrev S8x64 : Shape := ⟨2, ![8, 64]⟩
abbrev S512 : Shape := ⟨1, ![512]⟩
abbrev S_ : Shape := ⟨0, ![]⟩
abbrev S1x4096x8 : Shape := ⟨3, ![1, 4096, 8]⟩
abbrev S1x4096x8x1 : Shape := ⟨4, ![1, 4096, 8, 1]⟩
abbrev S1x1x512 : Shape := ⟨3, ![1, 1, 512]⟩
abbrev S1x1x8x64 : Shape := ⟨4, ![1, 1, 8, 64]⟩
abbrev S4096x8 : Shape := ⟨2, ![4096, 8]⟩
abbrev S4096x512 : Shape := ⟨2, ![4096, 512]⟩

abbrev nBuf : Space → Nat
  | .hbm => 129
  | .vmem => 0
  | .smem => 0
  | _ => 0

abbrev hbmTy0_0 (i : Nat) : BufTy := match i % 128 with
  | 0 => ⟨S1x4096x8x64, .f32⟩
  | 1 => ⟨S1x4096x8x64, .f32⟩
  | 2 => ⟨S1x4096x8x64, .f32⟩
  | 3 => ⟨S1x4096x8x64, .f32⟩
  | 4 => ⟨S1x8x64, .f32⟩
  | 5 => ⟨S1x512, .f32⟩
  | 6 => ⟨S1x512, .f32⟩
  | 7 => ⟨S1x4096x512, .f32⟩
  | 8 => ⟨S8x64, .f32⟩
  | 9 => ⟨S512, .f32⟩
  | 10 => ⟨S512, .f32⟩
  | 11 => ⟨S_, .f32⟩
  | 12 => ⟨S1x4096x8, .f32⟩
  | 13 => ⟨S1x4096x8x1, .f32⟩
  | 14 => ⟨S_, .f32⟩
  | 15 => ⟨S1x4096x8x1, .f32⟩
  | 16 => ⟨S1x4096x8x1, .f32⟩
  | 17 => ⟨S1x4096x8x64, .f32⟩
  | 18 => ⟨S1x4096x8x64, .f32⟩
  | 19 => ⟨S1x4096x8x64, .f32⟩
  | 20 => ⟨S_, .f32⟩
  | 21 => ⟨S1x4096x8, .f32⟩
  | 22 => ⟨S1x4096x8x1, .f32⟩
  | 23 => ⟨S_, .f32⟩
  | 24 => ⟨S1x4096x8x1, .f32⟩
  | 25 => ⟨S1x4096x8x1, .f32⟩
  | 26 => ⟨S_, .f32⟩
  | 27 => ⟨S1x4096x8x1, .f32⟩
  | 28 => ⟨S1x4096x8x1, .f32⟩
  | 29 => ⟨S1x4096x8x1, .f32⟩
  | 30 => ⟨S1x4096x8x1, .f32⟩
  | 31 => ⟨S_, .f32⟩
  | 32 => ⟨S1x4096x8x1, .f32⟩
  | 33 => ⟨S1x4096x8x1, .f32⟩
  | 34 => ⟨S1x4096x8x64, .f32⟩
  | 35 => ⟨S1x4096x8x64, .f32⟩
  | 36 => ⟨S1x4096x512, .f32⟩
  | 37 => ⟨S1x1x512, .f32⟩
  | 38 => ⟨S1x4096x512, .f32⟩
  | 39 => ⟨S1x4096x512, .f32⟩
  | 40 => ⟨S1x1x512, .f32⟩
  | 41 => ⟨S1x4096x512, .f32⟩
  | 42 => ⟨S1x4096x512, .f32⟩
  | 43 => ⟨S1x4096x8x64, .f32⟩
  | 44 => ⟨S1x1x8x64, .f32⟩
  | 45 => ⟨S1x4096x8x64, .f32⟩
  | 46 => ⟨S1x4096x8x64, .f32⟩
  | 47 => ⟨S_, .f32⟩
  | 48 => ⟨S1x4096x8, .f32⟩
  | 49 => ⟨S1x4096x8x1, .f32⟩
  | 50 => ⟨S1x4096x8x64, .f32⟩
  | 51 => ⟨S1x4096x8x64, .f32⟩
  | 52 => ⟨S1x4096x512, .f32⟩
  | 53 => ⟨S1x4096x512, .f32⟩
  | 54 => ⟨S1x4096x512, .f32⟩
  | 55 => ⟨S1x4096x512, .f32⟩
  | 56 => ⟨S1x4096x8x64, .f32⟩
  | 57 => ⟨S1x4096x8x64, .f32⟩
  | 58 => ⟨S1x4096x8x64, .f32⟩
  | 59 => ⟨S1x4096x8x64, .f32⟩
  | 60 => ⟨S_, .f32⟩
  | 61 => ⟨S1x4096x8, .f32⟩
  | 62 => ⟨S1x4096x8x1, .f32⟩
  | 63 => ⟨S_, .f32⟩
  | 64 => ⟨S4096x8, .f32⟩
  | 65 => ⟨S1x4096x8, .f32⟩
  | 66 => ⟨S1x4096x8x64, .f32⟩
  | 67 => ⟨S1x4096x8x64, .f32⟩
  | 68 => ⟨S_, .f32⟩
  | 69 => ⟨S1x8x64, .f32⟩
  | 70 => ⟨S1x1x8x64, .f32⟩
  | 71 => ⟨S1x4096x8x64, .f32⟩
  | 72 => ⟨S1x4096x8x64, .f32⟩
  | 73 => ⟨S_, .f32⟩
  | 74 => ⟨S8x64, .f32⟩
  | 75 => ⟨S1x4096x8x64, .f32⟩
  | 76 => ⟨S1x4096x8x64, .f32⟩
  | 77 => ⟨S_, .f32⟩
  | 78 => ⟨S1x512, .f32⟩
  | 79 => ⟨S1x1x512, .f32⟩
  | 80 => ⟨S_, .f32⟩
  | 81 => ⟨S512, .f32⟩
  | 82 => ⟨S1x4096x512, .f32⟩
  | 83 => ⟨S_, .f32⟩
  | 84 => ⟨S1x512, .f32⟩
  | 85 => ⟨S1x1x512, .f32⟩
  | 86 => ⟨S1x4096x512, .f32⟩
  | 87 => ⟨S1x4096x512, .f32⟩
  | 88 => ⟨S_, .f32⟩
  | 89 => ⟨S512, .f32⟩
  | 90 => ⟨S1x4096x8x64, .f32⟩
  | 91 => ⟨S1x4096x8x64, .f32⟩
  | 92 => ⟨S_, .f32⟩
  | 93 => ⟨S1x4096x8, .f32⟩
  | 94 => ⟨S1x4096x8x1, .f32⟩
  | 95 => ⟨S1x4096x8x64, .f32⟩
  | 96 => ⟨S1x4096x8x64, .f32⟩
  | 97 => ⟨S1x4096x8x1, .f32⟩
  | 98 => ⟨S_, .f32⟩
  | 99 => ⟨S1x4096x8x1, .f32⟩
  | 100 => ⟨S1x4096x8x1, .f32⟩
  | 101 => ⟨S_, .f32⟩
  | 102 => ⟨S4096x8, .f32⟩
  | 103 => ⟨S1x4096x8, .f32⟩
  | 104 => ⟨S1x4096x8x64, .f32⟩
  | 105 => ⟨S1x4096x8x64, .f32⟩
  | 106 => ⟨S1x4096x8x64, .f32⟩
  | 107 => ⟨S1x4096x8x64, .f32⟩
  | 108 => ⟨S1x4096x8x64, .f32⟩
  | 109 => ⟨S1x4096x8x64, .f32⟩
  | 110 => ⟨S_, .f32⟩
  | 111 => ⟨S1x4096x8, .f32⟩
  | 112 => ⟨S1x4096x8x1, .f32⟩
  | 113 => ⟨S_, .f32⟩
  | 114 => ⟨S1x4096x8x1, .f32⟩
  | 115 => ⟨S1x4096x8x1, .f32⟩
  | 116 => ⟨S_, .f32⟩
  | 117 => ⟨S4096x8, .f32⟩
  | 118 => ⟨S1x4096x8, .f32⟩
  | 119 => ⟨S1x4096x8x64, .f32⟩
  | 120 => ⟨S1x4096x8x64, .f32⟩
  | 121 => ⟨S1x512, .f32⟩
  | 122 => ⟨S1x512, .f32⟩
  | 123 => ⟨S1x8x64, .f32⟩
  | 124 => ⟨S4096x512, .f32⟩
  | 125 => ⟨S4096x512, .f32⟩
  | 126 => ⟨S4096x512, .f32⟩
  | 127 => ⟨S4096x512, .f32⟩
  | _ => ⟨S1x4096x8x64, .f32⟩

abbrev hbmTy0_1 (i : Nat) : BufTy := match i % 128 with
  | 0 => ⟨S1x512, .f32⟩
  | _ => ⟨S1x4096x8x64, .f32⟩

abbrev hbmTy (i : Nat) : BufTy := match i / 128 with
  | 0 => hbmTy0_0 i
  | 1 => hbmTy0_1 i
  | _ => ⟨S1x4096x8x64, .f32⟩

abbrev bufTy : (tb : Table) → Fin (tcTables nBuf tb) → BufTy
  | .hbm, ⟨i, _⟩ => hbmTy i
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩
abbrev main_cst_18 : Ref sig .tc := ⟨.hbm, 113, rfl⟩
abbrev main_v86 : Ref sig .tc := ⟨.hbm, 114, rfl⟩
abbrev main_v87 : Ref sig .tc := ⟨.hbm, 115, rfl⟩
abbrev main_cst_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== MlaKernel.lean ====
abbrev S1x4096x256 : Shape := ⟨3, ![1, 4096, 256]⟩
abbrev S1x4096x128 : Shape := ⟨3, ![1, 4096, 128]⟩
abbrev S1x4096x32 : Shape := ⟨3, ![1, 4096, 32]⟩
abbrev S1x4096 : Shape := ⟨2, ![1, 4096]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x4096x8x96 : Shape := ⟨4, ![1, 4096, 8, 96]⟩
abbrev S1x4096x8x128 : Shape := ⟨4, ![1, 4096, 8, 128]⟩
abbrev S1x4096x1x32 : Shape := ⟨4, ![1, 4096, 1, 32]⟩
abbrev S128x128 : Shape := ⟨2, ![128, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x256 : Shape := ⟨2, ![4096, 256]⟩
abbrev S256x768 : Shape := ⟨2, ![256, 768]⟩
abbrev S256x8x96 : Shape := ⟨3, ![256, 8, 96]⟩
abbrev S256x8x128 : Shape := ⟨3, ![256, 8, 128]⟩
abbrev S256x1024 : Shape := ⟨2, ![256, 1024]⟩
abbrev S4096x128 : Shape := ⟨2, ![4096, 128]⟩
abbrev S4096x512 : Shape := ⟨2, ![4096, 512]⟩
abbrev S4096x8x96 : Shape := ⟨3, ![4096, 8, 96]⟩
abbrev S4096x8x128 : Shape := ⟨3, ![4096, 8, 128]⟩
abbrev S4096x1024 : Shape := ⟨2, ![4096, 1024]⟩
abbrev S128x1024 : Shape := ⟨2, ![128, 1024]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x896 : Shape := ⟨2, ![256, 896]⟩
abbrev S256x640 : Shape := ⟨2, ![256, 640]⟩
abbrev S256x384 : Shape := ⟨2, ![256, 384]⟩
abbrev S128 : Shape := ⟨1, ![128]⟩

abbrev nBuf : Space → Nat
  | .hbm => 76
  | .vmem => 21
  | .smem => 0
  | _ => 0

abbrev bufTy : (tb : Table) → Fin (tcTables nBuf tb) → BufTy
  | .hbm, ⟨0, _⟩ => ⟨S1x4096x256, .f32⟩
  | .hbm, ⟨1, _⟩ => ⟨S1x4096x128, .f32⟩
  | .hbm, ⟨2, _⟩ => ⟨S1x4096x32, .f32⟩
  | .hbm, ⟨3, _⟩ => ⟨S1x4096, .i32⟩
  | .hbm, ⟨4, _⟩ => ⟨S1x256, .f32⟩
  | .hbm, ⟨5, _⟩ => ⟨S1x256x768, .f32⟩
  | .hbm, ⟨6, _⟩ => ⟨S1x128, .f32⟩
  | .hbm, ⟨7, _⟩ => ⟨S1x128x1024, .f32⟩
  | .hbm, ⟨8, _⟩ => ⟨S1x4096x8x96, .f32⟩
  | .hbm, ⟨9, _⟩ => ⟨S1x4096x8x128, .f32⟩
  | .hbm, ⟨10, _⟩ => ⟨S1x4096x1x32, .f32⟩
  | .hbm, ⟨11, _⟩ => ⟨S128x128, .bf16⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S4096, .i32⟩
  | .hbm, ⟨27, _⟩ => ⟨S4096, .f32⟩
  | .hbm, ⟨28, _⟩ => ⟨S4096x1, .f32⟩
  | .hbm, ⟨29, _⟩ => ⟨S1x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S_, .f32⟩
  | .hbm, ⟨36, _⟩ => ⟨S4096x64, .f32⟩
  | .hbm, ⟨37, _⟩ => ⟨S_, .f32⟩
  | .hbm, ⟨38, _⟩ => ⟨S4096x32, .f32⟩
  | .hbm, ⟨39, _⟩ => ⟨S_, .f32⟩
  | .hbm, ⟨40, _⟩ => ⟨S4096x64, .f32⟩
  | .hbm, ⟨41, _⟩ => ⟨S_, .f32⟩
  | .hbm, ⟨42, _⟩ => ⟨S4096x32, .f32⟩
  | .hbm, ⟨43, _⟩ => ⟨S4096x256, .f32⟩
  | .hbm, ⟨44, _⟩ => ⟨S256x768, .f32⟩
  | .hbm, ⟨45, _⟩ => ⟨S256x768, .bf16⟩
  | .hbm, ⟨46, _⟩ => ⟨S256x8x96, .bf16⟩
  | .hbm, ⟨47, _⟩ => ⟨S_, .i32⟩
  | .hbm, ⟨48, _⟩ => ⟨S_, .bf16⟩
  | .hbm, ⟨49, _⟩ => ⟨S256x8x128, .bf16⟩
  | .hbm, ⟨50, _⟩ => ⟨S256x1024, .bf16⟩
  | .hbm, ⟨51, _⟩ => ⟨S4096x256, .f32⟩
  | .hbm, ⟨52, _⟩ => ⟨S4096x128, .f32⟩
  | .hbm, ⟨53, _⟩ => ⟨S_, .f32⟩
  | .hbm, ⟨54, _⟩ => ⟨S4096x64, .f32⟩
  | .hbm, ⟨55, _⟩ => ⟨S4096x32, .f32⟩
  | .hbm, ⟨56, _⟩ => ⟨S_, .f32⟩
  | .hbm, ⟨57, _⟩ => ⟨S4096x32, .f32⟩
  | .hbm, ⟨58, _⟩ => ⟨S4096x512, .f32⟩
  | .hbm, ⟨59, _⟩ => ⟨S4096x8x96, .f32⟩
  | .hbm, ⟨60, _⟩ => ⟨S_, .i32⟩
  | .hbm, ⟨61, _⟩ => ⟨S_, .f32⟩
  | .hbm, ⟨62, _⟩ => ⟨S4096x8x128, .f32⟩
  | .hbm, ⟨63, _⟩ => ⟨S4096x1024, .f32⟩
  | .hbm, ⟨64, _⟩ => ⟨S4096x1024, .f32⟩
  | .hbm, ⟨65, _⟩ => ⟨S4096x32, .f32⟩
  | .hbm, ⟨66, _⟩ => ⟨S_, .i32⟩
  | .hbm, ⟨67, _⟩ => ⟨S_, .f32⟩
  | .hbm, ⟨68, _⟩ => ⟨S4096x128, .f32⟩
  | .hbm, ⟨69, _⟩ => ⟨S128x1024, .f32⟩
  | .hbm, ⟨70, _⟩ => ⟨S128x1024, .bf16⟩
  | .hbm, ⟨71, _⟩ => ⟨S4096x512, .f32⟩
  | .hbm, ⟨72, _⟩ => ⟨S1x256, .f32⟩
  | .hbm, ⟨73, _⟩ => ⟨S1x128, .f32⟩
  | .hbm, ⟨74, _⟩ => ⟨S256x1024, .f32⟩
  | .hbm, ⟨75, _⟩ => ⟨S128x1024, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x128, .f32⟩
  | .local _ .vmem, ⟨6, _⟩ => ⟨S256x1024, .bf16⟩
  | .local _ .vmem, ⟨7, _⟩ => ⟨S128x1024, .bf16⟩
  | .local _ .vmem, ⟨8, _⟩ => ⟨S128x128, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | .local _ .vmem, ⟨17, _⟩ => ⟨S1x256, .f32⟩
  | .local _ .vmem, ⟨18, _⟩ => ⟨S1x128, .f32⟩
  | .local _ .vmem, ⟨19, _⟩ => ⟨S256x1024, .f32⟩
  | .local _ .vmem, ⟨20, _⟩ => ⟨S128x1024, .f32⟩
  | _, _ => ⟨S1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_call1_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_v43_2 : Ref sig .tc := ⟨.hbm, 73, rfl⟩
abbrev main_v43_3 : Ref sig .tc := ⟨.hbm, 74, rfl⟩
abbrev main_v43_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlaReferenceIdeal.lean ====
abbrev S1x4096x256 : Shape := ⟨3, ![1, 4096, 256]⟩
abbrev S1x4096x128 : Shape := ⟨3, ![1, 4096, 128]⟩
abbrev S1x4096x32 : Shape := ⟨3, ![1, 4096, 32]⟩
abbrev S1x4096 : Shape := ⟨2, ![1, 4096]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x4096x8x96 : Shape := ⟨4, ![1, 4096, 8, 96]⟩
abbrev S1x4096x8x128 : Shape := ⟨4, ![1, 4096, 8, 128]⟩
abbrev S1x4096x1x32 : Shape := ⟨4, ![1, 4096, 1, 32]⟩
abbrev S16 : Shape := ⟨1, ![16]⟩
abbrev S_ : Shape := ⟨0, ![]⟩
abbrev S1x4096x1 : Shape := ⟨3, ![1, 4096, 1]⟩
abbrev S1x1x16 : Shape := ⟨3, ![1, 1, 16]⟩
abbrev S1x4096x16 : Shape := ⟨3, ![1, 4096, 16]⟩
abbrev S1x4096x1x16 : Shape := ⟨4, ![1, 4096, 1, 16]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x1x256 : Shape := ⟨3, ![1, 1, 256]⟩
abbrev S1x4096x768 : Shape := ⟨3, ![1, 4096, 768]⟩
abbrev S1x1x128 : Shape := ⟨3, ![1, 1, 128]⟩
abbrev S1x4096x1024 : Shape := ⟨3, ![1, 4096, 1024]⟩
abbrev S1x4096x8x64 : Shape := ⟨4, ![1, 4096, 8, 64]⟩
abbrev S1x4096x8x32 : Shape := ⟨4, ![1, 4096, 8, 32]⟩
abbrev S1x4096x8x16 : Shape := ⟨4, ![1, 4096, 8, 16]⟩
abbrev S4096x32 : Shape := ⟨2, ![4096, 32]⟩
abbrev S1024x128 : Shape := ⟨2, ![1024, 128]⟩
abbrev S4096 : Shape := ⟨1, ![4096]⟩
abbrev S768x256 : Shape := ⟨2, ![768, 256]⟩
abbrev S4096x256 : Shape := ⟨2, ![4096, 256]⟩
abbrev S4096x128 : Shape := ⟨2, ![4096, 128]⟩
abbrev S4096x64 : Shape := ⟨2, ![4096, 64]⟩
abbrev S4096x512 : Shape := ⟨2, ![4096, 512]⟩
abbrev S256x8x96 : Shape := ⟨3, ![256, 8, 96]⟩
abbrev S256x8x128 : Shape := ⟨3, ![256, 8, 128]⟩
abbrev S256x1024 : Shape := ⟨2, ![256, 1024]⟩

abbrev nBuf : Space → Nat
  | .hbm => 217
  | .vmem => 0
  | .smem => 0
  | _ => 0

abbrev hbmTy0_0 (i : Nat) : BufTy := match i % 128 with
  | 0 => ⟨S1x4096x256, .f32⟩
  | 1 => ⟨S1x4096x128, .f32⟩
  | 2 => ⟨S1x4096x32, .f32⟩
  | 3 => ⟨S1x4096, .i32⟩
  | 4 => ⟨S1x256, .f32⟩
  | 5 => ⟨S1x256x768, .f32⟩
  | 6 => ⟨S1x128, .f32⟩
  | 7 => ⟨S1x128x1024, .f32⟩
  | 8 => ⟨S1x4096x8x96, .f32⟩
  | 9 => ⟨S1x4096x8x128, .f32⟩
  | 10 => ⟨S1x4096x1x32, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S1x4096, .f32⟩
  | 26 => ⟨S1x4096x1, .f32⟩
  | 27 => ⟨S1x1x16, .f32⟩
  | 28 => ⟨S1x4096x16, .f32⟩
  | 29 => ⟨S1x4096x16, .f32⟩
  | 30 => ⟨S1x4096x16, .f32⟩
  | 31 => ⟨S1x4096x16, .f32⟩
  | 32 => ⟨S1x4096x1x16, .f32⟩
  | 33 => ⟨S1x4096x16, .f32⟩
  | 34 => ⟨S1x4096x1x16, .f32⟩
  | 35 => ⟨S256, .f32⟩
  | 36 => ⟨S256x768, .f32⟩
  | 37 => ⟨S128, .f32⟩
  | 38 => ⟨S128x1024, .f32⟩
  | 39 => ⟨S1x4096x256, .f32⟩
  | 40 => ⟨S_, .f32⟩
  | 41 => ⟨S1x4096, .f32⟩
  | 42 => ⟨S1x4096x1, .f32⟩
  | 43 => ⟨S_, .f32⟩
  | 44 => ⟨S1x4096x1, .f32⟩
  | 45 => ⟨S1x4096x1, .f32⟩
  | 46 => ⟨S_, .f32⟩
  | 47 => ⟨S1x4096x1, .f32⟩
  | 48 => ⟨S1x4096x1, .f32⟩
  | 49 => ⟨S1x4096x1, .f32⟩
  | 50 => ⟨S1x4096x1, .f32⟩
  | 51 => ⟨S_, .f32⟩
  | 52 => ⟨S1x4096x1, .f32⟩
  | 53 => ⟨S1x4096x1, .f32⟩
  | 54 => ⟨S1x4096x256, .f32⟩
  | 55 => ⟨S1x4096x256, .f32⟩
  | 56 => ⟨S1x1x256, .f32⟩
  | 57 => ⟨S1x4096x256, .f32⟩
  | 58 => ⟨S1x4096x256, .f32⟩
  | 59 => ⟨S1x4096x768, .f32⟩
  | 60 => ⟨S1x4096x8x96, .f32⟩
  | 61 => ⟨S1x4096x128, .f32⟩
  | 62 => ⟨S_, .f32⟩
  | 63 => ⟨S1x4096, .f32⟩
  | 64 => ⟨S1x4096x1, .f32⟩
  | 65 => ⟨S_, .f32⟩
  | 66 => ⟨S1x4096x1, .f32⟩
  | 67 => ⟨S1x4096x1, .f32⟩
  | 68 => ⟨S_, .f32⟩
  | 69 => ⟨S1x4096x1, .f32⟩
  | 70 => ⟨S1x4096x1, .f32⟩
  | 71 => ⟨S1x4096x1, .f32⟩
  | 72 => ⟨S1x4096x1, .f32⟩
  | 73 => ⟨S_, .f32⟩
  | 74 => ⟨S1x4096x1, .f32⟩
  | 75 => ⟨S1x4096x1, .f32⟩
  | 76 => ⟨S1x4096x128, .f32⟩
  | 77 => ⟨S1x4096x128, .f32⟩
  | 78 => ⟨S1x1x128, .f32⟩
  | 79 => ⟨S1x4096x128, .f32⟩
  | 80 => ⟨S1x4096x128, .f32⟩
  | 81 => ⟨S1x4096x1024, .f32⟩
  | 82 => ⟨S1x4096x8x128, .f32⟩
  | 83 => ⟨S1x4096x8x64, .f32⟩
  | 84 => ⟨S1x4096x8x32, .f32⟩
  | 85 => ⟨S1x4096x8x16, .f32⟩
  | 86 => ⟨S1x4096x8x16, .f32⟩
  | 87 => ⟨S1x4096x8x16, .f32⟩
  | 88 => ⟨S1x4096x8x16, .f32⟩
  | 89 => ⟨S1x4096x8x16, .f32⟩
  | 90 => ⟨S1x4096x8x16, .f32⟩
  | 91 => ⟨S1x4096x8x16, .f32⟩
  | 92 => ⟨S1x4096x8x16, .f32⟩
  | 93 => ⟨S1x4096x8x16, .f32⟩
  | 94 => ⟨S1x4096x8x16, .f32⟩
  | 95 => ⟨S1x4096x8x16, .f32⟩
  | 96 => ⟨S1x4096x8x16, .f32⟩
  | 97 => ⟨S1x4096x8x32, .f32⟩
  | 98 => ⟨S1x4096x8x96, .f32⟩
  | 99 => ⟨S1x4096x1x32, .f32⟩
  | 100 => ⟨S1x4096x1x16, .f32⟩
  | 101 => ⟨S1x4096x1x16, .f32⟩
  | 102 => ⟨S1x4096x1x16, .f32⟩
  | 103 => ⟨S1x4096x1x16, .f32⟩
  | 104 => ⟨S1x4096x1x16, .f32⟩
  | 105 => ⟨S1x4096x1x16, .f32⟩
  | 106 => ⟨S1x4096x1x16, .f32⟩
  | 107 => ⟨S1x4096x1x16, .f32⟩
  | 108 => ⟨S1x4096x1x32, .f32⟩
  | 109 => ⟨S1x4096x1x16, .f32⟩
  | 110 => ⟨S1x4096x1x16, .f32⟩
  | 111 => ⟨S1x4096x1x16, .f32⟩
  | 112 => ⟨S1x4096x1x16, .f32⟩
  | 113 => ⟨S1x4096x1x16, .f32⟩
  | 114 => ⟨S1x4096x1x16, .f32⟩
  | 115 => ⟨S1x4096x1x16, .f32⟩
  | 116 => ⟨S1x4096x1x16, .f32⟩
  | 117 => ⟨S1x4096x1x16, .f32⟩
  | 118 => ⟨S1x4096x1x32, .f32⟩
  | 119 => ⟨S_, .f32⟩
  | 120 => ⟨S4096x32, .f32⟩
  | 121 => ⟨S1x4096x32, .f32⟩
  | 122 => ⟨S1x4096x8x64, .f32⟩
  | 123 => ⟨S1x4096x8x32, .f32⟩
  | 124 => ⟨S1x4096x8x16, .f32⟩
  | 125 => ⟨S1x4096x8x16, .f32⟩
  | 126 => ⟨S1x4096x8x16, .f32⟩
  | 127 => ⟨S1x4096x8x16, .f32⟩
  | _ => ⟨S1x4096x256, .f32⟩

abbrev hbmTy0_1 (i : Nat) : BufTy := match i % 128 with
  | 0 => ⟨S1x4096x8x16, .f32⟩
  | 1 => ⟨S1x4096x8x16, .f32⟩
  | 2 => ⟨S1x4096x8x16, .f32⟩
  | 3 => ⟨S1x4096x8x16, .f32⟩
  | 4 => ⟨S1x4096x8x16, .f32⟩
  | 5 => ⟨S1x4096x8x16, .f32⟩
  | 6 => ⟨S1x4096x8x16, .f32⟩
  | 7 => ⟨S1x4096x8x16, .f32⟩
  | 8 => ⟨S1x4096x8x16, .f32⟩
  | 9 => ⟨S1x4096x8x32, .f32⟩
  | 10 => ⟨S1x4096x8x96, .f32⟩
  | 11 => ⟨S1x4096x1024, .f32⟩
  | 12 => ⟨S1024x128, .f32⟩
  | 13 => ⟨S128x1024, .f32⟩
  | 14 => ⟨S1x4096x128, .f32⟩
  | 15 => ⟨S1x4096x128, .f32⟩
  | 16 => ⟨S_, .f32⟩
  | 17 => ⟨S1x128, .f32⟩
  | 18 => ⟨S1x1x128, .f32⟩
  | 19 => ⟨S1x4096x128, .f32⟩
  | 20 => ⟨S1x4096x128, .f32⟩
  | 21 => ⟨S_, .f32⟩
  | 22 => ⟨S128, .f32⟩
  | 23 => ⟨S1x4096x128, .f32⟩
  | 24 => ⟨S_, .f32⟩
  | 25 => ⟨S1x4096, .f32⟩
  | 26 => ⟨S1x4096x1, .f32⟩
  | 27 => ⟨S1x4096x128, .f32⟩
  | 28 => ⟨S1x4096x128, .f32⟩
  | 29 => ⟨S1x4096x1, .f32⟩
  | 30 => ⟨S_, .f32⟩
  | 31 => ⟨S1x4096x1, .f32⟩
  | 32 => ⟨S1x4096x1, .f32⟩
  | 33 => ⟨S_, .f32⟩
  | 34 => ⟨S4096, .f32⟩
  | 35 => ⟨S1x4096, .f32⟩
  | 36 => ⟨S1x4096x128, .f32⟩
  | 37 => ⟨S1x4096x128, .f32⟩
  | 38 => ⟨S1x4096x128, .f32⟩
  | 39 => ⟨S1x4096x128, .f32⟩
  | 40 => ⟨S1x4096x128, .f32⟩
  | 41 => ⟨S1x4096x768, .f32⟩
  | 42 => ⟨S768x256, .f32⟩
  | 43 => ⟨S256x768, .f32⟩
  | 44 => ⟨S1x4096x256, .f32⟩
  | 45 => ⟨S1x4096x256, .f32⟩
  | 46 => ⟨S_, .f32⟩
  | 47 => ⟨S1x256, .f32⟩
  | 48 => ⟨S1x1x256, .f32⟩
  | 49 => ⟨S1x4096x256, .f32⟩
  | 50 => ⟨S1x4096x256, .f32⟩
  | 51 => ⟨S_, .f32⟩
  | 52 => ⟨S256, .f32⟩
  | 53 => ⟨S1x4096x256, .f32⟩
  | 54 => ⟨S_, .f32⟩
  | 55 => ⟨S1x4096, .f32⟩
  | 56 => ⟨S1x4096x1, .f32⟩
  | 57 => ⟨S1x4096x256, .f32⟩
  | 58 => ⟨S1x4096x256, .f32⟩
  | 59 => ⟨S1x4096x1, .f32⟩
  | 60 => ⟨S_, .f32⟩
  | 61 => ⟨S1x4096x1, .f32⟩
  | 62 => ⟨S1x4096x1, .f32⟩
  | 63 => ⟨S_, .f32⟩
  | 64 => ⟨S4096, .f32⟩
  | 65 => ⟨S1x4096, .f32⟩
  | 66 => ⟨S1x4096x256, .f32⟩
  | 67 => ⟨S1x4096x256, .f32⟩
  | 68 => ⟨S1x4096x256, .f32⟩
  | 69 => ⟨S1x4096x256, .f32⟩
  | 70 => ⟨S1x4096x256, .f32⟩
  | 71 => ⟨S1x128x1024, .f32⟩
  | 72 => ⟨S1x128, .f32⟩
  | 73 => ⟨S1x256x768, .f32⟩
  | 74 => ⟨S1x256, .f32⟩
  | 75 => ⟨S4096x256, .f32⟩
  | 76 => ⟨S4096x128, .f32⟩
  | 77 => ⟨S_, .f32⟩
  | 78 => ⟨S4096x64, .f32⟩
  | 79 => ⟨S4096x32, .f32⟩
  | 80 => ⟨S_, .f32⟩
  | 81 => ⟨S4096x32, .f32⟩
  | 82 => ⟨S4096x512, .f32⟩
  | 83 => ⟨S256x8x96, .f32⟩
  | 84 => ⟨S_, .i32⟩
  | 85 => ⟨S_, .f32⟩
  | 86 => ⟨S256x8x128, .f32⟩
  | 87 => ⟨S256x1024, .f32⟩
  | 88 => ⟨S128x1024, .f32⟩
  | _ => ⟨S1x4096x256, .f32⟩

abbrev hbmTy (i : Nat) : BufTy := match i / 128 with
  | 0 => hbmTy0_0 i
  | 1 => hbmTy0_1 i
  | _ => ⟨S1x4096x256, .f32⟩

abbrev bufTy : (tb : Table) → Fin (tcTables nBuf tb) → BufTy
  | .hbm, ⟨i, _⟩ => hbmTy i
  | _, _ => ⟨S1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_12 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_13 : Ref sig .tc := ⟨.hbm, 149, rfl⟩
abbrev main_v124 : Ref sig .tc := ⟨.hbm, 150, rfl⟩
abbrev main_v125 : Ref sig .tc := ⟨.hbm, 151, rfl⟩
abbrev main_cst_14 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_15 : Ref sig .tc := ⟨.hbm, 158, rfl⟩
abbrev main_v131 : Ref sig .tc := ⟨.hbm, 159, rfl⟩
abbrev main_v132 : Ref sig .tc := ⟨.hbm, 160, rfl⟩
abbrev main_cst_16 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_17 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_18 : Ref sig .tc := ⟨.hbm, 179, rfl⟩
abbrev main_v149 : Ref sig .tc := ⟨.hbm, 180, rfl⟩
abbrev main_v150 : Ref sig .tc := ⟨.hbm, 181, rfl⟩
abbrev main_cst_19 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_20 : Ref sig .tc := ⟨.hbm, 188, rfl⟩
abbrev main_v156 : Ref sig .tc := ⟨.hbm, 189, rfl⟩
abbrev main_v157 : Ref sig .tc := ⟨.hbm, 190, rfl⟩
abbrev main_cst_21 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_22 : Ref sig .tc := ⟨.hbm, 205, rfl⟩
abbrev main_v171 : Ref sig .tc := ⟨.hbm, 206, rfl⟩
abbrev main_v172 : Ref sig .tc := ⟨.hbm, 207, rfl⟩
abbrev main_cst_23 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_c : Ref sig .tc := ⟨.hbm, 212, rfl⟩
abbrev main_call0_v0 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩

abbrev nD : Nat := 1
abbrev τ : Topo := Topo.v7x

variable {F : FTy → Type} [FloatOps F]
-- ==== Proof.MergeRef.lean ====
module

public import proofs.«01_k».proof.Proof.Gen.MergeReferenceIdeal
public import Idealize.ShloMosaic.Lib.Pipeline.ValueKit
public import Idealize.ShloMosaic.Lib.StableHlo.Run

/-! The gradients of the merge of the two paths, as the reference's operations compute them, with the pieces that
    several gradients share under names of their own. -/

@[expose] public section

set_option maxRecDepth 16384

noncomputable section

open Idealize.ShloMosaic

namespace Cert.MergeReferenceIdeal.Grad

open Cert.MergeReferenceIdeal Cert.MergeReferenceIdeal.Gen

/-- An array of rows of the half width. -/
abbrev Half := FVec Ideal S1x4096x512 .f32
/-- An array of rows of the full width. -/
abbrev Full := FVec Ideal S1x4096x1024 .f32
/-- A projection's weight. -/
abbrev Wt := FVec Ideal S1x512x1024 .f32

/-- The array of ones at the full width. -/
abbrev one : Full := broadcastInDim S1x4096x1024 ![] bcast_S_S1x4096x1024 (constant S_ .f32 0x3F800000#32)
/-- The array of ones at the half width. -/
abbrev oneH : Half := broadcastInDim S1x4096x512 ![] bcast_S_S1x4096x512 (constant S_ .f32 0x3F800000#32)
/-- The logistic function at the full width. -/
abbrev gate (x : Full) : Full := Host.divf one (addf one (Host.exp (Host.negf x)))
/-- The logistic function at the half width. -/
abbrev gateH (x : Half) : Half := Host.divf oneH (addf oneH (Host.exp (Host.negf x)))
/-- The cotangent of the merged rows. -/
abbrev ctv (ct : Full) : Full := shapeCast _ ct shapeCasts_S1x4096x1024_S1x4096x1024
/-- A weight without its axis of one. -/
abbrev wt (w : Wt) : FVec Ideal S512x1024 .f32 := shapeCast _ w shapeCasts_S1x512x1024_S512x1024
/-- A path's gated output: what its projection is applied to. -/
abbrev act (y g : Half) : Half := mulf y (mulf g (gateH g))
/-- The share of the cotangent a path receives through its gate. -/
abbrev part (g : Full) (ct : Full) : Full := mulf (gate g) (ctv ct)
/-- That share taken back through the path's projection. -/
abbrev back (g : Full) (w : Wt) (ct : Full) : Half :=
  Host.dotGeneral dot_S1x4096x1024_S512x1024_S1x4096x512_2_1_01_0_n_n none (part g ct) (wt w)
/-- Each head's 64 lanes after 64 zeros. -/
abbrev lanes (t : Half) : FVec Ideal S4096x1024 .f32 :=
  shapeCast _ (pad S4096x8x128 ![0, 0, 64] ![0, 0, 0] ![0, 0, 0] (shapeCast _ t shapeCasts_S1x4096x512_S4096x8x64) (sitofp .f32 (constantI S_ 32 0#32)) pads_S4096x8x64_S4096x8x128_000_000_6400 h_S_) shapeCasts_S4096x8x128_S4096x1024

/-- The gradient of a path's output. -/
abbrev dY (y' : Full) (w : Wt) (g : Half) (ct : Full) : Half := mulf (back y' w ct) (mulf g (gateH g))
/-- The gradient of a path's inner gate. -/
abbrev dG (y g : Half) (mg : Full) (w : Wt) (ct : Full) : Half :=
  addf (mulf (mulf y (back mg w ct)) (gateH g)) (mulf (mulf g (mulf y (back mg w ct))) (mulf (gateH g) (subf oneH (gateH g))))
/-- The gradient of a path's outer gate. -/
abbrev dM (y g : Half) (mg : Full) (w : Wt) (ct : Full) : FVec Ideal S4096x1024 .f32 :=
  shapeCast _ (mulf (mulf (ctv ct) (Host.dotGeneral dot_S1x4096x512_S512x1024_S1x4096x1024_2_0_01_1_n_n none (act y g) (wt w))) (mulf (gate mg) (subf one (gate mg)))) shapeCasts_S1x4096x1024_S4096x1024
/-- The gradient of a path's projection, with the axis of one. -/
abbrev dW (y g : Half) (mg : Full) (ct : Full) : Wt :=
  broadcastInDim S1x512x1024 ![1, 2] bcast_S512x1024_S1x512x1024_1_2 (transpose S512x1024 [1, 0] (Host.dotGeneral dot_S1x4096x1024_S1x4096x512_S1024x512_01_01_2_2_n_n none (part mg ct) (act y g)) transposes_S1024x512_S512x1024_1_0)
/-- An array of half-width rows without its axis of one. -/
abbrev rows (t : Half) : FVec Ideal S4096x512 .f32 := shapeCast _ t shapeCasts_S1x4096x512_S4096x512
/-- Each head's 64 rows of a projection's gradient after 64 rows of zeros. -/
abbrev headRows (t : Wt) : FVec Ideal S1024x1024 .f32 :=
  shapeCast _ (pad S8x128x1024 ![0, 64, 0] ![0, 0, 0] ![0, 0, 0] (shapeCast _ t shapeCasts_S1x512x1024_S8x64x1024) (sitofp .f32 (constantI S_ 32 0#32)) pads_S8x64x1024_S8x128x1024_000_6400_000 h_S_) shapeCasts_S8x128x1024_S1024x1024
/-- A projection's gradient without its axis of one. -/
abbrev plainRows (t : Wt) : FVec Ideal S512x1024 .f32 := shapeCast _ t shapeCasts_S1x512x1024_S512x1024

end Cert.MergeReferenceIdeal.Grad

end
end
-- ==== Proof.MergeValue.lean ====
module

public import proofs.«01_k».proof.Proof.Gen.MergeKernelIdeal.Frame
public import proofs.«01_k».proof.Proof.MergeRef

@[expose] public section

set_option maxRecDepth 16384

noncomputable section

open Idealize.ShloMosaic Idealize.ShloMosaic.TcCoe Idealize.SL.Sem
open Idealize.ShloMosaic.Pipeline (Dat)

namespace Cert.MergeKernelIdeal.Grad

open Cert.MergeKernelIdeal Cert.MergeKernelIdeal.Gen Cert.MergeReferenceIdeal.Grad

variable (m : (ℓ : Loc nD τ sig) → Buf (Elt Ideal) ℓ)

/-- The block of rows every window shows at grid point `t`: rows `256 t …` of a tiled array, the whole of a weight. -/
theorem rows_of : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![0, 0] ∧ win0_16.index t = ![0, 0] :=
  (by decide +kernel : ∀ t : Fin grid0.N, _)

/-- The arguments of the program, by name. -/
abbrev ya (c : Dev nD) : Half := m ((c.tc : Thread nD τ).loc main_arg0)
abbrev ga (c : Dev nD) : Half := m ((c.tc : Thread nD τ).loc main_arg1)
abbrev yb (c : Dev nD) : Half := m ((c.tc : Thread nD τ).loc main_arg2)
abbrev gb (c : Dev nD) : Half := m ((c.tc : Thread nD τ).loc main_arg3)
abbrev ma (c : Dev nD) : Full := m ((c.tc : Thread nD τ).loc main_arg4)
abbrev mb (c : Dev nD) : Full := m ((c.tc : Thread nD τ).loc main_arg5)
abbrev wa (c : Dev nD) : Wt := m ((c.tc : Thread nD τ).loc main_arg6)
abbrev wb (c : Dev nD) : Wt := m ((c.tc : Thread nD τ).loc main_arg7)
abbrev ct (c : Dev nD) : Full := m ((c.tc : Thread nD τ).loc main_arg8)

/-- Row `r` of grid point `t`'s block. -/
def row (t : Fin cfg0.N) (r : Fin 256) : Fin 4096 := ⟨256 * t.val + r.val, by have := t.isLt; have : cfg0.N = 16 := rfl; omega⟩

/-- The lane of the unpadded array a padded lane shows, where it shows one. -/
def src (j : Fin 1024) : Fin 512 := ⟨j.val / 128 * 64 + (j.val % 128 - 64), by omega⟩

/-- A row sum over the padded lanes is the row sum over the unpadded ones. -/
theorem sum_src (f : Fin 1024 → EReal) (g : Fin 512 → EReal) (h : ∀ j : Fin 1024, 64 ≤ j.val % 128 → f j = g (src j))
    (h0 : ∀ j : Fin 1024, ¬64 ≤ j.val % 128 → f j = 0) : ∑ j, f j = ∑ i, g i := by
  rw [← Finset.sum_filter_add_sum_filter_not Finset.univ (fun j : Fin 1024 => 64 ≤ j.val % 128) f,
    Finset.sum_eq_zero (s := Finset.univ.filter fun j : Fin 1024 => ¬64 ≤ j.val % 128) (fun j hj => h0 j (Finset.mem_filter.mp hj).2), add_zero]
  refine Finset.sum_bij' (fun j _ => src j) (fun i _ => (⟨i.val / 64 * 128 + 64 + i.val % 64, by omega⟩ : Fin 1024)) ?_ ?_ ?_ ?_ ?_
  · intro j _; exact Finset.mem_univ _
  · intro i _; simp only [Finset.mem_filter, Finset.mem_univ, true_and]; omega
  · intro j hj
    have := (Finset.mem_filter.mp hj).2
    ext; simp only [src]; omega
  · intro i _; ext; simp only [src]; omega
  · intro j hj; exact h j (Finset.mem_filter.mp hj).2

/-- The word of zero bits read as an integer is the real zero. -/
theorem sitofp_zero_word : (FloatOps.sitofp FTy.f32 0#32 : Ideal .f32) = 0 := by
  show ((BitVec.toInt 0#32 : ℝ) : EReal) = 0
  simp

/-- The padded array, read at a lane. -/
theorem lanes_apply (x : Half) (r : Fin 4096) (j : Fin 1024) :
    lanes x (ix2 r j) = if 64 ≤ j.val % 128 then x (ix3 0 r (src j)) else 0 := by
  pointwise
  by_cases h : 64 ≤ j.val % 128
  · rw [dif_pos ⟨by omega, h, by omega⟩, if_pos h]; rfl
  · rw [dif_neg (fun e => h e.2.1), if_neg h]
    exact sitofp_zero_word

/-- The padded weight, read at a row. -/
theorem headRows_apply (x : Wt) (j k : Fin 1024) :
    headRows x (ix2 j k) = if 64 ≤ j.val % 128 then x (ix3 0 (src j) k) else 0 := by
  pointwise
  by_cases h : 64 ≤ j.val % 128
  · rw [dif_pos ⟨by omega, h, by omega⟩, if_pos h]; rfl
  · rw [dif_neg (fun e => h e.2.1), if_neg h]
    exact sitofp_zero_word

/-! ## What the kernel's blocks hold -/

theorem entry7 (c : Dev nD) : V m c main_v7 = lanes (ya m c) := rfl
theorem entry10 (c : Dev nD) : V m c main_v10 = lanes (ga m c) := rfl
theorem entry11 (c : Dev nD) : V m c main_v11 = rows (yb m c) := rfl
theorem entry12 (c : Dev nD) : V m c main_v12 = rows (gb m c) := rfl
theorem entry13 (c : Dev nD) : V m c main_v13 = shapeCast S4096x1024 (ma m c) shapeCasts_S1x4096x1024_S4096x1024 := rfl
theorem entry14 (c : Dev nD) : V m c main_v14 = shapeCast S4096x1024 (mb m c) shapeCasts_S1x4096x1024_S4096x1024 := rfl
theorem entry17 (c : Dev nD) : V m c main_v17 = shapeCast S4096x1024 (ct m c) shapeCasts_S1x4096x1024_S4096x1024 := rfl
theorem entry16 (c : Dev nD) : V m c main_v16 = truncf .bf16 (wt (wb m c)) (by decide) := rfl
theorem entry4 (c : Dev nD) : V m c main_v4 = headRows (wa m c) := by
  have h : V m c main_v4 = shapeCast S1024x1024 (pad S8x128x1024 ![0, 64, 0] ![0, 0, 0] ![0, 0, 0] (shapeCast _ (truncf .bf16 (wt (wa m c)) (by decide)) shapeCasts_S512x1024_S8x64x1024) (sitofp .bf16 (constantI S_ 32 0#32)) pads_S8x64x1024_S8x128x1024_000_6400_000 h_S_) shapeCasts_S8x128x1024_S1024x1024 := rfl
  rw [h]; funext x; pointwise; rfl

theorem read0 (c : Dev nD) (t : Fin cfg0.N) (r : Fin 256) (j : Fin 1024) :
    iblk m c 0 t (ix2 r j) = if 64 ≤ j.val % 128 then ya m c (ix3 0 (row t r) (src j)) else 0 := by
  rw [← lanes_apply]; show V m c main_v7 _ = _
  rw [entry7]; blk_point [rows_of t, row]
theorem read1 (c : Dev nD) (t : Fin cfg0.N) (r : Fin 256) (j : Fin 1024) :
    iblk m c 1 t (ix2 r j) = if 64 ≤ j.val % 128 then ga m c (ix3 0 (row t r) (src j)) else 0 := by
  rw [← lanes_apply]; show V m c main_v10 _ = _
  rw [entry10]; blk_point [rows_of t, row]
theorem read2 (c : Dev nD) (t : Fin cfg0.N) (r : Fin 256) (j : Fin 512) :
    iblk m c 2 t (ix2 r j) = yb m c (ix3 0 (row t r) j) := by
  show V m c main_v11 _ = _
  rw [entry11]; pointwise; blk_point [rows_of t, row]
theorem read3 (c : Dev nD) (t : Fin cfg0.N) (r : Fin 256) (j : Fin 512) :
    iblk m c 3 t (ix2 r j) = gb m c (ix3 0 (row t r) j) := by
  show V m c main_v12 _ = _
  rw [entry12]; pointwise; blk_point [rows_of t, row]
theorem read4 (c : Dev nD) (t : Fin cfg0.N) (r : Fin 256) (j : Fin 1024) :
    iblk m c 4 t (ix2 r j) = ma m c (ix3 0 (row t r) j) := by
  show V m c main_v13 _ = _
  rw [entry13]; pointwise; blk_point [rows_of t, row]
theorem read5 (c : Dev nD) (t : Fin cfg0.N) (r : Fin 256) (j : Fin 1024) :
    iblk m c 5 t (ix2 r j) = mb m c (ix3 0 (row t r) j) := by
  show V m c main_v14 _ = _
  rw [entry14]; pointwise; blk_point [rows_of t, row]
theorem read6 (c : Dev nD) (t : Fin cfg0.N) (j k : Fin 1024) :
    iblk m c 6 t (ix2 j k) = if 64 ≤ j.val % 128 then wa m c (ix3 0 (src j) k) else 0 := by
  rw [← headRows_apply]; show V m c main_v4 _ = _
  rw [entry4]; blk_point [rows_of t]
theorem read7 (c : Dev nD) (t : Fin cfg0.N) (j : Fin 512) (k : Fin 1024) :
    iblk m c 7 t (ix2 j k) = wb m c (ix3 0 j k) := by
  show V m c main_v16 _ = _
  rw [entry16]; pointwise; blk_point [rows_of t]
theorem read8 (c : Dev nD) (t : Fin cfg0.N) (r : Fin 256) (j : Fin 1024) :
    iblk m c 8 t (ix2 r j) = ct m c (ix3 0 (row t r) j) := by
  show V m c main_v17 _ = _
  rw [entry17]; pointwise; blk_point [rows_of t, row]

/-! ## The reference's gradients at an index -/

theorem sig_eq (x : EReal) : Ideal.div 1 (1 + Ideal.exp (-x)) = Ideal.logistic x := rfl

theorem back_apply (g : Full) (w : Wt) (ct : Full) (r : Fin 4096) (j : Fin 512) :
    back g w ct (ix3 0 r j) = ∑ k : Fin 1024, Ideal.logistic (g (ix3 0 r k)) * ct (ix3 0 r k) * w (ix3 0 j k) := by
  pointwise [back, part, gate, one, ctv, wt]
  rfl
theorem dY_apply (g : Full) (w : Wt) (h : Half) (ct : Full) (r : Fin 4096) (j : Fin 512) :
    dY g w h ct (ix3 0 r j) = back g w ct (ix3 0 r j) * (h (ix3 0 r j) * Ideal.logistic (h (ix3 0 r j))) := by
  pointwise [dY, gateH, oneH]
  rfl
theorem dM_apply (y g : Half) (mg : Full) (w : Wt) (ct : Full) (r : Fin 4096) (j : Fin 1024) :
    dM y g mg w ct (ix2 r j) = (ct (ix3 0 r j) * ∑ i : Fin 512, y (ix3 0 r i) * (g (ix3 0 r i) * Ideal.logistic (g (ix3 0 r i))) * w (ix3 0 i j))
      * (Ideal.logistic (mg (ix3 0 r j)) * (1 - Ideal.logistic (mg (ix3 0 r j)))) := by
  pointwise [dM, act, gateH, oneH, gate, one, ctv, wt]
  rfl

theorem dG_apply (y g : Half) (mg : Full) (w : Wt) (ct : Full) (r : Fin 4096) (j : Fin 512) :
    dG y g mg w ct (ix3 0 r j) = y (ix3 0 r j) * back mg w ct (ix3 0 r j) * Ideal.logistic (g (ix3 0 r j))
      + g (ix3 0 r j) * (y (ix3 0 r j) * back mg w ct (ix3 0 r j))
        * (Ideal.logistic (g (ix3 0 r j)) * (1 - Ideal.logistic (g (ix3 0 r j)))) := by
  rw [back_apply]
  pointwise [dG, back, part, gate, one, ctv, wt, gateH, oneH]
  rfl
theorem dW_apply (y g : Half) (mg : Full) (ct : Full) (j : Fin 512) (k : Fin 1024) :
    dW y g mg ct (ix3 0 j k) = ∑ r : Fin 4096, y (ix3 0 r j) * (g (ix3 0 r j) * Ideal.logistic (g (ix3 0 r j)))
      * (Ideal.logistic (mg (ix3 0 r k)) * ct (ix3 0 r k)) := by
  pointwise [dW, part, act, gate, one, ctv, gateH, oneH]
  rw [Fintype.sum_unique]
  exact Finset.sum_congr rfl fun r _ => mul_comm _ _

theorem plainRows_apply (x : Wt) (j : Fin 512) (k : Fin 1024) : plainRows x (ix2 j k) = x (ix3 0 j k) := by pointwise
theorem rows_apply (x : Half) (r : Fin 4096) (j : Fin 512) : rows x (ix2 r j) = x (ix3 0 r j) := by pointwise

/-! ## The results -/

theorem out9 (c : Dev nD) (t : Fin cfg0.N) (r : Fin 256) (j : Fin 1024) :
    (outsAt0 m c t.val t.isLt).1 (ix2 r j) = lanes (dY (ma m c) (wa m c) (ga m c) (ct m c)) (ix2 (row t r) j) := by
  rw [lanes_apply, dY_apply, back_apply]
  by_cases h : t.val % 16 = 0
  all_goals
    first | (rw [outsAt0_A m c t h]; frame_out) | (rw [outsAt0_B m c t h]; frame_out)
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
    simp only [read0, read1, read2, read3, read4, read5, read6, read7, read8]
    by_cases hj : 64 ≤ j.val % 128
    · simp only [if_pos hj]
    · simp only [if_neg hj, mul_zero, zero_mul, Finset.sum_const_zero, add_zero]

theorem final9 (c : Dev nD) : (dats m 0 c).arrAt 9 cfg0.N = lanes (dY (ma m c) (wa m c) (ga m c) (ct m c)) := by
  refine (dats m 0 c).arrAt_eq_of_covers 9 _ (by decide +kernel) fun t hf y => ?_
  blk_simp
  rw [after0_9]
  have e : ((View.whole main_v18_0).slice (win0_9.rect t)).emb y = ix2 (row t (y 0)) (y 1) := by blk_ext [rows_of t, row]
  exact ((congrArg _ (eq_ix2 y)).trans (out9 m c t (y 0) (y 1))).trans (congrArg _ e.symm)

theorem out10 (c : Dev nD) (t : Fin cfg0.N) (r : Fin 256) (j : Fin 1024) :
    (outsAt0 m c t.val t.isLt).2.1 (ix2 r j) = lanes (dG (ya m c) (ga m c) (ma m c) (wa m c) (ct m c)) (ix2 (row t r) j) := by
  rw [lanes_apply, dG_apply, back_apply]
  by_cases h : t.val % 16 = 0
  all_goals
    first | (rw [outsAt0_A m c t h]; frame_out) | (rw [outsAt0_B m c t h]; frame_out)
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
    simp only [read0, read1, read2, read3, read4, read5, read6, read7, read8]
    by_cases hj : 64 ≤ j.val % 128
    · simp only [if_pos hj]
    · simp only [if_neg hj, mul_zero, zero_mul, Finset.sum_const_zero, add_zero]

theorem final10 (c : Dev nD) : (dats m 0 c).arrAt 10 cfg0.N = lanes (dG (ya m c) (ga m c) (ma m c) (wa m c) (ct m c)) := by
  refine (dats m 0 c).arrAt_eq_of_covers 10 _ (by decide +kernel) fun t hf y => ?_
  blk_simp
  rw [after0_10]
  have e : ((View.whole main_v18_1).slice (win0_10.rect t)).emb y = ix2 (row t (y 0)) (y 1) := by blk_ext [rows_of t, row]
  exact ((congrArg _ (eq_ix2 y)).trans (out10 m c t (y 0) (y 1))).trans (congrArg _ e.symm)

theorem out11 (c : Dev nD) (t : Fin cfg0.N) (r : Fin 256) (j : Fin 512) :
    (outsAt0 m c t.val t.isLt).2.2.1 (ix2 r j) = rows (dY (mb m c) (wb m c) (gb m c) (ct m c)) (ix2 (row t r) j) := by
  rw [rows_apply, dY_apply, back_apply]
  by_cases h : t.val % 16 = 0
  all_goals
    first | (rw [outsAt0_A m c t h]; frame_out) | (rw [outsAt0_B m c t h]; frame_out)
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
    simp only [read0, read1, read2, read3, read4, read5, read6, read7, read8]

theorem final11 (c : Dev nD) : (dats m 0 c).arrAt 11 cfg0.N = rows (dY (mb m c) (wb m c) (gb m c) (ct m c)) := by
  refine (dats m 0 c).arrAt_eq_of_covers 11 _ (by decide +kernel) fun t hf y => ?_
  blk_simp
  rw [after0_11]
  have e : ((View.whole main_v18_2).slice (win0_11.rect t)).emb y = ix2 (row t (y 0)) (y 1) := by blk_ext [rows_of t, row]
  exact ((congrArg _ (eq_ix2 y)).trans (out11 m c t (y 0) (y 1))).trans (congrArg _ e.symm)

theorem out12 (c : Dev nD) (t : Fin cfg0.N) (r : Fin 256) (j : Fin 512) :
    (outsAt0 m c t.val t.isLt).2.2.2.1 (ix2 r j) = rows (dG (yb m c) (gb m c) (mb m c) (wb m c) (ct m c)) (ix2 (row t r) j) := by
  rw [rows_apply, dG_apply, back_apply]
  by_cases h : t.val % 16 = 0
  all_goals
    first | (rw [outsAt0_A m c t h]; frame_out) | (rw [outsAt0_B m c t h]; frame_out)
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
    simp only [read0, read1, read2, read3, read4, read5, read6, read7, read8]

theorem final12 (c : Dev nD) : (dats m 0 c).arrAt 12 cfg0.N = rows (dG (yb m c) (gb m c) (mb m c) (wb m c) (ct m c)) := by
  refine (dats m 0 c).arrAt_eq_of_covers 12 _ (by decide +kernel) fun t hf y => ?_
  blk_simp
  rw [after0_12]
  have e : ((View.whole main_v18_3).slice (win0_12.rect t)).emb y = ix2 (row t (y 0)) (y 1) := by blk_ext [rows_of t, row]
  exact ((congrArg _ (eq_ix2 y)).trans (out12 m c t (y 0) (y 1))).trans (congrArg _ e.symm)

theorem out13 (c : Dev nD) (t : Fin cfg0.N) (r : Fin 256) (j : Fin 1024) :
    (outsAt0 m c t.val t.isLt).2.2.2.2.1 (ix2 r j) = dM (ya m c) (ga m c) (ma m c) (wa m c) (ct m c) (ix2 (row t r) j) := by
  rw [dM_apply]
  by_cases h : t.val % 16 = 0
  all_goals
    first | (rw [outsAt0_A m c t h]; frame_out) | (rw [outsAt0_B m c t h]; frame_out)
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
    simp only [read0, read1, read2, read3, read4, read5, read6, read7, read8]
    refine congrArg₂ (· * ·) (congrArg _ (sum_src _ _ (fun x hx => ?_) fun x hx => ?_)) rfl
    · simp only [if_pos hx]
    · simp only [if_neg hx, mul_zero, zero_mul]

theorem final13 (c : Dev nD) : (dats m 0 c).arrAt 13 cfg0.N = dM (ya m c) (ga m c) (ma m c) (wa m c) (ct m c) := by
  refine (dats m 0 c).arrAt_eq_of_covers 13 _ (by decide +kernel) fun t hf y => ?_
  blk_simp
  rw [after0_13]
  have e : ((View.whole main_v18_4).slice (win0_13.rect t)).emb y = ix2 (row t (y 0)) (y 1) := by blk_ext [rows_of t, row]
  exact ((congrArg _ (eq_ix2 y)).trans (out13 m c t (y 0) (y 1))).trans (congrArg _ e.symm)

theorem out14 (c : Dev nD) (t : Fin cfg0.N) (r : Fin 256) (j : Fin 1024) :
    (outsAt0 m c t.val t.isLt).2.2.2.2.2.1 (ix2 r j) = dM (yb m c) (gb m c) (mb m c) (wb m c) (ct m c) (ix2 (row t r) j) := by
  rw [dM_apply]
  by_cases h : t.val % 16 = 0
  all_goals
    first | (rw [outsAt0_A m c t h]; frame_out) | (rw [outsAt0_B m c t h]; frame_out)
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
    simp only [read0, read1, read2, read3, read4, read5, read6, read7, read8]

theorem final14 (c : Dev nD) : (dats m 0 c).arrAt 14 cfg0.N = dM (yb m c) (gb m c) (mb m c) (wb m c) (ct m c) := by
  refine (dats m 0 c).arrAt_eq_of_covers 14 _ (by decide +kernel) fun t hf y => ?_
  blk_simp
  rw [after0_14]
  have e : ((View.whole main_v18_5).slice (win0_14.rect t)).emb y = ix2 (row t (y 0)) (y 1) := by blk_ext [rows_of t, row]
  exact ((congrArg _ (eq_ix2 y)).trans (out14 m c t (y 0) (y 1))).trans (congrArg _ e.symm)

/-- One row's contribution to the gradient of a path's projection. -/
def rowTerm (y g : Half) (mg ct : Full) (j : Fin 512) (k : Fin 1024) (r : Fin 4096) : EReal :=
  y (ix3 0 r j) * (g (ix3 0 r j) * Ideal.logistic (g (ix3 0 r j))) * (Ideal.logistic (mg (ix3 0 r k)) * ct (ix3 0 r k))

/-- A sum over the grid's points and each point's rows is the sum over all rows. -/
theorem sum_rows (f : Fin 4096 → EReal) (t : Fin cfg0.N) (h : ∀ s : Fin 16, 16 * (t.val / 16) + s.val < cfg0.N) :
    ∑ s : Fin 16, ∑ x : Fin 256, f (row ⟨16 * (t.val / 16) + s.val, h s⟩ x) = ∑ r : Fin 4096, f r := by
  refine Fin.sum_mul_add_congr fun s k hl => congrArg f (Fin.ext ?_)
  have h1 := t.isLt
  have h2 : cfg0.N = 16 := rfl
  simp only [row]; omega

/-- What grid point `t` adds to the gradient of the projection of path a. -/
def add15 (c : Dev nD) (t : Fin cfg0.N) (i : S1024x1024.Idx) : EReal :=
  if 64 ≤ (i 0).val % 128 then ∑ x : Fin 256, rowTerm (ya m c) (ga m c) (ma m c) (ct m c) (src (i 0)) (i 1) (row t x) else 0

theorem add15_apply (c : Dev nD) (t : Fin cfg0.N) (j k : Fin 1024) : add15 m c t (ix2 j k) =
    if 64 ≤ j.val % 128 then ∑ x : Fin 256, rowTerm (ya m c) (ga m c) (ma m c) (ct m c) (src j) k (row t x) else 0 := rfl

theorem out15_A (c : Dev nD) (t : Fin cfg0.N) (h : t.val % 16 = 0) (i : S1024x1024.Idx) :
    (outsAt0 m c t.val t.isLt).2.2.2.2.2.2.1 i = 0 + add15 m c t i := by
  obtain ⟨j, k, rfl⟩ : ∃ j k, i = ix2 j k := ⟨i 0, i 1, eq_ix2 i⟩
  rw [outsAt0_A m c t h]; frame_out
  pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
  simp only [read0, read1, read2, read3, read4, read5, read6, read7, read8, add15_apply, zero_add]
  by_cases hj : 64 ≤ j.val % 128
  · simp only [if_pos hj, rowTerm]
  · simp only [if_neg hj, zero_mul, mul_zero, Finset.sum_const_zero]

theorem out15_B (c : Dev nD) (t : Fin cfg0.N) (h : ¬t.val % 16 = 0) (i : S1024x1024.Idx) :
    (outsAt0 m c t.val t.isLt).2.2.2.2.2.2.1 i = (outsAt0 m c (t.val - 1) (Nat.lt_of_le_of_lt (Nat.sub_le _ _) t.isLt)).2.2.2.2.2.2.1 i + add15 m c t i := by
  obtain ⟨j, k, rfl⟩ : ∃ j k, i = ix2 j k := ⟨i 0, i 1, eq_ix2 i⟩
  rw [outsAt0_B m c t h]; frame_out
  pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
  refine congrArg (_ + ·) ?_
  simp only [read0, read1, read2, read3, read4, read5, read6, read7, read8, add15_apply]
  by_cases hj : 64 ≤ j.val % 128
  · simp only [if_pos hj, rowTerm]
  · simp only [if_neg hj, zero_mul, mul_zero, Finset.sum_const_zero]

theorem out15 (c : Dev nD) (t : Fin cfg0.N) (hr : t.val % 16 = 16 - 1) (j : Fin 1024) (k : Fin 1024) :
    (outsAt0 m c t.val t.isLt).2.2.2.2.2.2.1 (ix2 j k) = headRows (dW (ya m c) (ga m c) (ma m c) (ct m c)) (ix2 j k) := by
  refine (Pipeline.eq_sum_fin_of_reset_step_apply_of_flush (fun n h => (outsAt0 m c n h).2.2.2.2.2.2.1) 16 (fun _ => (0 : EReal)) (add15 m c) (out15_A m c) (out15_B m c) t hr (ix2 j k)).trans ?_
  rw [zero_add, headRows_apply, dW_apply]
  by_cases hj : 64 ≤ j.val % 128
  · simp only [add15_apply, if_pos hj]
    refine Eq.trans ?_ (sum_rows (rowTerm (ya m c) (ga m c) (ma m c) (ct m c) (src j) k) t fun s => Pipeline.run_point_lt_of_flush t hr s)
    rfl
  · simp only [add15_apply, if_neg hj, Finset.sum_const_zero]

theorem final15 (c : Dev nD) : (dats m 0 c).arrAt 15 cfg0.N = headRows (dW (ya m c) (ga m c) (ma m c) (ct m c)) := by
  refine (dats m 0 c).arrAt_eq_of_covers 15 _ (by decide +kernel) fun t hf y => ?_
  blk_simp
  rw [after0_15]
  have e : ((win0_15.blk t).view.emb y) = ix2 (y 0) (y 1) := by blk_ext [rows_of t]
  exact ((congrArg _ (eq_ix2 y)).trans (out15 m c t ((flush0_15 t).mp hf) (y 0) (y 1))).trans (congrArg _ e.symm)

/-- What grid point `t` adds to the gradient of the projection of path b. -/
def add16 (c : Dev nD) (t : Fin cfg0.N) (i : S512x1024.Idx) : EReal :=
  ∑ x : Fin 256, rowTerm (yb m c) (gb m c) (mb m c) (ct m c) (i 0) (i 1) (row t x)

theorem out16_A (c : Dev nD) (t : Fin cfg0.N) (h : t.val % 16 = 0) (i : S512x1024.Idx) :
    (outsAt0 m c t.val t.isLt).2.2.2.2.2.2.2 i = 0 + add16 m c t i := by
  obtain ⟨j, k, rfl⟩ : ∃ j k, i = ix2 j k := ⟨i 0, i 1, eq_ix2 i⟩
  rw [outsAt0_A m c t h]; frame_out
  pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
  simp only [read0, read1, read2, read3, read4, read5, read6, read7, read8, add16, zero_add]
  rfl

theorem out16_B (c : Dev nD) (t : Fin cfg0.N) (h : ¬t.val % 16 = 0) (i : S512x1024.Idx) :
    (outsAt0 m c t.val t.isLt).2.2.2.2.2.2.2 i = (outsAt0 m c (t.val - 1) (Nat.lt_of_le_of_lt (Nat.sub_le _ _) t.isLt)).2.2.2.2.2.2.2 i + add16 m c t i := by
  obtain ⟨j, k, rfl⟩ : ∃ j k, i = ix2 j k := ⟨i 0, i 1, eq_ix2 i⟩
  rw [outsAt0_B m c t h]; frame_out
  pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37]
  refine congrArg (_ + ·) ?_
  simp only [read0, read1, read2, read3, read4, read5, read6, read7, read8, add16]
  rfl

theorem out16 (c : Dev nD) (t : Fin cfg0.N) (hr : t.val % 16 = 16 - 1) (j : Fin 512) (k : Fin 1024) :
    (outsAt0 m c t.val t.isLt).2.2.2.2.2.2.2 (ix2 j k) = plainRows (dW (yb m c) (gb m c) (mb m c) (ct m c)) (ix2 j k) := by
  refine (Pipeline.eq_sum_fin_of_reset_step_apply_of_flush (fun n h => (outsAt0 m c n h).2.2.2.2.2.2.2) 16 (fun _ => (0 : EReal)) (add16 m c) (out16_A m c) (out16_B m c) t hr (ix2 j k)).trans ?_
  rw [zero_add, plainRows_apply, dW_apply]
  exact sum_rows (rowTerm (yb m c) (gb m c) (mb m c) (ct m c) j k) t _

theorem final16 (c : Dev nD) : (dats m 0 c).arrAt 16 cfg0.N = plainRows (dW (yb m c) (gb m c) (mb m c) (ct m c)) := by
  refine (dats m 0 c).arrAt_eq_of_covers 16 _ (by decide +kernel) fun t hf y => ?_
  blk_simp
  rw [after0_16]
  have e : ((win0_16.blk t).view.emb y) = ix2 (y 0) (y 1) := by blk_ext [rows_of t]
  exact ((congrArg _ (eq_ix2 y)).trans (out16 m c t ((flush0_16 t).mp hf) (y 0) (y 1))).trans (congrArg _ e.symm)

end Cert.MergeKernelIdeal.Grad

end
end
-- ==== Proof.AttnRef.lean ====
module

public import proofs.«01_k».proof.Proof.Gen.AttnReferenceIdeal.Run
public import Idealize.ShloMosaic.Lib.Pipeline.ValueKit

/-! The attention's gradients, as the reference's operations compute them: the steps under names of their own, and each
    step at an index. -/

@[expose] public section

set_option maxRecDepth 16384

noncomputable section

open Idealize.ShloMosaic

namespace Cert.AttnReferenceIdeal.Grad

open Cert.AttnReferenceIdeal Cert.AttnReferenceIdeal.Gen

/-- Queries, or keys: 96 lanes for each head. -/
abbrev QK := FVec Ideal S1x4096x8x96 .f32
/-- Keys' own lanes and values: 128 lanes for each head. -/
abbrev KV := FVec Ideal S1x4096x8x128 .f32
/-- The shared lanes of the keys. -/
abbrev PE := FVec Ideal S1x4096x1x32 .f32
/-- Values, outputs, outputs' gradients: 64 lanes for each head. -/
abbrev OV := FVec Ideal S1x4096x8x64 .f32
/-- Scores and what is like them: for each head, query and key. -/
abbrev Sq := FVec Ideal S1x8x4096x4096 .f32
/-- A value for each head and query. -/
abbrev Rw := FVec Ideal S1x8x4096 .f32
/-- The same, with an axis of one. -/
abbrev Rw1 := FVec Ideal S1x8x4096x1 .f32

/-- The values. -/
def vals (a1 : KV) : OV :=
  extractStridedSlice S1x4096x8x64 ![0, 0, 0, 64] a1 slices_S1x4096x8x128_S1x4096x8x64_0_0_0_64
/-- The keys: each head's own lanes and the shared ones. -/
def keys (a1 : KV) (a2 : PE) : QK :=
  concatenate S1x4096x8x96 3 [⟨S1x4096x8x64, (extractStridedSlice S1x4096x8x64 ![0, 0, 0, 0] a1 slices_S1x4096x8x128_S1x4096x8x64_0_0_0_0)⟩, ⟨S1x4096x8x32, (broadcastInDim S1x4096x8x32 ![0, 1, 2, 3] bcast_S1x4096x1x32_S1x4096x8x32_0_1_2_3 a2)⟩] concatenates_S1x4096x8x64_S1x4096x8x32_S1x4096x8x96_d3
/-- The scores, scaled. -/
def scores (a0 : QK) (a1 : KV) (a2 : PE) : Sq :=
  mulf (Host.dotGeneral dot_S1x4096x8x96_S1x4096x8x96_S1x8x4096x4096_3_3_1_1_02_02 none a0 (keys a1 a2)) (broadcastInDim S1x8x4096x4096 ![] bcast_S_S1x8x4096x4096 (constant S_ .f32 0x3DD105EC#32))
/-- Each position's chunk of 64. -/
def chunk : IVec S4096 32 :=
  select (andi (cmpi .ne (signi (iotaInDim S4096 32 0)) (broadcastInDim S4096 ![] bcast_S_S4096 (signi ((constantI S_ 32 64#32))))) (cmpi .ne (Host.remsi (iotaInDim S4096 32 0) (broadcastInDim S4096 ![] bcast_S_S4096 ((constantI S_ 32 64#32)))) (broadcastInDim S4096 ![] bcast_S_S4096 (constantI S_ 32 0#32)))) (subi (Host.divsi (iotaInDim S4096 32 0) (broadcastInDim S4096 ![] bcast_S_S4096 ((constantI S_ 32 64#32)))) (broadcastInDim S4096 ![] bcast_S_S4096 (constantI S_ 32 1#32))) (Host.divsi (iotaInDim S4096 32 0) (broadcastInDim S4096 ![] bcast_S_S4096 ((constantI S_ 32 64#32))))
/-- Which keys (second axis) a query sees. -/
def mask : IVec S4096x4096 1 :=
  cmpi .sle (broadcastInDim S4096x4096 ![0, 1] bcast_S1x4096_S4096x4096_0_1 (broadcastInDim S1x4096 ![1] bcast_S4096_S1x4096_1 chunk)) (broadcastInDim S4096x4096 ![0, 1] bcast_S4096x1_S4096x4096_0_1 (broadcastInDim S4096x1 ![0] bcast_S4096_S4096x1_0 chunk))
/-- The mask, for each head. -/
def maskAll : IVec S1x8x4096x4096 1 :=
  broadcastInDim S1x8x4096x4096 ![2, 3] bcast_S4096x4096_S1x8x4096x4096_2_3 mask
/-- The scores, those not seen at minus infinity. -/
def masked (a0 : QK) (a1 : KV) (a2 : PE) : Sq :=
  select maskAll (scores a0 a1 a2) (broadcastInDim S1x8x4096x4096 ![] bcast_S_S1x8x4096x4096 ((constant S_ .f32 0xFF800000#32)))
/-- Each query's greatest score. -/
def rowMax (a0 : QK) (a1 : KV) (a2 : PE) : Rw :=
  Host.reduce FloatOps.maximumf (masked a0 a1 a2) (constant S_ .f32 0xFF800000#32) reducesTo_S1x8x4096x4096_S1x8x4096_d3 h_S_
/-- The same, as the softmax takes it. -/
def rowMax0 (a0 : QK) (a1 : KV) (a2 : PE) : Rw :=
  maximumf (broadcastInDim S1x8x4096 ![] bcast_S_S1x8x4096 (constant S_ .f32 0xFF800000#32)) (rowMax a0 a1 a2)
/-- The exponentials of the scores less a value for each query. -/
def ex (s : Sq) (mx : Rw) : Sq :=
  Host.exp (subf s (broadcastInDim S1x8x4096x4096 ![0, 1, 2, 3] bcast_S1x8x4096x1_S1x8x4096x4096_0_1_2_3 (broadcastInDim S1x8x4096x1 ![0, 1, 2] bcast_S1x8x4096_S1x8x4096x1_0_1_2 mx)))
/-- Their sums over keys. -/
def rowSum (e : Sq) : Rw1 :=
  broadcastInDim S1x8x4096x1 ![0, 1, 2] bcast_S1x8x4096_S1x8x4096x1_0_1_2 (Host.reduceAdd e (constant S_ .f32 0x00000000#32) reducesTo_S1x8x4096x4096_S1x8x4096_d3 h_S_)
/-- The probabilities. -/
def prob (e : Sq) : Sq :=
  Host.divf e (broadcastInDim S1x8x4096x4096 ![0, 1, 2, 3] bcast_S1x8x4096x1_S1x8x4096x4096_0_1_2_3 (rowSum e))
/-- One over the square of the sums. -/
def inv2 (e : Sq) : Rw1 :=
  Host.divf (broadcastInDim S1x8x4096x1 ![] bcast_S_S1x8x4096x1 (constant S_ .f32 0x3F800000#32)) (mulf (rowSum e) (rowSum e))
/-- The gradient of the probabilities. -/
def dProb (a1 : KV) (a3 : OV) : Sq :=
  Host.dotGeneral dot_S1x8x64x4096_S1x4096x8x64_S1x8x4096x4096_2_3_3_1_01_02 none (transpose S1x8x64x4096 [0, 2, 3, 1] a3 transposes_S1x4096x8x64_S1x8x64x4096_0_2_3_1) (vals a1)
/-- The gradient of the values, by head and lane. -/
def dVal (e : Sq) (a3 : OV) : FVec Ideal S1x8x64x4096 .f32 :=
  Host.dotGeneral dot_S1x8x64x4096_S1x8x4096x4096_S1x8x64x4096_3_2_2_3_01_01 none (transpose S1x8x64x4096 [0, 2, 3, 1] a3 transposes_S1x4096x8x64_S1x8x64x4096_0_2_3_1) (prob e)
/-- The part of the scores' gradient that comes through the sums. -/
def corr (e dp : Sq) : FVec Ideal S8x4096 .f32 :=
  Host.reduceAdd (Host.negf (shapeCast S1x8x4096x1 (Host.reduceAdd (mulf (mulf dp (broadcastInDim S1x8x4096x4096 ![0, 1, 2, 3] bcast_S1x8x4096x1_S1x8x4096x4096_0_1_2_3 (inv2 e))) e) (constant S_ .f32 0x00000000#32) reducesTo_S1x8x4096x4096_S1x8x4096_d3 h_S_) shapeCasts_S1x8x4096_S1x8x4096x1)) (constant S_ .f32 0x00000000#32) reducesTo_S1x8x4096x1_S8x4096_d0_3 h_S_
/-- The scores' gradient, scaled. -/
def dScore (e dp : Sq) : Sq :=
  mulf (select maskAll (mulf (addf (Host.divf dp (broadcastInDim S1x8x4096x4096 ![0, 1, 2, 3] bcast_S1x8x4096x1_S1x8x4096x4096_0_1_2_3 (rowSum e))) (broadcastInDim S1x8x4096x4096 ![0, 1, 2] bcast_S1x8x4096_S1x8x4096x4096_0_1_2 (broadcastInDim S1x8x4096 ![1, 2] bcast_S8x4096_S1x8x4096_1_2 (corr e dp)))) e) (broadcastInDim S1x8x4096x4096 ![] bcast_S_S1x8x4096x4096 (constant S_ .f32 0x00000000#32))) (broadcastInDim S1x8x4096x4096 ![] bcast_S_S1x8x4096x4096 (constant S_ .f32 0x3DD105EC#32))
/-- The keys' gradient. -/
def dKey (ds : Sq) (a0 : QK) : FVec Ideal S1x8x4096x96 .f32 :=
  Host.dotGeneral dot_S1x8x4096x4096_S1x4096x8x96_S1x8x4096x96_2_1_3_3_01_02 none ds a0
/-- The queries' gradient. -/
def dQuery (ds : Sq) (a1 : KV) (a2 : PE) : FVec Ideal S1x8x4096x96 .f32 :=
  Host.dotGeneral dot_S1x8x4096x4096_S1x4096x8x96_S1x8x4096x96_3_1_2_3_01_02 none ds (keys a1 a2)
/-- The shared lanes' gradient: the heads' added. -/
def dShared (dk : FVec Ideal S1x8x4096x96 .f32) : FVec Ideal S4096x32 .f32 :=
  Host.reduceAdd (extractStridedSlice S1x4096x8x32 ![0, 0, 0, 64] (transpose S1x4096x8x96 [0, 2, 1, 3] dk transposes_S1x8x4096x96_S1x4096x8x96_0_2_1_3) slices_S1x4096x8x96_S1x4096x8x32_0_0_0_64) (constant S_ .f32 0x00000000#32) reducesTo_S1x4096x8x32_S4096x32_d0_2 h_S_
/-- The queries' gradient, as returned. -/
def res0 (a0 : QK) (a1 : KV) (a2 : PE) (a3 : OV) : FVec Ideal S4096x1024 .f32 :=
  shapeCast S4096x1024 (pad S4096x8x128 ![0, 0, 0] ![0, 0, 32] ![0, 0, 0] (shapeCast S4096x8x96 (transpose S1x4096x8x96 [0, 2, 1, 3] (dQuery (dScore (ex (masked a0 a1 a2) (rowMax0 a0 a1 a2)) (dProb a1 a3)) a1 a2) transposes_S1x8x4096x96_S1x4096x8x96_0_2_1_3) shapeCasts_S1x4096x8x96_S4096x8x96) (sitofp .f32 (constantI S_ 32 0#32)) pads_S4096x8x96_S4096x8x128_000_000_0320 h_S_) shapeCasts_S4096x8x128_S4096x1024
/-- The keys' and values' gradient, as returned. -/
def res1 (a0 : QK) (a1 : KV) (a2 : PE) (a3 : OV) : FVec Ideal S4096x1024 .f32 :=
  shapeCast S4096x1024 (concatenate S1x4096x8x128 3 [⟨S1x4096x8x64, (extractStridedSlice S1x4096x8x64 ![0, 0, 0, 0] (transpose S1x4096x8x96 [0, 2, 1, 3] (dKey (dScore (ex (masked a0 a1 a2) (rowMax0 a0 a1 a2)) (dProb a1 a3)) a0) transposes_S1x8x4096x96_S1x4096x8x96_0_2_1_3) slices_S1x4096x8x96_S1x4096x8x64_0_0_0_0)⟩, ⟨S1x4096x8x64, (transpose S1x4096x8x64 [0, 3, 1, 2] (dVal (ex (masked a0 a1 a2) (rowMax0 a0 a1 a2)) a3) transposes_S1x8x64x4096_S1x4096x8x64_0_3_1_2)⟩] concatenates_S1x4096x8x64_S1x4096x8x64_S1x4096x8x128_d3) shapeCasts_S1x4096x8x128_S4096x1024
/-- The shared lanes' gradient, as returned. -/
def res2 (a0 : QK) (a1 : KV) (a2 : PE) (a3 : OV) : FVec Ideal S4096x128 .f32 :=
  pad S4096x128 ![0, 64] ![0, 32] ![0, 0] (shapeCast S4096x32 (broadcastInDim S1x4096x1x32 ![1, 3] bcast_S4096x32_S1x4096x1x32_1_3 (dShared (dKey (dScore (ex (masked a0 a1 a2) (rowMax0 a0 a1 a2)) (dProb a1 a3)) a0))) shapeCasts_S1x4096x1x32_S4096x32) (sitofp .f32 (constantI S_ 32 0#32)) pads_S4096x32_S4096x128_000_64320 h_S_

theorem res0_eq (m : (ℓ : Loc nD τ sig) → Buf (Elt Ideal) ℓ) (c : Dev nD) : Value.res_main_v76 m c =
    res0 (m ((c.tc : Thread nD τ).loc main_arg0)) (m ((c.tc : Thread nD τ).loc main_arg1)) (m ((c.tc : Thread nD τ).loc main_arg2)) (m ((c.tc : Thread nD τ).loc main_arg3)) := rfl
theorem res1_eq (m : (ℓ : Loc nD τ sig) → Buf (Elt Ideal) ℓ) (c : Dev nD) : Value.res_main_v77 m c =
    res1 (m ((c.tc : Thread nD τ).loc main_arg0)) (m ((c.tc : Thread nD τ).loc main_arg1)) (m ((c.tc : Thread nD τ).loc main_arg2)) (m ((c.tc : Thread nD τ).loc main_arg3)) := rfl
theorem res2_eq (m : (ℓ : Loc nD τ sig) → Buf (Elt Ideal) ℓ) (c : Dev nD) : Value.res_main_v79 m c =
    res2 (m ((c.tc : Thread nD τ).loc main_arg0)) (m ((c.tc : Thread nD τ).loc main_arg1)) (m ((c.tc : Thread nD τ).loc main_arg2)) (m ((c.tc : Thread nD τ).loc main_arg3)) := rfl

end Cert.AttnReferenceIdeal.Grad

end
-- ==== Proof.AttnRefMask.lean ====
module

public import proofs.«01_k».proof.Proof.AttnRef

/-! The attention's scores, its mask and each query's greatest score, at an index. -/

@[expose] public section

set_option maxRecDepth 16384

noncomputable section

open Idealize.ShloMosaic

namespace Cert.AttnReferenceIdeal.Grad

open Cert.AttnReferenceIdeal Cert.AttnReferenceIdeal.Gen

variable (a0 : QK) (a1 : KV) (a2 : PE) (a3 : OV) (H : Fin 8) (r k : Fin 4096)

theorem keys_apply (d : Fin 96) : keys a1 a2 (ix4 0 k H d) = if h : d.val < 64 then a1 (ix4 0 k H ⟨d.val, by omega⟩) else a2 (ix4 0 k 0 ⟨d.val - 64, by omega⟩) := by
  pointwise [keys]
theorem vals_apply (d : Fin 64) : vals a1 (ix4 0 k H d) = a1 (ix4 0 k H ⟨64 + d.val, by omega⟩) := by
  pointwise [vals]
theorem scores_apply : scores a0 a1 a2 (ix4 0 H r k) = (∑ d, a0 (ix4 0 r H d) * keys a1 a2 (ix4 0 k H d)) * (FloatOps.ofBits .f32 0x3DD105EC#32 : Ideal .f32) := by
  pointwise [scores]
theorem words : ∀ r : Fin 4096, Scalar.select
      (IntOp.andi
        (IntOp.cmpi CmpIPredicate.ne
          (if BitVec.ofNat 32 r.val = 0#32 then 0#32 else if (BitVec.ofNat 32 r.val).msb = true then -1#32 else 1#32)
          (if 64#32 = 0#32 then 0#32 else if (64#32).msb = true then -1#32 else 1#32))
        (IntOp.cmpi CmpIPredicate.ne (IntOp.remsi ArithUnit.host (BitVec.ofNat 32 r.val) 64#32) 0#32))
      (IntOp.subi (IntOp.divsi ArithUnit.host (BitVec.ofNat 32 r.val) 64#32) 1#32)
      (IntOp.divsi ArithUnit.host (BitVec.ofNat 32 r.val) 64#32) =
    BitVec.ofNat 32 (r.val / 64) := by decide +kernel
theorem chunk_apply (r : Fin 4096) : chunk (ix1 r) = BitVec.ofNat 32 (r.val / 64) := by
  pointwise [chunk]
  show Scalar.select _ _ _ = _; exact words r
theorem le_words : ∀ a b : Fin 64, IntOp.cmpi .sle (BitVec.ofNat 32 a.val) (BitVec.ofNat 32 b.val) = if a.val ≤ b.val then 1#1 else 0#1 := by decide +kernel
theorem mask_apply : mask (ix2 r k) = if k.val / 64 ≤ r.val / 64 then 1#1 else 0#1 := by
  pointwise [mask]
  rw [chunk_apply, chunk_apply]
  exact le_words ⟨k.val / 64, by omega⟩ ⟨r.val / 64, by omega⟩
theorem ninf : Ideal.ofBits FTy.f32 0xFF800000#32 = ⊥ := by simp [Ideal.ofBits, Ideal.ieee]
theorem select_mask {α : Type} (x y : α) : Scalar.select (mask (ix2 r k)) x y = if k.val / 64 ≤ r.val / 64 then x else y := by
  rw [mask_apply]
  by_cases h : k.val / 64 ≤ r.val / 64
  · rw [if_pos h, if_pos h]; rfl
  · rw [if_neg h, if_neg h]; rfl
theorem masked_apply : masked a0 a1 a2 (ix4 0 H r k) = if k.val / 64 ≤ r.val / 64 then scores a0 a1 a2 (ix4 0 H r k) else ⊥ := by
  pointwise [masked, maskAll]
  rw [select_mask, ninf]
theorem fold_sup {n : Nat} (f : Fin n → EReal) : Finset.fold max ⊥ f Finset.univ = Finset.univ.sup f := rfl
theorem rowMax_apply : rowMax a0 a1 a2 (ix3 0 H r) = Finset.univ.sup fun k => masked a0 a1 a2 (ix4 0 H r k) := by
  pointwise [rowMax]
  rw [ninf]
  exact fold_sup _
theorem max_bot (v : Rw) : maximumf (broadcastInDim S1x8x4096 ![] bcast_S_S1x8x4096 (constant S_ .f32 0xFF800000#32)) v (ix3 0 H r) = v (ix3 0 H r) := by
  pointwise
  rw [ninf]
  exact max_eq_right bot_le
theorem rowMax0_apply : rowMax0 a0 a1 a2 (ix3 0 H r) = rowMax a0 a1 a2 (ix3 0 H r) := max_bot H r _

end Cert.AttnReferenceIdeal.Grad

end
-- ==== Proof.AttnRefGrad.lean ====
module

public import proofs.«01_k».proof.Proof.AttnRefMask

/-! The attention's probabilities and gradients, at an index. -/

@[expose] public section

set_option maxRecDepth 16384

noncomputable section

open Idealize.ShloMosaic

namespace Cert.AttnReferenceIdeal.Grad

open Cert.AttnReferenceIdeal Cert.AttnReferenceIdeal.Gen

variable (a0 : QK) (a1 : KV) (a2 : PE) (a3 : OV) (H : Fin 8) (r k : Fin 4096)
variable (s e dp ds : Sq) (mx : Rw)
theorem ex_apply : ex s mx (ix4 0 H r k) = Ideal.exp (s (ix4 0 H r k) - mx (ix3 0 H r)) := by
  pointwise [ex]
theorem rowSum_apply : rowSum e (ix4 0 H r 0) = ∑ k, e (ix4 0 H r k) := by
  pointwise [rowSum]
theorem prob_apply : prob e (ix4 0 H r k) = Ideal.div (e (ix4 0 H r k)) (rowSum e (ix4 0 H r 0)) := by
  pointwise [prob]
theorem inv2_apply : inv2 e (ix4 0 H r 0) = Ideal.div 1 (rowSum e (ix4 0 H r 0) * rowSum e (ix4 0 H r 0)) := by
  pointwise [inv2]
theorem dProb_apply : dProb a1 a3 (ix4 0 H r k) = ∑ d, a3 (ix4 0 r H d) * vals a1 (ix4 0 k H d) := by
  pointwise [dProb]
theorem dVal_apply (d : Fin 64) : dVal e a3 (ix4 0 H d k) = ∑ r, a3 (ix4 0 r H d) * prob e (ix4 0 H r k) := by
  pointwise [dVal]
theorem fiber03 (j : S8x4096.Idx) (i : S1x8x4096x1.Idx) :
    reducesTo_S1x8x4096x1_S8x4096_d0_3.drop i = j ↔ ∃ x : Fin 1 × Fin 1, ix4 x.1 (j 0) (j 1) x.2 = i := by
  constructor
  · rintro rfl
    refine ⟨(i 0, i 3), ?_⟩
    funext a; apply Fin.ext
    match a with
    | ⟨0, _⟩ => rfl
    | ⟨1, _⟩ => rfl
    | ⟨2, _⟩ => rfl
    | ⟨3, _⟩ => rfl
  · rintro ⟨x, rfl⟩
    funext b; apply Fin.ext
    match b with
    | ⟨0, _⟩ => rfl
    | ⟨1, _⟩ => rfl
theorem sum03 (v : Rw1) : Ideal.hostReduceAdd reducesTo_S1x8x4096x1_S8x4096_d0_3 v 0 (ix2 H r) = v (ix4 0 H r 0) := by
  show 0 + ∑ i ∈ _, v i = _
  rw [zero_add]
  refine (Finset.sum_filter_eq_sum_of_fiber _ (fun x : Fin 1 × Fin 1 => ix4 x.1 H r x.2) (fun _ _ e => Prod.ext (congrFun e 0) (congrFun e 3)) (fiber03 (ix2 H r)) v).trans ?_
  rw [Fintype.sum_prod_type, Fin.sum_univ_one, Fin.sum_univ_one]
theorem corr_apply : corr e dp (ix2 H r) = -∑ k, dp (ix4 0 H r k) * inv2 e (ix4 0 H r 0) * e (ix4 0 H r k) := by
  pointwise [corr]
  rw [sum03]
  pointwise
theorem dScore_apply : dScore e dp (ix4 0 H r k) = if k.val / 64 ≤ r.val / 64 then (Ideal.div (dp (ix4 0 H r k)) (rowSum e (ix4 0 H r 0)) + corr e dp (ix2 H r)) * e (ix4 0 H r k) * (FloatOps.ofBits .f32 0x3DD105EC#32 : Ideal .f32) else 0 := by
  pointwise [dScore, maskAll]
  rw [select_mask]
theorem dKey_apply (d : Fin 96) : dKey ds a0 (ix4 0 H k d) = ∑ r, ds (ix4 0 H r k) * a0 (ix4 0 r H d) := by
  pointwise [dKey]
theorem dQuery_apply (d : Fin 96) : dQuery ds a1 a2 (ix4 0 H r d) = ∑ k, ds (ix4 0 H r k) * keys a1 a2 (ix4 0 k H d) := by
  pointwise [dQuery]
theorem fiber02 (j : S4096x32.Idx) (i : S1x4096x8x32.Idx) :
    reducesTo_S1x4096x8x32_S4096x32_d0_2.drop i = j ↔ ∃ x : Fin 1 × Fin 8, ix4 x.1 (j 0) x.2 (j 1) = i := by
  constructor
  · rintro rfl
    refine ⟨(i 0, i 2), ?_⟩
    funext a; apply Fin.ext
    match a with
    | ⟨0, _⟩ => rfl
    | ⟨1, _⟩ => rfl
    | ⟨2, _⟩ => rfl
    | ⟨3, _⟩ => rfl
  · rintro ⟨x, rfl⟩
    funext b; apply Fin.ext
    match b with
    | ⟨0, _⟩ => rfl
    | ⟨1, _⟩ => rfl
theorem sum02 (v : FVec Ideal S1x4096x8x32 .f32) (d : Fin 32) : Ideal.hostReduceAdd reducesTo_S1x4096x8x32_S4096x32_d0_2 v 0 (ix2 k d) = ∑ H : Fin 8, v (ix4 0 k H d) := by
  show 0 + ∑ i ∈ _, v i = _
  rw [zero_add]
  refine (Finset.sum_filter_eq_sum_of_fiber _ (fun x : Fin 1 × Fin 8 => ix4 x.1 k x.2 d) (fun _ _ e => Prod.ext (congrFun e 0) (congrFun e 2)) (fiber02 (ix2 k d)) v).trans ?_
  rw [Fintype.sum_prod_type, Fin.sum_univ_one]
theorem dShared_apply (dk : FVec Ideal S1x8x4096x96 .f32) (d : Fin 32) : dShared dk (ix2 k d) = ∑ H, dk (ix4 0 H k ⟨64 + d.val, by omega⟩) := by
  pointwise [dShared]
  rw [sum02]
  pointwise

end Cert.AttnReferenceIdeal.Grad

end
-- ==== Proof.AttnModel.lean ====
module

public import proofs.«01_k».proof.Proof.Gen.AttnKernelIdeal.Frame
public import proofs.«01_k».proof.Proof.Gen.AttnKernelIdeal.Loops
public import Idealize.ShloMosaic.Lib.Pipeline.Value
public import Idealize.ShloMosaic.Lib.Pipeline.ValueKit
public import Idealize.ShloMosaic.Lib.WritesUnit

@[expose] public section

set_option maxRecDepth 16384

noncomputable section

namespace Cert.AttnKernelIdeal.Grad

open Idealize.ShloMosaic Idealize.ShloMosaic.TcCoe Idealize.ShloMosaic.Tactic
open Cert.AttnKernelIdeal.Gen

/-- One head's operand, by row and lane. -/
abbrev Arr := Fin 4096 → Fin 128 → EReal

/-- A block of 256 rows. -/
abbrev B1 := S256x128.Idx → EReal
/-- A block of 256 queries by 256 keys. -/
abbrev B2 := S256x256.Idx → EReal

/-- Row `i` of block `a`. -/
def row (a : Fin 16) (i : Fin 256) : Fin 4096 := ⟨256 * a.val + i.val, by omega⟩
/-- The lane at which a row's broadcast number is read for key `k`. -/
def lane (k : Fin 4096) : Fin 128 := ⟨k.val % 128, by omega⟩

/-- Block `a` of an operand. -/
def blk (X : Arr) (a : Fin 16) : B1 := fun y => X (row a (y 0)) (y 1)
/-- Block `(a, b)` of a matrix over queries and keys. -/
def blk2 (M : Fin 4096 → Fin 4096 → EReal) (a b : Fin 16) : B2 := fun y => M (row a (y 0)) (row b (y 1))

/-- The scale of the scores, `1 / √96` rounded. -/
def scale : EReal := (FloatOps.ofBits .f32 0x3DD105EC#32 : Ideal .f32)

/-- The products of two operands' rows. -/
def dot (X Y : Arr) (r k : Fin 4096) : EReal := ∑ d, X r d * Y k d

/-- What one head's gradient is made of: queries, keys, values, the gradient of the output, the row sums of that
    gradient times the output, and the row log-sums. -/
structure Head where
  q : Arr
  k : Arr
  v : Arr
  g : Arr
  s : Arr
  l : Arr

variable (h : Head)

/-- A score, before its scale. -/
def Head.score (r k : Fin 4096) : EReal := dot h.q h.k r k
/-- The gradient of a probability. -/
def Head.dp (r k : Fin 4096) : EReal := dot h.g h.v r k
/-- A probability, the mask aside. -/
def Head.p0 (r k : Fin 4096) : EReal := Ideal.exp (h.score r k * scale - h.l r (lane k))
/-- A key is seen by the queries of its own chunk of 64 and of later ones. -/
def seen (r k : Fin 4096) : Prop := k.val / 64 ≤ r.val / 64
instance (r k : Fin 4096) : Decidable (seen r k) := inferInstanceAs (Decidable (_ ≤ _))
/-- A probability. -/
def Head.p (r k : Fin 4096) : EReal := if seen r k then h.p0 r k else 0
/-- The gradient of a score, its scale in it. -/
def Head.ds (r k : Fin 4096) : EReal := h.p r k * (h.dp r k - h.s r (lane k)) * scale
/-- The same, the mask aside. -/
def Head.ds0 (r k : Fin 4096) : EReal := h.p0 r k * (h.dp r k - h.s r (lane k)) * scale

/-- A block's part of a sum over queries, by key. -/
def keyPart (M : Fin 4096 → Fin 4096 → EReal) (X : Arr) (b a : Fin 16) : B1 :=
  fun y => ∑ i, M (row a i) (row b (y 0)) * X (row a i) (y 1)
/-- A block's part of a sum over keys, by query. -/
def queryPart (M : Fin 4096 → Fin 4096 → EReal) (X : Arr) (a b : Fin 16) : B1 :=
  fun y => ∑ j, M (row a (y 0)) (row b j) * X (row b j) (y 1)

theorem pick (X : Arr) (r : Fin 4096) (b : Fin 16) (j : Fin 256) :
    (if h : j.val < 128 then X r ⟨j.val, by omega⟩ else X r ⟨j.val - 128, by omega⟩) = X r (lane (row b j)) := by
  split <;> (congr 1; apply Fin.ext; simp only [lane, row]; omega)

theorem shift_lane : ∀ j : Fin 256, IntOp.shrsi ArithUnit.vector (BitVec.ofNat 32 j.val) 6#32 = BitVec.ofNat 32 (j.val / 64) := by
  decide +kernel
theorem le_chunk : ∀ a b : Fin 4, IntOp.cmpi CmpIPredicate.sle (BitVec.ofNat 32 a.val) (BitVec.ofNat 32 b.val) = 1#1 ↔ a.val ≤ b.val := by
  decide +kernel
theorem eq_zero_of_ne_one : ∀ {b : BitVec 1}, b ≠ 1#1 → b = 0#1 := by decide

/-- The chunk mask on a diagonal block. -/
theorem mask_apply (a : Fin 16) (i j : Fin 256) : k0_pay10 (ix2 i j) = 1#1 ↔ seen (row a i) (row a j) := by
  pointwise [k0_pay10, seen, row]
  rw [shift_lane j, shift_lane i, (le_chunk ⟨j.val / 64, by omega⟩ ⟨i.val / 64, by omega⟩)]
  show j.val / 64 ≤ i.val / 64 ↔ _
  omega

/-- The mask's choice on a diagonal block. -/
theorem mask_pick (a : Fin 16) (i j : Fin 256) (x y : EReal) :
    Scalar.select (k0_pay10 (ix2 i j)) x y = if seen (row a i) (row a j) then x else y := by
  show (if k0_pay10 (ix2 i j) = 1#1 then x else y) = _
  by_cases hs : seen (row a i) (row a j)
  · rw [if_pos hs, if_pos ((mask_apply a i j).mpr hs)]
  · rw [if_neg hs, if_neg fun e => hs ((mask_apply a i j).mp e)]

theorem lane_lt (j : Fin 128) (x y : EReal) : Scalar.select (IntOp.cmpi CmpIPredicate.slt (BitVec.ofNat 32 j.val) 64#32) x y = if j.val < 64 then x else y := by
  have e : ∀ j : Fin 128, IntOp.cmpi CmpIPredicate.slt (BitVec.ofNat 32 j.val) 64#32 = if j.val < 64 then 1#1 else 0#1 := by decide +kernel
  rw [e]; split <;> rfl

theorem lane_ge (j : Fin 128) (x y : EReal) : Scalar.select (IntOp.cmpi CmpIPredicate.sge (BitVec.ofNat 32 j.val) 64#32) x y = if 64 ≤ j.val then x else y := by
  have e : ∀ j : Fin 128, IntOp.cmpi CmpIPredicate.sge (BitVec.ofNat 32 j.val) 64#32 = if 64 ≤ j.val then 1#1 else 0#1 := by decide +kernel
  rw [e]; split <;> rfl

theorem lane_mid (j : Fin 128) (x y : EReal) : Scalar.select (IntOp.andi (IntOp.cmpi CmpIPredicate.sge (BitVec.ofNat 32 j.val) 64#32) (IntOp.cmpi CmpIPredicate.slt (BitVec.ofNat 32 j.val) 96#32)) x y = if 64 ≤ j.val ∧ j.val < 96 then x else y := by
  have e : ∀ j : Fin 128, IntOp.andi (IntOp.cmpi CmpIPredicate.sge (BitVec.ofNat 32 j.val) 64#32) (IntOp.cmpi CmpIPredicate.slt (BitVec.ofNat 32 j.val) 96#32) = if 64 ≤ j.val ∧ j.val < 96 then 1#1 else 0#1 := by decide +kernel
  rw [e]; split <;> rfl

theorem pay11 (X Y : Arr) (a b : Fin 16) : k0_pay11 (F := Ideal) (blk Y b) (blk X a) = blk2 (dot X Y) a b := by
  funext y; rw [eq_ix2 y]; pointwise [k0_pay11, blk, blk2, dot, keyPart, queryPart]

theorem pay12 (X Y : Arr) (a b : Fin 16) : k0_pay12 (F := Ideal) (blk Y b) (blk X a) = blk2 (dot X Y) a b := by
  funext y; rw [eq_ix2 y]; pointwise [k0_pay12, blk, blk2, dot, keyPart, queryPart]

theorem pay13 (X Y : Arr) (a b : Fin 16) : k0_pay13 (F := Ideal) (blk Y b) (blk X a) = blk2 (dot X Y) a b := by
  funext y; rw [eq_ix2 y]; pointwise [k0_pay13, blk, blk2, dot, keyPart, queryPart]

theorem pay14 (X Y : Arr) (a b : Fin 16) : k0_pay14 (F := Ideal) (blk Y b) (blk X a) = blk2 (dot X Y) a b := by
  funext y; rw [eq_ix2 y]; pointwise [k0_pay14, blk, blk2, dot, keyPart, queryPart]

theorem pay38 (X Y : Arr) (a b : Fin 16) : k0_pay38 (F := Ideal) (blk Y b) (blk X a) = blk2 (dot X Y) a b := by
  funext y; rw [eq_ix2 y]; pointwise [k0_pay38, blk, blk2, dot, keyPart, queryPart]

theorem pay45 (X Y : Arr) (a b : Fin 16) : k0_pay45 (F := Ideal) (blk Y b) (blk X a) = blk2 (dot X Y) a b := by
  funext y; rw [eq_ix2 y]; pointwise [k0_pay45, blk, blk2, dot, keyPart, queryPart]

theorem pay53 (X Y : Arr) (a b : Fin 16) : k0_pay53 (F := Ideal) (blk Y b) (blk X a) = blk2 (dot X Y) a b := by
  funext y; rw [eq_ix2 y]; pointwise [k0_pay53, blk, blk2, dot, keyPart, queryPart]

theorem pay60 (X Y : Arr) (a b : Fin 16) : k0_pay60 (F := Ideal) (blk Y b) (blk X a) = blk2 (dot X Y) a b := by
  funext y; rw [eq_ix2 y]; pointwise [k0_pay60, blk, blk2, dot, keyPart, queryPart]

theorem pay61 (X Y : Arr) (a b : Fin 16) : k0_pay61 (F := Ideal) (blk Y b) (blk X a) = blk2 (dot X Y) a b := by
  funext y; rw [eq_ix2 y]; pointwise [k0_pay61, blk, blk2, dot, keyPart, queryPart]

theorem pay62 (X Y : Arr) (a b : Fin 16) : k0_pay62 (F := Ideal) (blk Y b) (blk X a) = blk2 (dot X Y) a b := by
  funext y; rw [eq_ix2 y]; pointwise [k0_pay62, blk, blk2, dot, keyPart, queryPart]

theorem pay63 (X Y : Arr) (a b : Fin 16) : k0_pay63 (F := Ideal) (blk Y b) (blk X a) = blk2 (dot X Y) a b := by
  funext y; rw [eq_ix2 y]; pointwise [k0_pay63, blk, blk2, dot, keyPart, queryPart]

theorem pay15 (a b : Fin 16) : k0_pay15 (F := Ideal) (blk2 h.score a b) (blk h.l a) = blk2 h.p0 a b := by
  funext y; rw [eq_ix2 y]; pointwise [k0_pay15, blk, blk2, dot, keyPart, queryPart]
  rw [pick h.l (row a (y 0)) b (y 1)]; rfl

theorem pay19 (a b : Fin 16) : k0_pay19 (F := Ideal) (blk2 h.score a b) (blk h.l a) = blk2 h.p0 a b := by
  funext y; rw [eq_ix2 y]; pointwise [k0_pay19, blk, blk2, dot, keyPart, queryPart]
  rw [pick h.l (row a (y 0)) b (y 1)]; rfl

theorem pay16 (a b : Fin 16) : k0_pay16 (F := Ideal) (blk2 h.score a b) (blk2 h.dp a b) (blk h.l a) (blk h.s a) = blk2 h.ds0 a b := by
  unfold k0_pay16; rw [pay15]; funext y; rw [eq_ix2 y]; pointwise [blk, blk2, dot, keyPart, queryPart]
  rw [pick h.s (row a (y 0)) b (y 1)]; rfl

theorem pay20 (a b : Fin 16) : k0_pay20 (F := Ideal) (blk2 h.score a b) (blk2 h.dp a b) (blk h.l a) (blk h.s a) = blk2 h.ds0 a b := by
  unfold k0_pay20; rw [pay19]; funext y; rw [eq_ix2 y]; pointwise [blk, blk2, dot, keyPart, queryPart]
  rw [pick h.s (row a (y 0)) b (y 1)]; rfl

theorem pay17 (M) (X : Arr) (a b : Fin 16) (acc : B1) : k0_pay17 (F := Ideal) acc (blk X a) (blk2 M a b) = (fun y => acc y + keyPart M X b a y) := by
  funext y; rw [eq_ix2 y]; pointwise [k0_pay17, blk, blk2, dot, keyPart, queryPart]

theorem pay18 (M) (X : Arr) (a b : Fin 16) (acc : B1) : k0_pay18 (F := Ideal) acc (blk X a) (blk2 M a b) = (fun y => acc y + keyPart M X b a y) := by
  funext y; rw [eq_ix2 y]; pointwise [k0_pay18, blk, blk2, dot, keyPart, queryPart]

theorem pay21 (a b : Fin 16) (acc : B1) (X : Arr) : k0_pay21 (F := Ideal) acc (blk2 h.score a b) (blk2 h.dp a b) (blk X a) (blk h.l a) (blk h.s a) = (fun y => acc y + keyPart h.ds0 X b a y) := by
  unfold k0_pay21; rw [pay20]; exact pay17 h.ds0 X a b acc

theorem pay22 (a b : Fin 16) (acc : B1) (X : Arr) : k0_pay22 (F := Ideal) acc (blk2 h.score a b) (blk X a) (blk h.l a) = (fun y => acc y + keyPart h.p0 X b a y) := by
  unfold k0_pay22; rw [pay19]; exact pay18 h.p0 X a b acc

theorem pay23 (M) (a b b' : Fin 16) (acc : B1) (X : Arr) : k0_pay23 (F := Ideal) (blk X b) (blk X b') (blk2 h.score a b') (blk2 h.dp a b') (blk2 M a b) (blk h.l a) (blk h.s a) acc
    = fun y => acc y + (queryPart M X a b y + queryPart h.ds0 X a b' y) := by
  unfold k0_pay23; rw [pay20]; funext y; rw [eq_ix2 y]; pointwise [blk, blk2, dot, keyPart, queryPart]

theorem pay37 : k0_pay37 (F := Ideal) = fun _ => (0 : EReal) := by
  funext y; rw [eq_ix2 y]; pointwise [k0_pay37, blk, blk2, dot, keyPart, queryPart]

theorem pay39 (a b : Fin 16) : k0_pay39 (F := Ideal) (blk h.k b) (blk h.q a) (blk h.l a) = blk2 h.p0 a b := by
  funext y; rw [eq_ix2 y]; pointwise [k0_pay39, blk, blk2, dot, keyPart, queryPart]
  rw [pick h.l (row a (y 0)) b (y 1)]; rfl

theorem pay40 (a : Fin 16) : k0_pay40 (F := Ideal) k0_pay10 (blk2 h.p0 a a) (FloatOps.ofBits FTy.f32 0#32 : Ideal .f32) = blk2 h.p a a := by
  funext y; obtain ⟨i, j, rfl⟩ : ∃ i j, y = ix2 i j := ⟨y 0, y 1, eq_ix2 y⟩; pointwise [k0_pay40, blk, blk2, dot, keyPart, queryPart]
  exact mask_pick a _ _ _ _

theorem pay41 (a : Fin 16) : k0_pay41 (F := Ideal) k0_pay10 (blk2 h.dp a a) (blk2 h.p0 a a) (FloatOps.ofBits FTy.f32 0#32 : Ideal .f32) (blk h.s a) = blk2 h.ds a a := by
  unfold k0_pay41; rw [pay40]; funext y; rw [eq_ix2 y]; pointwise [blk, blk2, dot, keyPart, queryPart]
  rw [pick h.s (row a (y 0)) a (y 1)]; rfl

theorem pay42 (a : Fin 16) (acc : B1) (X : Arr) : k0_pay42 (F := Ideal) k0_pay10 acc (blk2 h.dp a a) (blk X a) (blk2 h.p0 a a) (FloatOps.ofBits FTy.f32 0#32 : Ideal .f32) (blk h.s a) = (fun y => acc y + keyPart h.ds X a a y) := by
  unfold k0_pay42; rw [pay41]; exact pay17 h.ds X a a acc

theorem pay43 (a : Fin 16) (acc : B1) (X : Arr) : k0_pay43 (F := Ideal) k0_pay10 acc (blk X a) (blk2 h.p0 a a) (FloatOps.ofBits FTy.f32 0#32 : Ideal .f32) = (fun y => acc y + keyPart h.p X a a y) := by
  unfold k0_pay43; rw [pay40]; exact pay18 h.p X a a acc

theorem pay44 (a : Fin 16) (acc : B1) (X : Arr) : k0_pay44 (F := Ideal) k0_pay10 (blk X a) (blk2 h.dp a a) (blk2 h.p0 a a) (FloatOps.ofBits FTy.f32 0#32 : Ideal .f32) (blk h.s a) acc = fun y => acc y + queryPart h.ds X a a y := by
  unfold k0_pay44; rw [pay41]; funext y; rw [eq_ix2 y]; pointwise [blk, blk2, dot, keyPart, queryPart]

theorem pay46 (a b : Fin 16) : k0_pay46 (F := Ideal) (blk h.k b) (blk h.q a) = blk2 (fun r k => h.score r k * scale) a b := by
  funext y; rw [eq_ix2 y]; pointwise [k0_pay46, blk, blk2, dot, keyPart, queryPart]
  rfl

theorem pay47 (a b : Fin 16) : k0_pay47 (F := Ideal) (blk h.l a) = blk2 (fun r k => h.l r (lane k)) a b := by
  funext y; rw [eq_ix2 y]; pointwise [k0_pay47, blk, blk2, dot, keyPart, queryPart]
  rw [pick h.l (row a (y 0)) b (y 1)]

theorem pay48 (a b : Fin 16) : k0_pay48 (F := Ideal) (blk2 (fun r k => h.score r k * scale) a b) (blk2 (fun r k => h.l r (lane k)) a b) = blk2 h.p0 a b := by
  funext y; rw [eq_ix2 y]; pointwise [k0_pay48, blk, blk2, dot, keyPart, queryPart]
  rfl

theorem pay49 (a b : Fin 16) : k0_pay49 (F := Ideal) (blk2 h.dp a b) (blk2 (fun r k => h.score r k * scale) a b) (blk2 (fun r k => h.l r (lane k)) a b) (blk h.s a) = blk2 h.ds0 a b := by
  unfold k0_pay49; rw [pay48]; funext y; rw [eq_ix2 y]; pointwise [blk, blk2, dot, keyPart, queryPart]
  rw [pick h.s (row a (y 0)) b (y 1)]; rfl

theorem pay50 (a b : Fin 16) (acc : B1) (X : Arr) : k0_pay50 (F := Ideal) acc (blk2 h.dp a b) (blk X a) (blk2 (fun r k => h.score r k * scale) a b) (blk2 (fun r k => h.l r (lane k)) a b) (blk h.s a) = (fun y => acc y + keyPart h.ds0 X b a y) := by
  unfold k0_pay50; rw [pay49]; exact pay17 h.ds0 X a b acc

theorem pay51 (a b : Fin 16) (acc : B1) (X : Arr) : k0_pay51 (F := Ideal) acc (blk X a) (blk2 (fun r k => h.score r k * scale) a b) (blk2 (fun r k => h.l r (lane k)) a b) = (fun y => acc y + keyPart h.p0 X b a y) := by
  unfold k0_pay51; rw [pay48]; exact pay18 h.p0 X a b acc

theorem pay52 (a b : Fin 16) (X : Arr) : k0_pay52 (F := Ideal) (blk X b) (blk2 h.dp a b) (blk2 (fun r k => h.score r k * scale) a b) (blk2 (fun r k => h.l r (lane k)) a b) (blk h.s a) = queryPart h.ds0 X a b := by
  unfold k0_pay52; rw [pay49]; funext y; rw [eq_ix2 y]; pointwise [blk, blk2, dot, keyPart, queryPart]

theorem pay54 (a : Fin 16) : k0_pay54 (F := Ideal) k0_pay10 (blk h.k a) (blk h.q a) (blk h.l a) = blk2 h.p a a := by
  exact (congrArg (fun z => k0_pay40 (F := Ideal) k0_pay10 z (FloatOps.ofBits FTy.f32 0#32 : Ideal .f32)) (pay39 h a a)).trans (pay40 h a)

theorem pay55 (a b : Fin 16) : k0_pay55 (F := Ideal) (blk h.s a) = blk2 (fun r k => h.s r (lane k)) a b := by
  funext y; rw [eq_ix2 y]; pointwise [k0_pay55, blk, blk2, dot, keyPart, queryPart]
  rw [pick h.s (row a (y 0)) b (y 1)]

theorem pay56 (a b : Fin 16) : k0_pay56 (F := Ideal) (blk2 h.dp a b) (blk2 h.p a b) (blk2 (fun r k => h.s r (lane k)) a b) = blk2 h.ds a b := by
  funext y; rw [eq_ix2 y]; pointwise [k0_pay56, blk, blk2, dot, keyPart, queryPart]
  rfl

theorem pay57 (a b : Fin 16) (acc : B1) (X : Arr) : k0_pay57 (F := Ideal) acc (blk2 h.dp a b) (blk X a) (blk2 h.p a b) (blk2 (fun r k => h.s r (lane k)) a b) = (fun y => acc y + keyPart h.ds X b a y) := by
  unfold k0_pay57; rw [pay56]; exact pay17 h.ds X a b acc

theorem pay58 (M) (a b : Fin 16) (acc : B1) (X : Arr) : k0_pay58 (F := Ideal) acc (blk X a) (blk2 M a b) = (fun y => acc y + keyPart M X b a y) := by
  funext y; rw [eq_ix2 y]; pointwise [k0_pay58, blk, blk2, dot, keyPart, queryPart]

theorem pay59 (a b : Fin 16) (acc part : B1) (X : Arr) : k0_pay59 (F := Ideal) (blk X b) part (blk2 h.dp a b) (blk2 h.p a b) (blk2 (fun r k => h.s r (lane k)) a b) acc
    = fun y => acc y + (part y + queryPart h.ds X a b y) := by
  unfold k0_pay59; rw [pay56]; funext y; rw [eq_ix2 y]; pointwise [blk, blk2, dot, keyPart, queryPart]

theorem pay64 (x y : B1) : k0_pay64 (F := Ideal) (iota .tc S256x128 32 [1] iota_S256x128_d1_w32) x y = fun z => if (z 1).val < 64 then x z else y z := by
  funext z; rw [eq_ix2 z]; pointwise [k0_pay64]
  exact lane_lt (z 1) _ _

theorem pay66 (x y : B1) : k0_pay66 (F := Ideal) (iota .tc S256x128 32 [1] iota_S256x128_d1_w32) x y = fun z => if (z 1).val < 64 then x z else y z := by
  funext z; rw [eq_ix2 z]; pointwise [k0_pay66]
  exact lane_lt (z 1) _ _

theorem pay65 (x y : B1) : k0_pay65 (F := Ideal) (iota .tc S256x128 32 [1] iota_S256x128_d1_w32) x y = fun z => y z + if 64 ≤ (z 1).val ∧ (z 1).val < 96 then x z else 0 := by
  funext z; rw [eq_ix2 z]; pointwise [k0_pay65]
  exact congrArg (y z + ·) (lane_mid (z 1) _ _)

theorem pay67 (x y : B1) : k0_pay67 (F := Ideal) (iota .tc S256x128 32 [1] iota_S256x128_d1_w32) x y = fun z => y z + if 64 ≤ (z 1).val ∧ (z 1).val < 96 then x z else 0 := by
  funext z; rw [eq_ix2 z]; pointwise [k0_pay67]
  exact congrArg (y z + ·) (lane_mid (z 1) _ _)

theorem pay4 (X Y : B1) : k0_pay4 (F := Ideal) X Y = fun z => if (z 1).val < 64 then X z else Y z := by
  funext y; rw [eq_ix2 y]; pointwise [k0_pay4, k0_pay3, blk, blk2, dot, keyPart, queryPart]
  exact lane_lt (y 1) _ _

theorem pay5 (X : B1) : k0_pay5 (F := Ideal) X = fun z => if 64 ≤ (z 1).val then X z else 0 := by
  funext y; rw [eq_ix2 y]; pointwise [k0_pay5, k0_pay3, blk, blk2, dot, keyPart, queryPart]
  exact lane_ge (y 1) _ _

theorem pay7 (X : B1) : k0_pay7 (F := Ideal) X = X := by
  funext y; rw [eq_ix2 y]; pointwise [k0_pay7, blk, blk2, dot, keyPart, queryPart]

theorem pay8 (X : B1) : k0_pay8 (F := Ideal) X = X := by
  funext y; rw [eq_ix2 y]; pointwise [k0_pay8, k0_pay6, blk, blk2, dot, keyPart, queryPart]

theorem pay9 (X Y : B1) : k0_pay9 (F := Ideal) X Y = fun z => ∑ d, X (ix2 (z 0) d) * Y (ix2 (z 0) d) := by
  funext y; rw [eq_ix2 y]; pointwise [k0_pay9, k0_pay6, blk, blk2, dot, keyPart, queryPart]

end Cert.AttnKernelIdeal.Grad

end
-- ==== Proof.AttnLoop.lean ====
module

public import proofs.«01_k».proof.Proof.Gen.AttnKernelIdeal.Frame
public import proofs.«01_k».proof.Proof.Gen.AttnKernelIdeal.Loops

@[expose] public section

set_option maxRecDepth 16384

noncomputable section

namespace Cert.AttnKernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal.Gen

variable {F : FTy → Type} [FloatOps F]

local notation "𝕄" => MT nD τ sig Unit (Elt F) ℕ (UR sig nD τ) ℕ

/-- What one trip of the loop over pairs of key blocks holds: the buffers it reads, at their contents, and the
    three gradients it writes, at any. -/
abbrev Trip (c : Dev nD) (arg5 : Memref sig .tc .vmem S4096x128 .f32) (arg10 : Memref sig .tc .vmem S4096x128 .bf16) (arg11 : Memref sig .tc .vmem S4096x128 .bf16) (arg12 : Memref sig .tc .vmem S4096x128 .bf16) (arg13 : Memref sig .tc .vmem S4096x128 .bf16) (arg14 : Memref sig .tc .vmem S4096x128 .f32) (arg7 : Memref sig .tc .vmem S4096x128 .f32) (arg8 : Memref sig .tc .vmem S4096x128 .f32) (arg9 : Memref sig .tc .vmem S4096x128 .f32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (f7 : BufTy.Contents (Elt F) arg7.view.ty) (f8 : BufTy.Contents (Elt F) arg8.view.ty) (f9 : BufTy.Contents (Elt F) arg9.view.ty) : sProp 𝕄 :=
  iprop((arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

set_option maxHeartbeats 4000000 in
/-- One trip of the loop over pairs of key blocks, run: the pieces it writes into the three gradients, as functions
    of the gradients it finds. -/
@[irreducible] def trip (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (v0 : IVec S256x128 32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (k : Fin k0_t3_loop.trips) :
    Σ' (L7 : BufTy.Contents (Elt F) arg7.view.ty → BufTy.Contents (Elt F) arg8.view.ty → BufTy.Contents (Elt F) arg9.view.ty → List (View.Piece (Elt F) S4096x128 .f32)) (L8 : BufTy.Contents (Elt F) arg7.view.ty → BufTy.Contents (Elt F) arg8.view.ty → BufTy.Contents (Elt F) arg9.view.ty → List (View.Piece (Elt F) S4096x128 .f32)),
      { L9 : BufTy.Contents (Elt F) arg7.view.ty → BufTy.Contents (Elt F) arg8.view.ty → BufTy.Contents (Elt F) arg9.view.ty → List (View.Piece (Elt F) S4096x128 .f32) // ∀ (E : Set ℕ) (f7 : BufTy.Contents (Elt F) arg7.view.ty) (f8 : BufTy.Contents (Elt F) arg8.view.ty) (f9 : BufTy.Contents (Elt F) arg9.view.ty),
      Trip (F := F) c arg5 arg10 arg11 arg12 arg13 arg14 arg7 arg8 arg9 X5 X10 X11 X12 X13 X14 f7 f8 f9
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 v0 k ())
          (fun _ => Trip (F := F) c arg5 arg10 arg11 arg12 arg13 arg14 arg7 arg8 arg9 X5 X10 X11 X12 X13 X14 (arg7.view.writes (Elt F) f7 (L7 f7 f8 f9)) (arg8.view.writes (Elt F) f8 (L8 f7 f8 f9)) (arg9.view.writes (Elt F) f9 (L9 f7 f8 f9))) } := by
  refine ⟨?_, ?_, ?_, fun E f7 f8 f9 => ?run⟩
  case run =>
    unfold k0_t3_body
    iintro ⟨H5, H10, H11, H12, H13, H14, H7, H8, H9⟩
    sl_exec
    sl_step
    sl_close

/-- The pieces of the trips before `k`, written over the contents at entry `G7 G8 G9`. -/
@[irreducible] def stStep (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (v0 : IVec S256x128 32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (G7 : BufTy.Contents (Elt F) arg7.view.ty) (G8 : BufTy.Contents (Elt F) arg8.view.ty) (G9 : BufTy.Contents (Elt F) arg9.view.ty) (k : ℕ) (prev : List (View.Piece (Elt F) S4096x128 .f32) × List (View.Piece (Elt F) S4096x128 .f32) × List (View.Piece (Elt F) S4096x128 .f32)) : List (View.Piece (Elt F) S4096x128 .f32) × List (View.Piece (Elt F) S4096x128 .f32) × List (View.Piece (Elt F) S4096x128 .f32) :=
  if h : k < k0_t3_loop.trips then
    (((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 ⟨k, h⟩).1 (arg7.view.writes (Elt F) G7 prev.1) (arg8.view.writes (Elt F) G8 prev.2.1) (arg9.view.writes (Elt F) G9 prev.2.2)) ++ prev.1, ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 ⟨k, h⟩).2.1 (arg7.view.writes (Elt F) G7 prev.1) (arg8.view.writes (Elt F) G8 prev.2.1) (arg9.view.writes (Elt F) G9 prev.2.2)) ++ prev.2.1, ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 ⟨k, h⟩).2.2.1 (arg7.view.writes (Elt F) G7 prev.1) (arg8.view.writes (Elt F) G8 prev.2.1) (arg9.view.writes (Elt F) G9 prev.2.2)) ++ prev.2.2)
  else prev

/-- The pieces of the trips before `k`, last first. -/
def st (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (v0 : IVec S256x128 32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (G7 : BufTy.Contents (Elt F) arg7.view.ty) (G8 : BufTy.Contents (Elt F) arg8.view.ty) (G9 : BufTy.Contents (Elt F) arg9.view.ty) : ℕ → List (View.Piece (Elt F) S4096x128 .f32) × List (View.Piece (Elt F) S4096x128 .f32) × List (View.Piece (Elt F) S4096x128 .f32)
  | 0 => ([], [], [])
  | k + 1 => stStep 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k (st 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k)

theorem st_succ (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (v0 : IVec S256x128 32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (G7 : BufTy.Contents (Elt F) arg7.view.ty) (G8 : BufTy.Contents (Elt F) arg8.view.ty) (G9 : BufTy.Contents (Elt F) arg9.view.ty) (k : Fin k0_t3_loop.trips) :
    st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 (k.val + 1) = (((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).1 (arg7.view.writes (Elt F) G7 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).1) (arg8.view.writes (Elt F) G8 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.1) (arg9.view.writes (Elt F) G9 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.2)) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).1, ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).2.1 (arg7.view.writes (Elt F) G7 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).1) (arg8.view.writes (Elt F) G8 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.1) (arg9.view.writes (Elt F) G9 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.2)) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.1, ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).2.2.1 (arg7.view.writes (Elt F) G7 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).1) (arg8.view.writes (Elt F) G8 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.1) (arg9.view.writes (Elt F) G9 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.2)) ++ (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k.val).2.2) := by
  rw [st.eq_2]; unfold stStep; exact dif_pos k.isLt

/-- The invariant: what is read stays, and each gradient holds the pieces of the trips before. -/
abbrev inv (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (v0 : IVec S256x128 32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (G7 : BufTy.Contents (Elt F) arg7.view.ty) (G8 : BufTy.Contents (Elt F) arg8.view.ty) (G9 : BufTy.Contents (Elt F) arg9.view.ty) (k : ℕ) (acc : Unit) : sProp 𝕄 :=
  iprop((arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ f, (arg7.view.loc (c : Thread nD τ) ↦[arg7.view.set]{fullShare} f) ∗ ⌜f = arg7.view.writes (Elt F) G7 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k).1⌝) ∗ (∃ f, (arg8.view.loc (c : Thread nD τ) ↦[arg8.view.set]{fullShare} f) ∗ ⌜f = arg8.view.writes (Elt F) G8 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k).2.1⌝) ∗ (∃ f, (arg9.view.loc (c : Thread nD τ) ↦[arg9.view.set]{fullShare} f) ∗ ⌜f = arg9.view.writes (Elt F) G9 (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9 k).2.2⌝))

set_option warn.classDefReducibility false in
/-- The loop over pairs of key blocks by its invariant. -/
@[sl_loop] def loopInv (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (v0 : IVec S256x128 32) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (G7 : BufTy.Contents (Elt F) arg7.view.ty) (G8 : BufTy.Contents (Elt F) arg8.view.ty) (G9 : BufTy.Contents (Elt F) arg9.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v0 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 G7 G8 G9
  step k acc := by
    iintro ⟨H5, H10, H11, H12, H13, H14, ⟨%f7, H7, %h7⟩, ⟨%f8, H8, %h8⟩, ⟨%f9, H9, %h9⟩⟩
    iapply (wp_wand_r Idealize.ShloMosaic.frame (wpE (defs₀ (F := F)) 𝒱 (c : Thread nD τ) bd) E)
    isplitl [H5 H10 H11 H12 H13 H14 H7 H8 H9]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).2.2.2 E f7 f8 f9)
      isplitl [H5]; · iexact H5
      isplitl [H10]; · iexact H10
      isplitl [H11]; · iexact H11
      isplitl [H12]; · iexact H12
      isplitl [H13]; · iexact H13
      isplitl [H14]; · iexact H14
      isplitl [H7]; · iexact H7
      isplitl [H8]; · iexact H8
      iexact H9
    · iintro %yld ⟨H5, H10, H11, H12, H13, H14, H7, H8, H9⟩
      isplitl [H5]; · iexact H5
      isplitl [H10]; · iexact H10
      isplitl [H11]; · iexact H11
      isplitl [H12]; · iexact H12
      isplitl [H13]; · iexact H13
      isplitl [H14]; · iexact H14
      simp only [st_succ]
      isplitl [H7]
      · iexists _; isplitl [H7]; · iexact H7
        ipureintro; rw [h7, h8, h9, ← View.writes_append]
      isplitl [H8]
      · iexists _; isplitl [H8]; · iexact H8
        ipureintro; rw [h7, h8, h9, ← View.writes_append]
      iexists _; isplitl [H9]; · iexact H9
      ipureintro; rw [h7, h8, h9, ← View.writes_append]

end Cert.AttnKernelIdeal.Grad

end
-- ==== Proof.AttnTrip.lean ====
module

public import proofs.«01_k».proof.Proof.AttnModel
public import proofs.«01_k».proof.Proof.AttnLoop
public import Idealize.ShloMosaic.Lib.VecWindow

@[expose] public section

set_option maxRecDepth 16384

noncomputable section

namespace Cert.AttnKernelIdeal.Grad

open Idealize.ShloMosaic Idealize.ShloMosaic.TcCoe Idealize.ShloMosaic.Tactic
open Cert.AttnKernelIdeal.Gen

/-! ### A buffer by its blocks of 256 rows -/

section Blocks

variable {sp : Space}

/-- A buffer of 32-bit floats holds these blocks. -/
def Holds (v : View sig .tc sp S4096x128 .f32) (f : v.ty.Contents (Elt Ideal)) (P : Fin 16 → B1) : Prop :=
  ∀ a i j, v.read (Elt Ideal) f (ix2 (row a i) j) = P a (ix2 i j)
/-- A buffer of 16-bit floats holds these blocks. -/
def Holds16 (v : View sig .tc sp S4096x128 .bf16) (f : v.ty.Contents (Elt Ideal)) (P : Fin 16 → B1) : Prop :=
  ∀ a i j, v.read (Elt Ideal) f (ix2 (row a i) j) = P a (ix2 i j)

/-- A block read is the block held. -/
theorem Holds.load {v : View sig .tc sp S4096x128 .f32} {f : v.ty.Contents (Elt Ideal)} {P : Fin 16 → B1} (h : Holds v f P)
    {off : Fin 2 → ℕ} (a : Fin 16) (ho : off = ![256 * a.val, 0]) (inb : ∀ x : Fin 2, off x + S256x128.size x ≤ S4096x128.size x) :
    v.readAt (Elt Ideal) (Rect.unit (s := S4096x128) off S256x128.size inb).toLoadRect f = P a := by
  subst ho
  funext y
  refine Eq.trans ?_ ((h a (y 0) (y 1)).trans (congrArg (P a) (eq_ix2 y).symm))
  exact congrArg (v.read (Elt Ideal) f) (funext fun x => Fin.ext (by
    fin_cases x
    · show 256 * a.val + 1 * (y 0).val = 256 * a.val + (y 0).val; omega
    · show 0 + 1 * (y 1).val = (y 1).val; omega))

/-- A block stored is the block held. -/
theorem Holds.store {v : View sig .tc sp S4096x128 .f32} {f : v.ty.Contents (Elt Ideal)} {P : Fin 16 → B1}
    {L : List (View.Piece (Elt Ideal) S4096x128 .f32)} (h : Holds v (v.writes (Elt Ideal) f L) P) {off : Fin 2 → ℕ} (a : Fin 16)
    (ho : off = ![256 * a.val, 0]) (inb : ∀ x : Fin 2, off x + S256x128.size x ≤ S4096x128.size x) (w : B1) :
    Holds v (v.writes (Elt Ideal) f ((⟨Rect.unit (s := S4096x128) off S256x128.size inb, w⟩ : View.Piece (Elt Ideal) S4096x128 .f32) :: L))
      (Function.update P a w) := by
  intro a' i j
  by_cases e : a' = a
  · subst e
    rw [Function.update_self]
    exact View.read_writes_cons_rows_of_mem v f inb w L (ix2 (row a' i) j) (ix2 i j) ho rfl rfl
  · rw [Function.update_of_ne e]
    refine (View.read_writes_cons_rows_of_not_mem v f inb w L (ix2 (row a' i) j) (W := 256) ho rfl ?_).trans (h a' i j)
    have : a'.val ≠ a.val := fun t => e (Fin.ext t)
    show 256 * a'.val + i.val < 256 * a.val ∨ 256 * a.val + 256 ≤ 256 * a'.val + i.val
    omega

/-- A block read is the block held. -/
theorem Holds16.load {v : View sig .tc sp S4096x128 .bf16} {f : v.ty.Contents (Elt Ideal)} {P : Fin 16 → B1} (h : Holds16 v f P)
    {off : Fin 2 → ℕ} (a : Fin 16) (ho : off = ![256 * a.val, 0]) (inb : ∀ x : Fin 2, off x + S256x128.size x ≤ S4096x128.size x) :
    v.readAt (Elt Ideal) (Rect.unit (s := S4096x128) off S256x128.size inb).toLoadRect f = P a := by
  subst ho
  funext y
  refine Eq.trans ?_ ((h a (y 0) (y 1)).trans (congrArg (P a) (eq_ix2 y).symm))
  exact congrArg (v.read (Elt Ideal) f) (funext fun x => Fin.ext (by
    fin_cases x
    · show 256 * a.val + 1 * (y 0).val = 256 * a.val + (y 0).val; omega
    · show 0 + 1 * (y 1).val = (y 1).val; omega))

/-- A block stored is the block held. -/
theorem Holds16.store {v : View sig .tc sp S4096x128 .bf16} {f : v.ty.Contents (Elt Ideal)} {P : Fin 16 → B1}
    {L : List (View.Piece (Elt Ideal) S4096x128 .bf16)} (h : Holds16 v (v.writes (Elt Ideal) f L) P) {off : Fin 2 → ℕ} (a : Fin 16)
    (ho : off = ![256 * a.val, 0]) (inb : ∀ x : Fin 2, off x + S256x128.size x ≤ S4096x128.size x) (w : B1) :
    Holds16 v (v.writes (Elt Ideal) f ((⟨Rect.unit (s := S4096x128) off S256x128.size inb, w⟩ : View.Piece (Elt Ideal) S4096x128 .bf16) :: L))
      (Function.update P a w) := by
  intro a' i j
  by_cases e : a' = a
  · subst e
    rw [Function.update_self]
    exact View.read_writes_cons_rows_of_mem v f inb w L (ix2 (row a' i) j) (ix2 i j) ho rfl rfl
  · rw [Function.update_of_ne e]
    refine (View.read_writes_cons_rows_of_not_mem v f inb w L (ix2 (row a' i) j) (W := 256) ho rfl ?_).trans (h a' i j)
    have : a'.val ≠ a.val := fun t => e (Fin.ext t)
    show 256 * a'.val + i.val < 256 * a.val ∨ 256 * a.val + 256 ≤ 256 * a'.val + i.val
    omega

end Blocks

/-! ### Sums over the first blocks -/

/-- The sum over the first `n` blocks. -/
def upto (n : ℕ) (f : Fin 16 → EReal) : EReal := ∑ a : Fin 16, if a.val < n then f a else 0

theorem upto_zero (f : Fin 16 → EReal) : upto 0 f = 0 := Finset.sum_eq_zero fun a _ => if_neg (Nat.not_lt_zero _)

theorem upto_all (f : Fin 16 → EReal) : upto 16 f = ∑ a, f a := Finset.sum_congr rfl fun a _ => if_pos a.isLt

theorem upto_succ (n : Fin 16) (f : Fin 16 → EReal) : upto (n.val + 1) f = upto n.val f + f n := by
  unfold upto
  rw [← Finset.add_sum_erase Finset.univ _ (Finset.mem_univ n), ← Finset.add_sum_erase Finset.univ (fun a : Fin 16 => if a.val < n.val then f a else 0) (Finset.mem_univ n)]
  rw [if_pos (Nat.lt_succ_self _), if_neg (lt_irrefl _), zero_add, add_comm]
  congr 1
  refine Finset.sum_congr rfl fun a ha => ?_
  have : a.val ≠ n.val := fun t => (Finset.ne_of_mem_erase ha) (Fin.ext t)
  by_cases l : a.val < n.val
  · rw [if_pos l, if_pos (by omega)]
  · rw [if_neg l, if_neg (by omega)]

theorem upto_eq_zero (n : ℕ) (f : Fin 16 → EReal) (h : ∀ a : Fin 16, a.val < n → f a = 0) : upto n f = 0 :=
  Finset.sum_eq_zero fun a _ => by
    by_cases l : a.val < n
    · rw [if_pos l]; exact h a l
    · rw [if_neg l]

variable (h : Head)

theorem ds_of_lt {a b : Fin 16} (l : b.val < a.val) (i j : Fin 256) : h.ds (row a i) (row b j) = h.ds0 (row a i) (row b j) := by
  have s : seen (row a i) (row b j) := by unfold seen row; show (256 * b.val + j.val) / 64 ≤ (256 * a.val + i.val) / 64; omega
  unfold Head.ds Head.ds0 Head.p; rw [if_pos s]
theorem p_of_lt {a b : Fin 16} (l : b.val < a.val) (i j : Fin 256) : h.p (row a i) (row b j) = h.p0 (row a i) (row b j) := by
  have s : seen (row a i) (row b j) := by unfold seen row; show (256 * b.val + j.val) / 64 ≤ (256 * a.val + i.val) / 64; omega
  unfold Head.p; rw [if_pos s]
theorem p_of_gt {a b : Fin 16} (l : a.val < b.val) (i j : Fin 256) : h.p (row a i) (row b j) = 0 := by
  have s : ¬ seen (row a i) (row b j) := by unfold seen row; show ¬ (256 * b.val + j.val) / 64 ≤ (256 * a.val + i.val) / 64; omega
  unfold Head.p; rw [if_neg s]
theorem ds_of_gt {a b : Fin 16} (l : a.val < b.val) (i j : Fin 256) : h.ds (row a i) (row b j) = 0 := by
  unfold Head.ds; rw [p_of_gt h l]; simp

theorem keyPart_ds0 {a b : Fin 16} (l : b.val < a.val) (X : Arr) : keyPart h.ds0 X b a = keyPart h.ds X b a := by
  funext y; exact Finset.sum_congr rfl fun i _ => (congrArg (· * X (row a i) (y 1)) (ds_of_lt h l i (y 0))).symm
theorem keyPart_p0 {a b : Fin 16} (l : b.val < a.val) (X : Arr) : keyPart h.p0 X b a = keyPart h.p X b a := by
  funext y; exact Finset.sum_congr rfl fun i _ => (congrArg (· * X (row a i) (y 1)) (p_of_lt h l i (y 0))).symm
theorem queryPart_ds0 {a b : Fin 16} (l : b.val < a.val) (X : Arr) : queryPart h.ds0 X a b = queryPart h.ds X a b := by
  funext y; exact Finset.sum_congr rfl fun j _ => (congrArg (· * X (row b j) (y 1)) (ds_of_lt h l (y 0) j)).symm
theorem keyPart_ds_zero {a b : Fin 16} (l : a.val < b.val) (X : Arr) (y : S256x128.Idx) : keyPart h.ds X b a y = 0 :=
  Finset.sum_eq_zero fun i _ => (congrArg (· * X (row a i) (y 1)) (ds_of_gt h l i (y 0))).trans (zero_mul _)
theorem keyPart_p_zero {a b : Fin 16} (l : a.val < b.val) (X : Arr) (y : S256x128.Idx) : keyPart h.p X b a y = 0 :=
  Finset.sum_eq_zero fun i _ => (congrArg (· * X (row a i) (y 1)) (p_of_gt h l i (y 0))).trans (zero_mul _)
theorem queryPart_ds_zero {a b : Fin 16} (l : a.val < b.val) (X : Arr) (y : S256x128.Idx) : queryPart h.ds X a b y = 0 :=
  Finset.sum_eq_zero fun j _ => (congrArg (· * X (row b j) (y 1)) (ds_of_gt h l (y 0) j)).trans (zero_mul _)

/-! ### The loops' counts and offsets -/

theorem trips3 : k0_t3_loop.trips = 8 := by decide +kernel
theorem trips4 : ∀ k : Fin k0_t3_loop.trips, (k0_t4_loop k).trips = 14 - 2 * k.val := by decide +kernel
theorem trips5 : ∀ k : Fin k0_t3_loop.trips, Scf.trips (k0_t5_loop k).lb (k0_t5_loop k).ub (k0_t5_loop k).st = 0 := by decide +kernel

/-- The pair's first key block. -/
def bA (k : Fin k0_t3_loop.trips) : Fin 16 := ⟨2 * k.val, by have := lt_of_lt_of_eq k.isLt trips3; omega⟩
/-- The pair's second key block. -/
def bB (k : Fin k0_t3_loop.trips) : Fin 16 := ⟨2 * k.val + 1, by have := lt_of_lt_of_eq k.isLt trips3; omega⟩
/-- The `n`-th query block below the pair, or the last one. -/
def bQ (k : Fin k0_t3_loop.trips) (n : ℕ) : Fin 16 := ⟨min (2 * k.val + 2 + n) 15, by omega⟩

theorem off3 : ∀ k, k0_off3 k = ![256 * (bA k).val, 0] := by decide +kernel
theorem off4 : ∀ k, k0_off4 k = ![256 * (bB k).val, 0] := by decide +kernel
theorem off5 : ∀ k, k0_off5 k = ![256 * (bQ k 0).val, 0] := by decide +kernel
theorem off7 : ∀ k, ∀ n : Fin (k0_t4_loop k).trips, k0_off7 k n = ![256 * (bQ k n.val).val, 0] := by decide +kernel
theorem off6 : ∀ k, ∀ n : Fin (k0_t4_loop k).trips, k0_off6 k n = ![256 * (bQ k (n.val + 1)).val, 0] := by decide +kernel

/-! ### One trip over the query blocks below the pair -/

variable (𝒱 : Variants) (c : Dev nD) (bd : Option 𝒱.V) (i : grid0.Coords)
variable (arg1 : Memref sig .tc .vmem S4096x128 .f32) (harg1 : arg1.IsWhole)
variable (arg2 : Memref sig .tc .vmem S4096x128 .f32) (harg2 : arg2.IsWhole)
variable (arg3 : Memref sig .tc .vmem S4096x128 .f32) (harg3 : arg3.IsWhole)
variable (arg4 : Memref sig .tc .vmem S4096x128 .f32) (harg4 : arg4.IsWhole)
variable (arg5 : Memref sig .tc .vmem S4096x128 .f32) (harg5 : arg5.IsWhole)
variable (arg6 : Memref sig .tc .vmem S4096x128 .f32) (harg6 : arg6.IsWhole)
variable (arg7 : Memref sig .tc .vmem S4096x128 .f32) (harg7 : arg7.IsWhole)
variable (arg8 : Memref sig .tc .vmem S4096x128 .f32) (harg8 : arg8.IsWhole)
variable (arg9 : Memref sig .tc .vmem S4096x128 .f32) (harg9 : arg9.IsWhole)
variable (arg10 : Memref sig .tc .vmem S4096x128 .bf16) (harg10 : arg10.IsWhole)
variable (arg11 : Memref sig .tc .vmem S4096x128 .bf16) (harg11 : arg11.IsWhole)
variable (arg12 : Memref sig .tc .vmem S4096x128 .bf16) (harg12 : arg12.IsWhole)
variable (arg13 : Memref sig .tc .vmem S4096x128 .bf16) (harg13 : arg13.IsWhole)
variable (arg14 : Memref sig .tc .vmem S4096x128 .f32) (harg14 : arg14.IsWhole)
variable (v0 : IVec S256x128 32) (k : Fin k0_t3_loop.trips)
variable (X5 : BufTy.Contents (Elt Ideal) arg5.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)

/-- What the inner loop carries: two gradients of each key block of the pair, and the next query block's scores and
    gradients of the probabilities against each. -/
abbrev Acc := FVec Ideal S256x128 .f32 × FVec Ideal S256x128 .f32 × FVec Ideal S256x128 .f32 × FVec Ideal S256x128 .f32 × FVec Ideal S256x256 .f32 × FVec Ideal S256x256 .f32 × FVec Ideal S256x256 .f32 × FVec Ideal S256x256 .f32

/-- What is carried before trip `n`. -/
def carried (n : ℕ) : Acc :=
  (fun y => upto (2 * k.val + 2 + n) fun a => keyPart h.ds h.q (bA k) a y,
   fun y => upto (2 * k.val + 2 + n) fun a => keyPart h.p h.g (bA k) a y,
   fun y => upto (2 * k.val + 2 + n) fun a => keyPart h.ds h.q (bB k) a y,
   fun y => upto (2 * k.val + 2 + n) fun a => keyPart h.p h.g (bB k) a y,
   blk2 h.score (bQ k n) (bA k), blk2 h.dp (bQ k n) (bA k), blk2 h.score (bQ k n) (bB k), blk2 h.dp (bQ k n) (bB k))

/-- The queries' gradient before trip `n`, from what it was before the loop. -/
def rows7 (P : Fin 16 → B1) (n : ℕ) (a : Fin 16) : B1 := fun y => P a y +
  if 2 * k.val + 2 ≤ a.val ∧ a.val < 2 * k.val + 2 + n then queryPart h.ds h.k a (bA k) y + queryPart h.ds h.k a (bB k) y else 0

section Inner

variable (v21 v23 v160 v177 : BitVec 32) (v108 v111 v146 v149 : FVec Ideal S256x128 .f32) (v165 v168 v173 v176 : FVec Ideal S256x256 .f32)
variable (n : Fin (k0_t4_loop k).trips)

theorem bQ_val : (bQ k n.val).val = 2 * k.val + 2 + n.val := by
  have := lt_of_lt_of_eq n.isLt (trips4 k); show min _ 15 = _; omega

set_option maxHeartbeats 2000000 in
/-- One trip's carried values. -/
theorem inner_result (h5 : Holds arg5.view X5 (blk h.l)) (h12 : Holds16 arg12.view X12 (blk h.q)) (h13 : Holds16 arg13.view X13 (blk h.g))
    (h14 : Holds arg14.view X14 (blk h.s)) (f : BufTy.Contents (Elt Ideal) arg7.view.ty) :
    (trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k v21 v23 (blk h.k (bA k)) (blk h.v (bA k)) (blk h.k (bB k)) (blk h.v (bB k)) v108 v111 v146 v149 v160 v165 v168 v173 v176 v177 X5 X12 X13 X14 n).1 (carried h k n.val) f
      = carried h k (n.val + 1) := by
  have lA : (bA k).val < (bQ k n.val).val := by rw [bQ_val]; show 2 * k.val < _; omega
  have lB : (bB k).val < (bQ k n.val).val := by rw [bQ_val]; show 2 * k.val + 1 < _; omega
  unfold trip_k0_t4
  dsimp only [trip_k0_t4.sl.r, trip_k0_t4.sl.r_1, trip_k0_t4.sl.r_2, trip_k0_t4.sl.r_3, trip_k0_t4.sl.r_4, trip_k0_t4.sl.r_5, trip_k0_t4.sl.r_6, trip_k0_t4.sl.r_7, trip_k0_t4.sl.r_8, trip_k0_t4.sl.r_9, trip_k0_t4.sl.r_10, trip_k0_t4.sl.r_11, carried]
  rw [h5.load _ (off7 k n), h12.load _ (off7 k n), h13.load _ (off7 k n), h14.load _ (off7 k n), h12.load _ (off6 k n), h13.load _ (off6 k n)]
  rw [pay11, pay12, pay13, pay14, pay15, pay16, pay17, pay18, pay21, pay22, keyPart_ds0 h lA, keyPart_ds0 h lB, keyPart_p0 h lA, keyPart_p0 h lB]
  have e : ∀ f, upto (2 * k.val + 2 + (n.val + 1)) f = upto (2 * k.val + 2 + n.val) f + f (bQ k n.val) := fun f => by
    have := upto_succ (bQ k n.val) f; rw [bQ_val] at this; exact this
  simp only [e]
  rfl

/-- One trip's store into the queries' gradient. -/
theorem inner_store (h5 : Holds arg5.view X5 (blk h.l)) (h14 : Holds arg14.view X14 (blk h.s)) (G : BufTy.Contents (Elt Ideal) arg7.view.ty)
    (L : List (View.Piece (Elt Ideal) S4096x128 .f32)) (P : Fin 16 → B1) (h7 : Holds arg7.view (arg7.view.writes (Elt Ideal) G L) (rows7 h k P n.val)) :
    Holds arg7.view (arg7.view.writes (Elt Ideal) G ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k v21 v23 (blk h.k (bA k)) (blk h.v (bA k)) (blk h.k (bB k)) (blk h.v (bB k)) v108 v111 v146 v149 v160 v165 v168 v173 v176 v177 X5 X12 X13 X14 n).2.1 (carried h k n.val) (arg7.view.writes (Elt Ideal) G L) ++ L))
      (rows7 h k P (n.val + 1)) := by
  have lA : (bA k).val < (bQ k n.val).val := by rw [bQ_val]; show 2 * k.val < _; omega
  have lB : (bB k).val < (bQ k n.val).val := by rw [bQ_val]; show 2 * k.val + 1 < _; omega
  unfold trip_k0_t4
  dsimp only [trip_k0_t4.sl.r_7, carried]
  rw [h5.load _ (off7 k n), h14.load _ (off7 k n), h7.load _ (off7 k n), pay16, pay23, queryPart_ds0 h lA, queryPart_ds0 h lB]
  have s := h7.store _ (off7 k n) (facts.k0_off7_inb k n) (fun y => rows7 h k P n.val (bQ k n.val) y + (queryPart h.ds h.k (bQ k n.val) (bA k) y + queryPart h.ds h.k (bQ k n.val) (bB k) y))
  refine Eq.mp (congrArg (Holds arg7.view _) ?_) s
  funext a
  have q := bQ_val k n
  by_cases e : a = bQ k n.val
  · subst e
    rw [Function.update_self]; funext y; unfold rows7
    rw [if_neg (by omega), if_pos (by omega), add_zero]
  · rw [Function.update_of_ne e]; funext y; unfold rows7
    have : a.val ≠ (bQ k n.val).val := fun t => e (Fin.ext t)
    by_cases l : 2 * k.val + 2 ≤ a.val ∧ a.val < 2 * k.val + 2 + n.val
    · rw [if_pos l, if_pos (by omega)]
    · rw [if_neg l, if_neg (by omega)]

end Inner

/-! ### The inner loop -/

section InnerLoop

variable (v21 v23 v160 v177 : BitVec 32) (v108 v111 v146 v149 : FVec Ideal S256x128 .f32) (v165 v168 v173 v176 : FVec Ideal S256x256 .f32)

/-- The inner loop before trip `n`: what it carries, and the queries' gradient. -/
theorem inner_all (h5 : Holds arg5.view X5 (blk h.l)) (h12 : Holds16 arg12.view X12 (blk h.q)) (h13 : Holds16 arg13.view X13 (blk h.g))
    (h14 : Holds arg14.view X14 (blk h.s)) (G : BufTy.Contents (Elt Ideal) arg7.view.ty) (P : Fin 16 → B1) (h7 : Holds arg7.view G P)
    (n : ℕ) (hn : n ≤ (k0_t4_loop k).trips) :
    (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k v21 v23 (blk h.k (bA k)) (blk h.v (bA k)) (blk h.k (bB k)) (blk h.v (bB k)) v108 v111 v146 v149 v160 v165 v168 v173 v176 v177 X5 X12 X13 X14 G (carried h k 0) n).1 = carried h k n
      ∧ Holds arg7.view (arg7.view.writes (Elt Ideal) G (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k v21 v23 (blk h.k (bA k)) (blk h.v (bA k)) (blk h.k (bB k)) (blk h.v (bB k)) v108 v111 v146 v149 v160 v165 v168 v173 v176 v177 X5 X12 X13 X14 G (carried h k 0) n).2) (rows7 h k P n) := by
  induction n with
  | zero =>
    refine ⟨rfl, fun a i j => (h7 a i j).trans ?_⟩
    unfold rows7; rw [if_neg (by omega)]; exact (add_zero _).symm
  | succ n ih =>
    obtain ⟨e, hs⟩ := ih (by omega)
    have s := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k v21 v23 (blk h.k (bA k)) (blk h.v (bA k)) (blk h.k (bB k)) (blk h.v (bB k)) v108 v111 v146 v149 v160 v165 v168 v173 v176 v177 X5 X12 X13 X14 G (carried h k 0) ⟨n, by omega⟩
    dsimp only at s
    rw [s, e]
    refine ⟨?_, ?_⟩
    · exact inner_result h (n := ⟨n, by omega⟩) (h5 := h5) (h12 := h12) (h13 := h13) (h14 := h14) ..
    · exact inner_store h 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k X5 X12 X13 X14 v21 v23 v160 v177 v108 v111 v146 v149 v165 v168 v173 v176 ⟨n, by omega⟩ h5 h14 G _ P hs

end InnerLoop

end Cert.AttnKernelIdeal.Grad

end
-- ==== Proof.AttnPair.lean ====
module

public import proofs.«01_k».proof.Proof.AttnTrip
public import Idealize.ShloMosaic.Lib.VecWindow

@[expose] public section

set_option maxRecDepth 16384

noncomputable section

namespace Cert.AttnKernelIdeal.Grad

open Idealize.ShloMosaic Idealize.ShloMosaic.TcCoe Idealize.ShloMosaic.Tactic
open Cert.AttnKernelIdeal.Gen

variable (h : Head)
variable (𝒱 : Variants) (c : Dev nD) (bd : Option 𝒱.V) (i : grid0.Coords)
variable (arg1 : Memref sig .tc .vmem S4096x128 .f32) (harg1 : arg1.IsWhole)
variable (arg2 : Memref sig .tc .vmem S4096x128 .f32) (harg2 : arg2.IsWhole)
variable (arg3 : Memref sig .tc .vmem S4096x128 .f32) (harg3 : arg3.IsWhole)
variable (arg4 : Memref sig .tc .vmem S4096x128 .f32) (harg4 : arg4.IsWhole)
variable (arg5 : Memref sig .tc .vmem S4096x128 .f32) (harg5 : arg5.IsWhole)
variable (arg6 : Memref sig .tc .vmem S4096x128 .f32) (harg6 : arg6.IsWhole)
variable (arg7 : Memref sig .tc .vmem S4096x128 .f32) (harg7 : arg7.IsWhole)
variable (arg8 : Memref sig .tc .vmem S4096x128 .f32) (harg8 : arg8.IsWhole)
variable (arg9 : Memref sig .tc .vmem S4096x128 .f32) (harg9 : arg9.IsWhole)
variable (arg10 : Memref sig .tc .vmem S4096x128 .bf16) (harg10 : arg10.IsWhole)
variable (arg11 : Memref sig .tc .vmem S4096x128 .bf16) (harg11 : arg11.IsWhole)
variable (arg12 : Memref sig .tc .vmem S4096x128 .bf16) (harg12 : arg12.IsWhole)
variable (arg13 : Memref sig .tc .vmem S4096x128 .bf16) (harg13 : arg13.IsWhole)
variable (arg14 : Memref sig .tc .vmem S4096x128 .f32) (harg14 : arg14.IsWhole)
variable (v0 : IVec S256x128 32)
variable (X5 : BufTy.Contents (Elt Ideal) arg5.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)
variable (k : Fin k0_t3_loop.trips)

/-- The stores of a pair's own two query blocks. -/
def pieces2 (f7 : BufTy.Contents (Elt Ideal) arg7.view.ty) : List (View.Piece (Elt Ideal) S4096x128 .f32) :=
  [⟨Rect.unit (s := S4096x128) (k0_off4 k) S256x128.size (facts.k0_off4_inb k),
                k0_pay59 (trip.sl.r_2 (F := Ideal) arg10 X10 k)
                  (trip.sl.r_17 (F := Ideal) arg5 arg10 arg11 arg12 arg13 arg14 X5 X10 X11 X12 X13 X14 k)
                  (trip.sl.r_18 (F := Ideal) arg11 arg13 X11 X13 k) (trip.sl.r_19 (F := Ideal) arg5 arg10 arg12 X5 X10 X12 k)
                  (trip.sl.r_20 (F := Ideal) arg14 X14 k) (trip.sl.v152 (F := Ideal) arg7 k f7)⟩,
              ⟨Rect.unit (s := S4096x128) (k0_off3 k) S256x128.size (facts.k0_off3_inb k),
                k0_pay44 k0_pay10 (trip.sl.r (F := Ideal) arg10 X10 k) (trip.sl.r_4 (F := Ideal) arg11 arg13 X11 X13 k)
                  (trip.sl.r_7 (F := Ideal) arg5 arg10 arg12 X5 X10 X12 k) (trip.sl.cst_30 (F := Ideal))
                  (View.readAt (Elt Ideal) arg14.view (Rect.unit (s := S4096x128) (k0_off3 k) S256x128.size (facts.k0_off3_inb k)).toLoadRect X14)
                  (View.readAt (Elt Ideal) arg7.view (Rect.unit (s := S4096x128) (k0_off3 k) S256x128.size (facts.k0_off3_inb k)).toLoadRect f7)⟩]

/-- The inner loop's last state. -/
abbrev innerEnd (f7 : BufTy.Contents (Elt Ideal) arg7.view.ty) : Acc × List (View.Piece (Elt Ideal) S4096x128 .f32) :=
  st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k (trip.sl.v20 k) (trip.sl.v22 k) (trip.sl.r (F := Ideal) arg10 X10 k) (trip.sl.r_1 (F := Ideal) arg11 X11 k) (trip.sl.r_2 (F := Ideal) arg10 X10 k) (trip.sl.r_3 (F := Ideal) arg11 X11 k)
        (trip.sl.r_15 (F := Ideal) arg5 arg10 arg11 arg12 arg13 arg14 X5 X10 X11 X12 X13 X14 k) (trip.sl.r_16 (F := Ideal) arg5 arg10 arg12 arg13 X5 X10 X12 X13 k) (trip.sl.r_21 (F := Ideal) arg5 arg10 arg11 arg12 arg13 arg14 X5 X10 X11 X12 X13 X14 k) (trip.sl.r_22 (F := Ideal) arg5 arg10 arg12 arg13 X5 X10 X12 X13 k) (trip.sl.v160 k) (trip.sl.r_23 (F := Ideal) arg10 arg12 X10 X12 k) (trip.sl.r_24 (F := Ideal) arg11 arg13 X11 X13 k) (trip.sl.r_25 (F := Ideal) arg10 arg12 X10 X12 k) (trip.sl.r_26 (F := Ideal) arg11 arg13 X11 X13 k) (trip.sl.v177 k) X5 X12 X13 X14 (arg7.view.writes (Elt Ideal) f7 (pieces2 arg5 arg7 arg10 arg11 arg12 arg13 arg14 X5 X10 X11 X12 X13 X14 k f7)) (trip.sl.r_15 (F := Ideal) arg5 arg10 arg11 arg12 arg13 arg14 X5 X10 X11 X12 X13 X14 k,
                  trip.sl.r_16 (F := Ideal) arg5 arg10 arg12 arg13 X5 X10 X12 X13 k,
                  trip.sl.r_21 (F := Ideal) arg5 arg10 arg11 arg12 arg13 arg14 X5 X10 X11 X12 X13 X14 k,
                  trip.sl.r_22 (F := Ideal) arg5 arg10 arg12 arg13 X5 X10 X12 X13 k, trip.sl.r_23 (F := Ideal) arg10 arg12 X10 X12 k,
                  trip.sl.r_24 (F := Ideal) arg11 arg13 X11 X13 k, trip.sl.r_25 (F := Ideal) arg10 arg12 X10 X12 k,
                  trip.sl.r_26 (F := Ideal) arg11 arg13 X11 X13 k) (Scf.trips (k0_t4_loop k).lb (k0_t4_loop k).ub (k0_t4_loop k).st)

/-! ### What a trip's pieces are -/

set_option maxHeartbeats 4000000 in
theorem trip_1 (f7 f8 f9) : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).1 f7 f8 f9 = (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).2 ++ pieces2 arg5 arg7 arg10 arg11 arg12 arg13 arg14 X5 X10 X11 X12 X13 X14 k f7 := by
  unfold trip; dsimp only; rw [trips5 k]; simp only [st_k0_t5.eq_1, List.nil_append]; rfl

set_option maxHeartbeats 4000000 in
theorem trip_2 (f7 f8 f9) : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).2.1 f7 f8 f9 =
    [⟨Rect.unit (s := S4096x128) (k0_off4 k) S256x128.size (facts.k0_off4_inb k), k0_pay66 v0 (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1.2.2.1 (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1.2.2.2.1⟩,
     ⟨Rect.unit (s := S4096x128) (k0_off3 k) S256x128.size (facts.k0_off3_inb k), k0_pay64 v0 (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1.1 (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1.2.1⟩] := by
  unfold trip; dsimp only; rw [trips5 k, st_k0_t5.eq_1]
  generalize hE : innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7 = E
  unfold innerEnd pieces2 at hE
  rw [hE]

set_option maxHeartbeats 4000000 in
theorem trip_3 (f7 f8 f9) : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).2.2.1 f7 f8 f9 =
    [⟨Rect.unit (s := S4096x128) (k0_off4 k) S256x128.size (facts.k0_off4_inb k), k0_pay67 v0 (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1.2.2.1 (View.readAt (Elt Ideal) arg9.view (Rect.unit (s := S4096x128) (k0_off4 k) S256x128.size (facts.k0_off4_inb k)).toLoadRect f9)⟩,
     ⟨Rect.unit (s := S4096x128) (k0_off3 k) S256x128.size (facts.k0_off3_inb k), k0_pay65 v0 (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1.1 (View.readAt (Elt Ideal) arg9.view (Rect.unit (s := S4096x128) (k0_off3 k) S256x128.size (facts.k0_off3_inb k)).toLoadRect f9)⟩] := by
  unfold trip; dsimp only [trip.sl.r_27]; rw [trips5 k, st_k0_t5.eq_1]
  generalize hE : innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7 = E
  unfold innerEnd pieces2 at hE
  rw [hE]; rfl

/-! ### What the trip's values are -/

theorem upto_pair (f : Fin 16 → EReal) : upto (2 * k.val + 2) f = upto (2 * k.val) f + f (bA k) + f (bB k) := by
  have e1 := upto_succ (bA k) f
  have e2 := upto_succ (bB k) f
  exact e2.trans (congrArg (· + f (bB k)) e1)

set_option maxHeartbeats 2000000 in
theorem carried_start (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) :
    ((trip.sl.r_15 (F := Ideal) arg5 arg10 arg11 arg12 arg13 arg14 X5 X10 X11 X12 X13 X14 k,
                  trip.sl.r_16 (F := Ideal) arg5 arg10 arg12 arg13 X5 X10 X12 X13 k,
                  trip.sl.r_21 (F := Ideal) arg5 arg10 arg11 arg12 arg13 arg14 X5 X10 X11 X12 X13 X14 k,
                  trip.sl.r_22 (F := Ideal) arg5 arg10 arg12 arg13 X5 X10 X12 X13 k, trip.sl.r_23 (F := Ideal) arg10 arg12 X10 X12 k,
                  trip.sl.r_24 (F := Ideal) arg11 arg13 X11 X13 k, trip.sl.r_25 (F := Ideal) arg10 arg12 X10 X12 k,
                  trip.sl.r_26 (F := Ideal) arg11 arg13 X11 X13 k) : Acc) = carried h k 0 := by
  have l : (bA k).val < (bB k).val := Nat.lt_succ_self _
  dsimp only [trip.sl.r, trip.sl.r_1, trip.sl.r_2, trip.sl.r_3, trip.sl.r_4, trip.sl.r_5, trip.sl.r_6, trip.sl.r_7, trip.sl.r_8, trip.sl.r_9, trip.sl.r_10, trip.sl.r_11, trip.sl.r_12, trip.sl.r_13, trip.sl.r_14, trip.sl.r_15, trip.sl.r_16, trip.sl.r_17, trip.sl.r_18, trip.sl.r_19, trip.sl.r_20, trip.sl.r_21, trip.sl.r_22, trip.sl.r_23, trip.sl.r_24, trip.sl.r_25, trip.sl.r_26, trip.sl.cst_30]
  rw [h5.load _ (off3 k), h10.load _ (off3 k), h11.load _ (off3 k), h12.load _ (off3 k), h13.load _ (off3 k), h14.load _ (off3 k),
    h5.load _ (off4 k), h10.load _ (off4 k), h11.load _ (off4 k), h12.load _ (off4 k), h13.load _ (off4 k), h14.load _ (off4 k),
    h12.load _ (off5 k), h13.load _ (off5 k)]
  have e38 : k0_pay38 (F := Ideal) (blk h.v (bA k)) (blk h.g (bA k)) = blk2 h.dp (bA k) (bA k) := pay38 ..
  have e45 : k0_pay45 (F := Ideal) (blk h.v (bA k)) (blk h.g (bB k)) = blk2 h.dp (bB k) (bA k) := pay45 ..
  have e53 : k0_pay53 (F := Ideal) (blk h.v (bB k)) (blk h.g (bB k)) = blk2 h.dp (bB k) (bB k) := pay53 ..
  rw [pay37, e38, pay39 h]
  rw [pay42 h, pay43 h, e45, pay46 h, pay47 h _ (bA k), e53, pay50 h, pay51 h, pay54 h, pay55 h _ (bB k), pay57 h, pay58,
    pay60, pay61, pay62, pay63, keyPart_ds0 h l, keyPart_p0 h l]
  have eA : ∀ (M : Fin 16 → EReal), (∀ a : Fin 16, a.val < 2 * k.val → M a = 0) → upto (2 * k.val + 2) M = 0 + M (bA k) + M (bB k) := fun M hM => by
    rw [upto_pair, upto_eq_zero _ _ hM]
  have eB : ∀ (M : Fin 16 → EReal), (∀ a : Fin 16, a.val < (bB k).val → M a = 0) → upto (2 * k.val + 2) M = 0 + M (bB k) := fun M hM => by
    rw [upto_pair, upto_eq_zero _ _ (fun a la => hM a (Nat.lt_succ_of_lt la)), hM (bA k) l, add_zero]
  have c1 : (fun y => upto (2 * k.val + 2) fun a => keyPart h.ds h.q (bA k) a y) = _ := funext fun y => eA _ (fun a la => keyPart_ds_zero h la h.q y)
  have c2 : (fun y => upto (2 * k.val + 2) fun a => keyPart h.p h.g (bA k) a y) = _ := funext fun y => eA _ (fun a la => keyPart_p_zero h la h.g y)
  have c3 : (fun y => upto (2 * k.val + 2) fun a => keyPart h.ds h.q (bB k) a y) = _ := funext fun y => eB _ (fun a la => keyPart_ds_zero h la h.q y)
  have c4 : (fun y => upto (2 * k.val + 2) fun a => keyPart h.p h.g (bB k) a y) = _ := funext fun y => eB _ (fun a la => keyPart_p_zero h la h.g y)
  unfold carried
  rw [Nat.add_zero, c1, c2, c3, c4]
  rfl

set_option maxHeartbeats 2000000 in
/-- The pair's own query blocks, stored. -/
theorem own_rows (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) (G : BufTy.Contents (Elt Ideal) arg7.view.ty)
    (L : List (View.Piece (Elt Ideal) S4096x128 .f32)) (P : Fin 16 → B1) (h7 : Holds arg7.view (arg7.view.writes (Elt Ideal) G L) P) :
    Holds arg7.view (arg7.view.writes (Elt Ideal) G (pieces2 arg5 arg7 arg10 arg11 arg12 arg13 arg14 X5 X10 X11 X12 X13 X14 k (arg7.view.writes (Elt Ideal) G L) ++ L))
      (Function.update (Function.update P (bA k) fun y => P (bA k) y + queryPart h.ds h.k (bA k) (bA k) y) (bB k)
        fun y => P (bB k) y + (queryPart h.ds h.k (bB k) (bA k) y + queryPart h.ds h.k (bB k) (bB k) y)) := by
  have l : (bA k).val < (bB k).val := Nat.lt_succ_self _
  unfold pieces2
  dsimp only [trip.sl.v152, trip.sl.r, trip.sl.r_1, trip.sl.r_2, trip.sl.r_3, trip.sl.r_4, trip.sl.r_5, trip.sl.r_6, trip.sl.r_7, trip.sl.r_10, trip.sl.r_11, trip.sl.r_12, trip.sl.r_13, trip.sl.r_14, trip.sl.r_17, trip.sl.r_18, trip.sl.r_19, trip.sl.r_20, trip.sl.cst_30]
  rw [h5.load _ (off3 k), h7.load _ (off3 k), h10.load _ (off3 k), h11.load _ (off3 k), h12.load _ (off3 k), h13.load _ (off3 k), h14.load _ (off3 k),
    h5.load _ (off4 k), h7.load _ (off4 k), h10.load _ (off4 k), h11.load _ (off4 k), h12.load _ (off4 k), h13.load _ (off4 k), h14.load _ (off4 k)]
  have e38 : k0_pay38 (F := Ideal) (blk h.v (bA k)) (blk h.g (bA k)) = blk2 h.dp (bA k) (bA k) := pay38 ..
  have e45 : k0_pay45 (F := Ideal) (blk h.v (bA k)) (blk h.g (bB k)) = blk2 h.dp (bB k) (bA k) := pay45 ..
  have e53 : k0_pay53 (F := Ideal) (blk h.v (bB k)) (blk h.g (bB k)) = blk2 h.dp (bB k) (bB k) := pay53 ..
  rw [e38, pay39 h, pay44 h, e45, pay46 h, pay47 h _ (bA k), e53, pay52 h, pay54 h, pay55 h _ (bB k), pay59 h, queryPart_ds0 h l]
  exact (h7.store _ (off3 k) (facts.k0_off3_inb k) _).store _ (off4 k) (facts.k0_off4_inb k) _

/-- The inner loop's last carried values: the pair's whole sums. -/
theorem innerEnd_1 (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) (f7 : BufTy.Contents (Elt Ideal) arg7.view.ty) (P : Fin 16 → B1)
    (h7 : Holds arg7.view (arg7.view.writes (Elt Ideal) f7 (pieces2 arg5 arg7 arg10 arg11 arg12 arg13 arg14 X5 X10 X11 X12 X13 X14 k f7)) P) :
    (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).1 = carried h k (k0_t4_loop k).trips
      ∧ Holds arg7.view (arg7.view.writes (Elt Ideal) (arg7.view.writes (Elt Ideal) f7 (pieces2 arg5 arg7 arg10 arg11 arg12 arg13 arg14 X5 X10 X11 X12 X13 X14 k f7)) (innerEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k f7).2) (rows7 h k P (k0_t4_loop k).trips) := by
  have e := carried_start h arg5 arg10 arg11 arg12 arg13 arg14 X5 X10 X11 X12 X13 X14 k h5 h10 h11 h12 h13 h14
  have r0 : trip.sl.r (F := Ideal) arg10 X10 k = blk h.k (bA k) := h10.load _ (off3 k) _
  have r1 : trip.sl.r_1 (F := Ideal) arg11 X11 k = blk h.v (bA k) := h11.load _ (off3 k) _
  have r2 : trip.sl.r_2 (F := Ideal) arg10 X10 k = blk h.k (bB k) := h10.load _ (off4 k) _
  have r3 : trip.sl.r_3 (F := Ideal) arg11 X11 k = blk h.v (bB k) := h11.load _ (off4 k) _
  unfold innerEnd
  rw [e, r0, r1, r2, r3]
  exact inner_all h 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 k X5 X12 X13 X14 _ _ _ _ _ _ _ _ _ _ _ _ h5 h12 h13 h14 _ P h7 _ le_rfl

/-! ### The three gradients before pair `n` -/

/-- The queries' gradient: the sum over the key blocks before. -/
def before7 (Z : Fin 16 → B1) (n : ℕ) (a : Fin 16) : B1 := fun y => Z a y + upto (2 * n) fun b => queryPart h.ds h.k a b y
/-- The keys' gradient, whole. -/
def dkOf (b : Fin 16) : B1 := fun y => ∑ a, keyPart h.ds h.q b a y
/-- The values' gradient, whole. -/
def dvOf (b : Fin 16) : B1 := fun y => ∑ a, keyPart h.p h.g b a y
/-- Keys' and values' gradient side by side, written for the key blocks before. -/
def before8 (Z : Fin 16 → B1) (n : ℕ) (b : Fin 16) : B1 := if b.val < 2 * n then fun y => if (y 1).val < 64 then dkOf h b y else dvOf h b y else Z b
/-- The shared keys' gradient, added to for the key blocks before. -/
def before9 (Z : Fin 16 → B1) (n : ℕ) (b : Fin 16) : B1 :=
  if b.val < 2 * n then fun y => Z b y + if 64 ≤ (y 1).val ∧ (y 1).val < 96 then dkOf h b y else 0 else Z b

/-- What the inner loop carries at its end. -/
theorem carried_end : carried h k (k0_t4_loop k).trips = (dkOf h (bA k), dvOf h (bA k), dkOf h (bB k), dvOf h (bB k),
    (carried h k (k0_t4_loop k).trips).2.2.2.2) := by
  have e : 2 * k.val + 2 + (k0_t4_loop k).trips = 16 := by
    have := lt_of_lt_of_eq k.isLt trips3; rw [trips4 k]; omega
  have s : ∀ f, upto (2 * k.val + 2 + (k0_t4_loop k).trips) f = ∑ a, f a := fun f => by rw [e]; exact upto_all f
  unfold carried dkOf dvOf
  simp only [s]

/-- A pair's trip, on the queries' gradient. -/
theorem pair_7 (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) (G : BufTy.Contents (Elt Ideal) arg7.view.ty) (L : List (View.Piece (Elt Ideal) S4096x128 .f32)) (Z : Fin 16 → B1)
    (h7 : Holds arg7.view (arg7.view.writes (Elt Ideal) G L) (before7 h Z k.val)) (f8 f9) :
    Holds arg7.view (arg7.view.writes (Elt Ideal) G ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k).1 (arg7.view.writes (Elt Ideal) G L) f8 f9 ++ L)) (before7 h Z (k.val + 1)) := by
  have l : (bA k).val < (bB k).val := Nat.lt_succ_self _
  have o := own_rows h arg5 arg7 arg10 arg11 arg12 arg13 arg14 X5 X10 X11 X12 X13 X14 k h5 h10 h11 h12 h13 h14 G L _ h7
  have o' := o
  rw [View.writes_append] at o'
  have s := (innerEnd_1 h 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k h5 h10 h11 h12 h13 h14 _ _ o').2
  rw [← View.writes_append, ← View.writes_append, ← trip_1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 X5 X10 X11 X12 X13 X14 k _ f8 f9] at s
  refine Eq.mp (congrArg (Holds arg7.view _) ?_) s
  have hk := lt_of_lt_of_eq k.isLt trips3
  funext a y
  have u : ∀ f, upto (2 * (k.val + 1)) f = upto (2 * k.val) f + f (bA k) + f (bB k) := fun f => upto_pair k f
  have vA : (bA k).val = 2 * k.val := rfl
  have vB : (bB k).val = 2 * k.val + 1 := rfl
  unfold rows7
  rw [trips4 k]
  by_cases e : a = bB k
  · subst e
    rw [if_neg (by omega), Function.update_self]
    unfold before7; rw [u, add_zero]; simp only [add_assoc]
  · rw [Function.update_of_ne e]
    have ne : a.val ≠ (bB k).val := fun t => e (Fin.ext t)
    by_cases e' : a = bA k
    · subst e'
      rw [if_neg (by omega), Function.update_self]
      unfold before7; rw [u, queryPart_ds_zero h l, add_zero, add_zero, add_assoc]
    · rw [Function.update_of_ne e']
      have ne' : a.val ≠ (bA k).val := fun t => e' (Fin.ext t)
      by_cases g : 2 * k.val + 2 ≤ a.val
      · rw [if_pos (by omega)]
        unfold before7; rw [u]; simp only [add_assoc]
      · rw [if_neg (by omega)]
        unfold before7; rw [u, queryPart_ds_zero h (a := a) (b := bA k) (by omega), queryPart_ds_zero h (a := a) (b := bB k) (by omega), add_zero, add_zero, add_zero]

/-- A pair's trip, on the keys' and values' gradient. -/
theorem pair_8 (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) (G : BufTy.Contents (Elt Ideal) arg8.view.ty) (L : List (View.Piece (Elt Ideal) S4096x128 .f32)) (Z : Fin 16 → B1)
    (h8 : Holds arg8.view (arg8.view.writes (Elt Ideal) G L) (before8 h Z k.val))
    (f7 : BufTy.Contents (Elt Ideal) arg7.view.ty) (P : Fin 16 → B1) (h7 : Holds arg7.view f7 P) (f9) :
    Holds arg8.view (arg8.view.writes (Elt Ideal) G ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 k).2.1 f7 (arg8.view.writes (Elt Ideal) G L) f9 ++ L)) (before8 h Z (k.val + 1)) := by
  have o := own_rows h arg5 arg7 arg10 arg11 arg12 arg13 arg14 X5 X10 X11 X12 X13 X14 k h5 h10 h11 h12 h13 h14 f7 [] P h7
  rw [List.append_nil] at o
  have s := (innerEnd_1 h 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 k h5 h10 h11 h12 h13 h14 _ _ o).1
  rw [trip_2, s, carried_end]
  dsimp only
  rw [pay64, pay66]
  refine Eq.mp (congrArg (Holds arg8.view _) ?_) ((h8.store _ (off3 k) (facts.k0_off3_inb k) _).store _ (off4 k) (facts.k0_off4_inb k) _)
  have vA : (bA k).val = 2 * k.val := rfl
  have vB : (bB k).val = 2 * k.val + 1 := rfl
  funext a
  by_cases e : a = bB k
  · subst e
    rw [Function.update_self]; unfold before8; rw [if_pos (by omega)]
  · rw [Function.update_of_ne e]
    have ne : a.val ≠ (bB k).val := fun t => e (Fin.ext t)
    by_cases e' : a = bA k
    · subst e'
      rw [Function.update_self]; unfold before8; rw [if_pos (by omega)]
    · rw [Function.update_of_ne e']
      have ne' : a.val ≠ (bA k).val := fun t => e' (Fin.ext t)
      unfold before8
      by_cases g : a.val < 2 * k.val
      · rw [if_pos g, if_pos (by omega)]
      · rw [if_neg g, if_neg (by omega)]

/-- A pair's trip, on the shared keys' gradient. -/
theorem pair_9 (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) (G : BufTy.Contents (Elt Ideal) arg9.view.ty) (L : List (View.Piece (Elt Ideal) S4096x128 .f32)) (Z : Fin 16 → B1)
    (h9 : Holds arg9.view (arg9.view.writes (Elt Ideal) G L) (before9 h Z k.val))
    (f7 : BufTy.Contents (Elt Ideal) arg7.view.ty) (P : Fin 16 → B1) (h7 : Holds arg7.view f7 P) (f8) :
    Holds arg9.view (arg9.view.writes (Elt Ideal) G ((trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 k).2.2.1 f7 f8 (arg9.view.writes (Elt Ideal) G L) ++ L)) (before9 h Z (k.val + 1)) := by
  have o := own_rows h arg5 arg7 arg10 arg11 arg12 arg13 arg14 X5 X10 X11 X12 X13 X14 k h5 h10 h11 h12 h13 h14 f7 [] P h7
  rw [List.append_nil] at o
  have s := (innerEnd_1 h 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 k h5 h10 h11 h12 h13 h14 _ _ o).1
  rw [trip_3, s, carried_end]
  dsimp only
  rw [h9.load _ (off3 k), h9.load _ (off4 k), pay65, pay67]
  refine Eq.mp (congrArg (Holds arg9.view _) ?_) ((h9.store _ (off3 k) (facts.k0_off3_inb k) _).store _ (off4 k) (facts.k0_off4_inb k) _)
  have vA : (bA k).val = 2 * k.val := rfl
  have vB : (bB k).val = 2 * k.val + 1 := rfl
  funext a
  by_cases e : a = bB k
  · subst e
    rw [Function.update_self]; unfold before9; rw [if_neg (by omega), if_pos (by omega)]
  · rw [Function.update_of_ne e]
    have ne : a.val ≠ (bB k).val := fun t => e (Fin.ext t)
    by_cases e' : a = bA k
    · subst e'
      rw [Function.update_self]; unfold before9; rw [if_neg (by omega), if_pos (by omega)]
    · rw [Function.update_of_ne e']
      have ne' : a.val ≠ (bA k).val := fun t => e' (Fin.ext t)
      unfold before9
      by_cases g : a.val < 2 * k.val
      · rw [if_pos g, if_pos (by omega)]
      · rw [if_neg g, if_neg (by omega)]

end Cert.AttnKernelIdeal.Grad

end
-- ==== Proof.AttnBody.lean ====
module

public import proofs.«01_k».proof.Proof.AttnLoop

@[expose] public section

set_option maxRecDepth 16384

noncomputable section

namespace Cert.AttnKernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal.Gen

variable {F : FTy → Type} [FloatOps F]

local notation "𝕄" => MT nD τ sig Unit (Elt F) ℕ (UR sig nD τ) ℕ

/-- The point is head 0: there the gradient of the shared key lanes is reset. -/
abbrev Reset (i : grid0.Coords) : Prop :=
  Scalar.cmpi .ne (Scalar.extui (Scalar.cmpi .eq (BitVec.ofNat 32 (i 0).val) 0#32) : BitVec 32) 0#32 = 1#1

/-- The reset of the queries' gradient: zeros over the whole buffer. -/
abbrev zero7 : List (View.Piece (Elt F) S4096x128 .f32) :=
  [⟨Rect.unit (s := S4096x128) ![0, 0] S4096x128.size inb_S4096x128_S4096x128_0_0, k0_pay2 (F := F)⟩]

/-- The reset of the shared key lanes' gradient: zeros over the whole buffer. -/
abbrev zero9 : List (View.Piece (Elt F) S4096x128 .f32) :=
  [⟨Rect.unit (s := S4096x128) ![0, 0] S4096x128.size inb_S4096x128_S4096x128_0_0, k0_pay1 (F := F)⟩]

/-- The pieces written into the three gradients at head 0, as a function of what the buffers held. -/
abbrev stReset (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) : List (View.Piece (Elt F) S4096x128 .f32) × List (View.Piece (Elt F) S4096x128 .f32) × List (View.Piece (Elt F) S4096x128 .f32) :=
  (st (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 (arg10.view.writes (Elt F) X10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1) (arg11.view.writes (Elt F) X11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2) (arg12.view.writes (Elt F) X12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1) (arg13.view.writes (Elt F) X13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1) (arg14.view.writes (Elt F) X14 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2) (arg7.view.writes (Elt F) arg7.view.junk zero7) X8 (arg9.view.writes (Elt F) arg9.view.junk zero9) (Scf.trips k0_t3_loop.lb k0_t3_loop.ub k0_t3_loop.st))

set_option maxHeartbeats 4000000 in
/-- The body at head 0, on whole buffers of any contents. -/
theorem runReset (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (hc : Reset i) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
      ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} arg7.view.writes (Elt F) arg7.view.junk ((stReset (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).1 ++ zero7)) ∗ (arg8.view.loc (c : Thread nD τ) ↦[arg8.view.set]{fullShare} arg8.view.writes (Elt F) X8 ((stReset (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.1)) ∗ (arg9.view.loc (c : Thread nD τ) ↦[arg9.view.set]{fullShare} arg9.view.writes (Elt F) arg9.view.junk ((stReset (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.2 ++ zero9)) ∗ (arg10.view.loc (c : Thread nD τ) ↦[arg10.view.set]{fullShare} (arg10.view.writes (Elt F) X10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1)) ∗ (arg11.view.loc (c : Thread nD τ) ↦[arg11.view.set]{fullShare} (arg11.view.writes (Elt F) X11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2)) ∗ (arg12.view.loc (c : Thread nD τ) ↦[arg12.view.set]{fullShare} (arg12.view.writes (Elt F) X12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1)) ∗ (arg13.view.loc (c : Thread nD τ) ↦[arg13.view.set]{fullShare} (arg13.view.writes (Elt F) X13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1)) ∗ (arg14.view.loc (c : Thread nD τ) ↦[arg14.view.set]{fullShare} (arg14.view.writes (Elt F) X14 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2))) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  iintro ⟨H1, H2, H3, H4, H5, H6, H7, H8, H9, H10, H11, H12, H13, H14, Hk⟩
  sl_exec (disch := first | sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The pieces written into the three gradients at a later head, as a function of what the buffers held. -/
abbrev stKeep (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) : List (View.Piece (Elt F) S4096x128 .f32) × List (View.Piece (Elt F) S4096x128 .f32) × List (View.Piece (Elt F) S4096x128 .f32) :=
  (st (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 (arg10.view.writes (Elt F) X10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1) (arg11.view.writes (Elt F) X11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2) (arg12.view.writes (Elt F) X12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1) (arg13.view.writes (Elt F) X13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1) (arg14.view.writes (Elt F) X14 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2) (arg7.view.writes (Elt F) arg7.view.junk zero7) X8 X9 (Scf.trips k0_t3_loop.lb k0_t3_loop.ub k0_t3_loop.st))

set_option maxHeartbeats 4000000 in
/-- The body at a later head, on whole buffers of any contents. -/
theorem runKeep (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (hc : ¬ Reset i) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (E : Set ℕ) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
      ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} arg7.view.writes (Elt F) arg7.view.junk ((stKeep (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).1 ++ zero7)) ∗ (arg8.view.loc (c : Thread nD τ) ↦[arg8.view.set]{fullShare} arg8.view.writes (Elt F) X8 ((stKeep (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.1)) ∗ (arg9.view.loc (c : Thread nD τ) ↦[arg9.view.set]{fullShare} arg9.view.writes (Elt F) X9 ((stKeep (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.2)) ∗ (arg10.view.loc (c : Thread nD τ) ↦[arg10.view.set]{fullShare} (arg10.view.writes (Elt F) X10 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1)) ∗ (arg11.view.loc (c : Thread nD τ) ↦[arg11.view.set]{fullShare} (arg11.view.writes (Elt F) X11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2)) ∗ (arg12.view.loc (c : Thread nD τ) ↦[arg12.view.set]{fullShare} (arg12.view.writes (Elt F) X12 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1)) ∗ (arg13.view.loc (c : Thread nD τ) ↦[arg13.view.set]{fullShare} (arg13.view.writes (Elt F) X13 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1)) ∗ (arg14.view.loc (c : Thread nD τ) ↦[arg14.view.set]{fullShare} (arg14.view.writes (Elt F) X14 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2))) -∗ K ⟨⟩))
    ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_attn_bwd_eq_skeleton]; unfold cc0_attn_bwd_skel
  iintro ⟨H1, H2, H3, H4, H5, H6, H7, H8, H9, H10, H11, H12, H13, H14, Hk⟩
  sl_exec (disch := first | sl_exact hc)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.AttnKernelIdeal.Grad

end
-- ==== Proof.AttnFrame.lean ====
module

public import proofs.«01_k».proof.Proof.AttnBody
public import proofs.«01_k».proof.Defs
public import proofs.«01_k».proof.Proof.Gen.AttnKernel.Frame
public import Idealize.ShloMosaic.Lib.Pipeline.DatRel
public import Idealize.ShloMosaic.Lib.Pipeline.FrameBody

@[expose] public section

set_option maxRecDepth 16384

noncomputable section

namespace Cert.AttnKernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)
open Cert.AttnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point resets exactly when it is the first of the eight heads. -/
theorem reset_iff : ∀ t : Fin grid0.N, Reset (grid0.coords t) ↔ t.val % 8 = 0 := by decide +kernel

/-- What is asked of the three gradients a point leaves: a condition for each, at each head. -/
abbrev Cond (F : FTy → Type) : Type := Fin 3 → Fin grid0.N → (S4096x128.Idx → Elt F .f32) → Prop

/-- What a point does to each window's buffer: the operands stay, the gradients meet their conditions. -/
def rel (Q : Cond F) : (w : Fin cfg0.W) → Fin cfg0.N → (Y X : (cfg0.win w).block.Idx → Elt F (cfg0.win w).elt) → Prop
  | ⟨6, _⟩, t, _, X => Q 0 t X
  | ⟨7, _⟩, t, _, X => Q 1 t X
  | ⟨8, _⟩, t, _, X => Q 2 t X
  | _, _, Y, X => X = Y

/-- The body meets the conditions: at head 0 whatever the buffers held, at a later head if the gradient of the shared
    key lanes met its own at the head before. -/
structure Meets (Q : Cond F) (c : Dev nD) : Prop where
  reset (t : Fin grid0.N) (h0 : t.val % 8 = 0) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (h1 : arg1.view.read (Elt F) X1 = (iblk m c 0 t : S4096x128.Idx → Elt F .f32)) (h2 : arg2.view.read (Elt F) X2 = (iblk m c 1 t : S4096x128.Idx → Elt F .f32)) (h3 : arg3.view.read (Elt F) X3 = (iblk m c 2 t : S4096x128.Idx → Elt F .f32)) (h4 : arg4.view.read (Elt F) X4 = (iblk m c 3 t : S4096x128.Idx → Elt F .f32)) (h5 : arg5.view.read (Elt F) X5 = (iblk m c 4 t : S4096x128.Idx → Elt F .f32)) (h6 : arg6.view.read (Elt F) X6 = (iblk m c 5 t : S4096x128.Idx → Elt F .f32)) :
    Q 0 t (arg7.view.read (Elt F) (arg7.view.writes (Elt F) arg7.view.junk ((stReset (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).1 ++ zero7)))
      ∧ Q 1 t (arg8.view.read (Elt F) (arg8.view.writes (Elt F) X8 (stReset (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.1))
      ∧ Q 2 t (arg9.view.read (Elt F) (arg9.view.writes (Elt F) arg9.view.junk ((stReset (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.2 ++ zero9)))
  keep (t : Fin grid0.N) (h0 : ¬ t.val % 8 = 0) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (h1 : arg1.view.read (Elt F) X1 = (iblk m c 0 t : S4096x128.Idx → Elt F .f32)) (h2 : arg2.view.read (Elt F) X2 = (iblk m c 1 t : S4096x128.Idx → Elt F .f32)) (h3 : arg3.view.read (Elt F) X3 = (iblk m c 2 t : S4096x128.Idx → Elt F .f32)) (h4 : arg4.view.read (Elt F) X4 = (iblk m c 3 t : S4096x128.Idx → Elt F .f32)) (h5 : arg5.view.read (Elt F) X5 = (iblk m c 4 t : S4096x128.Idx → Elt F .f32)) (h6 : arg6.view.read (Elt F) X6 = (iblk m c 5 t : S4096x128.Idx → Elt F .f32))
      (h9 : Q 2 ⟨t.val - 1, Nat.lt_of_le_of_lt (Nat.sub_le _ _) t.isLt⟩ (arg9.view.read (Elt F) X9)) :
    Q 0 t (arg7.view.read (Elt F) (arg7.view.writes (Elt F) arg7.view.junk ((stKeep (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).1 ++ zero7)))
      ∧ Q 1 t (arg8.view.read (Elt F) (arg8.view.writes (Elt F) X8 (stKeep (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.1))
      ∧ Q 2 t (arg9.view.read (Elt F) (arg9.view.writes (Elt F) X9 ((stKeep (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X9 X10 X11 X12 X13 X14).2.2)))

/-- The proof data on core `c`: the arrays as the region finds them, each operand left in place, the gradients held to
    their conditions. -/
def rdats (Q : Cond F) (c : Dev nD) : RDat τ (Elt F) Unit ℕ (UR sig nD τ) ℕ cfg0 c where
  A w := V m c (Pipeline.arrRef spec0 w)
  after := rel Q
  Φ _ := Pipeline.ΦA spec0 c
  q _ := fullShare
  owed _ := 0

theorem A_eq (Q : Cond F) (c : Dev nD) (w : Fin cfg0.W) : (rdats m Q c).A w = V m c (Pipeline.arrRef spec0 w) := by dsimp only [rdats]
theorem found0 (Q : Cond F) (c : Dev nD) (t : Fin cfg0.N) (Y) (h : (rdats m Q c).Finds 0 t Y) : Y = iblk m c 0 t := by
  obtain ⟨d, hd⟩ := (rdats m Q c).finds_in_eq_fetched 0 rfl (fun _ _ _ => rfl) (fun _ _ _ h => h) t Y h
  exact hd.trans rfl
theorem found1 (Q : Cond F) (c : Dev nD) (t : Fin cfg0.N) (Y) (h : (rdats m Q c).Finds 1 t Y) : Y = iblk m c 1 t := by
  obtain ⟨d, hd⟩ := (rdats m Q c).finds_in_eq_fetched 1 rfl (fun _ _ _ => rfl) (fun _ _ _ h => h) t Y h
  exact hd.trans rfl
theorem found2 (Q : Cond F) (c : Dev nD) (t : Fin cfg0.N) (Y) (h : (rdats m Q c).Finds 2 t Y) : Y = iblk m c 2 t := by
  obtain ⟨d, hd⟩ := (rdats m Q c).finds_in_eq_fetched 2 rfl (fun _ _ _ => rfl) (fun _ _ _ h => h) t Y h
  exact hd.trans rfl
theorem found3 (Q : Cond F) (c : Dev nD) (t : Fin cfg0.N) (Y) (h : (rdats m Q c).Finds 3 t Y) : Y = iblk m c 3 t := by
  obtain ⟨d, hd⟩ := (rdats m Q c).finds_in_eq_fetched 3 rfl (fun _ _ _ => rfl) (fun _ _ _ h => h) t Y h
  exact hd.trans rfl
theorem found4 (Q : Cond F) (c : Dev nD) (t : Fin cfg0.N) (Y) (h : (rdats m Q c).Finds 4 t Y) : Y = iblk m c 4 t := by
  obtain ⟨d, hd⟩ := (rdats m Q c).finds_in_eq_fetched 4 rfl (fun _ _ _ => rfl) (fun _ _ _ h => h) t Y h
  exact hd.trans rfl
theorem found5 (Q : Cond F) (c : Dev nD) (t : Fin cfg0.N) (Y) (h : (rdats m Q c).Finds 5 t Y) : Y = iblk m c 5 t := by
  obtain ⟨d, hd⟩ := (rdats m Q c).finds_in_eq_fetched 5 rfl (fun _ _ _ => rfl) (fun _ _ _ h => h) t Y h
  exact hd.trans rfl

/-- At a head that is not the first, the gradient of the shared key lanes is found as the head before left it. -/
theorem found8 (Q : Cond F) (c : Dev nD) (t : Fin cfg0.N) (h0 : ¬ t.val % 8 = 0) (Y : S4096x128.Idx → Elt F .f32)
    (h : (rdats m Q c).Finds 8 t Y) : Q 2 ⟨t.val - 1, Nat.lt_of_le_of_lt (Nat.sub_le _ _) t.isLt⟩ Y := by
  have hN : t.val < 8 := lt_of_lt_of_eq t.isLt (show cfg0.N = 8 from N_0)
  rcases ((rdats m Q c).finds_of_pos (w := 8) rfl (by omega) Y).mp h with hf | hl
  · have := (flush0_8 _).mp hf; dsimp only at this; omega
  · obtain ⟨_, _, hl⟩ := hl; exact hl

set_option maxHeartbeats 4000000 in
/-- The body at a head, on the blocks of its operands. -/
theorem body_owns (Q : Cond F) (c : Dev nD) (hQ : Meets m Q c) (t : Fin grid0.N) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S4096x128 .bf16) (harg13 : arg13.IsWhole) (arg14 : Memref sig .tc .vmem S4096x128 .f32) (harg14 : arg14.IsWhole) (Y1 Y2 Y3 Y4 Y5 Y6 Y7 Y8 Y9 : S4096x128.Idx → Elt F .f32)
    (e1 : Y1 = (iblk m c 0 t : S4096x128.Idx → Elt F .f32)) (e2 : Y2 = (iblk m c 1 t : S4096x128.Idx → Elt F .f32)) (e3 : Y3 = (iblk m c 2 t : S4096x128.Idx → Elt F .f32)) (e4 : Y4 = (iblk m c 3 t : S4096x128.Idx → Elt F .f32)) (e5 : Y5 = (iblk m c 4 t : S4096x128.Idx → Elt F .f32)) (e6 : Y6 = (iblk m c 5 t : S4096x128.Idx → Elt F .f32))
    (e9 : ¬ t.val % 8 = 0 → Q 2 ⟨t.val - 1, Nat.lt_of_le_of_lt (Nat.sub_le _ _) t.isLt⟩ Y9) (K : PUnit → sProp 𝕄) :
    iprop((owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))
      ∗ ((owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ (∃ X, ⌜Q 0 t X⌝ ∗ owns (c : Thread nD τ) arg7 fullShare X) ∗ (∃ X, ⌜Q 1 t X⌝ ∗ owns (c : Thread nD τ) arg8 fullShare X) ∗ (∃ X, ⌜Q 2 t X⌝ ∗ owns (c : Thread nD τ) arg9 fullShare X) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) Set.univ (cc0_attn_bwd (grid0.coords t) arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, %h10, H10⟩, ⟨%d11, %f11, %h11, H11⟩, ⟨%d12, %f12, %h12, H12⟩, ⟨%d13, %f13, %h13, H13⟩, ⟨%d14, %f14, %h14, H14⟩⟩, Hk⟩
  by_cases h0 : t.val % 8 = 0
  · have K := hQ.reset t h0 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 (h1.trans e1) (h2.trans e2) (h3.trans e3) (h4.trans e4) (h5.trans e5) (h6.trans e6)
    iapply (runReset (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 ((reset_iff t).mpr h0) f1 f2 f3 f4 f5 f6 f7 f8 f9 f10 f11 f12 f13 f14 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, H10, H11, H12, H13, H14⟩
    iapply Hk
    isplitl [H1]
    · iexists f1; isplitr; swap; · iexact H1
      ipureintro; exact h1
    isplitl [H2]
    · iexists f2; isplitr; swap; · iexact H2
      ipureintro; exact h2
    isplitl [H3]
    · iexists f3; isplitr; swap; · iexact H3
      ipureintro; exact h3
    isplitl [H4]
    · iexists f4; isplitr; swap; · iexact H4
      ipureintro; exact h4
    isplitl [H5]
    · iexists f5; isplitr; swap; · iexact H5
      ipureintro; exact h5
    isplitl [H6]
    · iexists f6; isplitr; swap; · iexact H6
      ipureintro; exact h6
    isplitl [H7]
    · iexists _; isplitr; swap
      · iexists _; isplitr; swap; · iexact H7
        ipureintro; rfl
      ipureintro; exact K.1
    isplitl [H8]
    · iexists _; isplitr; swap
      · iexists _; isplitr; swap; · iexact H8
        ipureintro; rfl
      ipureintro; exact K.2.1
    isplitl [H9]
    · iexists _; isplitr; swap
      · iexists _; isplitr; swap; · iexact H9
        ipureintro; rfl
      ipureintro; exact K.2.2
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl
  · have K := hQ.keep t h0 arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 f6 f7 f8 f9 f10 f11 f12 f13 f14 (h1.trans e1) (h2.trans e2) (h3.trans e3) (h4.trans e4) (h5.trans e5) (h6.trans e6) (by rw [h9]; exact e9 h0)
    iapply (runKeep (F := F) c (grid0.coords t) arg1 harg1 arg2 harg2 arg3 harg3 arg4 harg4 arg5 harg5 arg6 harg6 arg7 harg7 arg8 harg8 arg9 harg9 arg10 harg10 arg11 harg11 arg12 harg12 arg13 harg13 arg14 harg14 (fun h => h0 ((reset_iff t).mp h)) f1 f2 f3 f4 f5 f6 f7 f8 f9 f10 f11 f12 f13 f14 Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H1, H2, H3, H4, H5, H6, H7, H8, H9, H10, H11, H12, H13, H14⟩
    iapply Hk
    isplitl [H1]
    · iexists f1; isplitr; swap; · iexact H1
      ipureintro; exact h1
    isplitl [H2]
    · iexists f2; isplitr; swap; · iexact H2
      ipureintro; exact h2
    isplitl [H3]
    · iexists f3; isplitr; swap; · iexact H3
      ipureintro; exact h3
    isplitl [H4]
    · iexists f4; isplitr; swap; · iexact H4
      ipureintro; exact h4
    isplitl [H5]
    · iexists f5; isplitr; swap; · iexact H5
      ipureintro; exact h5
    isplitl [H6]
    · iexists f6; isplitr; swap; · iexact H6
      ipureintro; exact h6
    isplitl [H7]
    · iexists _; isplitr; swap
      · iexists _; isplitr; swap; · iexact H7
        ipureintro; rfl
      ipureintro; exact K.1
    isplitl [H8]
    · iexists _; isplitr; swap
      · iexists _; isplitr; swap; · iexact H8
        ipureintro; rfl
      ipureintro; exact K.2.1
    isplitl [H9]
    · iexists _; isplitr; swap
      · iexists _; isplitr; swap; · iexact H9
        ipureintro; rfl
      ipureintro; exact K.2.2
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

/-- What the body is called with at a head, -/
def bodyPre (Q : Cond F) (c : Dev nD) (t : Fin cfg0.N) (Y : (w : Fin cfg0.W) → (cfg0.win w).block.Idx → Elt F (cfg0.win w).elt) : sProp 𝕄 :=
  iprop(Pipeline.ΦA spec0 c ∗ (rdats m Q c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8))
/-- and what it returns: the operands in place, the gradients meeting their conditions. -/
def bodyPost (Q : Cond F) (c : Dev nD) (t : Fin cfg0.N) (Y : (w : Fin cfg0.W) → (cfg0.win w).block.Idx → Elt F (cfg0.win w).elt) : sProp 𝕄 :=
  iprop(Pipeline.ΦA spec0 c ∗ (rdats m Q c).owesAt () t.castSucc
    ∗ (∃ X, ⌜X = Y 0⌝ ∗ owns (c : Thread nD τ) (st0_0 t) fullShare X) ∗ (∃ X, ⌜X = Y 1⌝ ∗ owns (c : Thread nD τ) (st0_1 t) fullShare X) ∗ (∃ X, ⌜X = Y 2⌝ ∗ owns (c : Thread nD τ) (st0_2 t) fullShare X) ∗ (∃ X, ⌜X = Y 3⌝ ∗ owns (c : Thread nD τ) (st0_3 t) fullShare X) ∗ (∃ X, ⌜X = Y 4⌝ ∗ owns (c : Thread nD τ) (st0_4 t) fullShare X) ∗ (∃ X, ⌜X = Y 5⌝ ∗ owns (c : Thread nD τ) (st0_5 t) fullShare X) ∗ (∃ X : S4096x128.Idx → Elt F .f32, ⌜Q 0 t X⌝ ∗ owns (c : Thread nD τ) (st0_6 t) fullShare X) ∗ (∃ X : S4096x128.Idx → Elt F .f32, ⌜Q 1 t X⌝ ∗ owns (c : Thread nD τ) (st0_7 t) fullShare X) ∗ (∃ X : S4096x128.Idx → Elt F .f32, ⌜Q 2 t X⌝ ∗ owns (c : Thread nD τ) (st0_8 t) fullShare X))

/-- The invariant: the five scratches at some contents, and the generator register. -/
theorem phi_eq (c : Dev nD) : (Pipeline.ΦA (Val := Elt F) (U := UR sig nD τ) spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA; rw [scopedRest0_eq]; simp only [owns_whole]; try rfl

/-- The body's triple at a head. -/
theorem sound_body (Q : Cond F) (c : Dev nD) (hQ : Meets m Q c) (t : Fin cfg0.N) (Y) (hY : ∀ w, (rdats m Q c).Finds w t (Y w)) :
    bodyPre m Q c t Y ⊢ wp frame (wpE (defs₀ (F := F)) Variants.none c none) Set.univ (bodyAt0 t) (fun _ => bodyPost m Q c t Y) := by
  unfold bodyPre bodyPost bodyAt0
  rw [phi_eq]
  iintro ⟨⟨HS, Hr⟩, Ho, H0, H1, H2, H3, H4, H5, H6, H7, H8⟩
  iapply (body_owns m Q c hQ t _ _ _ _ _ _ _ _ _ _ _ _ _ _ _ _ _ _ _ _ _ _ _ _ _ _ _ _ (Y 0) (Y 1) (Y 2) (Y 3) (Y 4) (Y 5) (Y 6) (Y 7) (Y 8) (found0 m Q c t _ (hY 0)) (found1 m Q c t _ (hY 1)) (found2 m Q c t _ (hY 2)) (found3 m Q c t _ (hY 3)) (found4 m Q c t _ (hY 4)) (found5 m Q c t _ (hY 5)) (fun h0 => found8 m Q c t h0 _ (hY 8)) _)
  isplitl [HS H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iintro ⟨H0, H1, H2, H3, H4, H5, H6, H7, H8, HS⟩
  isplitl [HS Hr]
  · isplitl [HS]; · iexact HS
    iexact Hr
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]; · iexact H6
  isplitl [H7]; · iexact H7
  iexact H8

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (Q : Cond F) (c : Dev nD) (hQ : Meets m Q c) :
    (rdats m Q c).BodyObligation (defs₀ (F := F)) Variants.none () Set.univ := fun t Y hY => by
  rw [bigSep_W0, bigSep_W0, defs₀_row]
  refine triple_restated (sound_body m Q c hQ t Y hY) rfl (Entails.of_eq ?_) (fun _ => Entails.of_eq ?_)
  · rfl
  · rfl

set_option backward.isDefEq.respectTransparency.types false in
/-- The launch: every run ends with the gradients' arrays made of blocks that meet the conditions, every buffer that
    no window writes as the kernel found it, and every semaphore at zero. -/
theorem run_main (Q : Cond F) (hQ : ∀ c, Meets m Q c) : θ_run defs (onTc (τ := τ) (main (F := F))) (s₀ m ρ)
    (fun r => RDat.FramePost cfg0 (rdats m Q) (V m) r ∧ r.2.sem = fun _ => 0) :=
  RDat.θ_run_frame (Q' := _) cfgs (0 : Fin 1) launch0 defs₀ Variants.none (rdats m Q) m ρ main
    (hbody := fun c => body_obligation m Q c (hQ c)) (hshare := fun c => (rdats m Q c).share_full fun _ => rfl)
    (howed := fun _ _ => rfl) (V := V m) (hmain := hmain m Variants.none) (hA := A_eq m Q) (hΦ := fun _ _ => rfl)

/-- What every run leaves: the arguments unchanged and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ (fun _ _ _ => True) fun c =>
      ⟨fun t h0 => by intros; exact ⟨trivial, trivial, trivial⟩, fun t h0 => by intros; exact ⟨trivial, trivial, trivial⟩⟩)

/-- The frame of the gradient over the extended reals. -/
theorem frame_ideal : Cert.quiescent_AttnKernelIdeal := fun m ρ _ => frame_any (F := Ideal) m ρ

/-- The frame of the gradient over machine words: the same run. -/
theorem frame_kernel : Cert.quiescent_AttnKernel := by
  have h : Cert.quiescent_AttnKernel = (∀ (m : (ℓ : Loc nD τ sig) → Buf (Elt Bits) ℓ) (ρ : Dev nD → PrngReg), Cert.Pre_AttnKernel m → θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)) := by sl_kernel_rfl
  rw [h]
  exact fun m ρ _ => frame_any m ρ

end Cert.AttnKernelIdeal.Grad

end
-- ==== Proof.AttnRun.lean ====
module

public import proofs.«01_k».proof.Proof.AttnPair
public import proofs.«01_k».proof.Proof.AttnFrame
public import Idealize.ShloMosaic.Lib.VecWindow

@[expose] public section

set_option maxRecDepth 16384

noncomputable section

namespace Cert.AttnKernelIdeal.Grad

open Idealize.ShloMosaic Idealize.ShloMosaic.TcCoe Idealize.ShloMosaic.Tactic
open Cert.AttnKernelIdeal.Gen

/-! ### Sums by blocks -/

/-- Every row is a row of a block. -/
theorem row_surj (r : Fin 4096) : row ⟨r.val / 256, by omega⟩ ⟨r.val % 256, by omega⟩ = r :=
  Fin.ext (show 256 * (r.val / 256) + r.val % 256 = r.val by omega)

/-- Rows as block and place. -/
def rowEquiv : Fin 16 × Fin 256 ≃ Fin 4096 where
  toFun x := row x.1 x.2
  invFun r := (⟨r.val / 256, by omega⟩, ⟨r.val % 256, by omega⟩)
  left_inv x := Prod.ext (Fin.ext (show (256 * x.1.val + x.2.val) / 256 = x.1.val by omega)) (Fin.ext (show (256 * x.1.val + x.2.val) % 256 = x.2.val by omega))
  right_inv r := row_surj r

theorem sum_rows (f : Fin 4096 → EReal) : ∑ a : Fin 16, ∑ i : Fin 256, f (row a i) = ∑ r, f r := by
  rw [← Fintype.sum_prod_type']
  exact Fintype.sum_equiv rowEquiv _ _ fun x => rfl

/-- The queries' gradient of one head. -/
def dqArr (h : Head) : Arr := fun r d => ∑ k, h.ds r k * h.k k d
/-- The keys' gradient of one head. -/
def dkArr (h : Head) : Arr := fun k d => ∑ r, h.ds r k * h.q r d
/-- The values' gradient of one head. -/
def dvArr (h : Head) : Arr := fun k d => ∑ r, h.p r k * h.g r d

/-- One head's gradient, of the region's operands. -/
def headOf (q kv kpe o l g : Arr) : Head where
  q := q
  k := fun r d => if d.val < 64 then kv r d else kpe r d
  v := fun r d => if 64 ≤ d.val then kv r d else 0
  g := g
  s := fun r _ => ∑ d, g r d * o r d
  l := l

/-- A buffer's contents by row and lane. -/
def arrOf (x : S4096x128.Idx → EReal) : Arr := fun r d => x (ix2 r d)

theorem Holds.of_read {sp : Space} {v : View sig .tc sp S4096x128 .f32} {f : v.ty.Contents (Elt Ideal)} {x : S4096x128.Idx → EReal}
    (h : v.read (Elt Ideal) f = x) : Holds v f (blk (arrOf x)) := fun a i j => congrFun h _
theorem Holds.any {sp : Space} (v : View sig .tc sp S4096x128 .f32) (f : v.ty.Contents (Elt Ideal)) : ∃ P, Holds v f P :=
  ⟨fun a y => v.read (Elt Ideal) f (ix2 (row a (y 0)) (y 1)), fun a i j => rfl⟩
theorem Holds16.any {sp : Space} (v : View sig .tc sp S4096x128 .bf16) (f : v.ty.Contents (Elt Ideal)) : ∃ P, Holds16 v f P :=
  ⟨fun a y => v.read (Elt Ideal) f (ix2 (row a (y 0)) (y 1)), fun a i j => rfl⟩

theorem off1 : ∀ n, k0_off1 n = ![256 * n.val, 0] := by decide +kernel
theorem off2 : ∀ n, k0_off2 n = ![256 * n.val, 0] := by decide +kernel
theorem trips1 : k0_t1_loop.trips = 16 := by decide +kernel
theorem trips2 : k0_t2_loop.trips = 16 := by decide +kernel

/-- Blocks filled up to `n`. -/
def filled (n : ℕ) (W P : Fin 16 → B1) (a : Fin 16) : B1 := if a.val < n then W a else P a

theorem filled_succ (n : Fin 16) (W P : Fin 16 → B1) : Function.update (filled n.val W P) n (W n) = filled (n.val + 1) W P := by
  funext a
  by_cases e : a = n
  · subst e; rw [Function.update_self]; unfold filled; rw [if_pos (Nat.lt_succ_self _)]
  · rw [Function.update_of_ne e]
    have : a.val ≠ n.val := fun t => e (Fin.ext t)
    unfold filled
    by_cases l : a.val < n.val
    · rw [if_pos l, if_pos (by omega)]
    · rw [if_neg l, if_neg (by omega)]
theorem filled_all (W P : Fin 16 → B1) : filled 16 W P = W := funext fun a => if_pos a.isLt

variable (h : Head)
variable (𝒱 : Variants) (c : Dev nD) (bd : Option 𝒱.V) (i : grid0.Coords)
variable (arg1 : Memref sig .tc .vmem S4096x128 .f32) (harg1 : arg1.IsWhole)
variable (arg2 : Memref sig .tc .vmem S4096x128 .f32) (harg2 : arg2.IsWhole)
variable (arg3 : Memref sig .tc .vmem S4096x128 .f32) (harg3 : arg3.IsWhole)
variable (arg4 : Memref sig .tc .vmem S4096x128 .f32) (harg4 : arg4.IsWhole)
variable (arg5 : Memref sig .tc .vmem S4096x128 .f32) (harg5 : arg5.IsWhole)
variable (arg6 : Memref sig .tc .vmem S4096x128 .f32) (harg6 : arg6.IsWhole)
variable (arg7 : Memref sig .tc .vmem S4096x128 .f32) (harg7 : arg7.IsWhole)
variable (arg8 : Memref sig .tc .vmem S4096x128 .f32) (harg8 : arg8.IsWhole)
variable (arg9 : Memref sig .tc .vmem S4096x128 .f32) (harg9 : arg9.IsWhole)
variable (arg10 : Memref sig .tc .vmem S4096x128 .bf16) (harg10 : arg10.IsWhole)
variable (arg11 : Memref sig .tc .vmem S4096x128 .bf16) (harg11 : arg11.IsWhole)
variable (arg12 : Memref sig .tc .vmem S4096x128 .bf16) (harg12 : arg12.IsWhole)
variable (arg13 : Memref sig .tc .vmem S4096x128 .bf16) (harg13 : arg13.IsWhole)
variable (arg14 : Memref sig .tc .vmem S4096x128 .f32) (harg14 : arg14.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)

/-! ### The loops that fill the head's operands -/

/-- Keys and values, before trip `n`. -/
theorem fill1 (q kv kpe o_ l g : Arr) (h2 : Holds arg2.view X2 (blk kv)) (h3 : Holds arg3.view X3 (blk kpe)) (P Q : Fin 16 → B1)
    (h10 : Holds16 arg10.view X10 P) (h11 : Holds16 arg11.view X11 Q) (n : ℕ) (hn : n ≤ 16) :
    Holds16 arg10.view (arg10.view.writes (Elt Ideal) X10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X3 n).1) (filled n (blk (headOf q kv kpe o_ l g).k) P)
      ∧ Holds16 arg11.view (arg11.view.writes (Elt Ideal) X11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X3 n).2) (filled n (blk (headOf q kv kpe o_ l g).v) Q) := by
  induction n with
  | zero => exact ⟨fun a i j => (h10 a i j).trans rfl, fun a i j => (h11 a i j).trans rfl⟩
  | succ n ih =>
    obtain ⟨e, e'⟩ := ih (by omega)
    have w : n < k0_t1_loop.trips := by rw [trips1]; omega
    have s := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X2 X3 ⟨n, w⟩
    dsimp only at s
    rw [s]
    have o := off1 ⟨n, w⟩
    dsimp only [tripL_k0_t1]
    unfold trip_k0_t1
    dsimp only
    rw [h2.load ⟨n, by omega⟩ o, h3.load ⟨n, by omega⟩ o, pay4, pay5]
    have f1 := e.store ⟨n, by omega⟩ o (facts.k0_off1_inb ⟨n, w⟩) (blk (headOf q kv kpe o_ l g).k ⟨n, by omega⟩)
    have f2 := e'.store ⟨n, by omega⟩ o (facts.k0_off1_inb ⟨n, w⟩) (blk (headOf q kv kpe o_ l g).v ⟨n, by omega⟩)
    rw [filled_succ ⟨n, by omega⟩] at f1 f2
    exact ⟨f1, f2⟩

/-- Queries, the output's gradient and its row sums with the output, before trip `n`. -/
theorem fill2 (q kv kpe o l g : Arr) (h1 : Holds arg1.view X1 (blk q)) (h4 : Holds arg4.view X4 (blk o)) (h6 : Holds arg6.view X6 (blk g)) (P Q R : Fin 16 → B1)
    (h12 : Holds16 arg12.view X12 P) (h13 : Holds16 arg13.view X13 Q) (h14 : Holds arg14.view X14 R) (n : ℕ) (hn : n ≤ 16) :
    Holds16 arg12.view (arg12.view.writes (Elt Ideal) X12 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X6 n).1) (filled n (blk (headOf q kv kpe o l g).q) P)
      ∧ Holds16 arg13.view (arg13.view.writes (Elt Ideal) X13 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X6 n).2.1) (filled n (blk (headOf q kv kpe o l g).g) Q)
      ∧ Holds arg14.view (arg14.view.writes (Elt Ideal) X14 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X6 n).2.2) (filled n (blk (headOf q kv kpe o l g).s) R) := by
  induction n with
  | zero => exact ⟨fun a i j => (h12 a i j).trans rfl, fun a i j => (h13 a i j).trans rfl, fun a i j => (h14 a i j).trans rfl⟩
  | succ n ih =>
    obtain ⟨e, e', e''⟩ := ih (by omega)
    have w : n < k0_t2_loop.trips := by rw [trips2]; omega
    have s := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X6 ⟨n, w⟩
    dsimp only at s
    rw [s]
    have o' := off2 ⟨n, w⟩
    dsimp only [tripL_k0_t2]
    unfold trip_k0_t2
    dsimp only
    rw [h1.load ⟨n, by omega⟩ o', h4.load ⟨n, by omega⟩ o', h6.load ⟨n, by omega⟩ o', pay7, pay8, pay9]
    have f1 := e.store ⟨n, by omega⟩ o' (facts.k0_off2_inb ⟨n, w⟩) (blk (headOf q kv kpe o l g).q ⟨n, by omega⟩)
    have f2 := e'.store ⟨n, by omega⟩ o' (facts.k0_off2_inb ⟨n, w⟩) (blk (headOf q kv kpe o l g).g ⟨n, by omega⟩)
    have f3 := e''.store ⟨n, by omega⟩ o' (facts.k0_off2_inb ⟨n, w⟩) (blk (headOf q kv kpe o l g).s ⟨n, by omega⟩)
    rw [filled_succ ⟨n, by omega⟩] at f1 f2 f3
    exact ⟨f1, f2, f3⟩

/-! ### The loop over pairs of key blocks -/

/-- The three gradients before pair `n`. -/
theorem pairs (h5 : Holds arg5.view X5 (blk h.l)) (h10 : Holds16 arg10.view X10 (blk h.k)) (h11 : Holds16 arg11.view X11 (blk h.v))
    (h12 : Holds16 arg12.view X12 (blk h.q)) (h13 : Holds16 arg13.view X13 (blk h.g)) (h14 : Holds arg14.view X14 (blk h.s)) (G7 : BufTy.Contents (Elt Ideal) arg7.view.ty) (G8 : BufTy.Contents (Elt Ideal) arg8.view.ty) (G9 : BufTy.Contents (Elt Ideal) arg9.view.ty)
    (Z7 Z8 Z9 : Fin 16 → B1) (h7 : Holds arg7.view G7 Z7) (h8 : Holds arg8.view G8 Z8) (h9 : Holds arg9.view G9 Z9) (n : ℕ) (hn : n ≤ 8) :
    Holds arg7.view (arg7.view.writes (Elt Ideal) G7 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 G7 G8 G9 n).1) (before7 h Z7 n)
      ∧ Holds arg8.view (arg8.view.writes (Elt Ideal) G8 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 G7 G8 G9 n).2.1) (before8 h Z8 n)
      ∧ Holds arg9.view (arg9.view.writes (Elt Ideal) G9 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 G7 G8 G9 n).2.2) (before9 h Z9 n) := by
  induction n with
  | zero =>
    refine ⟨fun a i j => (h7 a i j).trans ?_, fun a i j => (h8 a i j).trans rfl, fun a i j => (h9 a i j).trans rfl⟩
    unfold before7; rw [Nat.mul_zero, upto_zero, add_zero]
  | succ n ih =>
    obtain ⟨e7, e8, e9⟩ := ih (by omega)
    have w : n < k0_t3_loop.trips := by rw [trips3]; omega
    have s := st_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 G7 G8 G9 ⟨n, w⟩
    dsimp only at s
    rw [s]
    dsimp only
    exact ⟨pair_7 h 𝒱 c bd i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 X10 X11 X12 X13 X14 ⟨n, w⟩ h5 h10 h11 h12 h13 h14 G7 _ Z7 e7 _ _,
      pair_8 h 𝒱 c bd i arg1 harg1 arg2 harg2 arg3 harg3 arg4 harg4 arg5 harg5 arg6 harg6 arg7 harg7 arg8 harg8 arg9 harg9 arg10 harg10 arg11 harg11 arg12 harg12 arg13 harg13 arg14 harg14 X5 X10 X11 X12 X13 X14 ⟨n, w⟩ h5 h10 h11 h12 h13 h14 G8 _ Z8 e8 _ _ e7 _,
      pair_9 h 𝒱 c bd i arg1 harg1 arg2 harg2 arg3 harg3 arg4 harg4 arg5 harg5 arg6 harg6 arg7 harg7 arg8 harg8 arg9 harg9 arg10 harg10 arg11 harg11 arg12 harg12 arg13 harg13 arg14 harg14 X5 X10 X11 X12 X13 X14 ⟨n, w⟩ h5 h10 h11 h12 h13 h14 G9 _ Z9 e9 _ _ e7 _⟩

end Cert.AttnKernelIdeal.Grad

end
-- ==== Proof.AttnReal.lean ====
module

public import proofs.«01_k».proof.Proof.AttnRefGrad
public import proofs.«01_k».proof.Proof.AttnRun

/-! The two ways of writing the attention's gradient agree where the arguments are real numbers: with each row's
    logarithm of the sum and its sum of output times gradient saved by the forward pass, and through the softmax's own
    quotient. -/

@[expose] public section

set_option maxRecDepth 16384

noncomputable section

open Idealize.ShloMosaic

namespace Cert.AttnKernelIdeal.Grad

open Cert.AttnReferenceIdeal.Grad

/-! ## Reals among the extended reals -/

/-- An extended real that is a real number. -/
def IsReal (x : EReal) : Prop := ∃ y : ℝ, x = (y : EReal)
theorem IsReal.mul {x y : EReal} : IsReal x → IsReal y → IsReal (x * y) := fun ⟨a, ha⟩ ⟨b, hb⟩ => ⟨a * b, by rw [ha, hb, EReal.coe_mul]⟩
theorem coe_sum {ι : Type} (s : Finset ι) (f : ι → ℝ) : ∑ i ∈ s, (f i : EReal) = ((∑ i ∈ s, f i : ℝ) : EReal) := by
  classical
  induction s using Finset.induction_on with
  | empty => rw [Finset.sum_empty, Finset.sum_empty]; rfl
  | insert a s h ih => rw [Finset.sum_insert h, Finset.sum_insert h, ih, EReal.coe_add]
theorem IsReal.sum {ι : Type} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩
theorem div_real (a b : ℝ) (h : b ≠ 0) : Ideal.div (a : EReal) (b : EReal) = ((a / b : ℝ) : EReal) := by
  unfold Ideal.div
  rw [if_neg (by exact_mod_cast h), ← EReal.coe_inv, ← EReal.coe_mul]
  rfl
theorem scale_real : IsReal scale := by
  show IsReal (Ideal.ofBits FTy.f32 0x3DD105EC#32)
  simp only [Ideal.ofBits, Ideal.ieee]
  rw [if_neg (by decide), if_neg (by decide)]
  exact ⟨_, rfl⟩

/-! ## One row of the softmax -/

theorem softmax_row {n : Nat} (see : Fin n → Prop) [DecidablePred see] (S : Fin n → ℝ) (k0 : Fin n) (h0 : see k0) (mx L : EReal) (e : Fin n → EReal)
    (hmx : mx = Finset.univ.sup fun k => if see k then (S k : EReal) else ⊥) (he : ∀ k, e k = Ideal.exp ((if see k then (S k : EReal) else ⊥) - mx))
    (hL : L = ∑ k, e k) : ∃ (M l : ℝ) (E : Fin n → ℝ), mx = (M : EReal) ∧ L = (l : EReal) ∧ 0 < l ∧ (∀ k, e k = (E k : EReal))
      ∧ ∀ k, see k → E k = Real.exp (S k - M) := by
  obtain ⟨k1, _, h1⟩ := Finset.exists_mem_eq_sup (Finset.univ : Finset (Fin n)) ⟨k0, Finset.mem_univ k0⟩ (fun k => if see k then (S k : EReal) else ⊥)
  have hs : see k1 := by
    by_contra h
    have := Finset.le_sup (f := fun k => if see k then (S k : EReal) else ⊥) (Finset.mem_univ k0)
    rw [h1, if_neg h, if_pos h0] at this
    exact absurd (le_bot_iff.mp this) (EReal.coe_ne_bot _)
  have hM : mx = (S k1 : EReal) := by rw [hmx, h1, if_pos hs]
  have hE : ∀ k, e k = ((if see k then Real.exp (S k - S k1) else 0 : ℝ) : EReal) := fun k => by
    rw [he k, hM]
    by_cases h : see k
    · rw [if_pos h, if_pos h, ← EReal.coe_sub]; rfl
    · rw [if_neg h, if_neg h, EReal.bot_sub]; rfl
  refine ⟨S k1, ∑ k, (if see k then Real.exp (S k - S k1) else 0 : ℝ), fun k => if see k then Real.exp (S k - S k1) else 0, hM, ?_, ?_, hE, fun k h => if_pos h⟩
  · rw [hL, ← coe_sum]; exact Finset.sum_congr rfl fun k _ => hE k
  · refine Finset.sum_pos' (fun k _ => ?_) ⟨k0, Finset.mem_univ k0, ?_⟩
    · by_cases h : see k
      · rw [if_pos h]; exact (Real.exp_pos _).le
      · rw [if_neg h]
    · rw [if_pos h0]; exact Real.exp_pos _

theorem saved_exp (s M l : ℝ) (h : 0 < l) : Ideal.exp ((s : EReal) - ((M : EReal) + Ideal.log (l : EReal))) = Ideal.div ((Real.exp (s - M) : ℝ) : EReal) (l : EReal) := by
  have hlog : Ideal.log (l : EReal) = ((Real.log l : ℝ) : EReal) := by
    show (if l ≤ 0 then ⊥ else (Real.log l : EReal)) = _
    rw [if_neg (not_le.mpr h)]
  rw [hlog, ← EReal.coe_add, ← EReal.coe_sub, div_real _ _ h.ne']
  show ((Real.exp (s - (M + Real.log l)) : ℝ) : EReal) = _
  rw [← sub_sub, Real.exp_sub (s - M), Real.exp_log h]

theorem pair_real (E l P D c : ℝ) (h : l ≠ 0) : ((E / l : ℝ) : EReal) * ((P : EReal) - (D : EReal)) * (c : EReal)
    = (((P / l : ℝ) : EReal) + -((D / l : ℝ) : EReal)) * (E : EReal) * (c : EReal) := by
  rw [← EReal.coe_sub, ← EReal.coe_mul, ← EReal.coe_mul, ← EReal.coe_neg, ← EReal.coe_add, ← EReal.coe_mul, ← EReal.coe_mul]
  refine congrArg _ ?_
  field_simp
  ring

theorem row_sums {n : Nat} (g : Fin 64 → ℝ) (v : Fin n → Fin 64 → ℝ) (w : Fin n → ℝ) :
    ∑ d, g d * ∑ k, v k d * w k = ∑ k, (∑ d, g d * v k d) * w k := by
  simp only [Finset.mul_sum, Finset.sum_mul]
  rw [Finset.sum_comm]
  exact Finset.sum_congr rfl fun k _ => Finset.sum_congr rfl fun d _ => (mul_assoc _ _ _).symm

/-! ## The head's two squares -/

variable (a0 : QK) (a1 : KV) (a2 : PE) (a3 : OV) (H : Fin 8)

theorem rowMax0_eq : rowMax0 a0 a1 a2 = rowMax a0 a1 a2 := by
  funext y
  have e : y = ix3 0 (y 1) (y 2) := (eq_ix3 y).trans (congrArg (fun z : Fin 1 => (ix3 z (y 1) (y 2) : Cert.AttnReferenceIdeal.S1x8x4096.Idx)) (Subsingleton.elim (α := Fin 1) (y 0) 0))
  rw [e]
  exact rowMax0_apply a0 a1 a2 _ _

/-- What a head's parts are asked to be. -/
structure Fits (h : Head) (e : Sq) : Prop where
  score (r k : Fin 4096) : h.score r k * scale = scores a0 a1 a2 (ix4 0 H r k)
  dp (r k : Fin 4096) : h.dp r k = dProb a1 a3 (ix4 0 H r k)
  l (r : Fin 4096) (n : Fin 128) : h.l r n = rowMax a0 a1 a2 (ix3 0 H r) + Ideal.log (rowSum e (ix4 0 H r 0))
  s (r : Fin 4096) (n : Fin 128) : h.s r n = ∑ d : Fin 64, a3 (ix4 0 r H d) * ∑ k, vals a1 (ix4 0 k H d) * prob e (ix4 0 H r k)

theorem squares (h0 : ∀ i, IsReal (a0 i)) (h1 : ∀ i, IsReal (a1 i)) (h2 : ∀ i, IsReal (a2 i)) (h3 : ∀ i, IsReal (a3 i)) (h : Head)
    (hf : Fits a0 a1 a2 a3 H h (ex (masked a0 a1 a2) (rowMax a0 a1 a2))) (r k : Fin 4096) :
    h.p r k = prob (ex (masked a0 a1 a2) (rowMax a0 a1 a2)) (ix4 0 H r k)
      ∧ h.ds r k = dScore (ex (masked a0 a1 a2) (rowMax a0 a1 a2)) (dProb a1 a3) (ix4 0 H r k) := by
  have hk : ∀ k (d : Fin 96), IsReal (keys a1 a2 (ix4 0 k H d)) := fun k d => by
    rw [keys_apply]
    by_cases hd : d.val < 64
    · rw [dif_pos hd]; exact h1 _
    · rw [dif_neg hd]; exact h2 _
  have hS : ∀ k, IsReal (scores a0 a1 a2 (ix4 0 H r k)) := fun k => by
    rw [scores_apply]
    exact (IsReal.sum fun d => (h0 _).mul (hk k d)).mul scale_real
  choose S hS using hS
  obtain ⟨c, hc⟩ := scale_real
  have hg : ∀ d : Fin 64, IsReal (a3 (ix4 0 r H d)) := fun d => h3 _
  choose g hg using hg
  have hv : ∀ k (d : Fin 64), IsReal (vals a1 (ix4 0 k H d)) := fun k d => by rw [vals_apply]; exact h1 _
  choose v hv using hv
  generalize hev : ex (masked a0 a1 a2) (rowMax a0 a1 a2) = e at *
  have he : ∀ k, e (ix4 0 H r k) = Ideal.exp ((if k.val / 64 ≤ r.val / 64 then (S k : EReal) else ⊥) - rowMax a0 a1 a2 (ix3 0 H r)) := fun k => by
    rw [← hev, ex_apply, masked_apply, hS k]
  have hmx : rowMax a0 a1 a2 (ix3 0 H r) = Finset.univ.sup fun k : Fin 4096 => if k.val / 64 ≤ r.val / 64 then (S k : EReal) else ⊥ := by
    rw [rowMax_apply]
    exact congrArg (Finset.univ.sup) (funext fun k => by rw [masked_apply, hS k])
  obtain ⟨M, l, E, hM, hl, hpos, hE, hEx⟩ := softmax_row (fun k : Fin 4096 => k.val / 64 ≤ r.val / 64) S r (le_refl _) _ _ _ hmx he (rowSum_apply H r e)
  have hprob : ∀ k, prob e (ix4 0 H r k) = ((E k / l : ℝ) : EReal) := fun k => by rw [prob_apply, hE k, hl, div_real _ _ hpos.ne']
  have hP : ∀ k, dProb a1 a3 (ix4 0 H r k) = ((∑ d, g d * v k d : ℝ) : EReal) := fun k => by
    rw [dProb_apply, ← coe_sum]
    exact Finset.sum_congr rfl fun d _ => by rw [hg d, hv k d, EReal.coe_mul]
  have hp : h.p r k = prob e (ix4 0 H r k) := by
    show (if seen r k then h.p0 r k else 0) = _
    by_cases hs : k.val / 64 ≤ r.val / 64
    · rw [if_pos (show seen r k from hs), prob_apply, hE k, hl, hEx k hs, ← saved_exp _ _ _ hpos]
      show Ideal.exp (h.score r k * scale - h.l r (lane k)) = _
      rw [hf.score, hf.l, hM, hl, hS k]
    · rw [if_neg (show ¬ seen r k from hs), prob_apply, he k, if_neg hs, hM, EReal.bot_sub, hl]
      show (0 : EReal) = Ideal.div (0 : EReal) _
      have := div_real 0 l hpos.ne'
      rw [zero_div] at this
      exact this.symm
  refine ⟨hp, ?_⟩
  show h.p r k * (h.dp r k - h.s r (lane k)) * scale = _
  rw [dScore_apply]
  by_cases hs : k.val / 64 ≤ r.val / 64
  · rw [if_pos hs, hp, hf.dp, hf.s, corr_apply, inv2_apply, hl, hE k, hprob k, hP k]
    have hD : ∑ d : Fin 64, a3 (ix4 0 r H d) * ∑ k, vals a1 (ix4 0 k H d) * prob e (ix4 0 H r k) = ((∑ d, g d * ∑ k, v k d * (E k / l) : ℝ) : EReal) := by
      rw [← coe_sum]
      refine Finset.sum_congr rfl fun d _ => ?_
      rw [hg d, EReal.coe_mul, ← coe_sum]
      refine congrArg _ (Finset.sum_congr rfl fun k _ => ?_)
      rw [hv k d, hprob k, EReal.coe_mul]
    have hC : ∑ k, dProb a1 a3 (ix4 0 H r k) * Ideal.div 1 ((l : EReal) * (l : EReal)) * e (ix4 0 H r k) = ((∑ k, (∑ d, g d * v k d) * (1 / (l * l)) * E k : ℝ) : EReal) := by
      rw [← coe_sum]
      refine Finset.sum_congr rfl fun k _ => ?_
      rw [hP k, hE k, ← EReal.coe_mul, ← EReal.coe_one, div_real _ _ (mul_pos hpos hpos).ne', EReal.coe_mul, EReal.coe_mul]
    rw [hD, hC, div_real _ _ hpos.ne', row_sums]
    show _ = _ * scale
    rw [hc]
    have hcd : ∑ k, (∑ d, g d * v k d) * (1 / (l * l)) * E k = (∑ k, (∑ d, g d * v k d) * (E k / l)) / l := by
      rw [Finset.sum_div]
      exact Finset.sum_congr rfl fun k _ => by field_simp
    rw [hcd]
    exact pair_real _ _ _ _ _ hpos.ne'
  · rw [if_neg hs]
    have z : h.p r k = 0 := if_neg (show ¬ seen r k from hs)
    rw [z, zero_mul, zero_mul]

end Cert.AttnKernelIdeal.Grad

end
-- ==== Proof.AttnRefOut.lean ====
module

public import proofs.«01_k».proof.Proof.AttnRef

/-! The three results of the reference, at an index. -/

@[expose] public section

set_option maxRecDepth 16384

noncomputable section

open Idealize.ShloMosaic

namespace Cert.AttnReferenceIdeal.Grad

open Cert.AttnReferenceIdeal Cert.AttnReferenceIdeal.Gen

variable (a0 : QK) (a1 : KV) (a2 : PE) (a3 : OV) (H : Fin 8) (r k : Fin 4096)
/-- The lanes of a head in the returned rows. -/
abbrev at8 (H : Fin 8) (d : Fin 128) : Fin 1024 := ⟨128 * H.val + d.val, by omega⟩
theorem zero_word : (FloatOps.sitofp FTy.f32 0#32 : Ideal .f32) = 0 := by show ((BitVec.toInt 0#32 : ℝ) : EReal) = 0; simp
theorem res0_apply (d : Fin 128) : res0 a0 a1 a2 a3 (ix2 r (at8 H d)) =
    if h : d.val < 96 then dQuery (dScore (ex (masked a0 a1 a2) (rowMax0 a0 a1 a2)) (dProb a1 a3)) a1 a2 (ix4 0 H r ⟨d.val, h⟩) else 0 := by
  pointwise [res0]
  have e1 : (128 * H.val + d.val) / 128 = H.val := by omega
  have e2 : (128 * H.val + d.val) % 128 = d.val := by omega
  simp only [e1, e2, H.isLt, true_and, zero_word]
theorem res1_apply (d : Fin 128) : res1 a0 a1 a2 a3 (ix2 r (at8 H d)) =
    if h : d.val < 64 then dKey (dScore (ex (masked a0 a1 a2) (rowMax0 a0 a1 a2)) (dProb a1 a3)) a0 (ix4 0 H r ⟨d.val, by omega⟩)
    else dVal (ex (masked a0 a1 a2) (rowMax0 a0 a1 a2)) a3 (ix4 0 H ⟨d.val - 64, by omega⟩ r) := by
  pointwise [res1]
  have e1 : (128 * H.val + d.val) / 128 = H.val := by omega
  have e2 : (128 * H.val + d.val) % 128 = d.val := by omega
  simp only [e1, e2]
theorem res2_apply (d : Fin 128) : res2 a0 a1 a2 a3 (ix2 r d) =
    if h : 64 ≤ d.val ∧ d.val < 96 then dShared (dKey (dScore (ex (masked a0 a1 a2) (rowMax0 a0 a1 a2)) (dProb a1 a3)) a0) (ix2 r ⟨d.val - 64, by omega⟩) else 0 := by
  pointwise [res2]
  have e : (64 ≤ d.val ∧ d.val - 64 < 32) = (64 ≤ d.val ∧ d.val < 96) := propext ⟨fun h => ⟨h.1, by omega⟩, fun h => ⟨h.1, by omega⟩⟩
  simp only [e, zero_word]

end Cert.AttnReferenceIdeal.Grad

end
-- ==== Proof.AttnMeets.lean ====
module

public import proofs.«01_k».proof.Proof.AttnRun
public import proofs.«01_k».proof.Proof.AttnFrame
public import Idealize.ShloMosaic.Lib.VecWindow

@[expose] public section

set_option maxRecDepth 16384

noncomputable section

namespace Cert.AttnKernelIdeal.Grad

open Idealize.ShloMosaic Idealize.ShloMosaic.TcCoe Idealize.ShloMosaic.Tactic
open Cert.AttnKernelIdeal.Gen

theorem dq_block (h : Head) (a : Fin 16) (y : S256x128.Idx) : before7 h (fun _ _ => 0) 8 a y = dqArr h (row a (y 0)) (y 1) := by
  show (0 : EReal) + upto 16 _ = _
  rw [zero_add, upto_all]
  exact sum_rows fun k => h.ds (row a (y 0)) k * h.k k (y 1)
theorem dk_block (h : Head) (b : Fin 16) (y : S256x128.Idx) : dkOf h b y = dkArr h (row b (y 0)) (y 1) :=
  sum_rows fun r => h.ds r (row b (y 0)) * h.q r (y 1)
theorem dv_block (h : Head) (b : Fin 16) (y : S256x128.Idx) : dvOf h b y = dvArr h (row b (y 0)) (y 1) :=
  sum_rows fun r => h.p r (row b (y 0)) * h.g r (y 1)

/-- The keys' and the values' gradient side by side. -/
def dkvArr (h : Head) : Arr := fun r d => if d.val < 64 then dkArr h r d else dvArr h r d
/-- The shared key lanes' gradient of one head. -/
def midArr (h : Head) : Arr := fun r d => if 64 ≤ d.val ∧ d.val < 96 then dkArr h r d else 0

theorem Holds.get {sp : Space} {v : View sig .tc sp S4096x128 .f32} {f : v.ty.Contents (Elt Ideal)} {P : Fin 16 → B1} {X : Arr}
    (h : Holds v f P) (e : ∀ a y, P a y = X (row a (y 0)) (y 1)) (r : Fin 4096) (d : Fin 128) : v.read (Elt Ideal) f (ix2 r d) = X r d := by
  have := (h ⟨r.val / 256, by omega⟩ ⟨r.val % 256, by omega⟩ d).trans (e _ _)
  rw [row_surj] at this
  exact this.trans (congrArg (fun z => X z d) (row_surj r))

theorem Holds.zero7 (v : View sig .tc .vmem S4096x128 .f32) (f : v.ty.Contents (Elt Ideal)) : Holds v (v.writes (Elt Ideal) f (zero7 (F := Ideal))) (fun _ _ => 0) := fun a i j => by
  refine (congrFun (View.read_writes_full v f _ _ []) _).trans ?_
  pointwise [k0_pay2]
theorem Holds.zero9 (v : View sig .tc .vmem S4096x128 .f32) (f : v.ty.Contents (Elt Ideal)) : Holds v (v.writes (Elt Ideal) f (zero9 (F := Ideal))) (fun _ _ => 0) := fun a i j => by
  refine (congrFun (View.read_writes_full v f _ _ []) _).trans ?_
  pointwise [k0_pay1]

section point
variable (c : Dev nD) (i : grid0.Coords)
variable (arg1 : Memref sig .tc .vmem S4096x128 .f32) (harg1 : arg1.IsWhole)
variable (arg2 : Memref sig .tc .vmem S4096x128 .f32) (harg2 : arg2.IsWhole)
variable (arg3 : Memref sig .tc .vmem S4096x128 .f32) (harg3 : arg3.IsWhole)
variable (arg4 : Memref sig .tc .vmem S4096x128 .f32) (harg4 : arg4.IsWhole)
variable (arg5 : Memref sig .tc .vmem S4096x128 .f32) (harg5 : arg5.IsWhole)
variable (arg6 : Memref sig .tc .vmem S4096x128 .f32) (harg6 : arg6.IsWhole)
variable (arg7 : Memref sig .tc .vmem S4096x128 .f32) (harg7 : arg7.IsWhole)
variable (arg8 : Memref sig .tc .vmem S4096x128 .f32) (harg8 : arg8.IsWhole)
variable (arg9 : Memref sig .tc .vmem S4096x128 .f32) (harg9 : arg9.IsWhole)
variable (arg10 : Memref sig .tc .vmem S4096x128 .bf16) (harg10 : arg10.IsWhole)
variable (arg11 : Memref sig .tc .vmem S4096x128 .bf16) (harg11 : arg11.IsWhole)
variable (arg12 : Memref sig .tc .vmem S4096x128 .bf16) (harg12 : arg12.IsWhole)
variable (arg13 : Memref sig .tc .vmem S4096x128 .bf16) (harg13 : arg13.IsWhole)
variable (arg14 : Memref sig .tc .vmem S4096x128 .f32) (harg14 : arg14.IsWhole)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty)

/-- The three gradients at a head's end. -/
theorem point (q kv kpe o l g : Arr) (h1 : Holds arg1.view X1 (blk q)) (h2 : Holds arg2.view X2 (blk kv)) (h3 : Holds arg3.view X3 (blk kpe))
    (h4 : Holds arg4.view X4 (blk o)) (h5 : Holds arg5.view X5 (blk l)) (h6 : Holds arg6.view X6 (blk g)) (G9 : BufTy.Contents (Elt Ideal) arg9.view.ty)
    (Z9 : Arr) (h9 : Holds arg9.view G9 (blk Z9)) :
    (∀ r d, arg7.view.read (Elt Ideal) (arg7.view.writes (Elt Ideal) arg7.view.junk (((st (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 (arg10.view.writes (Elt Ideal) X10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1) (arg11.view.writes (Elt Ideal) X11 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2) (arg12.view.writes (Elt Ideal) X12 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1) (arg13.view.writes (Elt Ideal) X13 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1) (arg14.view.writes (Elt Ideal) X14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2) (arg7.view.writes (Elt Ideal) arg7.view.junk zero7) X8 G9 (Scf.trips k0_t3_loop.lb k0_t3_loop.ub k0_t3_loop.st))).1 ++ zero7)) (ix2 r d) = dqArr (headOf q kv kpe o l g) r d)
      ∧ (∀ r d, arg8.view.read (Elt Ideal) (arg8.view.writes (Elt Ideal) X8 ((st (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 (arg10.view.writes (Elt Ideal) X10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1) (arg11.view.writes (Elt Ideal) X11 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2) (arg12.view.writes (Elt Ideal) X12 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1) (arg13.view.writes (Elt Ideal) X13 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1) (arg14.view.writes (Elt Ideal) X14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2) (arg7.view.writes (Elt Ideal) arg7.view.junk zero7) X8 G9 (Scf.trips k0_t3_loop.lb k0_t3_loop.ub k0_t3_loop.st))).2.1) (ix2 r d) = dkvArr (headOf q kv kpe o l g) r d)
      ∧ ∀ r d, arg9.view.read (Elt Ideal) (arg9.view.writes (Elt Ideal) G9 ((st (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (iota .tc S256x128 32 [1] iota_S256x128_d1_w32) X5 (arg10.view.writes (Elt Ideal) X10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).1) (arg11.view.writes (Elt Ideal) X11 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 (Scf.trips k0_t1_loop.lb k0_t1_loop.ub k0_t1_loop.st)).2) (arg12.view.writes (Elt Ideal) X12 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).1) (arg13.view.writes (Elt Ideal) X13 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.1) (arg14.view.writes (Elt Ideal) X14 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 (Scf.trips k0_t2_loop.lb k0_t2_loop.ub k0_t2_loop.st)).2.2) (arg7.view.writes (Elt Ideal) arg7.view.junk zero7) X8 G9 (Scf.trips k0_t3_loop.lb k0_t3_loop.ub k0_t3_loop.st))).2.2) (ix2 r d) = Z9 r d + midArr (headOf q kv kpe o l g) r d := by
  obtain ⟨P10, i10⟩ := Holds16.any arg10.view X10
  obtain ⟨P11, i11⟩ := Holds16.any arg11.view X11
  obtain ⟨P12, i12⟩ := Holds16.any arg12.view X12
  obtain ⟨P13, i13⟩ := Holds16.any arg13.view X13
  obtain ⟨P14, i14⟩ := Holds.any arg14.view X14
  obtain ⟨P8, i8⟩ := Holds.any arg8.view X8
  obtain ⟨f10, f11⟩ := fill1 Variants.none c none i arg1 harg1 arg2 harg2 arg3 harg3 arg4 harg4 arg5 harg5 arg6 harg6 arg7 harg7 arg8 harg8 arg9 harg9 arg10 harg10 arg11 harg11 arg12 harg12 arg13 harg13 arg14 harg14 X2 X3 X10 X11 q kv kpe o l g h2 h3 P10 P11 i10 i11 16 (le_refl _)
  obtain ⟨f12, f13, f14⟩ := fill2 Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X6 X12 X13 X14 q kv kpe o l g h1 h4 h6 P12 P13 P14 i12 i13 i14 16 (le_refl _)
  rw [filled_all] at f10 f11 f12 f13 f14
  obtain ⟨e7, e8, e9⟩ := pairs (headOf q kv kpe o l g) Variants.none c none i arg1 harg1 arg2 harg2 arg3 harg3 arg4 harg4 arg5 harg5 arg6 harg6 arg7 harg7 arg8 harg8 arg9 harg9 arg10 harg10 arg11 harg11 arg12 harg12 arg13 harg13 arg14 harg14 X5 _ _ _ _ _ h5 f10 f11 f12 f13 f14
    (arg7.view.writes (Elt Ideal) arg7.view.junk zero7) X8 G9 _ P8 _ (Holds.zero7 arg7.view _) i8 h9 8 (le_refl _)
  refine ⟨fun r d => ?_, fun r d => ?_, fun r d => ?_⟩
  · rw [View.writes_append]
    exact e7.get (X := dqArr _) (dq_block _) r d
  · refine e8.get (X := dkvArr _) (fun a y => ?_) r d
    show before8 _ _ 8 a y = _
    unfold before8
    rw [if_pos (by omega)]
    show (if (y 1).val < 64 then dkOf _ a y else dvOf _ a y) = _
    rw [dk_block, dv_block]
    rfl
  · refine e9.get (X := fun r d => Z9 r d + midArr _ r d) (fun a y => ?_) r d
    show before9 _ _ 8 a y = _
    unfold before9
    rw [if_pos (by omega)]
    show (blk Z9 a y + if 64 ≤ (y 1).val ∧ (y 1).val < 96 then dkOf _ a y else 0) = _
    rw [dk_block]
    rfl
end point

variable (m : (ℓ : Loc nD τ sig) → Buf (Elt Ideal) ℓ)

/-- The gradient of the head at point `t`, of the blocks of the region's operands. -/
def headAt (c : Dev nD) (t : Fin grid0.N) : Head :=
  headOf (arrOf (iblk m c 0 t)) (arrOf (iblk m c 1 t)) (arrOf (iblk m c 2 t)) (arrOf (iblk m c 3 t)) (arrOf (iblk m c 4 t)) (arrOf (iblk m c 5 t))

/-- The shared key lanes' gradient, summed over the heads up to `t`. -/
def midTo (c : Dev nD) (t : Fin grid0.N) : Arr := fun r d => ∑ u : Fin grid0.N, if u.val ≤ t.val then midArr (headAt m c u) r d else 0

theorem midTo_zero (c : Dev nD) (t : Fin grid0.N) (h : t.val = 0) (r : Fin 4096) (d : Fin 128) : midTo m c t r d = midArr (headAt m c t) r d := by
  unfold midTo
  rw [Finset.sum_eq_single t (fun u _ hu => if_neg fun l => hu (Fin.ext (by omega))) (fun n => absurd (Finset.mem_univ _) n), if_pos (le_refl _)]
theorem midTo_succ (c : Dev nD) (t : Fin grid0.N) (h : t.val ≠ 0) (r : Fin 4096) (d : Fin 128) :
    midTo m c t r d = midTo m c ⟨t.val - 1, Nat.lt_of_le_of_lt (Nat.sub_le _ _) t.isLt⟩ r d + midArr (headAt m c t) r d := by
  unfold midTo
  rw [← Finset.add_sum_erase Finset.univ _ (Finset.mem_univ t), ← Finset.add_sum_erase Finset.univ (fun u : Fin grid0.N => if u.val ≤ t.val - 1 then midArr (headAt m c u) r d else 0) (Finset.mem_univ t)]
  rw [if_pos (le_refl _), if_neg (by omega), zero_add, add_comm]
  congr 1
  refine Finset.sum_congr rfl fun u hu => ?_
  have : u.val ≠ t.val := fun e => Finset.ne_of_mem_erase hu (Fin.ext e)
  by_cases l : u.val ≤ t.val
  · rw [if_pos l, if_pos (by omega)]
  · rw [if_neg l, if_neg (by omega)]

/-- What each head leaves in the three gradients' buffers. -/
def left (c : Dev nD) : Cond Ideal
  | ⟨0, _⟩, t, X => ∀ r d, X (ix2 r d) = dqArr (headAt m c t) r d
  | ⟨1, _⟩, t, X => ∀ r d, X (ix2 r d) = dkvArr (headAt m c t) r d
  | ⟨_, _⟩, t, X => ∀ r d, X (ix2 r d) = midTo m c t r d

theorem N8 : grid0.N = 8 := by decide +kernel

theorem meets (c : Dev nD) : Meets m (left m c) c where
  reset := by
    intro t h0 arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 X11 X12 X13 X14 h1 h2 h3 h4 h5 h6
    obtain ⟨a, b, z⟩ := point c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X10 X11 X12 X13 X14
      _ _ _ _ _ _ (.of_read h1) (.of_read h2) (.of_read h3) (.of_read h4) (.of_read h5) (.of_read h6) _ (fun _ _ => 0) (Holds.zero9 arg9.view arg9.view.junk)
    refine ⟨a, b, fun r d => ?_⟩
    rw [View.writes_append]
    refine (z r d).trans ?_
    have h8 := lt_of_lt_of_eq t.isLt N8
    rw [midTo_zero m c t (by omega), zero_add]
    rfl
  keep := by
    intro t h0 arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 X11 X12 X13 X14 h1 h2 h3 h4 h5 h6 h9
    obtain ⟨a, b, z⟩ := point c (grid0.coords t) arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X8 X10 X11 X12 X13 X14
      _ _ _ _ _ _ (.of_read h1) (.of_read h2) (.of_read h3) (.of_read h4) (.of_read h5) (.of_read h6) X9 (midTo m c ⟨t.val - 1, Nat.lt_of_le_of_lt (Nat.sub_le _ _) t.isLt⟩) (fun a i j => h9 _ _)
    refine ⟨a, b, fun r d => ?_⟩
    refine (z r d).trans ?_
    rw [midTo_succ m c t (by intro e; apply h0; rw [e])]
    rfl

end Cert.AttnKernelIdeal.Grad

end
-- ==== Proof.AttnIn.lean ====
module

public import proofs.«01_k».proof.Proof.AttnRef
public import proofs.«01_k».proof.Proof.AttnMeets
public import Idealize.ShloMosaic.Lib.Pipeline.ValueKit
public import Idealize.ShloMosaic.Lib.StableHlo.RunRead

/-! What the gradient's operands hold, of the arguments. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Cert.AttnReferenceIdeal.Grad (vals scores masked rowMax ex rowSum prob)

variable (m : (ℓ : Loc nD τ sig) → Buf (Elt Ideal) ℓ)

/-- The queries. -/
abbrev aq (c : Dev nD) : FVec Ideal S1x4096x8x96 .f32 := m ((c.tc : Thread nD τ).loc main_arg0)
/-- The keys' own lanes and the values. -/
abbrev akv (c : Dev nD) : FVec Ideal S1x4096x8x128 .f32 := m ((c.tc : Thread nD τ).loc main_arg1)
/-- The keys' shared lanes. -/
abbrev ape (c : Dev nD) : FVec Ideal S1x4096x1x32 .f32 := m ((c.tc : Thread nD τ).loc main_arg2)
/-- The outputs' gradient. -/
abbrev ag (c : Dev nD) : FVec Ideal S1x4096x8x64 .f32 := m ((c.tc : Thread nD τ).loc main_arg3)

/-- The exponentials of the scores less each query's greatest. -/
abbrev exps (c : Dev nD) : Cert.AttnReferenceIdeal.Grad.Sq := ex (masked (aq m c) (akv m c) (ape m c)) (rowMax (aq m c) (akv m c) (ape m c))

/-- Each query's greatest score plus the logarithm of its sum. -/
def lse (mx : Cert.AttnReferenceIdeal.Grad.Rw) (e : Cert.AttnReferenceIdeal.Grad.Sq) : FVec Ideal S1x8x4096x1 .f32 :=
  addf (broadcastInDim S1x8x4096x1 ![0, 1, 2] bcast_S1x8x4096_S1x8x4096x1_0_1_2 mx) (Host.log (rowSum e))
/-- The same for each head's 128 lanes. -/
def lseRows (l : FVec Ideal S1x8x4096x1 .f32) : FVec Ideal S4096x1024 .f32 :=
  shapeCast S4096x1024 (broadcastInDim S4096x8x128 ![0, 1, 2] bcast_S4096x8x1_S4096x8x128_0_1_2 (transpose S4096x8x1 [1, 0, 2] (shapeCast S8x4096x1 l shapeCasts_S1x8x4096x1_S8x4096x1) transposes_S8x4096x1_S4096x8x1_1_0_2)) shapeCasts_S4096x8x128_S4096x1024
/-- The outputs, by head and lane. -/
def outs (v : FVec Ideal S1x4096x8x64 .f32) (p : Cert.AttnReferenceIdeal.Grad.Sq) : FVec Ideal S1x8x64x4096 .f32 :=
  Host.dotGeneral dot_S1x4096x8x64_S1x8x4096x4096_S1x8x64x4096_1_3_3_2_02_01 none v p
/-- Sixty-four lanes of each head after sixty-four of nought. -/
def upper (x : FVec Ideal S4096x8x64 .f32) : FVec Ideal S4096x1024 .f32 :=
  shapeCast S4096x1024 (pad S4096x8x128 ![0, 0, 64] ![0, 0, 0] ![0, 0, 0] x (sitofp .f32 (constantI S_ 32 0#32)) pads_S4096x8x64_S4096x8x128_000_000_6400 h_S_) shapeCasts_S4096x8x128_S4096x1024

theorem entry2 (c : Dev nD) : V m c main_v2 = shapeCast S4096x1024 (pad S4096x8x128 ![0, 0, 0] ![0, 0, 32] ![0, 0, 0] (shapeCast S4096x8x96 (aq m c) shapeCasts_S1x4096x8x96_S4096x8x96) (sitofp .f32 (constantI S_ 32 0#32)) pads_S4096x8x96_S4096x8x128_000_000_0320 h_S_) shapeCasts_S4096x8x128_S4096x1024 := rfl
theorem entry3 (c : Dev nD) : V m c main_v3 = shapeCast S4096x1024 (akv m c) shapeCasts_S1x4096x8x128_S4096x1024 := rfl
theorem entry5 (c : Dev nD) : V m c main_v5 = pad S4096x128 ![0, 64] ![0, 32] ![0, 0] (shapeCast S4096x32 (ape m c) shapeCasts_S1x4096x1x32_S4096x32) (sitofp .f32 (constantI S_ 32 0#32)) pads_S4096x32_S4096x128_000_64320 h_S_ := rfl
theorem entry8 (c : Dev nD) : V m c main_v8 = upper (shapeCast S4096x8x64 (ag m c) shapeCasts_S1x4096x8x64_S4096x8x64) := rfl
theorem entry37 (c : Dev nD) : V m c main_v37 = upper (shapeCast S4096x8x64 (transpose S1x4096x8x64 [0, 3, 1, 2] (outs (vals (akv m c)) (prob (exps m c))) transposes_S1x8x64x4096_S1x4096x8x64_0_3_1_2) shapeCasts_S1x4096x8x64_S4096x8x64) := by
  simp only [V, List.flatten_cons, List.flatten_nil, List.append_nil]
  after_reads_simp
  rfl
theorem entry43 (c : Dev nD) : V m c main_v43 = lseRows (lse (rowMax (aq m c) (akv m c) (ape m c)) (exps m c)) := by
  simp only [V, List.flatten_cons, List.flatten_nil, List.append_nil]
  after_reads_simp
  rfl

end Cert.AttnKernelIdeal.Grad

end
-- ==== Proof.AttnFinal.lean ====
module

public import proofs.«01_k».proof.Proof.AttnMeets
public import Idealize.ShloMosaic.Lib.Pipeline.ValueKit
public import Idealize.ShloMosaic.Lib.Pipeline.ArrRel

/-! What the gradient's three arrays hold after every run: each head's block what the body leaves at that head. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Idealize.ShloMosaic.Pipeline (Dat RDat)

variable (m : (ℓ : Loc nD τ sig) → Buf (Elt Ideal) ℓ) (ρ : Dev nD → PrngReg)

/-- Each window's block at a head: the head's lanes, or the whole array. -/
theorem cols_of : ∀ t : Fin grid0.N, win0_0.index t = ![0, t.val] ∧ win0_1.index t = ![0, t.val] ∧ win0_2.index t = ![0, 0]
    ∧ win0_3.index t = ![0, t.val] ∧ win0_4.index t = ![0, t.val] ∧ win0_5.index t = ![0, t.val] ∧ win0_6.index t = ![0, t.val]
    ∧ win0_7.index t = ![0, t.val] ∧ win0_8.index t = ![0, 0] := by decide +kernel

/-- The head a lane of the returned rows belongs to. -/
abbrev headIx (j : Fin 1024) : Fin grid0.N := ⟨j.val / 128, by rw [N8]; omega⟩
/-- The lane of its head. -/
abbrev laneIx (j : Fin 1024) : Fin 128 := ⟨j.val % 128, by omega⟩
/-- A head's lane among the returned ones. -/
def col (t : Fin grid0.N) (d : Fin 128) : Fin 1024 := ⟨t.val * 128 + d.val, by have := lt_of_lt_of_eq t.isLt N8; omega⟩
theorem head_col (t : Fin grid0.N) (d : Fin 128) : headIx (col t d) = t := Fin.ext (by show (t.val * 128 + d.val) / 128 = t.val; omega)
theorem lane_col (t : Fin grid0.N) (d : Fin 128) : laneIx (col t d) = d := Fin.ext (by show (t.val * 128 + d.val) % 128 = d.val; omega)
/-- The last head. -/
abbrev last : Fin grid0.N := ⟨7, by rw [N8]; omega⟩

/-- Heads' arrays side by side. -/
def spread (f : Fin grid0.N → Arr) : S4096x1024.Idx → EReal := fun i => f (headIx (i 1)) (i 0) (laneIx (i 1))
/-- One array, by index. -/
def flat (f : Arr) : S4096x128.Idx → EReal := fun i => f (i 0) (i 1)
theorem spread_at (f : Fin grid0.N → Arr) (t : Fin grid0.N) (i : S4096x1024.Idx) (r : Fin 4096) (d : Fin 128) (e : i = ix2 r (col t d)) : f t r d = spread f i := by
  subst e
  show f t r d = f (headIx (col t d)) r (laneIx (col t d))
  rw [head_col, lane_col]
theorem flat_at (f : Arr) (i : S4096x128.Idx) (r : Fin 4096) (d : Fin 128) (e : i = ix2 r d) : f r d = flat f i := by
  subst e
  rfl

/-- What a run leaves in the three arrays. -/
def Leaves (c : Dev nD) (x : S4096x1024.Idx → EReal) (y : S4096x1024.Idx → EReal) (z : S4096x128.Idx → EReal) : Prop :=
  x = spread (fun u => dqArr (headAt m c u)) ∧ y = spread (fun u => dkvArr (headAt m c u)) ∧ z = flat (midTo m c last)

theorem final0 (c : Dev nD) (after : (w : Fin cfg0.W) → Fin cfg0.N → (cfg0.win w).block.Idx → Elt Ideal (cfg0.win w).elt)
    (hl : ∀ (w : Fin cfg0.W) (u : Fin cfg0.N), (cfg0.win w).flush u = true → (rdats m (left m c) c).Leaves w u (after w u)) :
    ((rdats m (left m c) c).withAfter after).arrAt 6 cfg0.N = (spread (fun u => dqArr (headAt m c u)) : S4096x1024.Idx → EReal) := by
  refine ((rdats m (left m c) c).withAfter after).arrAt_eq_of_covers 6 _ (by decide +kernel) fun t hf y => ?_
  obtain ⟨_, _, hq⟩ := hl 6 t hf
  have hq' : ∀ r d, after 6 t (ix2 r d) = _ := hq
  blk_simp
  have e : ((View.whole main_v44_0).slice (win0_6.rect t)).emb y = ix2 (y 0) (col t (y 1)) := by blk_ext [cols_of t, col]
  exact ((congrArg _ (eq_ix2 y)).trans (hq' (y 0) (y 1))).trans (spread_at (fun u => dqArr (headAt m c u)) t _ (y 0) (y 1) e)
theorem final1 (c : Dev nD) (after : (w : Fin cfg0.W) → Fin cfg0.N → (cfg0.win w).block.Idx → Elt Ideal (cfg0.win w).elt)
    (hl : ∀ (w : Fin cfg0.W) (u : Fin cfg0.N), (cfg0.win w).flush u = true → (rdats m (left m c) c).Leaves w u (after w u)) :
    ((rdats m (left m c) c).withAfter after).arrAt 7 cfg0.N = (spread (fun u => dkvArr (headAt m c u)) : S4096x1024.Idx → EReal) := by
  refine ((rdats m (left m c) c).withAfter after).arrAt_eq_of_covers 7 _ (by decide +kernel) fun t hf y => ?_
  obtain ⟨_, _, hq⟩ := hl 7 t hf
  have hq' : ∀ r d, after 7 t (ix2 r d) = _ := hq
  blk_simp
  have e : ((View.whole main_v44_1).slice (win0_7.rect t)).emb y = ix2 (y 0) (col t (y 1)) := by blk_ext [cols_of t, col]
  exact ((congrArg _ (eq_ix2 y)).trans (hq' (y 0) (y 1))).trans (spread_at (fun u => dkvArr (headAt m c u)) t _ (y 0) (y 1) e)
theorem final2 (c : Dev nD) (after : (w : Fin cfg0.W) → Fin cfg0.N → (cfg0.win w).block.Idx → Elt Ideal (cfg0.win w).elt)
    (hl : ∀ (w : Fin cfg0.W) (u : Fin cfg0.N), (cfg0.win w).flush u = true → (rdats m (left m c) c).Leaves w u (after w u)) :
    ((rdats m (left m c) c).withAfter after).arrAt 8 cfg0.N = (flat (midTo m c last) : S4096x128.Idx → EReal) := by
  refine ((rdats m (left m c) c).withAfter after).arrAt_eq_of_covers 8 _ (by decide +kernel) fun t hf y => ?_
  obtain ⟨_, _, hq⟩ := hl 8 t hf
  have hq' : ∀ r d, after 8 t (ix2 r d) = _ := hq
  have ht : t = last := (by decide +kernel : ∀ t : Fin grid0.N, (cfg0.win 8).flush t = true → t = last) t hf
  subst ht
  blk_simp
  have e : ((View.whole main_v44_2).slice (win0_8.rect last)).emb y = ix2 (y 0) (y 1) := by blk_ext [cols_of last]
  exact ((congrArg _ (eq_ix2 y)).trans (hq' (y 0) (y 1))).trans (flat_at (midTo m c last) _ (y 0) (y 1) e)
theorem final (r) (c : Dev nD) (h : RDat.FramePost cfg0 (rdats m (left m c)) (V m) r) :
    Leaves m c (r.2.mem ((c.tc : Thread nD τ).loc main_v44_0)) (r.2.mem ((c.tc : Thread nD τ).loc main_v44_1)) (r.2.mem ((c.tc : Thread nD τ).loc main_v44_2)) := by
  obtain ⟨after, hl, ha⟩ := RDat.FramePost.exists_exact h c
  exact ⟨(ha 6).trans (final0 m c after hl), (ha 7).trans (final1 m c after hl), (ha 8).trans (final2 m c after hl)⟩

end Cert.AttnKernelIdeal.Grad

end
-- ==== Proof.AttnRdA.lean ====
module

public import proofs.«01_k».proof.Proof.AttnIn
public import proofs.«01_k».proof.Proof.AttnFinal

/-! The blocks of the gradient's operands at a head, of the arguments. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Cert.AttnReferenceIdeal.Grad (vals scores masked rowMax ex rowSum prob Sq Rw)

variable (m : (ℓ : Loc nD τ sig) → Buf (Elt Ideal) ℓ)

/-- The number of the head at a point. -/
abbrev hd (t : Fin grid0.N) : Fin 8 := ⟨t.val, lt_of_lt_of_eq t.isLt N8⟩

theorem word_zero : (FloatOps.sitofp FTy.f32 0#32 : Ideal .f32) = 0 := by show ((BitVec.toInt 0#32 : ℝ) : EReal) = 0; simp

theorem upper_apply (x : FVec Ideal S4096x8x64 .f32) (r : Fin 4096) (t : Fin grid0.N) (d : Fin 128) :
    upper x (ix2 r (col t d)) = if h : 64 ≤ d.val then x (ix3 r (hd t) ⟨d.val - 64, by omega⟩) else 0 := by
  pointwise [upper]
  have e1 : (col t d).val / 128 = t.val := by show (t.val * 128 + d.val) / 128 = t.val; omega
  have e2 : (col t d).val % 128 = d.val := by show (t.val * 128 + d.val) % 128 = d.val; omega
  simp only [e1, e2, word_zero]
  have e : (t.val < 8 ∧ 64 ≤ d.val ∧ d.val - 64 < 64) = (64 ≤ d.val) := propext ⟨fun h => h.2.1, fun h => ⟨lt_of_lt_of_eq t.isLt N8, h, by omega⟩⟩
  simp only [e]
theorem lseRows_apply (l : FVec Ideal S1x8x4096x1 .f32) (r : Fin 4096) (t : Fin grid0.N) (d : Fin 128) :
    lseRows l (ix2 r (col t d)) = l (ix4 0 (hd t) r 0) := by
  pointwise [lseRows]
  have e1 : (col t d).val / 128 = t.val := by show (t.val * 128 + d.val) / 128 = t.val; omega
  have e2 : (col t d).val % 128 = d.val := by show (t.val * 128 + d.val) % 128 = d.val; omega
  simp only [e1, e2]
theorem lse_apply (mx : Rw) (e : Sq) (H : Fin 8) (r : Fin 4096) : lse mx e (ix4 0 H r 0) = mx (ix3 0 H r) + Ideal.log (rowSum e (ix4 0 H r 0)) := by
  pointwise [lse]
theorem outs_apply (v : FVec Ideal S1x4096x8x64 .f32) (p : Sq) (H : Fin 8) (d : Fin 64) (r : Fin 4096) : outs v p (ix4 0 H d r) = ∑ k, v (ix4 0 k H d) * p (ix4 0 H r k) := by
  pointwise [outs]

theorem lseAt (mx : Rw) (e : Sq) (r : Fin 4096) (t : Fin grid0.N) (d : Fin 128) :
    lseRows (lse mx e) (ix2 r (col t d)) = mx (ix3 0 (hd t) r) + Ideal.log (rowSum e (ix4 0 (hd t) r 0)) := by
  rw [lseRows_apply, lse_apply]
theorem turned_apply (o : FVec Ideal S1x8x64x4096 .f32) (r : Fin 4096) (H : Fin 8) (d : Fin 64) :
    shapeCast S4096x8x64 (transpose S1x4096x8x64 [0, 3, 1, 2] o transposes_S1x8x64x4096_S1x4096x8x64_0_3_1_2) shapeCasts_S1x4096x8x64_S4096x8x64 (ix3 r H d) = o (ix4 0 H d r) := by
  pointwise
theorem given_apply (x : FVec Ideal S1x4096x8x64 .f32) (r : Fin 4096) (H : Fin 8) (d : Fin 64) :
    shapeCast S4096x8x64 x shapeCasts_S1x4096x8x64_S4096x8x64 (ix3 r H d) = x (ix4 0 r H d) := by
  pointwise

end Cert.AttnKernelIdeal.Grad

end
-- ==== Proof.AttnRdB.lean ====
module

public import proofs.«01_k».proof.Proof.AttnRdA
public import proofs.«01_k».proof.Proof.AttnFinal

/-! The blocks of the gradient's operands at a head, of the arguments. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Cert.AttnReferenceIdeal.Grad (vals scores masked rowMax ex rowSum prob Sq Rw)

variable (m : (ℓ : Loc nD τ sig) → Buf (Elt Ideal) ℓ)

theorem read0 (c : Dev nD) (t : Fin cfg0.N) (r : Fin 4096) (d : Fin 128) :
    iblk m c 0 t (ix2 r d) = if h : d.val < 96 then aq m c (ix4 0 r (hd t) ⟨d.val, h⟩) else 0 := by
  show V m c main_v2 _ = _
  have e : ((View.whole main_v2).slice (win0_0.rect t)).emb (ix2 r d) = ix2 r (col t d) := by blk_ext [cols_of t, col]
  refine (congrArg (V m c main_v2) e).trans ?_
  rw [entry2]; pointwise
  have e1 : (col t d).val / 128 = t.val := by show (t.val * 128 + d.val) / 128 = t.val; omega
  have e2 : (col t d).val % 128 = d.val := by show (t.val * 128 + d.val) % 128 = d.val; omega
  simp only [e1, e2, word_zero]
  have e : (t.val < 8 ∧ d.val < 96) = (d.val < 96) := propext ⟨fun h => h.2, fun h => ⟨lt_of_lt_of_eq t.isLt N8, h⟩⟩
  simp only [e]
theorem read1 (c : Dev nD) (t : Fin cfg0.N) (r : Fin 4096) (d : Fin 128) :
    iblk m c 1 t (ix2 r d) = akv m c (ix4 0 r (hd t) d) := by
  show V m c main_v3 _ = _
  have e : ((View.whole main_v3).slice (win0_1.rect t)).emb (ix2 r d) = ix2 r (col t d) := by blk_ext [cols_of t, col]
  refine (congrArg (V m c main_v3) e).trans ?_
  rw [entry3]; pointwise
  have e1 : (col t d).val / 128 = t.val := by show (t.val * 128 + d.val) / 128 = t.val; omega
  have e2 : (col t d).val % 128 = d.val := by show (t.val * 128 + d.val) % 128 = d.val; omega
  simp only [e1, e2]
theorem read2 (c : Dev nD) (t : Fin cfg0.N) (r : Fin 4096) (d : Fin 128) :
    iblk m c 2 t (ix2 r d) = if h : 64 ≤ d.val ∧ d.val < 96 then ape m c (ix4 0 r 0 ⟨d.val - 64, by omega⟩) else 0 := by
  show V m c main_v5 _ = _
  have e : ((View.whole main_v5).slice (win0_2.rect t)).emb (ix2 r d) = ix2 r d := by blk_ext [cols_of t]
  refine (congrArg (V m c main_v5) e).trans ?_
  rw [entry5]; pointwise
  have e : (64 ≤ d.val ∧ d.val - 64 < 32) = (64 ≤ d.val ∧ d.val < 96) := propext ⟨fun h => ⟨h.1, by omega⟩, fun h => ⟨h.1, by omega⟩⟩
  simp only [e, word_zero]
end Cert.AttnKernelIdeal.Grad

end
-- ==== Proof.AttnRdC.lean ====
module

public import proofs.«01_k».proof.Proof.AttnRdA
public import proofs.«01_k».proof.Proof.AttnFinal

/-! The blocks of the gradient's operands at a head, of the arguments. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Cert.AttnReferenceIdeal.Grad (vals scores masked rowMax ex rowSum prob Sq Rw)

variable (m : (ℓ : Loc nD τ sig) → Buf (Elt Ideal) ℓ)

theorem read3 (c : Dev nD) (t : Fin cfg0.N) (r : Fin 4096) (d : Fin 128) :
    iblk m c 3 t (ix2 r d) = if h : 64 ≤ d.val then ∑ k, vals (akv m c) (ix4 0 k (hd t) ⟨d.val - 64, by omega⟩) * prob (exps m c) (ix4 0 (hd t) r k) else 0 := by
  show V m c main_v37 _ = _
  have e : ((View.whole main_v37).slice (win0_3.rect t)).emb (ix2 r d) = ix2 r (col t d) := by blk_ext [cols_of t, col]
  refine (congrArg (V m c main_v37) e).trans ?_
  rw [entry37, upper_apply]
  by_cases h : 64 ≤ d.val
  · rw [dif_pos h, dif_pos h, turned_apply, outs_apply]
  · rw [dif_neg h, dif_neg h]
/-- A block of the row logarithms, whatever the buffers hold. -/
theorem block4 (c : Dev nD) (t : Fin cfg0.N) (r : Fin 4096) (d : Fin 128) (W : (b : Ref sig .tc) → Buf (Elt Ideal) ((c.tc : Thread nD τ).loc b)) :
    ((cfg0.win 4).blk t).view.read (Elt Ideal) (W (Pipeline.arrRef spec0 4)) (ix2 r d) = W main_v43 (ix2 r (col t d)) := by
  have e : ((View.whole main_v43).slice (win0_4.rect t)).emb (ix2 r d) = ix2 r (col t d) := by blk_ext [cols_of t, col]
  exact congrArg (W main_v43) e
theorem read4 (c : Dev nD) (t : Fin cfg0.N) (r : Fin 4096) (d : Fin 128) :
    iblk m c 4 t (ix2 r d) = rowMax (aq m c) (akv m c) (ape m c) (ix3 0 (hd t) r) + Ideal.log (rowSum (exps m c) (ix4 0 (hd t) r 0)) :=
  (block4 c t r d (V m c)).trans ((congrFun (entry43 m c) _).trans (lseAt _ _ r t d))
theorem read5 (c : Dev nD) (t : Fin cfg0.N) (r : Fin 4096) (d : Fin 128) :
    iblk m c 5 t (ix2 r d) = if h : 64 ≤ d.val then ag m c (ix4 0 r (hd t) ⟨d.val - 64, by omega⟩) else 0 := by
  show V m c main_v8 _ = _
  have e : ((View.whole main_v8).slice (win0_5.rect t)).emb (ix2 r d) = ix2 r (col t d) := by blk_ext [cols_of t, col]
  refine (congrArg (V m c main_v8) e).trans ?_
  rw [entry8, upper_apply]
  by_cases h : 64 ≤ d.val
  · rw [dif_pos h, dif_pos h, given_apply]
  · rw [dif_neg h, dif_neg h]

end Cert.AttnKernelIdeal.Grad

end
-- ==== Proof.AttnEqual.lean ====
module

public import proofs.«01_k».proof.Proof.AttnReal
public import proofs.«01_k».proof.Proof.AttnRefOut
public import proofs.«01_k».proof.Proof.AttnRdB
public import proofs.«01_k».proof.Proof.AttnRdC

/-! The kernel's three gradients are the reference's, for real arguments. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Cert.AttnReferenceIdeal.Grad hiding ninf

/-! ## Sums over lanes some of which are nought -/

theorem sum_low (n k : Nat) (f : Fin (n + k) → EReal) (g : Fin n → EReal) (hg : ∀ d, f (Fin.castAdd k d) = g d) (hz : ∀ d : Fin k, f (Fin.natAdd n d) = 0) : ∑ d, f d = ∑ d, g d := by
  rw [Fin.sum_univ_add, Finset.sum_eq_zero (s := Finset.univ) (fun d _ => hz d), add_zero]
  exact Finset.sum_congr rfl fun d _ => hg d
theorem sum_high (n k : Nat) (f : Fin (n + k) → EReal) (g : Fin k → EReal) (hz : ∀ d : Fin n, f (Fin.castAdd k d) = 0) (hg : ∀ d, f (Fin.natAdd n d) = g d) : ∑ d, f d = ∑ d, g d := by
  rw [Fin.sum_univ_add, Finset.sum_eq_zero (s := Finset.univ) (fun d _ => hz d), zero_add]
  exact Finset.sum_congr rfl fun d _ => hg d

variable (m : (ℓ : Loc nD τ sig) → Buf (Elt Ideal) ℓ) (c : Dev nD) (t : Fin grid0.N)

/-! ## A head's parts -/

theorem head_q (r : Fin 4096) (d : Fin 128) : (headAt m c t).q r d = if h : d.val < 96 then aq m c (ix4 0 r (hd t) ⟨d.val, h⟩) else 0 := read0 m c t r d
theorem head_g (r : Fin 4096) (d : Fin 128) : (headAt m c t).g r d = if h : 64 ≤ d.val then ag m c (ix4 0 r (hd t) ⟨d.val - 64, by omega⟩) else 0 := read5 m c t r d
theorem head_v (r : Fin 4096) (d : Fin 128) : (headAt m c t).v r d = if 64 ≤ d.val then akv m c (ix4 0 r (hd t) d) else 0 := by
  show (if 64 ≤ d.val then iblk m c 1 t (ix2 r d) else (0 : EReal)) = _
  rw [read1]
theorem head_k (r : Fin 4096) (d : Fin 128) : (headAt m c t).k r d = if h : d.val < 96 then keys (akv m c) (ape m c) (ix4 0 r (hd t) ⟨d.val, h⟩) else 0 := by
  show (if d.val < 64 then iblk m c 1 t (ix2 r d) else iblk m c 2 t (ix2 r d)) = _
  rw [read1, read2]
  by_cases h : d.val < 64
  · rw [if_pos h, dif_pos (by omega), keys_apply, dif_pos h]
  · rw [if_neg h]
    by_cases h' : d.val < 96
    · rw [dif_pos h', dif_pos ⟨by omega, h'⟩, keys_apply, dif_neg h]
    · rw [dif_neg h', dif_neg (fun e => h' e.2)]
theorem head_l (r : Fin 4096) (d : Fin 128) : (headAt m c t).l r d = rowMax (aq m c) (akv m c) (ape m c) (ix3 0 (hd t) r) + Ideal.log (rowSum (exps m c) (ix4 0 (hd t) r 0)) := read4 m c t r d
theorem head_s (r : Fin 4096) (n : Fin 128) : (headAt m c t).s r n = ∑ d : Fin 64, ag m c (ix4 0 r (hd t) d) * ∑ k, vals (akv m c) (ix4 0 k (hd t) d) * prob (exps m c) (ix4 0 (hd t) r k) := by
  show ∑ d, (headAt m c t).g r d * iblk m c 3 t (ix2 r d) = _
  refine sum_high 64 64 _ _ (fun d => ?_) fun d => ?_
  · rw [head_g, dif_neg (by show ¬ 64 ≤ d.val; omega), zero_mul]
  · rw [head_g, dif_pos (by show 64 ≤ 64 + d.val; omega), read3, dif_pos (by show 64 ≤ 64 + d.val; omega)]
    have e : (⟨(Fin.natAdd 64 d).val - 64, by show 64 + d.val - 64 < 64; omega⟩ : Fin 64) = d := Fin.ext (by show 64 + d.val - 64 = d.val; omega)
    rw [e]
theorem head_score (r k : Fin 4096) : (headAt m c t).score r k * scale = scores (aq m c) (akv m c) (ape m c) (ix4 0 (hd t) r k) := by
  rw [scores_apply]
  refine congrArg (· * scale) ?_
  show ∑ d, (headAt m c t).q r d * (headAt m c t).k k d = _
  refine sum_low 96 32 _ _ (fun d => ?_) fun d => ?_
  · rw [head_q, head_k, dif_pos (show (Fin.castAdd 32 d).val < 96 from d.isLt), dif_pos (show (Fin.castAdd 32 d).val < 96 from d.isLt)]
    rfl
  · rw [head_q, dif_neg (by show ¬ 96 + d.val < 96; omega), zero_mul]
theorem head_dp (r k : Fin 4096) : (headAt m c t).dp r k = dProb (akv m c) (ag m c) (ix4 0 (hd t) r k) := by
  rw [dProb_apply]
  show ∑ d, (headAt m c t).g r d * (headAt m c t).v k d = _
  refine sum_high 64 64 _ _ (fun d => ?_) fun d => ?_
  · rw [head_g, dif_neg (by show ¬ 64 ≤ d.val; omega), zero_mul]
  · rw [head_g, dif_pos (by show 64 ≤ 64 + d.val; omega), head_v, if_pos (by show 64 ≤ 64 + d.val; omega), vals_apply]
    have e : (⟨(Fin.natAdd 64 d).val - 64, by show 64 + d.val - 64 < 64; omega⟩ : Fin 64) = d := Fin.ext (by show 64 + d.val - 64 = d.val; omega)
    rw [e]
    rfl
theorem head_fits : Fits (aq m c) (akv m c) (ape m c) (ag m c) (hd t) (headAt m c t) (exps m c) :=
  ⟨head_score m c t, head_dp m c t, head_l m c t, head_s m c t⟩

/-! ## The gradients -/

/-- The arguments are real numbers. -/
structure Real4 : Prop where
  q : ∀ i, IsReal (aq m c i)
  kv : ∀ i, IsReal (akv m c i)
  pe : ∀ i, IsReal (ape m c i)
  g : ∀ i, IsReal (ag m c i)

variable (hr : Real4 m c)
include hr

theorem head_p (r k : Fin 4096) : (headAt m c t).p r k = prob (exps m c) (ix4 0 (hd t) r k) :=
  (squares _ _ _ _ _ hr.q hr.kv hr.pe hr.g _ (head_fits m c t) r k).1
theorem head_ds (r k : Fin 4096) : (headAt m c t).ds r k = dScore (exps m c) (dProb (akv m c) (ag m c)) (ix4 0 (hd t) r k) :=
  (squares _ _ _ _ _ hr.q hr.kv hr.pe hr.g _ (head_fits m c t) r k).2

theorem dq_eq (r : Fin 4096) (d : Fin 128) : dqArr (headAt m c t) r d =
    if h : d.val < 96 then dQuery (dScore (exps m c) (dProb (akv m c) (ag m c))) (akv m c) (ape m c) (ix4 0 (hd t) r ⟨d.val, h⟩) else 0 := by
  show ∑ k, (headAt m c t).ds r k * (headAt m c t).k k d = _
  by_cases h : d.val < 96
  · rw [dif_pos h, dQuery_apply]
    exact Finset.sum_congr rfl fun k _ => by rw [head_ds m c t hr, head_k, dif_pos h]
  · rw [dif_neg h]
    exact Finset.sum_eq_zero fun k _ => by rw [head_k, dif_neg h, mul_zero]
theorem dk_eq (k : Fin 4096) (d : Fin 128) (h : d.val < 96) : dkArr (headAt m c t) k d =
    dKey (dScore (exps m c) (dProb (akv m c) (ag m c))) (aq m c) (ix4 0 (hd t) k ⟨d.val, h⟩) := by
  show ∑ r, (headAt m c t).ds r k * (headAt m c t).q r d = _
  rw [dKey_apply]
  exact Finset.sum_congr rfl fun r _ => by rw [head_ds m c t hr, head_q, dif_pos h]
theorem dv_eq (k : Fin 4096) (d : Fin 128) (h : 64 ≤ d.val) : dvArr (headAt m c t) k d =
    dVal (exps m c) (ag m c) (ix4 0 (hd t) ⟨d.val - 64, by omega⟩ k) := by
  show ∑ r, (headAt m c t).p r k * (headAt m c t).g r d = _
  rw [dVal_apply]
  exact Finset.sum_congr rfl fun r _ => by rw [head_p m c t hr, head_g, dif_pos h, mul_comm]
theorem mid_eq (r : Fin 4096) (d : Fin 128) : midTo m c last r d =
    if h : 64 ≤ d.val ∧ d.val < 96 then dShared (dKey (dScore (exps m c) (dProb (akv m c) (ag m c))) (aq m c)) (ix2 r ⟨d.val - 64, by omega⟩) else 0 := by
  show ∑ u : Fin grid0.N, (if u.val ≤ 7 then midArr (headAt m c u) r d else 0) = _
  by_cases h : 64 ≤ d.val ∧ d.val < 96
  · rw [dif_pos h, dShared_apply]
    refine Fintype.sum_equiv (finCongr N8) _ _ fun u => ?_
    have hu := lt_of_lt_of_eq u.isLt N8
    rw [if_pos (by omega)]
    show (if 64 ≤ d.val ∧ d.val < 96 then dkArr (headAt m c u) r d else 0) = _
    rw [if_pos h, dk_eq m c u hr r d h.2]
    have e : (⟨64 + (d.val - 64), by omega⟩ : Fin 96) = ⟨d.val, h.2⟩ := Fin.ext (by show 64 + (d.val - 64) = d.val; omega)
    exact congrArg (fun x : Fin 96 => dKey (dScore (exps m c) (dProb (akv m c) (ag m c))) (aq m c) (ix4 0 (hd u) r x)) e.symm
  · rw [dif_neg h]
    refine Finset.sum_eq_zero fun u _ => ?_
    have z : midArr (headAt m c u) r d = 0 := if_neg h
    rw [z]
    exact ite_self _

omit hr in
theorem exps_eq : ex (masked (aq m c) (akv m c) (ape m c)) (rowMax0 (aq m c) (akv m c) (ape m c)) = exps m c := by rw [rowMax0_eq]

theorem out0 : spread (fun u => dqArr (headAt m c u)) = res0 (aq m c) (akv m c) (ape m c) (ag m c) := by
  funext i
  obtain ⟨r, j, rfl⟩ : ∃ (r : Fin 4096) (j : Fin 1024), i = ix2 r j := ⟨i 0, i 1, eq_ix2 i⟩
  have e : j = at8 (hd (headIx j)) (laneIx j) := Fin.ext (by show j.val = 128 * (j.val / 128) + j.val % 128; omega)
  refine Eq.trans ?_ (congrArg (fun j => res0 (aq m c) (akv m c) (ape m c) (ag m c) (ix2 r j)) e.symm)
  show dqArr (headAt m c (headIx j)) r (laneIx j) = _
  rw [res0_apply, exps_eq m c, dq_eq m c _ hr]
theorem out1 : spread (fun u => dkvArr (headAt m c u)) = res1 (aq m c) (akv m c) (ape m c) (ag m c) := by
  funext i
  obtain ⟨r, j, rfl⟩ : ∃ (r : Fin 4096) (j : Fin 1024), i = ix2 r j := ⟨i 0, i 1, eq_ix2 i⟩
  have e : j = at8 (hd (headIx j)) (laneIx j) := Fin.ext (by show j.val = 128 * (j.val / 128) + j.val % 128; omega)
  refine Eq.trans ?_ (congrArg (fun j => res1 (aq m c) (akv m c) (ape m c) (ag m c) (ix2 r j)) e.symm)
  show (if (laneIx j).val < 64 then dkArr (headAt m c (headIx j)) r (laneIx j) else dvArr (headAt m c (headIx j)) r (laneIx j)) = _
  rw [res1_apply, exps_eq m c]
  by_cases h : (laneIx j).val < 64
  · rw [if_pos h, dif_pos h, dk_eq m c _ hr r _ (by omega)]
  · rw [if_neg h, dif_neg h, dv_eq m c _ hr r _ (by omega)]
theorem out2 : flat (midTo m c last) = res2 (aq m c) (akv m c) (ape m c) (ag m c) := by
  funext i
  obtain ⟨r, d, rfl⟩ : ∃ (r : Fin 4096) (d : Fin 128), i = ix2 r d := ⟨i 0, i 1, eq_ix2 i⟩
  show midTo m c last r d = _
  rw [res2_apply, exps_eq m c, mid_eq m c hr]

end Cert.AttnKernelIdeal.Grad

end
-- ==== Proof.AttnArgs.lean ====
module

public import proofs.«01_k».proof.Defs
public import proofs.«01_k».proof.Proof.Gen.Pre_finite_attn
public import proofs.«01_k».proof.Proof.AttnEqual

/-! The precondition makes the four arguments real numbers. -/

@[expose] public section

set_option maxRecDepth 16384

noncomputable section

namespace Cert.AttnKernelIdeal.Grad

open Idealize.ShloMosaic Idealize.ShloMosaic.TcCoe Idealize.ShloMosaic.Tactic
open Cert.AttnKernelIdeal.Gen
open Cert.AttnReferenceIdeal.Grad hiding ninf

/-- The word the precondition compares with stands for the top. -/
theorem top_word : Ideal.ofBits .f32 0x7F800000#32 = ⊤ := by simp [Ideal.ofBits, Ideal.ieee]

/-- A number whose absolute value lies below the top is real. -/
theorem real_of_abs {x : EReal} (h : max x (-x) < ⊤) : IsReal x := by
  induction x with
  | bot => exact absurd h (by simp)
  | top => exact absurd h (by simp)
  | coe y => exact ⟨y, rfl⟩

variable (a0 : FVec Ideal Pre_finite_attn.S1x4096x8x96 .f32) (a1 : FVec Ideal Pre_finite_attn.S1x4096x8x128 .f32)
  (a2 : FVec Ideal Pre_finite_attn.S1x4096x1x32 .f32) (a3 : FVec Ideal Pre_finite_attn.S1x4096x8x64 .f32)

/-- The four arguments side by side, as the precondition lays them. -/
def beside : FVec Ideal Pre_finite_attn.S1x4096x8x320 .f32 :=
  concatenate Pre_finite_attn.S1x4096x8x320 3 [⟨Pre_finite_attn.S1x4096x8x96, a0⟩, ⟨Pre_finite_attn.S1x4096x8x128, a1⟩,
    ⟨Pre_finite_attn.S1x4096x8x32, broadcastInDim Pre_finite_attn.S1x4096x8x32 ![0, 1, 2, 3] Pre_finite_attn.Facts.bcast_S1x4096x1x32_S1x4096x8x32_0_1_2_3 a2⟩, ⟨Pre_finite_attn.S1x4096x8x64, a3⟩]
    Pre_finite_attn.Facts.concatenates_S1x4096x8x96_S1x4096x8x128_S1x4096x8x32_S1x4096x8x64_S1x4096x8x320_d3

/-- Where the precondition holds, every entry laid side by side is real. -/
theorem beside_real (h : Pre_finite_attn.fn (F := Ideal) a0 a1 a2 a3 = fun _ => 1#1) (i) : IsReal (beside a0 a1 a2 a3 i) := by
  have e := congrFun h i
  have e' : Ideal.cmp .olt (max (beside a0 a1 a2 a3 i) (-beside a0 a1 a2 a3 i)) (Ideal.ofBits .f32 0x7F800000#32) = 1#1 := e
  rw [top_word] at e'
  apply real_of_abs
  by_contra hn
  simp [Ideal.cmp, hn] at e'

theorem beside_q (r : Fin 4096) (H : Fin 8) (d : Fin 96) : beside a0 a1 a2 a3 (ix4 0 r H ⟨d.val, by omega⟩) = a0 (ix4 0 r H d) := by
  pointwise [beside]
theorem beside_kv (r : Fin 4096) (H : Fin 8) (d : Fin 128) : beside a0 a1 a2 a3 (ix4 0 r H ⟨96 + d.val, by omega⟩) = a1 (ix4 0 r H d) := by
  pointwise [beside]
theorem beside_pe (r : Fin 4096) (H : Fin 8) (d : Fin 32) : beside a0 a1 a2 a3 (ix4 0 r H ⟨224 + d.val, by omega⟩) = a2 (ix4 0 r 0 d) := by
  pointwise [beside]
  rw [dif_neg (by omega), dif_neg (by omega), dif_pos (by omega)]
  exact congrArg (fun x : Fin 32 => a2 (ix4 0 r 0 x)) (Fin.ext (by show 224 + d.val - 96 - 128 = d.val; omega))
theorem beside_g (r : Fin 4096) (H : Fin 8) (d : Fin 64) : beside a0 a1 a2 a3 (ix4 0 r H ⟨256 + d.val, by omega⟩) = a3 (ix4 0 r H d) := by
  pointwise [beside]
  rw [dif_neg (by omega), dif_neg (by omega), dif_neg (by omega)]
  exact congrArg (fun x : Fin 64 => a3 (ix4 0 r H x)) (Fin.ext (by show 256 + d.val - 96 - 128 - 32 = d.val; omega))

variable (m : (ℓ : Loc nD τ sig) → Buf (Elt Ideal) ℓ) (c : Dev nD)

/-- Under the precondition all four arguments are real. -/
theorem real4 (h : Cert.Pre_AttnKernelIdeal_finite_attn m) : Real4 m c := by
  have b := beside_real (aq m c) (akv m c) (ape m c) (ag m c) (h c)
  refine ⟨fun i => ?_, fun i => ?_, fun i => ?_, fun i => ?_⟩
  · obtain ⟨r, H, d, rfl⟩ : ∃ (r : Fin 4096) (H : Fin 8) (d : Fin 96), i = ix4 0 r H d := ⟨i 1, i 2, i 3, (eq_ix4 i).trans (congrArg (fun x : Fin 1 => ix4 x (i 1) (i 2) (i 3)) (Subsingleton.elim _ 0))⟩
    exact beside_q (aq m c) (akv m c) (ape m c) (ag m c) r H d ▸ b _
  · obtain ⟨r, H, d, rfl⟩ : ∃ (r : Fin 4096) (H : Fin 8) (d : Fin 128), i = ix4 0 r H d := ⟨i 1, i 2, i 3, (eq_ix4 i).trans (congrArg (fun x : Fin 1 => ix4 x (i 1) (i 2) (i 3)) (Subsingleton.elim _ 0))⟩
    exact beside_kv (aq m c) (akv m c) (ape m c) (ag m c) r H d ▸ b _
  · obtain ⟨r, d, rfl⟩ : ∃ (r : Fin 4096) (d : Fin 32), i = ix4 0 r 0 d := ⟨i 1, i 3, (eq_ix4 i).trans ((congrArg (fun x : Fin 1 => ix4 x (i 1) (i 2) (i 3)) (Subsingleton.elim _ 0)).trans (congrArg (fun x : Fin 1 => ix4 0 (i 1) x (i 3)) (Subsingleton.elim _ 0)))⟩
    exact beside_pe (aq m c) (akv m c) (ape m c) (ag m c) r 0 d ▸ b _
  · obtain ⟨r, H, d, rfl⟩ : ∃ (r : Fin 4096) (H : Fin 8) (d : Fin 64), i = ix4 0 r H d := ⟨i 1, i 2, i 3, (eq_ix4 i).trans (congrArg (fun x : Fin 1 => ix4 x (i 1) (i 2) (i 3)) (Subsingleton.elim _ 0))⟩
    exact beside_g (aq m c) (akv m c) (ape m c) (ag m c) r H d ▸ b _

/-- What every run of the kernel on real arguments leaves: the reference's results. -/
theorem gradients (h : Cert.Pre_AttnKernelIdeal_finite_attn m) (x y z) (hl : Leaves m c x y z) :
    x = res0 (aq m c) (akv m c) (ape m c) (ag m c) ∧ y = res1 (aq m c) (akv m c) (ape m c) (ag m c) ∧ z = res2 (aq m c) (akv m c) (ape m c) (ag m c) :=
  ⟨hl.1.trans (out0 m c (real4 m c h)), hl.2.1.trans (out1 m c (real4 m c h)), hl.2.2.trans (out2 m c (real4 m c h))⟩

end Cert.AttnKernelIdeal.Grad

end
-- ==== Proof.NormRows.lean ====
module

public import Idealize.ShloMosaic.Lib.Pipeline.ValueKit
public import Idealize.ShloMosaic.Lib.StableHlo.Run

/-! Rows brought to mean zero and unit variance, and the derivative of that: once as plain formulas on a row of 1024
    extended reals, once as the operations a tile of 256 rows passes through, once as the operations on the whole
    array. The tile's operations and the array's are both shown to be the formulas, row by row. -/

@[expose] public section

set_option maxRecDepth 16384

noncomputable section

open Idealize.ShloMosaic

namespace Cert.NormRows

/-! ## The formulas -/

/-- A row of the full width. -/
abbrev Row := Fin 1024 → EReal

/-- The number of lanes of a row, as the programs write it. -/
abbrev lanes : EReal := (Scalar.ofBits .f32 0x44800000#32 : Ideal .f32)
/-- What is added to the variance before its root is taken. -/
abbrev eps : EReal := (Scalar.ofBits .f32 0x3727C5AC#32 : Ideal .f32)
/-- Minus one half. -/
abbrev mhalf : EReal := (Scalar.ofBits .f32 0xBF000000#32 : Ideal .f32)

/-- A row less its mean. -/
def cen (x : Row) : Row := fun j => x j - Ideal.div (∑ k, x k) lanes
/-- A centred row's mean square, with the small constant added. -/
def var (x : Row) : EReal := Ideal.div (∑ k, x k * x k) lanes + eps
/-- The factor a centred row is normed with. -/
def rs (x : Row) : EReal := Ideal.rsqrt (var x)
/-- The derivative of that factor in the variance. -/
def drs (x : Row) : EReal := mhalf * Ideal.div (rs x) (var x)
/-- What the variance passes back to each lane of the centred row `x` when the normed row's cotangent is `d`. -/
def share (x d : Row) : EReal := Ideal.div ((∑ k, x k * d k) * drs x) lanes
/-- The cotangent of the centred row `x`. -/
def dcen (x d : Row) : Row := fun j => d j * rs x + x j * share x d + share x d * x j
/-- The cotangent of a row whose centred row has the cotangent `d`. -/
def back (d : Row) : Row := fun j => d j + Ideal.div (∑ k, -d k) lanes

/-! ## A tile of 256 rows -/

abbrev T2 : Shape := ⟨2, ![256, 1024]⟩
abbrev T1 : Shape := ⟨1, ![256]⟩
abbrev TC : Shape := ⟨2, ![256, 1]⟩

theorem t_red : T2.Reduces [1] T1 := by decide
theorem t_red1 : TC.Reduces [1] T1 := by decide
theorem t_col : T1.ShapeCasts TC := by decide
theorem t_bc : TC.Broadcasts T2 := by decide

/-- A tile of rows. -/
abbrev Tile := FVec Ideal T2 .f32
/-- One number for each row of a tile. -/
abbrev Col := FVec Ideal TC .f32

/-- The sum of each row. -/
def sumT (x : Tile) : Col := shapeCast TC (multiReduction .add [1] T1 x 0x00000000#32 t_red (.inl rfl) rfl) t_col
/-- A column over the number of lanes. -/
def overT (x : Col) : Col := divf x (broadcast TC (Scalar.ofBits .f32 0x44800000#32))
/-- A column summed over its one lane. -/
def oneT (x : Col) : Col := shapeCast TC (multiReduction .add [1] T1 x 0x00000000#32 t_red1 (.inl rfl) rfl) t_col
def cenT (x : Tile) : Tile := subf x (broadcastTo T2 (overT (sumT x)) t_bc)
def varT (x : Tile) : Col := addf (overT (sumT (mulf x x))) (broadcast TC (Scalar.ofBits .f32 0x3727C5AC#32))
def rsT (x : Tile) : Col := rsqrt (varT x)
def drsT (x : Tile) : Col := mulf (broadcast TC (Scalar.ofBits .f32 0xBF000000#32)) (divf (rsT x) (varT x))
def shareT (x d : Tile) (c : Col) : Tile := broadcastTo T2 (oneT (overT (mulf (sumT (mulf x d)) c))) t_bc
def dcenT (x d : Tile) (r c : Col) : Tile :=
  addf (addf (mulf d (broadcastTo T2 r t_bc)) (mulf x (shareT x d c))) (mulf (shareT x d c) x)
def backT (d : Tile) : Tile :=
  addf d (broadcastTo T2 (oneT (overT (sumT (subf (broadcast T2 (Scalar.ofBits .f32 0x00000000#32)) d)))) t_bc)

/-- Row `r` of a tile. -/
abbrev rowT (x : Tile) (r : Fin 256) : Row := fun j => x (ix2 r j)

theorem sumT_apply (x : Tile) (r : Fin 256) : sumT x (ix2 r 0) = ∑ k, x (ix2 r k) := by
  pointwise [sumT]
theorem overT_apply (x : Col) (r : Fin 256) : overT x (ix2 r 0) = Ideal.div (x (ix2 r 0)) lanes := by
  pointwise [overT]
theorem oneT_apply (x : Col) (r : Fin 256) : oneT x (ix2 r 0) = x (ix2 r 0) := by
  pointwise [oneT]
  rw [Fintype.sum_unique]; rfl
theorem cenT_apply (x : Tile) (r : Fin 256) (j : Fin 1024) : cenT x (ix2 r j) = cen (rowT x r) j := by
  pointwise [cenT, sumT_apply, overT_apply, cen]
theorem varT_apply (x : Tile) (r : Fin 256) : varT x (ix2 r 0) = var (rowT x r) := by
  pointwise [varT, sumT_apply, overT_apply, var]
theorem rsT_apply (x : Tile) (r : Fin 256) : rsT x (ix2 r 0) = rs (rowT x r) := by
  pointwise [rsT, varT_apply, rs]
theorem drsT_apply (x : Tile) (r : Fin 256) : drsT x (ix2 r 0) = drs (rowT x r) := by
  pointwise [drsT, rsT_apply, varT_apply, drs]
theorem shareT_apply (x d : Tile) (r : Fin 256) (j : Fin 1024) :
    shareT x d (drsT x) (ix2 r j) = share (rowT x r) (rowT d r) := by
  pointwise [shareT, oneT_apply, overT_apply, sumT_apply, drsT_apply, share]
theorem dcenT_apply (x d : Tile) (r : Fin 256) (j : Fin 1024) :
    dcenT x d (rsT x) (drsT x) (ix2 r j) = dcen (rowT x r) (rowT d r) j := by
  pointwise [dcenT, shareT_apply, rsT_apply, dcen]
theorem backT_apply (d : Tile) (r : Fin 256) (j : Fin 1024) : backT d (ix2 r j) = back (rowT d r) j := by
  pointwise [backT, oneT_apply, overT_apply, sumT_apply, back, zero_sub]

/-! ## The whole array -/

abbrev A3 : Shape := ⟨3, ![1, 4096, 1024]⟩
abbrev AC : Shape := ⟨3, ![1, 4096, 1]⟩
abbrev A2 : Shape := ⟨2, ![1, 4096]⟩
abbrev A1 : Shape := ⟨1, ![4096]⟩
abbrev A0 : Shape := ⟨0, ![]⟩

theorem a_red : A3.ReducesTo [2] A2 := by decide
theorem a_red1 : AC.ReducesTo [0, 2] A1 := by decide
theorem a_pos : 0 < A0.numel := by decide
theorem a_col : A2.ShapeCasts AC := by decide
theorem a_b0 : A0.BroadcastsInDim AC ![] := by decide
theorem a_bc : AC.BroadcastsInDim A3 ![0, 1, 2] := by decide
theorem a_b2 : A2.BroadcastsInDim AC ![0, 1] := by decide
theorem a_b3 : A2.BroadcastsInDim A3 ![0, 1] := by decide
theorem a_b1 : A1.BroadcastsInDim A2 ![1] := by decide

/-- An array of rows. -/
abbrev Arr := FVec Ideal A3 .f32
/-- One number for each row of an array. -/
abbrev ColA := FVec Ideal AC .f32

/-- The sum of each row. -/
def sumA (x : Arr) : FVec Ideal A2 .f32 := Host.reduceAdd x (constant A0 .f32 0x00000000#32) a_red a_pos
/-- A column over the number of lanes. -/
def overA (x : ColA) : ColA := Host.divf x (broadcastInDim AC ![] a_b0 (constant A0 .f32 0x44800000#32))
/-- A column summed over its axes of one and spread over the lanes. -/
def spreadA (x : ColA) : Arr :=
  broadcastInDim A3 ![0, 1] a_b3 (broadcastInDim A2 ![1] a_b1 (Host.reduceAdd x (constant A0 .f32 0x00000000#32) a_red1 a_pos))
def cenA (x : Arr) : Arr := subf x (broadcastInDim A3 ![0, 1, 2] a_bc (overA (broadcastInDim AC ![0, 1] a_b2 (sumA x))))
def varA (x : Arr) : ColA :=
  addf (overA (broadcastInDim AC ![0, 1] a_b2 (sumA (mulf x x)))) (broadcastInDim AC ![] a_b0 (constant A0 .f32 0x3727C5AC#32))
def rsA (x : Arr) : ColA := Host.rsqrt (varA x)
def drsA (x : Arr) : ColA := mulf (broadcastInDim AC ![] a_b0 (constant A0 .f32 0xBF000000#32)) (Host.divf (rsA x) (varA x))
def shareA (x d : Arr) : Arr := spreadA (overA (mulf (shapeCast AC (sumA (mulf x d)) a_col) (drsA x)))
def dcenA (x d : Arr) : Arr :=
  addf (addf (mulf d (broadcastInDim A3 ![0, 1, 2] a_bc (rsA x))) (mulf x (shareA x d))) (mulf (shareA x d) x)
def backA (d : Arr) : Arr := addf d (spreadA (overA (shapeCast AC (sumA (Host.negf d)) a_col)))

/-- Row `r` of an array. -/
abbrev rowA (x : Arr) (r : Fin 4096) : Row := fun j => x (ix3 0 r j)

theorem sumA_apply (x : Arr) (r : Fin 4096) : sumA x (ix2 0 r) = ∑ k, x (ix3 0 r k) := by
  pointwise [sumA]
theorem overA_apply (x : ColA) (r : Fin 4096) : overA x (ix3 0 r 0) = Ideal.div (x (ix3 0 r 0)) lanes := by
  pointwise [overA]
/-- A column's sum over its two axes of one is the column. -/
theorem one_axes (h : AC.ReducesTo [0, 2] A1) (x : ColA) (r : Fin 4096) :
    Ideal.hostReduceAdd h x 0 (ix1 r) = x (ix3 0 r 0) := by
  unfold Ideal.hostReduceAdd
  have e : Finset.univ.filter (fun i : AC.Idx => h.drop i = ix1 r) = {ix3 0 r 0} := by
    ext i
    simp only [Finset.mem_filter, Finset.mem_univ, true_and, Finset.mem_singleton]
    have hd : (h.drop i 0).val = (i 1).val := h.drop_apply_val_of_eq i 0 1 (by decide)
    constructor
    · intro e
      have e1 : (i 1).val = r.val := hd.symm.trans (congrArg (fun f : A1.Idx => (f 0).val) e)
      refine (eq_ix3 i).trans ?_
      rw [show i 0 = (0 : Fin 1) from Subsingleton.elim (α := Fin 1) _ _, show i 2 = (0 : Fin 1) from Subsingleton.elim (α := Fin 1) _ _, show i 1 = r from Fin.ext e1]
    · rintro rfl
      exact (eq_ix1 _).trans (congrArg ix1 (Fin.ext hd))
  rw [e, Finset.sum_singleton, zero_add]

/-- A row's sum over its two axes of one is the row. -/
theorem one_rows (h : (⟨3, ![1, 1, 1024]⟩ : Shape).ReducesTo [0, 1] ⟨1, ![1024]⟩) (x : FVec Ideal ⟨3, ![1, 1, 1024]⟩ .f32)
    (j : Fin 1024) : Ideal.hostReduceAdd h x 0 (ix1 j) = x (ix3 0 0 j) := by
  unfold Ideal.hostReduceAdd
  have e : Finset.univ.filter (fun i : (⟨3, ![1, 1, 1024]⟩ : Shape).Idx => h.drop i = ix1 j) = {ix3 0 0 j} := by
    ext i
    simp only [Finset.mem_filter, Finset.mem_univ, true_and, Finset.mem_singleton]
    have hd : (h.drop i 0).val = (i 2).val := h.drop_apply_val_of_eq i 0 2 (by decide)
    constructor
    · intro e
      have e1 : (i 2).val = j.val := hd.symm.trans (congrArg (fun f : (⟨1, ![1024]⟩ : Shape).Idx => (f 0).val) e)
      refine (eq_ix3 i).trans ?_
      rw [show i 0 = (0 : Fin 1) from Subsingleton.elim (α := Fin 1) _ _, show i 1 = (0 : Fin 1) from Subsingleton.elim (α := Fin 1) _ _, show i 2 = j from Fin.ext e1]
    · rintro rfl
      exact (eq_ix1 _).trans (congrArg ix1 (Fin.ext hd))
  rw [e, Finset.sum_singleton, zero_add]

theorem spreadA_apply (x : ColA) (r : Fin 4096) (j : Fin 1024) : spreadA x (ix3 0 r j) = x (ix3 0 r 0) := by
  pointwise [spreadA, one_axes]
theorem cenA_apply (x : Arr) (r : Fin 4096) (j : Fin 1024) : cenA x (ix3 0 r j) = cen (rowA x r) j := by
  pointwise [cenA, sumA_apply, overA_apply, cen]
theorem varA_apply (x : Arr) (r : Fin 4096) : varA x (ix3 0 r 0) = var (rowA x r) := by
  pointwise [varA, sumA_apply, overA_apply, var]
theorem rsA_apply (x : Arr) (r : Fin 4096) : rsA x (ix3 0 r 0) = rs (rowA x r) := by
  pointwise [rsA, varA_apply, rs]
theorem drsA_apply (x : Arr) (r : Fin 4096) : drsA x (ix3 0 r 0) = drs (rowA x r) := by
  pointwise [drsA, rsA_apply, varA_apply, drs]
theorem shareA_apply (x d : Arr) (r : Fin 4096) (j : Fin 1024) :
    shareA x d (ix3 0 r j) = share (rowA x r) (rowA d r) := by
  pointwise [shareA, spreadA_apply, overA_apply, sumA_apply, drsA_apply, share]
theorem dcenA_apply (x d : Arr) (r : Fin 4096) (j : Fin 1024) :
    dcenA x d (ix3 0 r j) = dcen (rowA x r) (rowA d r) j := by
  pointwise [dcenA, shareA_apply, rsA_apply, dcen]
theorem backA_apply (d : Arr) (r : Fin 4096) (j : Fin 1024) : backA d (ix3 0 r j) = back (rowA d r) j := by
  pointwise [backA, spreadA_apply, overA_apply, sumA_apply, back]

/-! ## Sums over the rows, and the normed, scaled and shifted rows -/

abbrev R1 : Shape := ⟨2, ![1, 1024]⟩
abbrev R0 : Shape := ⟨1, ![1024]⟩
abbrev R3 : Shape := ⟨3, ![1, 1, 1024]⟩

/-- One row of the full width, as a parameter or its gradient is held. -/
abbrev Par := FVec Ideal R1 .f32
/-- The one row of a parameter. -/
abbrev rowP (p : Par) : Row := fun j => p (ix2 0 j)

theorem c_red : T2.Reduces [0] R0 := by decide
theorem c_cast : R0.ShapeCasts R1 := by decide
theorem c_bc : R1.Broadcasts T2 := by decide
theorem c_ared : A3.ReducesTo [1] R1 := by decide
theorem c_ared1 : R3.ReducesTo [0, 1] R0 := by decide
theorem c_acast : R1.ShapeCasts R3 := by decide
theorem c_ab : R0.BroadcastsInDim R1 ![1] := by decide
theorem c_ab3 : R1.BroadcastsInDim R3 ![0, 2] := by decide
theorem c_ab0 : A0.BroadcastsInDim R3 ![] := by decide
theorem c_ab4 : R3.BroadcastsInDim A3 ![0, 1, 2] := by decide

/-- A tile summed over its rows. -/
def colT (x : Tile) : Par := shapeCast R1 (multiReduction .add [0] R0 x 0x00000000#32 c_red (.inl rfl) rfl) c_cast
/-- An array summed over its rows. -/
def colA (x : Arr) : Par :=
  broadcastInDim R1 ![1] c_ab (Host.reduceAdd (shapeCast R3 (Host.reduceAdd x (constant A0 .f32 0x00000000#32) c_ared a_pos) c_acast)
    (constant A0 .f32 0x00000000#32) c_ared1 a_pos)
/-- One more than a parameter. -/
def oneT1 (p : Par) : Par := addf (broadcast R1 (Scalar.ofBits .f32 0x3F800000#32)) p
def oneA1 (p : Par) : FVec Ideal R3 .f32 :=
  addf (broadcastInDim R3 ![] c_ab0 (constant A0 .f32 0x3F800000#32)) (broadcastInDim R3 ![0, 2] c_ab3 p)
/-- The normed rows. -/
def normT (x : Tile) : Tile := mulf x (broadcastTo T2 (rsT x) t_bc)
def normA (x : Arr) : Arr := mulf x (broadcastInDim A3 ![0, 1, 2] a_bc (rsA x))
/-- The normed rows scaled and shifted. -/
def modT (x : Tile) (sh sc : Par) : Tile :=
  addf (mulf (normT (cenT x)) (broadcastTo T2 (oneT1 sc) c_bc)) (broadcastTo T2 sh c_bc)
def modA (x : Arr) (sh sc : Par) : Arr :=
  addf (mulf (normA (cenA x)) (broadcastInDim A3 ![0, 1, 2] c_ab4 (oneA1 sc)))
    (broadcastInDim A3 ![0, 1, 2] c_ab4 (broadcastInDim R3 ![0, 2] c_ab3 sh))
/-- The rows' cotangent, when the scaled and shifted rows have the cotangent `d`. -/
def dxT (x d : Tile) (sc : Par) : Tile :=
  backT (dcenT (cenT x) (mulf d (broadcastTo T2 (oneT1 sc) c_bc)) (rsT (cenT x)) (drsT (cenT x)))
def dxA (x d : Arr) (sc : Par) : Arr :=
  backA (dcenA (cenA x) (mulf d (broadcastInDim A3 ![0, 1, 2] c_ab4 (oneA1 sc))))

/-- The formula of the normed, scaled and shifted row. -/
def mod (x sh sc : Row) : Row := fun j => cen x j * rs (cen x) * (1 + sc j) + sh j
/-- The formula of the row's cotangent. -/
def dx (x d sc : Row) : Row := back (dcen (cen x) fun j => d j * (1 + sc j))

theorem colT_apply (x : Tile) (j : Fin 1024) : colT x (ix2 0 j) = ∑ r, x (ix2 r j) := by
  pointwise [colT]
theorem colA_apply (x : Arr) (j : Fin 1024) : colA x (ix2 0 j) = ∑ r, x (ix3 0 r j) := by
  pointwise [colA, one_rows]
theorem oneT1_apply (p : Par) (j : Fin 1024) : oneT1 p (ix2 0 j) = 1 + p (ix2 0 j) := by
  pointwise [oneT1]
theorem oneA1_apply (p : Par) (j : Fin 1024) : oneA1 p (ix3 0 0 j) = 1 + p (ix2 0 j) := by
  pointwise [oneA1]
theorem normT_apply (x : Tile) (r : Fin 256) (j : Fin 1024) : normT x (ix2 r j) = x (ix2 r j) * rs (rowT x r) := by
  pointwise [normT, rsT_apply]
theorem normA_apply (x : Arr) (r : Fin 4096) (j : Fin 1024) : normA x (ix3 0 r j) = x (ix3 0 r j) * rs (rowA x r) := by
  pointwise [normA, rsA_apply]
theorem rowT_cen (x : Tile) (r : Fin 256) : rowT (cenT x) r = cen (rowT x r) := funext (cenT_apply x r)
theorem rowA_cen (x : Arr) (r : Fin 4096) : rowA (cenA x) r = cen (rowA x r) := funext (cenA_apply x r)
theorem modT_apply (x : Tile) (sh sc : Par) (r : Fin 256) (j : Fin 1024) :
    modT x sh sc (ix2 r j) = mod (rowT x r) (rowP sh) (rowP sc) j := by
  pointwise [modT, normT_apply, oneT1_apply, rowT_cen, cenT_apply, mod]
theorem modA_apply (x : Arr) (sh sc : Par) (r : Fin 4096) (j : Fin 1024) :
    modA x sh sc (ix3 0 r j) = mod (rowA x r) (rowP sh) (rowP sc) j := by
  pointwise [modA, normA_apply, oneA1_apply, rowA_cen, cenA_apply, mod]
theorem dxT_apply (x d : Tile) (sc : Par) (r : Fin 256) (j : Fin 1024) :
    dxT x d sc (ix2 r j) = dx (rowT x r) (rowT d r) (rowP sc) j := by
  rw [dxT, backT_apply, dx]
  refine congrFun (congrArg back (funext fun k => ?_)) j
  show dcenT _ _ _ _ (ix2 r k) = _
  rw [dcenT_apply, rowT_cen]
  refine congrFun (congrArg (dcen _) (funext fun i => ?_)) k
  show mulf d _ (ix2 r i) = _
  pointwise [oneT1_apply]
theorem dxA_apply (x d : Arr) (sc : Par) (r : Fin 4096) (j : Fin 1024) :
    dxA x d sc (ix3 0 r j) = dx (rowA x r) (rowA d r) (rowP sc) j := by
  rw [dxA, backA_apply, dx]
  refine congrFun (congrArg back (funext fun k => ?_)) j
  show dcenA _ _ (ix3 0 r k) = _
  rw [dcenA_apply, rowA_cen]
  refine congrFun (congrArg (dcen _) (funext fun i => ?_)) k
  show mulf d _ (ix3 0 r i) = _
  pointwise [oneA1_apply]

end Cert.NormRows

end
end
-- ==== Proof.LossValue.lean ====
module

public import proofs.«01_k».proof.Proof.Gen.LossKernelIdeal.Frame
public import proofs.«01_k».proof.Proof.Gen.LossReferenceIdeal
public import proofs.«01_k».proof.Proof.NormRows

@[expose] public section

set_option maxRecDepth 16384

noncomputable section

open Idealize.ShloMosaic Idealize.ShloMosaic.TcCoe Idealize.SL.Sem
open Idealize.ShloMosaic.Pipeline (Dat)

namespace Cert.LossKernelIdeal.Grad

open Cert.LossKernelIdeal Cert.LossKernelIdeal.Gen Cert.NormRows

variable (m : (ℓ : Loc nD τ sig) → Buf (Elt Ideal) ℓ)

/-- The block every window shows at grid point `t`: rows `256 t …` of a tiled array, the whole of a parameter. -/
theorem rows_of : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![t.val, 0]
    ∧ win0_8.index t = ![t.val, 0] ∧ win0_9.index t = ![t.val, 0] ∧ win0_10.index t = ![0, 0]
    ∧ win0_11.index t = ![0, 0] ∧ win0_12.index t = ![0, 0] ∧ win0_13.index t = ![0, 0] :=
  (by decide +kernel : ∀ t : Fin grid0.N, _)

/-- The arguments of the program, by name. -/
abbrev mg (c : Dev nD) : Arr := m ((c.tc : Thread nD τ).loc main_arg0)
abbrev xs (c : Dev nD) : Arr := m ((c.tc : Thread nD τ).loc main_arg1)
abbrev tg (c : Dev nD) : Arr := m ((c.tc : Thread nD τ).loc main_arg2)
abbrev gt (c : Dev nD) : Par := m ((c.tc : Thread nD τ).loc main_arg3)
abbrev pg (c : Dev nD) : Par := m ((c.tc : Thread nD τ).loc main_arg4)
abbrev pb (c : Dev nD) : Par := m ((c.tc : Thread nD τ).loc main_arg5)
abbrev wt (c : Dev nD) : FVec Ideal S1x1024x1024 .f32 := m ((c.tc : Thread nD τ).loc main_arg6)

/-- Row `r` of grid point `t`'s block. -/
def row (t : Fin cfg0.N) (r : Fin 256) : Fin 4096 := ⟨256 * t.val + r.val, by have := t.isLt; have : cfg0.N = 16 := rfl; omega⟩

theorem read0 (c : Dev nD) (t : Fin cfg0.N) (r : Fin 256) (j : Fin 1024) :
    iblk m c 0 t (ix2 r j) = mg m c (ix3 0 (row t r) j) := by
  show V m c main_v5 _ = _
  rw [show V m c main_v5 = shapeCast S4096x1024 (mg m c) shapeCasts_S1x4096x1024_S4096x1024 from rfl]
  pointwise; blk_point [rows_of t, row]
theorem read1 (c : Dev nD) (t : Fin cfg0.N) (r : Fin 256) (j : Fin 1024) :
    iblk m c 1 t (ix2 r j) = xs m c (ix3 0 (row t r) j) := by
  show V m c main_v6 _ = _
  rw [show V m c main_v6 = shapeCast S4096x1024 (xs m c) shapeCasts_S1x4096x1024_S4096x1024 from rfl]
  pointwise; blk_point [rows_of t, row]
theorem read2 (c : Dev nD) (t : Fin cfg0.N) (r : Fin 256) (j : Fin 1024) :
    iblk m c 2 t (ix2 r j) = tg m c (ix3 0 (row t r) j) := by
  show V m c main_v7 _ = _
  rw [show V m c main_v7 = shapeCast S4096x1024 (tg m c) shapeCasts_S1x4096x1024_S4096x1024 from rfl]
  pointwise; blk_point [rows_of t, row]
theorem read3 (c : Dev nD) (t : Fin cfg0.N) (j : Fin 1024) : iblk m c 3 t (ix2 0 j) = gt m c (ix2 0 j) := by
  show V m c main_arg3 _ = _
  rw [show V m c main_arg3 = gt m c from rfl]; blk_point [rows_of t]
theorem read4 (c : Dev nD) (t : Fin cfg0.N) (j : Fin 1024) : iblk m c 4 t (ix2 0 j) = pg m c (ix2 0 j) := by
  show V m c main_arg4 _ = _
  rw [show V m c main_arg4 = pg m c from rfl]; blk_point [rows_of t]
theorem read5 (c : Dev nD) (t : Fin cfg0.N) (j : Fin 1024) : iblk m c 5 t (ix2 0 j) = pb m c (ix2 0 j) := by
  show V m c main_arg5 _ = _
  rw [show V m c main_arg5 = pb m c from rfl]; blk_point [rows_of t]
theorem read6 (c : Dev nD) (t : Fin cfg0.N) (j : Fin 1024) (k : Fin 1024) :
    iblk m c 6 t (ix2 j k) = wt m c (ix3 0 j k) := by
  show V m c main_v9 _ = _
  rw [show V m c main_v9 = truncf .bf16 (shapeCast S1024x1024 (wt m c) shapeCasts_S1x1024x1024_S1024x1024) bitsLt_bf16_f32 from rfl]
  pointwise; blk_point [rows_of t]
/-- The losses' cotangents: one in the first lane of each row. -/
theorem read7 (c : Dev nD) (t : Fin cfg0.N) (r : Fin 256) (l : Fin 128) :
    iblk m c 7 t (ix2 r l) = (if l = 0 then 1 else 0 : EReal) := by
  show V m c main_v4 _ = _
  have e : V m c main_v4 = (broadcastInDim S4096x128 ![1] bcast_S128_S4096x128_1 (uitofp (F := Ideal) .f32 (cmpi .eq (iotaInDim S128 32 0) (broadcastInDim S128 ![] bcast_S_S128 (constantI S_ 32 0#32)))) : FVec Ideal S4096x128 .f32) := rfl
  have h : ((win0_7.blk t).view.emb (ix2 r l)) = ix2 (row t r) l := by blk_ext [rows_of t, row]
  refine (congrArg _ h).trans ((congrFun e _).trans ?_)
  have hb : ∀ l : Fin 128, IntOp.cmpi .eq (BitVec.ofNat 32 l.val) 0#32 = if l = 0 then 1#1 else 0#1 := by decide
  pointwise
  rw [hb]
  by_cases hl : l = 0
  · rw [if_pos hl, if_pos hl]
    show (((1#1 : BitVec 1).toNat : ℝ) : EReal) = 1
    norm_num
  · rw [if_neg hl, if_neg hl]
    show (((0#1 : BitVec 1).toNat : ℝ) : EReal) = 0
    norm_num

/-! ## The constants -/

theorem half_word : (Scalar.ofBits .f32 0x3F000000#32 : Ideal .f32) = ((1 / 2 : ℝ) : EReal) := by
  show Ideal.ofBits .f32 0x3F000000#32 = _
  simp [Ideal.ofBits, Ideal.ieee]
  rw [← EReal.coe_mul]; norm_num
theorem two_word : (Scalar.ofBits .f32 0x40000000#32 : Ideal .f32) = ((2 : ℝ) : EReal) := by
  show Ideal.ofBits .f32 0x40000000#32 = _
  simp [Ideal.ofBits, Ideal.ieee]
  rw [← EReal.coe_mul]; norm_num
theorem lanes_word : lanes = ((1024 : ℝ) : EReal) := by
  show Ideal.ofBits .f32 0x44800000#32 = _
  simp [Ideal.ofBits, Ideal.ieee]
  rw [← EReal.coe_mul]; norm_num

/-- The cotangent of each lane's square, as the programs write it: half the row's, over the number of lanes. -/
def sq : EReal := Ideal.div (Scalar.ofBits .f32 0x3F000000#32 : Ideal .f32) lanes
theorem sq_real : ∃ x : ℝ, 0 ≤ x ∧ sq = (x : EReal) := by
  refine ⟨1 / 2 / 1024, by norm_num, ?_⟩
  rw [sq, half_word, lanes_word, Ideal.div, if_neg (by norm_cast), ← EReal.coe_inv, ← EReal.coe_mul]
  norm_num
/-- The product rule's two equal terms are twice the one. -/
theorem twice (e : EReal) : e * sq + sq * e = sq * ((Scalar.ofBits .f32 0x40000000#32 : Ideal .f32) * e) := by
  obtain ⟨x, hx, hs⟩ := sq_real
  rw [two_word, show ((2 : ℝ) : EReal) = 1 + 1 by norm_cast, EReal.right_distrib_of_nonneg zero_le_one zero_le_one, one_mul, hs, EReal.left_distrib_of_nonneg_of_ne_top (by exact_mod_cast hx) (EReal.coe_ne_top x), mul_comm e]

/-! ## The reference's arrays -/

theorem p_b0 : A0.BroadcastsInDim A3 ![] := by decide
theorem p_b1 : A0.BroadcastsInDim A2 ![] := by decide
theorem p_b2 : R0.BroadcastsInDim R3 ![2] := by decide
theorem p_cast : R1.ShapeCasts R0 := by decide

/-- A parameter along every row. -/
def parA (p : Par) : Arr := broadcastInDim A3 ![0, 1, 2] c_ab4 (broadcastInDim R3 ![2] p_b2 (shapeCast R0 p p_cast))
/-- One more than the gate, along every row. -/
def gateA (c : Dev nD) : Arr := broadcastInDim A3 ![0, 1, 2] c_ab4 (oneA1 (gt m c))
/-- The constant the rows are weighed with in the sum that is normed. -/
def weighA : Arr := broadcastInDim A3 ![] p_b0 (constant A0 .f32 0x3F9837F0#32)
/-- The merged rows times the weight. -/
def mA (c : Dev nD) : Arr :=
  Host.dotGeneral Cert.LossReferenceIdeal.dot_S1x4096x1024_S1024x1024_S1x4096x1024_2_0_01_1_n_n none (mg m c) (shapeCast _ (wt m c) shapeCasts_S1x1024x1024_S1024x1024)
/-- The sum that is normed. -/
def zA (c : Dev nD) : Arr := addf (mulf weighA (xs m c)) (mulf (gateA m c) (mA m c))
/-- What is squared. -/
def eA (c : Dev nD) : Arr := subf (addf (mulf (normA (cenA (zA m c))) (parA (pg m c))) (parA (pb m c))) (tg m c)
/-- The cotangent of the scaled and shifted rows. -/
def dA (c : Dev nD) : Arr :=
  mulf (broadcastInDim A3 ![0, 1] a_b3 (Host.divf (broadcastInDim A2 ![] p_b1 (mulf (constant A0 .f32 0x3F000000#32) (constant A0 .f32 0x3F800000#32)))
      (broadcastInDim A2 ![] p_b1 (constant A0 .f32 0x44800000#32))))
    (mulf (broadcastInDim A3 ![] p_b0 (constant A0 .f32 0x40000000#32)) (eA m c))
/-- The cotangent of the sum that is normed. -/
def dzA (c : Dev nD) : Arr := backA (dcenA (cenA (zA m c)) (mulf (dA m c) (parA (pg m c))))

theorem parA_apply (p : Par) (r : Fin 4096) (j : Fin 1024) : parA p (ix3 0 r j) = p (ix2 0 j) := by
  pointwise [parA]
theorem gateA_apply (c : Dev nD) (r : Fin 4096) (j : Fin 1024) : gateA m c (ix3 0 r j) = 1 + gt m c (ix2 0 j) := by
  pointwise [gateA, oneA1_apply]
theorem dA_apply (c : Dev nD) (r : Fin 4096) (j : Fin 1024) :
    dA m c (ix3 0 r j) = sq * ((Scalar.ofBits .f32 0x40000000#32 : Ideal .f32) * eA m c (ix3 0 r j)) := by
  pointwise [dA, sq]

/-! ## The kernel's tiles -/

/-- A parameter along every row of a tile. -/
def parT (p : Par) : Tile := broadcastTo T2 p c_bc
theorem parT_apply (p : Par) (r : Fin 256) (j : Fin 1024) : parT p (ix2 r j) = p (ix2 0 j) := by
  pointwise [parT]

/-- The merged rows times the weight. -/
def mT (c : Dev nD) (t : Fin cfg0.N) : Tile := k0_pay8 (iblk m c 0 t) (iblk m c 6 t)
/-- The sum that is normed. -/
def zT (c : Dev nD) (t : Fin cfg0.N) : Tile :=
  addf (mulf (broadcast T2 (Scalar.ofBits .f32 0x3F9837F0#32)) (shapeCast _ (iblk m c 1 t) shapeCasts_S256x1024_S256x1024))
    (mulf (broadcastTo T2 (oneT1 (iblk m c 3 t)) c_bc) (mT m c t))
/-- What is squared. -/
def eT (c : Dev nD) (t : Fin cfg0.N) : Tile :=
  subf (addf (mulf (normT (cenT (zT m c t))) (parT (iblk m c 4 t))) (parT (iblk m c 5 t)))
    (shapeCast _ (iblk m c 2 t) shapeCasts_S256x1024_S256x1024)
/-- The cotangent of each lane's square. -/
def sqT (c : Dev nD) (t : Fin cfg0.N) : Col :=
  oneT (overT (mulf (broadcast TC (Scalar.ofBits .f32 0x3F000000#32))
    (shapeCast TC (multiReduction .add [1] T1 (shapeCast S256x128 (iblk m c 7 t) shapeCasts_S256x128_S256x128) 0x00000000#32 reduces_S256x128_S256 (.inl rfl) rfl) t_col)))
/-- The cotangent of the scaled and shifted rows. -/
def dT (c : Dev nD) (t : Fin cfg0.N) : Tile :=
  addf (mulf (eT m c t) (broadcastTo T2 (sqT m c t) t_bc)) (mulf (broadcastTo T2 (sqT m c t) t_bc) (eT m c t))
/-- The cotangent of the sum that is normed. -/
def dzT (c : Dev nD) (t : Fin cfg0.N) : Tile :=
  backT (dcenT (cenT (zT m c t)) (mulf (dT m c t) (parT (iblk m c 4 t))) (rsT (cenT (zT m c t))) (drsT (cenT (zT m c t))))

theorem mT_apply (c : Dev nD) (t : Fin cfg0.N) (r : Fin 256) (j : Fin 1024) : mT m c t (ix2 r j) = mA m c (ix3 0 (row t r) j) := by
  pointwise [mT, k0_pay8, k0_pay3, k0_pay5, mA, read0, read6]
theorem row_z (c : Dev nD) (t : Fin cfg0.N) (r : Fin 256) : rowT (zT m c t) r = rowA (zA m c) (row t r) := by
  funext j
  pointwise [zT, zA, weighA, gateA_apply, oneT1_apply, mT_apply, read1, read3]
theorem norm_apply (c : Dev nD) (t : Fin cfg0.N) (r : Fin 256) (j : Fin 1024) :
    normT (cenT (zT m c t)) (ix2 r j) = normA (cenA (zA m c)) (ix3 0 (row t r) j) := by
  rw [normT_apply, normA_apply, rowT_cen, rowA_cen, cenT_apply, cenA_apply, row_z]
theorem eT_apply (c : Dev nD) (t : Fin cfg0.N) (r : Fin 256) (j : Fin 1024) : eT m c t (ix2 r j) = eA m c (ix3 0 (row t r) j) := by
  pointwise [eT, eA, norm_apply, parA_apply, parT_apply, read2, read4, read5]
theorem sqT_apply (c : Dev nD) (t : Fin cfg0.N) (r : Fin 256) : sqT m c t (ix2 r 0) = sq := by
  rw [sqT, oneT_apply, overT_apply]
  pointwise [read7, sq]
  rw [Finset.sum_ite_eq', if_pos (Finset.mem_univ _), mul_one]
theorem row_d (c : Dev nD) (t : Fin cfg0.N) (r : Fin 256) : rowT (dT m c t) r = rowA (dA m c) (row t r) := by
  funext j
  refine Eq.trans ?_ ((congrArg (fun e => _ * (_ * e)) (eT_apply m c t r j)).trans (dA_apply m c (row t r) j).symm)
  rw [← twice]
  pointwise [dT, sqT_apply]
theorem row_dz (c : Dev nD) (t : Fin cfg0.N) (r : Fin 256) : rowT (dzT m c t) r = rowA (dzA m c) (row t r) := by
  funext j
  refine (backT_apply _ r j).trans (Eq.trans ?_ (backA_apply _ (row t r) j).symm)
  refine congrFun (congrArg back (funext fun k => ?_)) j
  refine (dcenT_apply _ _ r k).trans (Eq.trans ?_ (dcenA_apply _ _ (row t r) k).symm)
  rw [rowT_cen, rowA_cen, row_z]
  refine congrFun (congrArg (dcen _) (funext fun l => ?_)) k
  refine Eq.trans ?_ (congrArg₂ (· * ·) (congrFun (row_d m c t r) l) ((read4 m c t l).trans (parA_apply (pg m c) (row t r) l).symm))
  exact congrArg (_ * ·) (parT_apply _ r l)

/-! ## What the kernel's steps compute -/

/-- The last step before the tile's gradients, as the kernel writes it. -/
abbrev stepT (c : Dev nD) (t : Fin cfg0.N) : Tile :=
  k0_pay17 (k0_pay4 (iblk m c 2 t)) (iblk m c 4 t) (iblk m c 5 t) (k0_pay6 (iblk m c 7 t))
    (k0_pay9 (iblk m c 0 t) (iblk m c 1 t) (iblk m c 3 t) (iblk m c 6 t))
    (k0_pay10 (iblk m c 0 t) (iblk m c 1 t) (iblk m c 3 t) (iblk m c 6 t)) (FloatOps.ofBits FTy.f32 925353388#32)
/-- The same, negated. -/
abbrev negT (c : Dev nD) (t : Fin cfg0.N) : Tile :=
  k0_pay18 (k0_pay4 (iblk m c 2 t)) (iblk m c 4 t) (iblk m c 5 t) (k0_pay6 (iblk m c 7 t))
    (k0_pay9 (iblk m c 0 t) (iblk m c 1 t) (iblk m c 3 t) (iblk m c 6 t))
    (k0_pay10 (iblk m c 0 t) (iblk m c 1 t) (iblk m c 3 t) (iblk m c 6 t)) (FloatOps.ofBits FTy.f32 925353388#32)
theorem dz_step (c : Dev nD) (t : Fin cfg0.N) : k0_pay19 (stepT m c t) (negT m c t) = dzT m c t := rfl
theorem d_step (c : Dev nD) (t : Fin cfg0.N) :
    k0_pay15 (k0_pay4 (iblk m c 2 t)) (iblk m c 4 t) (iblk m c 5 t) (k0_pay6 (iblk m c 7 t))
      (k0_pay9 (iblk m c 0 t) (iblk m c 1 t) (iblk m c 3 t) (iblk m c 6 t))
      (k0_pay10 (iblk m c 0 t) (iblk m c 1 t) (iblk m c 3 t) (iblk m c 6 t)) (FloatOps.ofBits FTy.f32 925353388#32) = colT (dT m c t) := rfl
theorem dg_step (c : Dev nD) (t : Fin cfg0.N) :
    k0_pay16 (k0_pay4 (iblk m c 2 t)) (iblk m c 4 t) (iblk m c 5 t) (k0_pay6 (iblk m c 7 t))
      (k0_pay9 (iblk m c 0 t) (iblk m c 1 t) (iblk m c 3 t) (iblk m c 6 t))
      (k0_pay10 (iblk m c 0 t) (iblk m c 1 t) (iblk m c 3 t) (iblk m c 6 t)) (FloatOps.ofBits FTy.f32 925353388#32)
      = colT (mulf (normT (cenT (zT m c t))) (dT m c t)) := rfl

/-! ## The tiles' gradients -/

/-- The cotangent of the merged rows' product with the weight. -/
def gzA (c : Dev nD) : Arr := mulf (gateA m c) (dzA m c)
/-- The merged rows' gradient. -/
def res0 (c : Dev nD) : FVec Ideal S4096x1024 .f32 :=
  shapeCast _ (Host.dotGeneral Cert.LossReferenceIdeal.dot_S1x4096x1024_S1024x1024_S1x4096x1024_2_1_01_0_n_n none (gzA m c) (shapeCast _ (wt m c) shapeCasts_S1x1024x1024_S1024x1024)) shapeCasts_S1x4096x1024_S4096x1024
/-- The rows' gradient. -/
def res1 (c : Dev nD) : FVec Ideal S4096x1024 .f32 := shapeCast _ (mulf weighA (dzA m c)) shapeCasts_S1x4096x1024_S4096x1024

theorem pay20_apply (g : Par) (a b : Tile) (r : Fin 256) (j : Fin 1024) :
    k0_pay20 g a b (ix2 r j) = g (ix2 0 j) * k0_pay19 a b (ix2 r j) := by
  pointwise [k0_pay20]
theorem pay21_apply (w : FVec Ideal S1024x1024 .bf16) (g : Par) (a b : Tile) (r : Fin 256) (j : Fin 1024) :
    k0_pay21 w g a b (ix2 r j) = ∑ k, k0_pay20 g a b (ix2 r k) * w (ix2 j k) := by
  pointwise [k0_pay21]
theorem pay22_apply (v : Tile) (g : Par) (a b : Tile) (j k : Fin 1024) :
    k0_pay22 v g a b (ix2 j k) = ∑ r, v (ix2 r j) * k0_pay20 g a b (ix2 r k) := by
  pointwise [k0_pay22]
/-- The tile of the product's cotangent. -/
theorem gz_apply (c : Dev nD) (t : Fin cfg0.N) (r : Fin 256) (j : Fin 1024) :
    k0_pay20 (k0_pay7 (iblk m c 3 t)) (stepT m c t) (negT m c t) (ix2 r j) = gzA m c (ix3 0 (row t r) j) := by
  rw [pay20_apply, dz_step]
  refine congrArg₂ (· * ·) ?_ (congrFun (row_dz m c t r) j)
  refine (oneT1_apply _ j).trans (((congrArg (1 + ·) (read3 m c t j))).trans (gateA_apply m c (row t r) j).symm)

theorem out8 (c : Dev nD) (t : Fin cfg0.N) (r : Fin 256) (j : Fin 1024) :
    (outsAt0 m c t.val t.isLt).1 (ix2 r j) = res0 m c (ix2 (row t r) j) := by
  have e : k0_pay21 (k0_pay5 (iblk m c 6 t)) (k0_pay7 (iblk m c 3 t)) (stepT m c t) (negT m c t) (ix2 r j) = res0 m c (ix2 (row t r) j) := by
    pointwise [res0]
    rw [pay21_apply]
    refine Finset.sum_congr rfl fun k _ => congrArg₂ _ (gz_apply m c t r k) ?_
    pointwise [k0_pay5, read6]
  rw [← e]
  by_cases h : t.val % 16 = 0
  all_goals first | (rw [outsAt0_A m c t h]; frame_out) | (rw [outsAt0_B m c t h]; frame_out)
theorem out9 (c : Dev nD) (t : Fin cfg0.N) (r : Fin 256) (j : Fin 1024) :
    (outsAt0 m c t.val t.isLt).2.1 (ix2 r j) = res1 m c (ix2 (row t r) j) := by
  have e : k0_pay23 (stepT m c t) (negT m c t) (ix2 r j) = res1 m c (ix2 (row t r) j) := by
    pointwise [res1, weighA]
    refine Eq.trans ?_ (congrArg (_ * ·) (congrFun (row_dz m c t r) j))
    rw [← dz_step]
    pointwise [k0_pay23]
  rw [← e]
  by_cases h : t.val % 16 = 0
  all_goals first | (rw [outsAt0_A m c t h]; frame_out) | (rw [outsAt0_B m c t h]; frame_out)
/-- The merged rows' gradient, from every grid point. -/
theorem final8 (c : Dev nD) : (dats m 0 c).arrAt 8 cfg0.N = res0 m c := by
  refine (dats m 0 c).arrAt_eq_of_covers 8 _ (by decide +kernel) fun t hf y => ?_
  blk_simp
  rw [after0_8]
  have e : ((View.whole main_v10_0).slice (win0_8.rect t)).emb y = ix2 (row t (y 0)) (y 1) := by blk_ext [rows_of t, row]
  exact ((congrArg _ (eq_ix2 y)).trans (out8 m c t (y 0) (y 1))).trans (congrArg _ e.symm)

/-- The rows' gradient, from every grid point. -/
theorem final9 (c : Dev nD) : (dats m 0 c).arrAt 9 cfg0.N = res1 m c := by
  refine (dats m 0 c).arrAt_eq_of_covers 9 _ (by decide +kernel) fun t hf y => ?_
  blk_simp
  rw [after0_9]
  have e : ((View.whole main_v10_1).slice (win0_9.rect t)).emb y = ix2 (row t (y 0)) (y 1) := by blk_ext [rows_of t, row]
  exact ((congrArg _ (eq_ix2 y)).trans (out9 m c t (y 0) (y 1))).trans (congrArg _ e.symm)

/-! ## The parameters' gradients -/

/-- A sum over the grid's points and each point's rows is the sum over all rows. -/
theorem sum_rows (f : Fin 4096 → EReal) (t : Fin cfg0.N) (h : ∀ s : Fin 16, 16 * (t.val / 16) + s.val < cfg0.N) :
    ∑ s : Fin 16, ∑ x : Fin 256, f (row ⟨16 * (t.val / 16) + s.val, h s⟩ x) = ∑ r : Fin 4096, f r := by
  refine Fin.sum_mul_add_congr fun s k hl => congrArg f (Fin.ext ?_)
  have h1 := t.isLt
  have h2 : cfg0.N = 16 := rfl
  simp only [row]; omega

/-- The gate's gradient. -/
def res2 (c : Dev nD) : Par := colA (mulf (dzA m c) (mA m c))
/-- The scale's gradient. -/
def res3 (c : Dev nD) : Par := colA (mulf (normA (cenA (zA m c))) (dA m c))
/-- The shift's gradient. -/
def res4 (c : Dev nD) : Par := colA (dA m c)
/-- The weight's gradient. -/
def res5 (c : Dev nD) : FVec Ideal S1024x1024 .f32 :=
  shapeCast _ (broadcastInDim S1x1024x1024 ![1, 2] Cert.LossReferenceIdeal.Gen.bcast_S1024x1024_S1x1024x1024_1_2
    (transpose S1024x1024 [1, 0] (Host.dotGeneral Cert.LossReferenceIdeal.dot_S1x4096x1024_S1x4096x1024_S1024x1024_01_01_2_2_n_n none (gzA m c) (mg m c))
      Cert.LossReferenceIdeal.Gen.transposes_S1024x1024_S1024x1024_1_0)) shapeCasts_S1x1024x1024_S1024x1024

/-- One row's term of the gate's, the scale's, the shift's and the weight's gradient. -/
def term10 (c : Dev nD) (j : Fin 1024) (r : Fin 4096) : EReal := dzA m c (ix3 0 r j) * mA m c (ix3 0 r j)
def term11 (c : Dev nD) (j : Fin 1024) (r : Fin 4096) : EReal := normA (cenA (zA m c)) (ix3 0 r j) * dA m c (ix3 0 r j)
def term12 (c : Dev nD) (j : Fin 1024) (r : Fin 4096) : EReal := dA m c (ix3 0 r j)
def term13 (c : Dev nD) (j k : Fin 1024) (r : Fin 4096) : EReal := mg m c (ix3 0 r j) * gzA m c (ix3 0 r k)

/-- What one grid point adds to the gate's, the scale's, the shift's and the weight's gradient. -/
def add10 (c : Dev nD) (t : Fin cfg0.N) (i : S1x1024.Idx) : EReal := ∑ x : Fin 256, term10 m c (i 1) (row t x)
def add11 (c : Dev nD) (t : Fin cfg0.N) (i : S1x1024.Idx) : EReal := ∑ x : Fin 256, term11 m c (i 1) (row t x)
def add12 (c : Dev nD) (t : Fin cfg0.N) (i : S1x1024.Idx) : EReal := ∑ x : Fin 256, term12 m c (i 1) (row t x)
def add13 (c : Dev nD) (t : Fin cfg0.N) (i : S1024x1024.Idx) : EReal := ∑ x : Fin 256, term13 m c (i 0) (i 1) (row t x)

theorem add10_eq (c : Dev nD) (t : Fin cfg0.N) (j : Fin 1024) : colT (mulf (dzT m c t) (mT m c t)) (ix2 0 j) = add10 m c t (ix2 0 j) := by
  rw [colT_apply]
  exact Finset.sum_congr rfl fun r _ => congrArg₂ (· * ·) (congrFun (row_dz m c t r) j) (mT_apply m c t r j)
theorem add11_eq (c : Dev nD) (t : Fin cfg0.N) (j : Fin 1024) :
    colT (mulf (normT (cenT (zT m c t))) (dT m c t)) (ix2 0 j) = add11 m c t (ix2 0 j) := by
  rw [colT_apply]
  exact Finset.sum_congr rfl fun r _ => congrArg₂ (· * ·) (norm_apply m c t r j) (congrFun (row_d m c t r) j)
theorem add12_eq (c : Dev nD) (t : Fin cfg0.N) (j : Fin 1024) : colT (dT m c t) (ix2 0 j) = add12 m c t (ix2 0 j) := by
  rw [colT_apply]
  exact Finset.sum_congr rfl fun r _ => congrFun (row_d m c t r) j
theorem add13_eq (c : Dev nD) (t : Fin cfg0.N) (j k : Fin 1024) :
    k0_pay22 (k0_pay3 (iblk m c 0 t)) (k0_pay7 (iblk m c 3 t)) (stepT m c t) (negT m c t) (ix2 j k) = add13 m c t (ix2 j k) := by
  rw [pay22_apply]
  refine Finset.sum_congr rfl fun r _ => congrArg₂ _ ?_ (gz_apply m c t r k)
  pointwise [k0_pay3, read0]
theorem res2_apply (c : Dev nD) (j : Fin 1024) : res2 m c (ix2 0 j) = ∑ r, term10 m c j r := colA_apply _ j
theorem res3_apply (c : Dev nD) (j : Fin 1024) : res3 m c (ix2 0 j) = ∑ r, term11 m c j r := colA_apply _ j
theorem res4_apply (c : Dev nD) (j : Fin 1024) : res4 m c (ix2 0 j) = ∑ r, term12 m c j r := colA_apply _ j
theorem res5_apply (c : Dev nD) (j k : Fin 1024) : res5 m c (ix2 j k) = ∑ r, term13 m c j k r := by
  pointwise [res5]
  rw [Fintype.sum_unique]
  exact Finset.sum_congr rfl fun r _ => mul_comm _ _

theorem out10_A (c : Dev nD) (t : Fin cfg0.N) (h : t.val % 16 = 0) (i : S1x1024.Idx) :
    (outsAt0 m c t.val t.isLt).2.2.1 i = 0 + add10 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← add10_eq]
  show addf (shapeCast S1x1024 (k0_pay24 (F := Ideal)) shapeCasts_S1x1024_S1x1024) (colT (mulf (dzT m c t) (mT m c t))) (ix2 0 j) = _
  pointwise [k0_pay24]
theorem out10_B (c : Dev nD) (t : Fin cfg0.N) (h : ¬t.val % 16 = 0) (i : S1x1024.Idx) :
    (outsAt0 m c t.val t.isLt).2.2.1 i = (outsAt0 m c (t.val - 1) (Nat.lt_of_le_of_lt (Nat.sub_le _ _) t.isLt)).2.2.1 i + add10 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← add10_eq]
  show addf (shapeCast S1x1024 _ shapeCasts_S1x1024_S1x1024) (colT (mulf (dzT m c t) (mT m c t))) (ix2 0 j) = _
  pointwise
theorem out10 (c : Dev nD) (t : Fin cfg0.N) (hr : t.val % 16 = 16 - 1) (j : Fin 1024) :
    (outsAt0 m c t.val t.isLt).2.2.1 (ix2 0 j) = res2 m c (ix2 0 j) := by
  refine (Pipeline.eq_sum_fin_of_reset_step_apply_of_flush (fun n h => (outsAt0 m c n h).2.2.1) 16 (fun _ => (0 : EReal)) (add10 m c) (out10_A m c) (out10_B m c) t hr (ix2 0 j)).trans ?_
  rw [zero_add, res2_apply]
  exact sum_rows (term10 m c j) t _
/-- The gate's gradient, summed over the grid. -/
theorem final10 (c : Dev nD) : (dats m 0 c).arrAt 10 cfg0.N = res2 m c := by
  refine (dats m 0 c).arrAt_eq_of_covers 10 _ (by decide +kernel) fun t hf y => ?_
  blk_simp
  rw [after0_10]
  obtain ⟨j, rfl⟩ : ∃ j : Fin 1024, y = ix2 0 j := ⟨y 1, (eq_ix2 y).trans (congrArg (ix2 · _) (Subsingleton.elim (α := Fin 1) _ _))⟩
  have e : ((win0_10.blk t).view.emb (ix2 0 j)) = ix2 0 j := by blk_ext [rows_of t]
  exact (out10 m c t ((flush0_10 t).mp hf) j).trans (congrArg _ e.symm)

theorem out11_A (c : Dev nD) (t : Fin cfg0.N) (h : t.val % 16 = 0) (i : S1x1024.Idx) :
    (outsAt0 m c t.val t.isLt).2.2.2.1 i = 0 + add11 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← add11_eq]
  show addf (shapeCast S1x1024 (k0_pay25 (F := Ideal)) shapeCasts_S1x1024_S1x1024) (colT (mulf (normT (cenT (zT m c t))) (dT m c t))) (ix2 0 j) = _
  pointwise [k0_pay25]
theorem out11_B (c : Dev nD) (t : Fin cfg0.N) (h : ¬t.val % 16 = 0) (i : S1x1024.Idx) :
    (outsAt0 m c t.val t.isLt).2.2.2.1 i = (outsAt0 m c (t.val - 1) (Nat.lt_of_le_of_lt (Nat.sub_le _ _) t.isLt)).2.2.2.1 i + add11 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← add11_eq]
  show addf (shapeCast S1x1024 _ shapeCasts_S1x1024_S1x1024) (colT (mulf (normT (cenT (zT m c t))) (dT m c t))) (ix2 0 j) = _
  pointwise
theorem out11 (c : Dev nD) (t : Fin cfg0.N) (hr : t.val % 16 = 16 - 1) (j : Fin 1024) :
    (outsAt0 m c t.val t.isLt).2.2.2.1 (ix2 0 j) = res3 m c (ix2 0 j) := by
  refine (Pipeline.eq_sum_fin_of_reset_step_apply_of_flush (fun n h => (outsAt0 m c n h).2.2.2.1) 16 (fun _ => (0 : EReal)) (add11 m c) (out11_A m c) (out11_B m c) t hr (ix2 0 j)).trans ?_
  rw [zero_add, res3_apply]
  exact sum_rows (term11 m c j) t _
/-- The scale's gradient, summed over the grid. -/
theorem final11 (c : Dev nD) : (dats m 0 c).arrAt 11 cfg0.N = res3 m c := by
  refine (dats m 0 c).arrAt_eq_of_covers 11 _ (by decide +kernel) fun t hf y => ?_
  blk_simp
  rw [after0_11]
  obtain ⟨j, rfl⟩ : ∃ j : Fin 1024, y = ix2 0 j := ⟨y 1, (eq_ix2 y).trans (congrArg (ix2 · _) (Subsingleton.elim (α := Fin 1) _ _))⟩
  have e : ((win0_11.blk t).view.emb (ix2 0 j)) = ix2 0 j := by blk_ext [rows_of t]
  exact (out11 m c t ((flush0_11 t).mp hf) j).trans (congrArg _ e.symm)

theorem out12_A (c : Dev nD) (t : Fin cfg0.N) (h : t.val % 16 = 0) (i : S1x1024.Idx) :
    (outsAt0 m c t.val t.isLt).2.2.2.2.1 i = 0 + add12 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← add12_eq]
  show addf (shapeCast S1x1024 (k0_pay26 (F := Ideal)) shapeCasts_S1x1024_S1x1024) (colT (dT m c t)) (ix2 0 j) = _
  pointwise [k0_pay26]
theorem out12_B (c : Dev nD) (t : Fin cfg0.N) (h : ¬t.val % 16 = 0) (i : S1x1024.Idx) :
    (outsAt0 m c t.val t.isLt).2.2.2.2.1 i = (outsAt0 m c (t.val - 1) (Nat.lt_of_le_of_lt (Nat.sub_le _ _) t.isLt)).2.2.2.2.1 i + add12 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← add12_eq]
  show addf (shapeCast S1x1024 _ shapeCasts_S1x1024_S1x1024) (colT (dT m c t)) (ix2 0 j) = _
  pointwise
theorem out12 (c : Dev nD) (t : Fin cfg0.N) (hr : t.val % 16 = 16 - 1) (j : Fin 1024) :
    (outsAt0 m c t.val t.isLt).2.2.2.2.1 (ix2 0 j) = res4 m c (ix2 0 j) := by
  refine (Pipeline.eq_sum_fin_of_reset_step_apply_of_flush (fun n h => (outsAt0 m c n h).2.2.2.2.1) 16 (fun _ => (0 : EReal)) (add12 m c) (out12_A m c) (out12_B m c) t hr (ix2 0 j)).trans ?_
  rw [zero_add, res4_apply]
  exact sum_rows (term12 m c j) t _
/-- The shift's gradient, summed over the grid. -/
theorem final12 (c : Dev nD) : (dats m 0 c).arrAt 12 cfg0.N = res4 m c := by
  refine (dats m 0 c).arrAt_eq_of_covers 12 _ (by decide +kernel) fun t hf y => ?_
  blk_simp
  rw [after0_12]
  obtain ⟨j, rfl⟩ : ∃ j : Fin 1024, y = ix2 0 j := ⟨y 1, (eq_ix2 y).trans (congrArg (ix2 · _) (Subsingleton.elim (α := Fin 1) _ _))⟩
  have e : ((win0_12.blk t).view.emb (ix2 0 j)) = ix2 0 j := by blk_ext [rows_of t]
  exact (out12 m c t ((flush0_12 t).mp hf) j).trans (congrArg _ e.symm)

theorem out13_A (c : Dev nD) (t : Fin cfg0.N) (h : t.val % 16 = 0) (i : S1024x1024.Idx) :
    (outsAt0 m c t.val t.isLt).2.2.2.2.2 i = 0 + add13 m c t i := by
  obtain ⟨j, k, rfl⟩ : ∃ j k, i = ix2 j k := ⟨i 0, i 1, eq_ix2 i⟩
  rw [outsAt0_A m c t h]; frame_out
  rw [← add13_eq]
  show addf (shapeCast S1024x1024 (k0_pay27 (F := Ideal)) shapeCasts_S1024x1024_S1024x1024) (k0_pay22 (k0_pay3 (iblk m c 0 t)) (k0_pay7 (iblk m c 3 t)) (stepT m c t) (negT m c t)) (ix2 j k) = _
  pointwise [k0_pay27]
theorem out13_B (c : Dev nD) (t : Fin cfg0.N) (h : ¬t.val % 16 = 0) (i : S1024x1024.Idx) :
    (outsAt0 m c t.val t.isLt).2.2.2.2.2 i = (outsAt0 m c (t.val - 1) (Nat.lt_of_le_of_lt (Nat.sub_le _ _) t.isLt)).2.2.2.2.2 i + add13 m c t i := by
  obtain ⟨j, k, rfl⟩ : ∃ j k, i = ix2 j k := ⟨i 0, i 1, eq_ix2 i⟩
  rw [outsAt0_B m c t h]; frame_out
  rw [← add13_eq]
  show addf (shapeCast S1024x1024 _ shapeCasts_S1024x1024_S1024x1024) (k0_pay22 (k0_pay3 (iblk m c 0 t)) (k0_pay7 (iblk m c 3 t)) (stepT m c t) (negT m c t)) (ix2 j k) = _
  pointwise
theorem out13 (c : Dev nD) (t : Fin cfg0.N) (hr : t.val % 16 = 16 - 1) (j : Fin 1024) (k : Fin 1024) :
    (outsAt0 m c t.val t.isLt).2.2.2.2.2 (ix2 j k) = res5 m c (ix2 j k) := by
  refine (Pipeline.eq_sum_fin_of_reset_step_apply_of_flush (fun n h => (outsAt0 m c n h).2.2.2.2.2) 16 (fun _ => (0 : EReal)) (add13 m c) (out13_A m c) (out13_B m c) t hr (ix2 j k)).trans ?_
  rw [zero_add, res5_apply]
  exact sum_rows (term13 m c j k) t _
/-- The weight's gradient, summed over the grid. -/
theorem final13 (c : Dev nD) : (dats m 0 c).arrAt 13 cfg0.N = res5 m c := by
  refine (dats m 0 c).arrAt_eq_of_covers 13 _ (by decide +kernel) fun t hf y => ?_
  blk_simp
  rw [after0_13]
  have e : ((win0_13.blk t).view.emb y) = ix2 (y 0) (y 1) := by blk_ext [rows_of t]
  exact ((congrArg _ (eq_ix2 y)).trans (out13 m c t ((flush0_13 t).mp hf) (y 0) (y 1))).trans (congrArg _ e.symm)

end Cert.LossKernelIdeal.Grad

end
end
-- ==== Proof.LossPair.lean ====
module

public import proofs.«01_k».proof.Defs
public import proofs.«01_k».proof.Proof.Gen.LossKernel
public import proofs.«01_k».proof.Proof.Gen.LossKernelIdeal.Value
public import proofs.«01_k».proof.Proof.Gen.LossReferenceIdeal.Run
public import proofs.«01_k».proof.Proof.LossValue
public import Idealize.ShloMosaic.Adequacy
public import Idealize.ShloMosaic.Init
public import Idealize.ShloMosaic.Lib.Claim

@[expose] public section

noncomputable section

namespace Cert.Proof

open Idealize.ShloMosaic Idealize.SL.Sem

/-- The loss's gradients: the kernel's arrays and the reference's are the same functions of the arguments. -/
theorem loss_algebraic : Cert.algebraic_LossKernelIdeal_LossReferenceIdeal := by
  pair_intro
  · run_from Cert.LossKernelIdeal.Value.run_blocks m g
  · run_from Cert.LossReferenceIdeal.Value.run m' g'
    · refine Eq.trans ?_ (Cert.LossKernelIdeal.Grad.final8 m c).symm
      obtain ⟨h0, h1, h2, h3, h4, h5, h6⟩ := hagree c
      simp only [Cert.LossReferenceIdeal.Value.res_main_v100, h0, h1, h2, h3, h4, h5, h6]
      rfl
    · refine Eq.trans ?_ (Cert.LossKernelIdeal.Grad.final9 m c).symm
      obtain ⟨h0, h1, h2, h3, h4, h5, h6⟩ := hagree c
      simp only [Cert.LossReferenceIdeal.Value.res_main_v101, h0, h1, h2, h3, h4, h5, h6]
      rfl
    · refine Eq.trans ?_ (Cert.LossKernelIdeal.Grad.final10 m c).symm
      obtain ⟨h0, h1, h2, h3, h4, h5, h6⟩ := hagree c
      simp only [Cert.LossReferenceIdeal.Value.res_main_v91, h0, h1, h2, h3, h4, h5, h6]
      rfl
    · refine Eq.trans ?_ (Cert.LossKernelIdeal.Grad.final11 m c).symm
      obtain ⟨h0, h1, h2, h3, h4, h5, h6⟩ := hagree c
      simp only [Cert.LossReferenceIdeal.Value.res_main_v99, h0, h1, h2, h3, h4, h5, h6]
      rfl
    · refine Eq.trans ?_ (Cert.LossKernelIdeal.Grad.final12 m c).symm
      obtain ⟨h0, h1, h2, h3, h4, h5, h6⟩ := hagree c
      simp only [Cert.LossReferenceIdeal.Value.res_main_v98, h0, h1, h2, h3, h4, h5, h6]
      rfl
    · refine Eq.trans ?_ (Cert.LossKernelIdeal.Grad.final13 m c).symm
      obtain ⟨h0, h1, h2, h3, h4, h5, h6⟩ := hagree c
      simp only [Cert.LossReferenceIdeal.Value.res_main_v102, h0, h1, h2, h3, h4, h5, h6]
      rfl

/-- The reference keeps its arguments and declares no semaphore. -/
theorem loss_reference_frame : Cert.quiescent_LossReferenceIdeal := fun m ρ _ =>
  (θ_run Cert.LossReferenceIdeal.defs _ _).mono (fun r h => ⟨fun c => (h c).2.2.2.2.2.2,
      Idealize.ShloMosaic.sem_eq_zero_of_no_sems (by decide) r.2⟩)
    (Cert.LossReferenceIdeal.Value.run (F := Ideal) m ρ)

end Cert.Proof

end
-- ==== Proof.In3Value.lean ====
module

public import proofs.«01_k».proof.Proof.Gen.In3KernelIdeal.Frame
public import proofs.«01_k».proof.Proof.Gen.In3ReferenceIdeal
public import proofs.«01_k».proof.Proof.NormRows

@[expose] public section

set_option maxRecDepth 16384

noncomputable section

open Idealize.ShloMosaic Idealize.ShloMosaic.TcCoe Idealize.SL.Sem
open Idealize.ShloMosaic.Pipeline (Dat)

namespace Cert.In3KernelIdeal.Grad

open Cert.In3KernelIdeal Cert.In3KernelIdeal.Gen Cert.NormRows

variable (m : (ℓ : Loc nD τ sig) → Buf (Elt Ideal) ℓ)

/-- The block every window shows at grid point `t`: rows `256 t …` of a tiled array, the whole of a parameter. -/
theorem rows_of : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

/-- The arguments of the program, by name. -/
abbrev xs (c : Dev nD) : Arr := m ((c.tc : Thread nD τ).loc main_arg0)
abbrev sh (c : Dev nD) : Par := m ((c.tc : Thread nD τ).loc main_arg1)
abbrev sc (c : Dev nD) : Par := m ((c.tc : Thread nD τ).loc main_arg2)
abbrev wt (c : Dev nD) : FVec Ideal S1x1024x2048 .f32 := m ((c.tc : Thread nD τ).loc main_arg3)
abbrev da (c : Dev nD) : FVec Ideal S1x4096x1024 .f32 := m ((c.tc : Thread nD τ).loc main_arg4)
abbrev db (c : Dev nD) : FVec Ideal S1x4096x1024 .f32 := m ((c.tc : Thread nD τ).loc main_arg5)
abbrev ad (c : Dev nD) : Arr := m ((c.tc : Thread nD τ).loc main_arg6)

/-- Row `r` of grid point `t`'s block. -/
def row (t : Fin cfg0.N) (r : Fin 256) : Fin 4096 := ⟨256 * t.val + r.val, by have := t.isLt; have : cfg0.N = 16 := rfl; omega⟩

theorem read0 (c : Dev nD) (t : Fin cfg0.N) (r : Fin 256) (j : Fin 1024) :
    iblk m c 0 t (ix2 r j) = xs m c (ix3 0 (row t r) j) := by
  show V m c main_v0 _ = _
  rw [show V m c main_v0 = shapeCast S4096x1024 (xs m c) shapeCasts_S1x4096x1024_S4096x1024 from rfl]
  pointwise; blk_point [rows_of t, row]
theorem read1 (c : Dev nD) (t : Fin cfg0.N) (j : Fin 1024) : iblk m c 1 t (ix2 0 j) = sh m c (ix2 0 j) := by
  show V m c main_arg1 _ = _
  rw [show V m c main_arg1 = sh m c from rfl]; blk_point [rows_of t]
theorem read2 (c : Dev nD) (t : Fin cfg0.N) (j : Fin 1024) : iblk m c 2 t (ix2 0 j) = sc m c (ix2 0 j) := by
  show V m c main_arg2 _ = _
  rw [show V m c main_arg2 = sc m c from rfl]; blk_point [rows_of t]
theorem read3 (c : Dev nD) (t : Fin cfg0.N) (j : Fin 1024) (k : Fin 2048) :
    iblk m c 3 t (ix2 j k) = wt m c (ix3 0 j k) := by
  show V m c main_v2 _ = _
  rw [show V m c main_v2 = truncf .bf16 (shapeCast S1024x2048 (wt m c) shapeCasts_S1x1024x2048_S1024x2048) bitsLt_bf16_f32 from rfl]
  pointwise; blk_point [rows_of t]
theorem read4 (c : Dev nD) (t : Fin cfg0.N) (r : Fin 256) (j : Fin 1024) :
    iblk m c 4 t (ix2 r j) = da m c (ix3 0 (row t r) j) := by
  show V m c main_v3 _ = _
  rw [show V m c main_v3 = shapeCast S4096x1024 (da m c) shapeCasts_S1x4096x1024_S4096x1024 from rfl]
  pointwise; blk_point [rows_of t, row]
theorem read5 (c : Dev nD) (t : Fin cfg0.N) (r : Fin 256) (j : Fin 1024) :
    iblk m c 5 t (ix2 r j) = db m c (ix3 0 (row t r) j) := by
  show V m c main_v4 _ = _
  rw [show V m c main_v4 = shapeCast S4096x1024 (db m c) shapeCasts_S1x4096x1024_S4096x1024 from rfl]
  pointwise; blk_point [rows_of t, row]
theorem read6 (c : Dev nD) (t : Fin cfg0.N) (r : Fin 256) (j : Fin 1024) :
    iblk m c 6 t (ix2 r j) = ad m c (ix3 0 (row t r) j) := by
  show V m c main_v5 _ = _
  rw [show V m c main_v5 = shapeCast S4096x1024 (ad m c) shapeCasts_S1x4096x1024_S4096x1024 from rfl]
  pointwise; blk_point [rows_of t, row]

/-! ## The cotangent of the modulated rows -/

/-- The cotangent of the product, from the cotangents of its two parts. -/
def dp (c : Dev nD) : FVec Ideal Cert.In3ReferenceIdeal.S1x4096x2048 .f32 :=
  addf (pad _ ![0, 0, 1024] ![0, 0, 0] ![0, 0, 0] (db m c) (constant A0 .f32 0x00000000#32) Cert.In3ReferenceIdeal.Gen.pads_S1x4096x1024_S1x4096x2048_000_000_102400 a_pos)
    (pad _ ![0, 0, 0] ![0, 0, 1024] ![0, 0, 0] (da m c) (constant A0 .f32 0x00000000#32) Cert.In3ReferenceIdeal.Gen.pads_S1x4096x1024_S1x4096x2048_000_000_010240 a_pos)
/-- The cotangent of the modulated rows. -/
def dh (c : Dev nD) : Arr :=
  Host.dotGeneral Cert.In3ReferenceIdeal.dot_S1x4096x2048_S1024x2048_S1x4096x1024_2_1_01_0_n_n none (dp m c) (shapeCast _ (wt m c) shapeCasts_S1x1024x2048_S1024x2048)

/-- One entry of the product's cotangent. -/
def dpAt (c : Dev nD) (r : Fin 4096) (k : Fin 2048) : EReal :=
  if h : k.val < 1024 then da m c (ix3 0 r ⟨k.val, h⟩) else db m c (ix3 0 r ⟨k.val - 1024, by omega⟩)

theorem dp_apply (c : Dev nD) (r : Fin 4096) (k : Fin 2048) : dp m c (ix3 0 r k) = dpAt m c r k := by
  pointwise [dp, dpAt]
  by_cases h : k.val < 1024
  · rw [dif_neg (by omega), dif_pos h, dif_pos h, zero_add]
  · rw [dif_pos (by omega), dif_neg h, dif_neg h, add_zero]
theorem dh_apply (c : Dev nD) (r : Fin 4096) (j : Fin 1024) :
    dh m c (ix3 0 r j) = ∑ k : Fin 2048, dpAt m c r k * wt m c (ix3 0 j k) := by
  simp only [← dp_apply]
  pointwise [dh]

/-- The block of the product's cotangent at grid point `t`. -/
def dpT (c : Dev nD) (t : Fin cfg0.N) : FVec Ideal S256x2048 .bf16 :=
  k0_pay18 (k0_pay8 (iblk m c 4 t)) (k0_pay9 (iblk m c 5 t)) (FloatOps.ofBits FTy.f32 0#32)
/-- The block of the modulated rows' cotangent at grid point `t`. -/
def dhT (c : Dev nD) (t : Fin cfg0.N) : Tile :=
  k0_pay19 (k0_pay7 (iblk m c 3 t)) (k0_pay8 (iblk m c 4 t)) (k0_pay9 (iblk m c 5 t)) (FloatOps.ofBits FTy.f32 0#32)
/-- The block of the rows at grid point `t`. -/
def xT (c : Dev nD) (t : Fin cfg0.N) : Tile := shapeCast _ (iblk m c 0 t) shapeCasts_S256x1024_S256x1024

/-- One entry of the block's product with the weight, transposed. -/
theorem pay19_apply (w : FVec Ideal S1024x2048 .bf16) (a b : FVec Ideal S256x1024 .f32) (z : EReal) (r : Fin 256) (j : Fin 1024) :
    k0_pay19 w a b z (ix2 r j) = ∑ k, k0_pay18 a b z (ix2 r k) * w (ix2 j k) := by
  pointwise [k0_pay19]
/-- One entry of the modulated rows, transposed, times the product's cotangent. -/
theorem pay20_apply (a b h : FVec Ideal S256x1024 .f32) (z : EReal) (j : Fin 1024) (k : Fin 2048) :
    k0_pay20 a b h z (ix2 j k) = ∑ r, h (ix2 r j) * k0_pay18 a b z (ix2 r k) := by
  pointwise [k0_pay20]

theorem dpT_apply (c : Dev nD) (t : Fin cfg0.N) (r : Fin 256) (k : Fin 2048) :
    dpT m c t (ix2 r k) = dpAt m c (row t r) k := by
  pointwise [dpT, k0_pay18, k0_pay8, k0_pay9, dpAt]
  by_cases h : k.val < 1024
  · simp only [dif_pos h, read4, zero_add]
  · simp only [dif_neg h, read5, add_zero]
theorem row_dh (c : Dev nD) (t : Fin cfg0.N) (r : Fin 256) : rowT (dhT m c t) r = rowA (dh m c) (row t r) := by
  funext j
  show dhT m c t (ix2 r j) = dh m c (ix3 0 (row t r) j)
  rw [dh_apply]
  rw [dhT, pay19_apply]
  refine Finset.sum_congr rfl fun k _ => congrArg₂ _ (dpT_apply m c t r k) ?_
  pointwise [k0_pay7, read3]
theorem row_x (c : Dev nD) (t : Fin cfg0.N) (r : Fin 256) : rowT (xT m c t) r = rowA (xs m c) (row t r) := by
  funext j
  pointwise [xT, read0]
theorem row_sh (c : Dev nD) (t : Fin cfg0.N) : rowP (iblk m c 1 t) = rowP (sh m c) := funext (read1 m c t)
theorem row_sc (c : Dev nD) (t : Fin cfg0.N) : rowP (iblk m c 2 t) = rowP (sc m c) := funext (read2 m c t)

/-! ## The rows' gradient -/

/-- The rows' gradient, added to what the later parts passed back. -/
abbrev res0 (c : Dev nD) : FVec Ideal S4096x1024 .f32 :=
  shapeCast _ (addf (dxA (xs m c) (dh m c) (sc m c)) (ad m c)) shapeCasts_S1x4096x1024_S4096x1024

theorem out7 (c : Dev nD) (t : Fin cfg0.N) (r : Fin 256) (j : Fin 1024) :
    (outsAt0 m c t.val t.isLt).1 (ix2 r j) = res0 m c (ix2 (row t r) j) := by
  pointwise [res0, dxA_apply]
  rw [← row_dh, ← row_x, ← row_sc m c t, ← dxT_apply, ← read6]
  by_cases h : t.val % 16 = 0
  all_goals
    first | (rw [outsAt0_A m c t h]; frame_out) | (rw [outsAt0_B m c t h]; frame_out)
    show addf (dxT (xT m c t) (dhT m c t) (iblk m c 2 t)) (k0_pay10 (iblk m c 6 t)) (ix2 r j) = _
    pointwise [k0_pay10]

theorem final7 (c : Dev nD) : (dats m 0 c).arrAt 7 cfg0.N = res0 m c := by
  refine (dats m 0 c).arrAt_eq_of_covers 7 _ (by decide +kernel) fun t hf y => ?_
  blk_simp
  rw [after0_7]
  have e : ((View.whole main_v6_0).slice (win0_7.rect t)).emb y = ix2 (row t (y 0)) (y 1) := by blk_ext [rows_of t, row]
  exact ((congrArg _ (eq_ix2 y)).trans (out7 m c t (y 0) (y 1))).trans (congrArg _ e.symm)

/-! ## The gradients of the shift, the scale and the weight -/

/-- A sum over the grid's points and each point's rows is the sum over all rows. -/
theorem sum_rows (f : Fin 4096 → EReal) (t : Fin cfg0.N) (h : ∀ s : Fin 16, 16 * (t.val / 16) + s.val < cfg0.N) :
    ∑ s : Fin 16, ∑ x : Fin 256, f (row ⟨16 * (t.val / 16) + s.val, h s⟩ x) = ∑ r : Fin 4096, f r := by
  refine Fin.sum_mul_add_congr fun s k hl => congrArg f (Fin.ext ?_)
  have h1 := t.isLt
  have h2 : cfg0.N = 16 := rfl
  simp only [row]; omega

/-- One row's term of each gradient. -/
def termSh (c : Dev nD) (j : Fin 1024) (r : Fin 4096) : EReal := dh m c (ix3 0 r j)
def termSc (c : Dev nD) (j : Fin 1024) (r : Fin 4096) : EReal :=
  cen (rowA (xs m c) r) j * rs (cen (rowA (xs m c) r)) * dh m c (ix3 0 r j)
def termW (c : Dev nD) (j : Fin 1024) (k : Fin 2048) (r : Fin 4096) : EReal :=
  mod (rowA (xs m c) r) (rowP (sh m c)) (rowP (sc m c)) j * dpAt m c r k

/-- What grid point `t` adds to the gradient of the shift. -/
def add8 (c : Dev nD) (t : Fin cfg0.N) (i : S1x1024.Idx) : EReal := ∑ x : Fin 256, termSh m c (i 1) (row t x)
/-- What grid point `t` adds to the gradient of the scale. -/
def add9 (c : Dev nD) (t : Fin cfg0.N) (i : S1x1024.Idx) : EReal := ∑ x : Fin 256, termSc m c (i 1) (row t x)
/-- What grid point `t` adds to the gradient of the weight. -/
def add10 (c : Dev nD) (t : Fin cfg0.N) (i : S1024x2048.Idx) : EReal := ∑ x : Fin 256, termW m c (i 0) (i 1) (row t x)

theorem colT_dh (c : Dev nD) (t : Fin cfg0.N) (j : Fin 1024) : colT (dhT m c t) (ix2 0 j) = add8 m c t (ix2 0 j) := by
  rw [colT_apply]
  exact Finset.sum_congr rfl fun r _ => congrFun (row_dh m c t r) j
theorem colT_norm (c : Dev nD) (t : Fin cfg0.N) (j : Fin 1024) :
    colT (mulf (normT (cenT (xT m c t))) (dhT m c t)) (ix2 0 j) = add9 m c t (ix2 0 j) := by
  rw [colT_apply]
  refine Finset.sum_congr rfl fun r _ => ?_
  show normT _ (ix2 r j) * rowT (dhT m c t) r j = _
  rw [normT_apply, rowT_cen, cenT_apply, row_x, row_dh]; rfl
/-- The block's product for the gradient of the weight. -/
def dwT (c : Dev nD) (t : Fin cfg0.N) : FVec Ideal S1024x2048 .f32 :=
  k0_pay20 (k0_pay8 (iblk m c 4 t)) (k0_pay9 (iblk m c 5 t)) (modT (xT m c t) (iblk m c 1 t) (iblk m c 2 t)) (FloatOps.ofBits FTy.f32 0#32)
theorem dwT_apply (c : Dev nD) (t : Fin cfg0.N) (j : Fin 1024) (k : Fin 2048) : dwT m c t (ix2 j k) = add10 m c t (ix2 j k) := by
  rw [dwT, pay20_apply]
  refine Finset.sum_congr rfl fun r _ => congrArg₂ _ ?_ (dpT_apply m c t r k)
  rw [modT_apply, row_x, row_sh, row_sc]; rfl

theorem out8_A (c : Dev nD) (t : Fin cfg0.N) (h : t.val % 16 = 0) (i : S1x1024.Idx) :
    (outsAt0 m c t.val t.isLt).2.1 i = 0 + add8 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← colT_dh]
  show addf (shapeCast S1x1024 (k0_pay1 (F := Ideal)) shapeCasts_S1x1024_S1x1024) (colT (dhT m c t)) (ix2 0 j) = _
  pointwise [k0_pay1]
theorem out8_B (c : Dev nD) (t : Fin cfg0.N) (h : ¬t.val % 16 = 0) (i : S1x1024.Idx) :
    (outsAt0 m c t.val t.isLt).2.1 i = (outsAt0 m c (t.val - 1) (Nat.lt_of_le_of_lt (Nat.sub_le _ _) t.isLt)).2.1 i + add8 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← colT_dh]
  show addf (shapeCast S1x1024 _ shapeCasts_S1x1024_S1x1024) (colT (dhT m c t)) (ix2 0 j) = _
  pointwise
theorem out8 (c : Dev nD) (t : Fin cfg0.N) (hr : t.val % 16 = 16 - 1) (j : Fin 1024) :
    (outsAt0 m c t.val t.isLt).2.1 (ix2 0 j) = colA (dh m c) (ix2 0 j) := by
  refine (Pipeline.eq_sum_fin_of_reset_step_apply_of_flush (fun n h => (outsAt0 m c n h).2.1) 16 (fun _ => (0 : EReal)) (add8 m c) (out8_A m c) (out8_B m c) t hr (ix2 0 j)).trans ?_
  rw [zero_add, colA_apply]
  exact sum_rows (termSh m c j) t _
theorem final8 (c : Dev nD) : (dats m 0 c).arrAt 8 cfg0.N = colA (dh m c) := by
  refine (dats m 0 c).arrAt_eq_of_covers 8 _ (by decide +kernel) fun t hf y => ?_
  blk_simp
  rw [after0_8]
  obtain ⟨j, rfl⟩ : ∃ j : Fin 1024, y = ix2 0 j := ⟨y 1, (eq_ix2 y).trans (congrArg (ix2 · _) (Subsingleton.elim (α := Fin 1) _ _))⟩
  have e : ((win0_8.blk t).view.emb (ix2 0 j)) = ix2 0 j := by blk_ext [rows_of t]
  exact (out8 m c t ((flush0_8 t).mp hf) j).trans (congrArg _ e.symm)

theorem out9_A (c : Dev nD) (t : Fin cfg0.N) (h : t.val % 16 = 0) (i : S1x1024.Idx) :
    (outsAt0 m c t.val t.isLt).2.2.1 i = 0 + add9 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← colT_norm]
  show addf (shapeCast S1x1024 (k0_pay2 (F := Ideal)) shapeCasts_S1x1024_S1x1024) (colT (mulf (normT (cenT (xT m c t))) (dhT m c t))) (ix2 0 j) = _
  pointwise [k0_pay2]
theorem out9_B (c : Dev nD) (t : Fin cfg0.N) (h : ¬t.val % 16 = 0) (i : S1x1024.Idx) :
    (outsAt0 m c t.val t.isLt).2.2.1 i = (outsAt0 m c (t.val - 1) (Nat.lt_of_le_of_lt (Nat.sub_le _ _) t.isLt)).2.2.1 i + add9 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← colT_norm]
  show addf (shapeCast S1x1024 _ shapeCasts_S1x1024_S1x1024) (colT (mulf (normT (cenT (xT m c t))) (dhT m c t))) (ix2 0 j) = _
  pointwise
/-- The gradient of the scale. -/
abbrev res2 (c : Dev nD) : Par := colA (mulf (normA (cenA (xs m c))) (dh m c))
theorem res2_apply (c : Dev nD) (j : Fin 1024) : res2 m c (ix2 0 j) = ∑ r, termSc m c j r := by
  rw [res2, colA_apply]
  refine Finset.sum_congr rfl fun r _ => ?_
  show normA _ (ix3 0 r j) * dh m c (ix3 0 r j) = _
  rw [normA_apply, rowA_cen, cenA_apply]; rfl
theorem out9 (c : Dev nD) (t : Fin cfg0.N) (hr : t.val % 16 = 16 - 1) (j : Fin 1024) :
    (outsAt0 m c t.val t.isLt).2.2.1 (ix2 0 j) = res2 m c (ix2 0 j) := by
  refine (Pipeline.eq_sum_fin_of_reset_step_apply_of_flush (fun n h => (outsAt0 m c n h).2.2.1) 16 (fun _ => (0 : EReal)) (add9 m c) (out9_A m c) (out9_B m c) t hr (ix2 0 j)).trans ?_
  rw [zero_add, res2_apply]
  exact sum_rows (termSc m c j) t _
theorem final9 (c : Dev nD) : (dats m 0 c).arrAt 9 cfg0.N = res2 m c := by
  refine (dats m 0 c).arrAt_eq_of_covers 9 _ (by decide +kernel) fun t hf y => ?_
  blk_simp
  rw [after0_9]
  obtain ⟨j, rfl⟩ : ∃ j : Fin 1024, y = ix2 0 j := ⟨y 1, (eq_ix2 y).trans (congrArg (ix2 · _) (Subsingleton.elim (α := Fin 1) _ _))⟩
  have e : ((win0_9.blk t).view.emb (ix2 0 j)) = ix2 0 j := by blk_ext [rows_of t]
  exact (out9 m c t ((flush0_9 t).mp hf) j).trans (congrArg _ e.symm)

theorem out10_A (c : Dev nD) (t : Fin cfg0.N) (h : t.val % 16 = 0) (i : S1024x2048.Idx) :
    (outsAt0 m c t.val t.isLt).2.2.2 i = 0 + add10 m c t i := by
  obtain ⟨j, k, rfl⟩ : ∃ j k, i = ix2 j k := ⟨i 0, i 1, eq_ix2 i⟩
  rw [outsAt0_A m c t h]; frame_out
  rw [← dwT_apply]
  show addf (shapeCast S1024x2048 (k0_pay3 (F := Ideal)) shapeCasts_S1024x2048_S1024x2048) (dwT m c t) (ix2 j k) = _
  pointwise [k0_pay3]
theorem out10_B (c : Dev nD) (t : Fin cfg0.N) (h : ¬t.val % 16 = 0) (i : S1024x2048.Idx) :
    (outsAt0 m c t.val t.isLt).2.2.2 i = (outsAt0 m c (t.val - 1) (Nat.lt_of_le_of_lt (Nat.sub_le _ _) t.isLt)).2.2.2 i + add10 m c t i := by
  obtain ⟨j, k, rfl⟩ : ∃ j k, i = ix2 j k := ⟨i 0, i 1, eq_ix2 i⟩
  rw [outsAt0_B m c t h]; frame_out
  rw [← dwT_apply]
  show addf (shapeCast S1024x2048 _ shapeCasts_S1024x2048_S1024x2048) (dwT m c t) (ix2 j k) = _
  pointwise
/-- The gradient of the weight. -/
abbrev res3 (c : Dev nD) : FVec Ideal S1024x2048 .f32 :=
  shapeCast _ (broadcastInDim S1x1024x2048 ![1, 2] Cert.In3ReferenceIdeal.Gen.bcast_S1024x2048_S1x1024x2048_1_2
    (transpose S1024x2048 [1, 0] (Host.dotGeneral Cert.In3ReferenceIdeal.dot_S1x4096x2048_S1x4096x1024_S2048x1024_01_01_2_2_n_n none (dp m c) (modA (xs m c) (sh m c) (sc m c)))
      Cert.In3ReferenceIdeal.Gen.transposes_S2048x1024_S1024x2048_1_0)) shapeCasts_S1x1024x2048_S1024x2048
theorem res3_apply (c : Dev nD) (j : Fin 1024) (k : Fin 2048) : res3 m c (ix2 j k) = ∑ r, termW m c j k r := by
  pointwise [res3]
  rw [Fintype.sum_unique]
  refine Finset.sum_congr rfl fun r _ => (mul_comm _ _).trans ?_
  exact congrArg₂ _ (modA_apply _ _ _ r j) (dp_apply m c r k)
theorem out10 (c : Dev nD) (t : Fin cfg0.N) (hr : t.val % 16 = 16 - 1) (j : Fin 1024) (k : Fin 2048) :
    (outsAt0 m c t.val t.isLt).2.2.2 (ix2 j k) = res3 m c (ix2 j k) := by
  refine (Pipeline.eq_sum_fin_of_reset_step_apply_of_flush (fun n h => (outsAt0 m c n h).2.2.2) 16 (fun _ => (0 : EReal)) (add10 m c) (out10_A m c) (out10_B m c) t hr (ix2 j k)).trans ?_
  rw [zero_add, res3_apply]
  exact sum_rows (termW m c j k) t _
theorem final10 (c : Dev nD) : (dats m 0 c).arrAt 10 cfg0.N = res3 m c := by
  refine (dats m 0 c).arrAt_eq_of_covers 10 _ (by decide +kernel) fun t hf y => ?_
  blk_simp
  rw [after0_10]
  have e : ((win0_10.blk t).view.emb y) = ix2 (y 0) (y 1) := by blk_ext [rows_of t]
  exact ((congrArg _ (eq_ix2 y)).trans (out10 m c t ((flush0_10 t).mp hf) (y 0) (y 1))).trans (congrArg _ e.symm)

end Cert.In3KernelIdeal.Grad

end
end
-- ==== Proof.In3Pair.lean ====
module

public import proofs.«01_k».proof.Defs
public import proofs.«01_k».proof.Proof.Gen.In3Kernel
public import proofs.«01_k».proof.Proof.Gen.In3KernelIdeal.Value
public import proofs.«01_k».proof.Proof.Gen.In3ReferenceIdeal.Run
public import proofs.«01_k».proof.Proof.In3Value
public import Idealize.ShloMosaic.Adequacy
public import Idealize.ShloMosaic.Init
public import Idealize.ShloMosaic.Lib.Claim

@[expose] public section

noncomputable section

namespace Cert.Proof

open Idealize.ShloMosaic Idealize.SL.Sem

/-- The gradients of the third step's normed entry: the kernel's arrays and the reference's are the same functions of the arguments. -/
theorem in3_algebraic : Cert.algebraic_In3KernelIdeal_In3ReferenceIdeal := by
  pair_intro
  · run_from Cert.In3KernelIdeal.Value.run_blocks m g
  · run_from Cert.In3ReferenceIdeal.Value.run m' g'
    · refine Eq.trans ?_ (Cert.In3KernelIdeal.Grad.final7 m c).symm
      obtain ⟨h0, h1, h2, h3, h4, h5, h6⟩ := hagree c
      simp only [Cert.In3ReferenceIdeal.Value.res_main_v74, h0, h1, h2, h3, h4, h5, h6]
      rfl
    · exact (Cert.In3KernelIdeal.Grad.final8 m c).symm
    · exact (Cert.In3KernelIdeal.Grad.final9 m c).symm
    · exact (Cert.In3KernelIdeal.Grad.final10 m c).symm

/-- The reference keeps its arguments and declares no semaphore. -/
theorem in3_reference_frame : Cert.quiescent_In3ReferenceIdeal := fun m ρ _ =>
  (θ_run Cert.In3ReferenceIdeal.defs _ _).mono (fun r h => ⟨fun c => (h c).2.2.2.2,
      Idealize.ShloMosaic.sem_eq_zero_of_no_sems (by decide) r.2⟩)
    (Cert.In3ReferenceIdeal.Value.run (F := Ideal) m ρ)

end Cert.Proof

end
-- ==== Proof.In2Value.lean ====
module

public import proofs.«01_k».proof.Proof.Gen.In2KernelIdeal.Frame
public import proofs.«01_k».proof.Proof.Gen.In2ReferenceIdeal
public import proofs.«01_k».proof.Proof.NormRows

@[expose] public section

set_option maxRecDepth 16384

noncomputable section

open Idealize.ShloMosaic Idealize.ShloMosaic.TcCoe Idealize.SL.Sem
open Idealize.ShloMosaic.Pipeline (Dat)

namespace Cert.In2KernelIdeal.Grad

open Cert.In2KernelIdeal Cert.In2KernelIdeal.Gen Cert.NormRows

variable (m : (ℓ : Loc nD τ sig) → Buf (Elt Ideal) ℓ)

/-- The block every window shows at grid point `t`: rows `256 t …` of a tiled array, the whole of a parameter. -/
theorem rows_of : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

/-- The arguments of the program, by name. -/
abbrev xs (c : Dev nD) : Arr := m ((c.tc : Thread nD τ).loc main_arg0)
abbrev sh (c : Dev nD) : Par := m ((c.tc : Thread nD τ).loc main_arg1)
abbrev sc (c : Dev nD) : Par := m ((c.tc : Thread nD τ).loc main_arg2)
abbrev wt (c : Dev nD) : FVec Ideal S1x1024x2176 .f32 := m ((c.tc : Thread nD τ).loc main_arg3)
abbrev da (c : Dev nD) : FVec Ideal S1x4096x1664 .f32 := m ((c.tc : Thread nD τ).loc main_arg4)
abbrev db (c : Dev nD) : FVec Ideal S1x4096x512 .f32 := m ((c.tc : Thread nD τ).loc main_arg5)
abbrev ad (c : Dev nD) : Arr := m ((c.tc : Thread nD τ).loc main_arg6)

/-- Row `r` of grid point `t`'s block. -/
def row (t : Fin cfg0.N) (r : Fin 256) : Fin 4096 := ⟨256 * t.val + r.val, by have := t.isLt; have : cfg0.N = 16 := rfl; omega⟩

theorem read0 (c : Dev nD) (t : Fin cfg0.N) (r : Fin 256) (j : Fin 1024) :
    iblk m c 0 t (ix2 r j) = xs m c (ix3 0 (row t r) j) := by
  show V m c main_v0 _ = _
  rw [show V m c main_v0 = shapeCast S4096x1024 (xs m c) shapeCasts_S1x4096x1024_S4096x1024 from rfl]
  pointwise; blk_point [rows_of t, row]
theorem read1 (c : Dev nD) (t : Fin cfg0.N) (j : Fin 1024) : iblk m c 1 t (ix2 0 j) = sh m c (ix2 0 j) := by
  show V m c main_arg1 _ = _
  rw [show V m c main_arg1 = sh m c from rfl]; blk_point [rows_of t]
theorem read2 (c : Dev nD) (t : Fin cfg0.N) (j : Fin 1024) : iblk m c 2 t (ix2 0 j) = sc m c (ix2 0 j) := by
  show V m c main_arg2 _ = _
  rw [show V m c main_arg2 = sc m c from rfl]; blk_point [rows_of t]
theorem read3 (c : Dev nD) (t : Fin cfg0.N) (j : Fin 1024) (k : Fin 2176) :
    iblk m c 3 t (ix2 j k) = wt m c (ix3 0 j k) := by
  show V m c main_v2 _ = _
  rw [show V m c main_v2 = truncf .bf16 (shapeCast S1024x2176 (wt m c) shapeCasts_S1x1024x2176_S1024x2176) bitsLt_bf16_f32 from rfl]
  pointwise; blk_point [rows_of t]
theorem read4 (c : Dev nD) (t : Fin cfg0.N) (r : Fin 256) (j : Fin 1664) :
    iblk m c 4 t (ix2 r j) = da m c (ix3 0 (row t r) j) := by
  show V m c main_v3 _ = _
  rw [show V m c main_v3 = shapeCast S4096x1664 (da m c) shapeCasts_S1x4096x1664_S4096x1664 from rfl]
  pointwise; blk_point [rows_of t, row]
theorem read5 (c : Dev nD) (t : Fin cfg0.N) (r : Fin 256) (j : Fin 512) :
    iblk m c 5 t (ix2 r j) = db m c (ix3 0 (row t r) j) := by
  show V m c main_v4 _ = _
  rw [show V m c main_v4 = shapeCast S4096x512 (db m c) shapeCasts_S1x4096x512_S4096x512 from rfl]
  pointwise; blk_point [rows_of t, row]
theorem read6 (c : Dev nD) (t : Fin cfg0.N) (r : Fin 256) (j : Fin 1024) :
    iblk m c 6 t (ix2 r j) = ad m c (ix3 0 (row t r) j) := by
  show V m c main_v5 _ = _
  rw [show V m c main_v5 = shapeCast S4096x1024 (ad m c) shapeCasts_S1x4096x1024_S4096x1024 from rfl]
  pointwise; blk_point [rows_of t, row]

/-! ## The cotangent of the modulated rows -/

/-- The cotangent of the product, from the cotangents of its two parts. -/
def dp (c : Dev nD) : FVec Ideal Cert.In2ReferenceIdeal.S1x4096x2176 .f32 :=
  addf (pad _ ![0, 0, 1664] ![0, 0, 0] ![0, 0, 0] (db m c) (constant A0 .f32 0x00000000#32) Cert.In2ReferenceIdeal.Gen.pads_S1x4096x512_S1x4096x2176_000_000_166400 a_pos)
    (pad _ ![0, 0, 0] ![0, 0, 512] ![0, 0, 0] (da m c) (constant A0 .f32 0x00000000#32) Cert.In2ReferenceIdeal.Gen.pads_S1x4096x1664_S1x4096x2176_000_000_05120 a_pos)
/-- The cotangent of the modulated rows. -/
def dh (c : Dev nD) : Arr :=
  Host.dotGeneral Cert.In2ReferenceIdeal.dot_S1x4096x2176_S1024x2176_S1x4096x1024_2_1_01_0_n_n none (dp m c) (shapeCast _ (wt m c) shapeCasts_S1x1024x2176_S1024x2176)

/-- One entry of the product's cotangent. -/
def dpAt (c : Dev nD) (r : Fin 4096) (k : Fin 2176) : EReal :=
  if h : k.val < 1664 then da m c (ix3 0 r ⟨k.val, h⟩) else db m c (ix3 0 r ⟨k.val - 1664, by omega⟩)

theorem dp_apply (c : Dev nD) (r : Fin 4096) (k : Fin 2176) : dp m c (ix3 0 r k) = dpAt m c r k := by
  pointwise [dp, dpAt]
  by_cases h : k.val < 1664
  · rw [dif_neg (by omega), dif_pos h, dif_pos h, zero_add]
  · rw [dif_pos (by omega), dif_neg h, dif_neg h, add_zero]
theorem dh_apply (c : Dev nD) (r : Fin 4096) (j : Fin 1024) :
    dh m c (ix3 0 r j) = ∑ k : Fin 2176, dpAt m c r k * wt m c (ix3 0 j k) := by
  simp only [← dp_apply]
  pointwise [dh]

/-- The block of the product's cotangent at grid point `t`. -/
def dpT (c : Dev nD) (t : Fin cfg0.N) : FVec Ideal S256x2176 .bf16 :=
  k0_pay18 (k0_pay8 (iblk m c 4 t)) (k0_pay9 (iblk m c 5 t)) (FloatOps.ofBits FTy.f32 0#32)
/-- The block of the modulated rows' cotangent at grid point `t`. -/
def dhT (c : Dev nD) (t : Fin cfg0.N) : Tile :=
  k0_pay19 (k0_pay7 (iblk m c 3 t)) (k0_pay8 (iblk m c 4 t)) (k0_pay9 (iblk m c 5 t)) (FloatOps.ofBits FTy.f32 0#32)
/-- The block of the rows at grid point `t`. -/
def xT (c : Dev nD) (t : Fin cfg0.N) : Tile := shapeCast _ (iblk m c 0 t) shapeCasts_S256x1024_S256x1024

/-- One entry of the block's product with the weight, transposed. -/
theorem pay19_apply (w : FVec Ideal S1024x2176 .bf16) (a : FVec Ideal S256x1664 .f32) (b : FVec Ideal S256x512 .f32) (z : EReal) (r : Fin 256) (j : Fin 1024) :
    k0_pay19 w a b z (ix2 r j) = ∑ k, k0_pay18 a b z (ix2 r k) * w (ix2 j k) := by
  pointwise [k0_pay19]
/-- One entry of the modulated rows, transposed, times the product's cotangent. -/
theorem pay20_apply (a : FVec Ideal S256x1664 .f32) (b : FVec Ideal S256x512 .f32) (h : Tile) (z : EReal) (j : Fin 1024) (k : Fin 2176) :
    k0_pay20 a b h z (ix2 j k) = ∑ r, h (ix2 r j) * k0_pay18 a b z (ix2 r k) := by
  pointwise [k0_pay20]

theorem dpT_apply (c : Dev nD) (t : Fin cfg0.N) (r : Fin 256) (k : Fin 2176) :
    dpT m c t (ix2 r k) = dpAt m c (row t r) k := by
  pointwise [dpT, k0_pay18, k0_pay8, k0_pay9, dpAt]
  by_cases h : k.val < 1664
  · simp only [dif_pos h, read4, zero_add]
  · simp only [dif_neg h, read5, add_zero]
theorem row_dh (c : Dev nD) (t : Fin cfg0.N) (r : Fin 256) : rowT (dhT m c t) r = rowA (dh m c) (row t r) := by
  funext j
  show dhT m c t (ix2 r j) = dh m c (ix3 0 (row t r) j)
  rw [dh_apply]
  rw [dhT, pay19_apply]
  refine Finset.sum_congr rfl fun k _ => congrArg₂ _ (dpT_apply m c t r k) ?_
  pointwise [k0_pay7, read3]
theorem row_x (c : Dev nD) (t : Fin cfg0.N) (r : Fin 256) : rowT (xT m c t) r = rowA (xs m c) (row t r) := by
  funext j
  pointwise [xT, read0]
theorem row_sh (c : Dev nD) (t : Fin cfg0.N) : rowP (iblk m c 1 t) = rowP (sh m c) := funext (read1 m c t)
theorem row_sc (c : Dev nD) (t : Fin cfg0.N) : rowP (iblk m c 2 t) = rowP (sc m c) := funext (read2 m c t)

/-! ## The rows' gradient -/

/-- The rows' gradient, added to what the later parts passed back. -/
abbrev res0 (c : Dev nD) : FVec Ideal S4096x1024 .f32 :=
  shapeCast _ (addf (dxA (xs m c) (dh m c) (sc m c)) (ad m c)) shapeCasts_S1x4096x1024_S4096x1024

theorem out7 (c : Dev nD) (t : Fin cfg0.N) (r : Fin 256) (j : Fin 1024) :
    (outsAt0 m c t.val t.isLt).1 (ix2 r j) = res0 m c (ix2 (row t r) j) := by
  pointwise [res0, dxA_apply]
  rw [← row_dh, ← row_x, ← row_sc m c t, ← dxT_apply, ← read6]
  by_cases h : t.val % 16 = 0
  all_goals
    first | (rw [outsAt0_A m c t h]; frame_out) | (rw [outsAt0_B m c t h]; frame_out)
    show addf (dxT (xT m c t) (dhT m c t) (iblk m c 2 t)) (k0_pay10 (iblk m c 6 t)) (ix2 r j) = _
    pointwise [k0_pay10]

theorem final7 (c : Dev nD) : (dats m 0 c).arrAt 7 cfg0.N = res0 m c := by
  refine (dats m 0 c).arrAt_eq_of_covers 7 _ (by decide +kernel) fun t hf y => ?_
  blk_simp
  rw [after0_7]
  have e : ((View.whole main_v6_0).slice (win0_7.rect t)).emb y = ix2 (row t (y 0)) (y 1) := by blk_ext [rows_of t, row]
  exact ((congrArg _ (eq_ix2 y)).trans (out7 m c t (y 0) (y 1))).trans (congrArg _ e.symm)

/-! ## The gradients of the shift, the scale and the weight -/

/-- A sum over the grid's points and each point's rows is the sum over all rows. -/
theorem sum_rows (f : Fin 4096 → EReal) (t : Fin cfg0.N) (h : ∀ s : Fin 16, 16 * (t.val / 16) + s.val < cfg0.N) :
    ∑ s : Fin 16, ∑ x : Fin 256, f (row ⟨16 * (t.val / 16) + s.val, h s⟩ x) = ∑ r : Fin 4096, f r := by
  refine Fin.sum_mul_add_congr fun s k hl => congrArg f (Fin.ext ?_)
  have h1 := t.isLt
  have h2 : cfg0.N = 16 := rfl
  simp only [row]; omega

/-- One row's term of each gradient. -/
def termSh (c : Dev nD) (j : Fin 1024) (r : Fin 4096) : EReal := dh m c (ix3 0 r j)
def termSc (c : Dev nD) (j : Fin 1024) (r : Fin 4096) : EReal :=
  cen (rowA (xs m c) r) j * rs (cen (rowA (xs m c) r)) * dh m c (ix3 0 r j)
def termW (c : Dev nD) (j : Fin 1024) (k : Fin 2176) (r : Fin 4096) : EReal :=
  mod (rowA (xs m c) r) (rowP (sh m c)) (rowP (sc m c)) j * dpAt m c r k

/-- What grid point `t` adds to the gradient of the shift. -/
def add8 (c : Dev nD) (t : Fin cfg0.N) (i : S1x1024.Idx) : EReal := ∑ x : Fin 256, termSh m c (i 1) (row t x)
/-- What grid point `t` adds to the gradient of the scale. -/
def add9 (c : Dev nD) (t : Fin cfg0.N) (i : S1x1024.Idx) : EReal := ∑ x : Fin 256, termSc m c (i 1) (row t x)
/-- What grid point `t` adds to the gradient of the weight. -/
def add10 (c : Dev nD) (t : Fin cfg0.N) (i : S1024x2176.Idx) : EReal := ∑ x : Fin 256, termW m c (i 0) (i 1) (row t x)

theorem colT_dh (c : Dev nD) (t : Fin cfg0.N) (j : Fin 1024) : colT (dhT m c t) (ix2 0 j) = add8 m c t (ix2 0 j) := by
  rw [colT_apply]
  exact Finset.sum_congr rfl fun r _ => congrFun (row_dh m c t r) j
theorem colT_norm (c : Dev nD) (t : Fin cfg0.N) (j : Fin 1024) :
    colT (mulf (normT (cenT (xT m c t))) (dhT m c t)) (ix2 0 j) = add9 m c t (ix2 0 j) := by
  rw [colT_apply]
  refine Finset.sum_congr rfl fun r _ => ?_
  show normT _ (ix2 r j) * rowT (dhT m c t) r j = _
  rw [normT_apply, rowT_cen, cenT_apply, row_x, row_dh]; rfl
/-- The block's product for the gradient of the weight. -/
def dwT (c : Dev nD) (t : Fin cfg0.N) : FVec Ideal S1024x2176 .f32 :=
  k0_pay20 (k0_pay8 (iblk m c 4 t)) (k0_pay9 (iblk m c 5 t)) (modT (xT m c t) (iblk m c 1 t) (iblk m c 2 t)) (FloatOps.ofBits FTy.f32 0#32)
theorem dwT_apply (c : Dev nD) (t : Fin cfg0.N) (j : Fin 1024) (k : Fin 2176) : dwT m c t (ix2 j k) = add10 m c t (ix2 j k) := by
  rw [dwT, pay20_apply]
  refine Finset.sum_congr rfl fun r _ => congrArg₂ _ ?_ (dpT_apply m c t r k)
  rw [modT_apply, row_x, row_sh, row_sc]; rfl

theorem out8_A (c : Dev nD) (t : Fin cfg0.N) (h : t.val % 16 = 0) (i : S1x1024.Idx) :
    (outsAt0 m c t.val t.isLt).2.1 i = 0 + add8 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← colT_dh]
  show addf (shapeCast S1x1024 (k0_pay1 (F := Ideal)) shapeCasts_S1x1024_S1x1024) (colT (dhT m c t)) (ix2 0 j) = _
  pointwise [k0_pay1]
theorem out8_B (c : Dev nD) (t : Fin cfg0.N) (h : ¬t.val % 16 = 0) (i : S1x1024.Idx) :
    (outsAt0 m c t.val t.isLt).2.1 i = (outsAt0 m c (t.val - 1) (Nat.lt_of_le_of_lt (Nat.sub_le _ _) t.isLt)).2.1 i + add8 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← colT_dh]
  show addf (shapeCast S1x1024 _ shapeCasts_S1x1024_S1x1024) (colT (dhT m c t)) (ix2 0 j) = _
  pointwise
theorem out8 (c : Dev nD) (t : Fin cfg0.N) (hr : t.val % 16 = 16 - 1) (j : Fin 1024) :
    (outsAt0 m c t.val t.isLt).2.1 (ix2 0 j) = colA (dh m c) (ix2 0 j) := by
  refine (Pipeline.eq_sum_fin_of_reset_step_apply_of_flush (fun n h => (outsAt0 m c n h).2.1) 16 (fun _ => (0 : EReal)) (add8 m c) (out8_A m c) (out8_B m c) t hr (ix2 0 j)).trans ?_
  rw [zero_add, colA_apply]
  exact sum_rows (termSh m c j) t _
theorem final8 (c : Dev nD) : (dats m 0 c).arrAt 8 cfg0.N = colA (dh m c) := by
  refine (dats m 0 c).arrAt_eq_of_covers 8 _ (by decide +kernel) fun t hf y => ?_
  blk_simp
  rw [after0_8]
  obtain ⟨j, rfl⟩ : ∃ j : Fin 1024, y = ix2 0 j := ⟨y 1, (eq_ix2 y).trans (congrArg (ix2 · _) (Subsingleton.elim (α := Fin 1) _ _))⟩
  have e : ((win0_8.blk t).view.emb (ix2 0 j)) = ix2 0 j := by blk_ext [rows_of t]
  exact (out8 m c t ((flush0_8 t).mp hf) j).trans (congrArg _ e.symm)

theorem out9_A (c : Dev nD) (t : Fin cfg0.N) (h : t.val % 16 = 0) (i : S1x1024.Idx) :
    (outsAt0 m c t.val t.isLt).2.2.1 i = 0 + add9 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← colT_norm]
  show addf (shapeCast S1x1024 (k0_pay2 (F := Ideal)) shapeCasts_S1x1024_S1x1024) (colT (mulf (normT (cenT (xT m c t))) (dhT m c t))) (ix2 0 j) = _
  pointwise [k0_pay2]
theorem out9_B (c : Dev nD) (t : Fin cfg0.N) (h : ¬t.val % 16 = 0) (i : S1x1024.Idx) :
    (outsAt0 m c t.val t.isLt).2.2.1 i = (outsAt0 m c (t.val - 1) (Nat.lt_of_le_of_lt (Nat.sub_le _ _) t.isLt)).2.2.1 i + add9 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← colT_norm]
  show addf (shapeCast S1x1024 _ shapeCasts_S1x1024_S1x1024) (colT (mulf (normT (cenT (xT m c t))) (dhT m c t))) (ix2 0 j) = _
  pointwise
/-- The gradient of the scale. -/
abbrev res2 (c : Dev nD) : Par := colA (mulf (normA (cenA (xs m c))) (dh m c))
theorem res2_apply (c : Dev nD) (j : Fin 1024) : res2 m c (ix2 0 j) = ∑ r, termSc m c j r := by
  rw [res2, colA_apply]
  refine Finset.sum_congr rfl fun r _ => ?_
  show normA _ (ix3 0 r j) * dh m c (ix3 0 r j) = _
  rw [normA_apply, rowA_cen, cenA_apply]; rfl
theorem out9 (c : Dev nD) (t : Fin cfg0.N) (hr : t.val % 16 = 16 - 1) (j : Fin 1024) :
    (outsAt0 m c t.val t.isLt).2.2.1 (ix2 0 j) = res2 m c (ix2 0 j) := by
  refine (Pipeline.eq_sum_fin_of_reset_step_apply_of_flush (fun n h => (outsAt0 m c n h).2.2.1) 16 (fun _ => (0 : EReal)) (add9 m c) (out9_A m c) (out9_B m c) t hr (ix2 0 j)).trans ?_
  rw [zero_add, res2_apply]
  exact sum_rows (termSc m c j) t _
theorem final9 (c : Dev nD) : (dats m 0 c).arrAt 9 cfg0.N = res2 m c := by
  refine (dats m 0 c).arrAt_eq_of_covers 9 _ (by decide +kernel) fun t hf y => ?_
  blk_simp
  rw [after0_9]
  obtain ⟨j, rfl⟩ : ∃ j : Fin 1024, y = ix2 0 j := ⟨y 1, (eq_ix2 y).trans (congrArg (ix2 · _) (Subsingleton.elim (α := Fin 1) _ _))⟩
  have e : ((win0_9.blk t).view.emb (ix2 0 j)) = ix2 0 j := by blk_ext [rows_of t]
  exact (out9 m c t ((flush0_9 t).mp hf) j).trans (congrArg _ e.symm)

theorem out10_A (c : Dev nD) (t : Fin cfg0.N) (h : t.val % 16 = 0) (i : S1024x2176.Idx) :
    (outsAt0 m c t.val t.isLt).2.2.2 i = 0 + add10 m c t i := by
  obtain ⟨j, k, rfl⟩ : ∃ j k, i = ix2 j k := ⟨i 0, i 1, eq_ix2 i⟩
  rw [outsAt0_A m c t h]; frame_out
  rw [← dwT_apply]
  show addf (shapeCast S1024x2176 (k0_pay3 (F := Ideal)) shapeCasts_S1024x2176_S1024x2176) (dwT m c t) (ix2 j k) = _
  pointwise [k0_pay3]
theorem out10_B (c : Dev nD) (t : Fin cfg0.N) (h : ¬t.val % 16 = 0) (i : S1024x2176.Idx) :
    (outsAt0 m c t.val t.isLt).2.2.2 i = (outsAt0 m c (t.val - 1) (Nat.lt_of_le_of_lt (Nat.sub_le _ _) t.isLt)).2.2.2 i + add10 m c t i := by
  obtain ⟨j, k, rfl⟩ : ∃ j k, i = ix2 j k := ⟨i 0, i 1, eq_ix2 i⟩
  rw [outsAt0_B m c t h]; frame_out
  rw [← dwT_apply]
  show addf (shapeCast S1024x2176 _ shapeCasts_S1024x2176_S1024x2176) (dwT m c t) (ix2 j k) = _
  pointwise
/-- The gradient of the weight. -/
abbrev res3 (c : Dev nD) : FVec Ideal S1024x2176 .f32 :=
  shapeCast _ (broadcastInDim S1x1024x2176 ![1, 2] Cert.In2ReferenceIdeal.Gen.bcast_S1024x2176_S1x1024x2176_1_2
    (transpose S1024x2176 [1, 0] (Host.dotGeneral Cert.In2ReferenceIdeal.dot_S1x4096x2176_S1x4096x1024_S2176x1024_01_01_2_2_n_n none (dp m c) (modA (xs m c) (sh m c) (sc m c)))
      Cert.In2ReferenceIdeal.Gen.transposes_S2176x1024_S1024x2176_1_0)) shapeCasts_S1x1024x2176_S1024x2176
theorem res3_apply (c : Dev nD) (j : Fin 1024) (k : Fin 2176) : res3 m c (ix2 j k) = ∑ r, termW m c j k r := by
  pointwise [res3]
  rw [Fintype.sum_unique]
  refine Finset.sum_congr rfl fun r _ => (mul_comm _ _).trans ?_
  exact congrArg₂ _ (modA_apply _ _ _ r j) (dp_apply m c r k)
theorem out10 (c : Dev nD) (t : Fin cfg0.N) (hr : t.val % 16 = 16 - 1) (j : Fin 1024) (k : Fin 2176) :
    (outsAt0 m c t.val t.isLt).2.2.2 (ix2 j k) = res3 m c (ix2 j k) := by
  refine (Pipeline.eq_sum_fin_of_reset_step_apply_of_flush (fun n h => (outsAt0 m c n h).2.2.2) 16 (fun _ => (0 : EReal)) (add10 m c) (out10_A m c) (out10_B m c) t hr (ix2 j k)).trans ?_
  rw [zero_add, res3_apply]
  exact sum_rows (termW m c j k) t _
theorem final10 (c : Dev nD) : (dats m 0 c).arrAt 10 cfg0.N = res3 m c := by
  refine (dats m 0 c).arrAt_eq_of_covers 10 _ (by decide +kernel) fun t hf y => ?_
  blk_simp
  rw [after0_10]
  have e : ((win0_10.blk t).view.emb y) = ix2 (y 0) (y 1) := by blk_ext [rows_of t]
  exact ((congrArg _ (eq_ix2 y)).trans (out10 m c t ((flush0_10 t).mp hf) (y 0) (y 1))).trans (congrArg _ e.symm)

end Cert.In2KernelIdeal.Grad

end
end
-- ==== Proof.In2Pair.lean ====
module

public import proofs.«01_k».proof.Defs
public import proofs.«01_k».proof.Proof.Gen.In2Kernel
public import proofs.«01_k».proof.Proof.Gen.In2KernelIdeal.Value
public import proofs.«01_k».proof.Proof.Gen.In2ReferenceIdeal.Run
public import proofs.«01_k».proof.Proof.In2Value
public import Idealize.ShloMosaic.Adequacy
public import Idealize.ShloMosaic.Init
public import Idealize.ShloMosaic.Lib.Claim

@[expose] public section

noncomputable section

namespace Cert.Proof

open Idealize.ShloMosaic Idealize.SL.Sem

/-- The gradients of the second step's normed entry: the kernel's arrays and the reference's are the same functions of the arguments. -/
theorem in2_algebraic : Cert.algebraic_In2KernelIdeal_In2ReferenceIdeal := by
  pair_intro
  · run_from Cert.In2KernelIdeal.Value.run_blocks m g
  · run_from Cert.In2ReferenceIdeal.Value.run m' g'
    · refine Eq.trans ?_ (Cert.In2KernelIdeal.Grad.final7 m c).symm
      obtain ⟨h0, h1, h2, h3, h4, h5, h6⟩ := hagree c
      simp only [Cert.In2ReferenceIdeal.Value.res_main_v74, h0, h1, h2, h3, h4, h5, h6]
      rfl
    · exact (Cert.In2KernelIdeal.Grad.final8 m c).symm
    · exact (Cert.In2KernelIdeal.Grad.final9 m c).symm
    · exact (Cert.In2KernelIdeal.Grad.final10 m c).symm

/-- The reference keeps its arguments and declares no semaphore. -/
theorem in2_reference_frame : Cert.quiescent_In2ReferenceIdeal := fun m ρ _ =>
  (θ_run Cert.In2ReferenceIdeal.defs _ _).mono (fun r h => ⟨fun c => (h c).2.2.2.2,
      Idealize.ShloMosaic.sem_eq_zero_of_no_sems (by decide) r.2⟩)
    (Cert.In2ReferenceIdeal.Value.run (F := Ideal) m ρ)

end Cert.Proof

end
-- ==== Proof.In1Value.lean ====
module

public import proofs.«01_k».proof.Proof.Gen.In1KernelIdeal.Frame
public import proofs.«01_k».proof.Proof.Gen.In1ReferenceIdeal
public import proofs.«01_k».proof.Proof.NormRows

@[expose] public section

set_option maxRecDepth 16384

noncomputable section

open Idealize.ShloMosaic Idealize.ShloMosaic.TcCoe Idealize.SL.Sem
open Idealize.ShloMosaic.Pipeline (Dat)

namespace Cert.In1KernelIdeal.Grad

open Cert.In1KernelIdeal Cert.In1KernelIdeal.Gen Cert.NormRows

/-! ## The padded columns -/

/-- Whether a padded column shows a column of the weight. -/
def Shown (k : Fin 1536) : Prop := k.val < 384 ∨ (448 ≤ k.val ∧ k.val < 480) ∨ (512 ≤ k.val ∧ 64 ≤ k.val % 128)
instance (k : Fin 1536) : Decidable (Shown k) := by unfold Shown; infer_instance

/-- The column of the weight a padded column shows, where it shows one. -/
def src (k : Fin 1536) : Fin 928 :=
  ⟨if k.val < 384 then k.val else if k.val < 512 then (k.val - 64) % 512 else 416 + (k.val - 512) / 128 * 64 + (k.val % 128 - 64), by
    have := k.isLt
    split_ifs <;> omega⟩

/-- The padded column that shows a column of the weight. -/
def dst (i : Fin 928) : Fin 1536 :=
  ⟨if i.val < 384 then i.val else if i.val < 416 then i.val + 64 else 512 + (i.val - 416) / 64 * 128 + 64 + (i.val - 416) % 64, by
    have := i.isLt
    split_ifs <;> omega⟩

theorem shown_dst (i : Fin 928) : Shown (dst i) := by
  have := i.isLt
  unfold Shown dst; dsimp only; split_ifs <;> omega
theorem src_dst (i : Fin 928) : src (dst i) = i := by
  have := i.isLt
  ext; unfold src dst; dsimp only; split_ifs <;> omega
theorem dst_src (k : Fin 1536) (h : Shown k) : dst (src k) = k := by
  have := k.isLt
  unfold Shown at h
  ext; unfold src dst; dsimp only; split_ifs <;> omega

theorem src_val (k : Fin 1536) : (k.val < 384 → (src k).val = k.val) ∧ (448 ≤ k.val → k.val < 480 → (src k).val = k.val - 64)
    ∧ (512 ≤ k.val → (src k).val = 416 + (k.val - 512) / 128 * 64 + (k.val % 128 - 64)) := by
  have := k.isLt
  refine ⟨fun h => ?_, fun h g => ?_, fun h => ?_⟩
  · simp only [src, if_pos h]
  · simp only [src, if_neg (show ¬k.val < 384 by omega), if_pos (show k.val < 512 by omega)]; omega
  · simp only [src, if_neg (show ¬k.val < 384 by omega), if_neg (show ¬k.val < 512 by omega)]

/-- A sum over the padded columns of a function that is zero where nothing is shown is the sum over the weight's columns. -/
theorem sum_src (f : Fin 928 → EReal) : ∑ k, (if Shown k then f (src k) else 0) = ∑ i, f i := by
  rw [← Finset.sum_filter]
  refine Finset.sum_bij' (fun k _ => src k) (fun i _ => dst i) (fun _ _ => Finset.mem_univ _)
    (fun i _ => Finset.mem_filter.mpr ⟨Finset.mem_univ _, shown_dst i⟩) (fun k hk => dst_src k (Finset.mem_filter.mp hk).2)
    (fun i _ => src_dst i) fun k _ => rfl

theorem zero_word32 : (FloatOps.sitofp FTy.f32 0#32 : Ideal .f32) = 0 := by
  show ((BitVec.toInt 0#32 : ℝ) : EReal) = 0
  simp
theorem zero_word16 : (FloatOps.sitofp FTy.bf16 0#32 : Ideal .bf16) = 0 := by
  show ((BitVec.toInt 0#32 : ℝ) : EReal) = 0
  simp

/-- The weight, one array of 928 columns. -/
abbrev Wide := FVec Ideal S1x1024x928 .f32
/-- The weight without its leading axis, as the kernel's products take it. -/
abbrev flat (x : Wide) : FVec Ideal S1024x928 .bf16 := truncf .bf16 (shapeCast S1024x928 x shapeCasts_S1x1024x928_S1024x928) bitsLt_bf16_f32
/-- The first 384 columns of an array of 928. -/
def colsA {φ : FTy} (w : FVec Ideal S1024x928 φ) : FVec Ideal S1024x384 φ := extractStridedSlice S1024x384 ![0, 0] w slices_S1024x928_S1024x384_0_0
/-- The next 32 columns. -/
def colsB {φ : FTy} (w : FVec Ideal S1024x928 φ) : FVec Ideal S1024x32 φ := extractStridedSlice S1024x32 ![0, 384] w slices_S1024x928_S1024x32_0_384
/-- The last 512 columns, eight heads of 64 lanes padded to 128. -/
def colsC {φ : FTy} (w : FVec Ideal S1024x928 φ) (z : FVec Ideal S_ φ) : FVec Ideal S1024x1024 φ :=
  shapeCast S1024x1024 (pad S1024x8x128 ![0, 0, 64] ![0, 0, 0] ![0, 0, 0]
      (shapeCast S1024x8x64 (extractStridedSlice S1024x512 ![0, 416] w slices_S1024x928_S1024x512_0_416) shapeCasts_S1024x512_S1024x8x64)
      z pads_S1024x8x64_S1024x8x128_000_000_6400 h_S_) shapeCasts_S1024x8x128_S1024x1024

theorem colsA_apply {φ : FTy} (w : FVec Ideal S1024x928 φ) (j : Fin 1024) (k : Fin 384) : colsA w (ix2 j k) = w (ix2 j ⟨k.val, by omega⟩) := by
  unfold colsA; pointwise
theorem colsB_apply {φ : FTy} (w : FVec Ideal S1024x928 φ) (j : Fin 1024) (k : Fin 32) : colsB w (ix2 j k) = w (ix2 j ⟨384 + k.val, by omega⟩) := by
  unfold colsB; pointwise
theorem colsC_apply {φ : FTy} (w : FVec Ideal S1024x928 φ) (z : FVec Ideal S_ φ) (j k : Fin 1024) (h : 64 ≤ k.val % 128) :
    colsC w z (ix2 j k) = w (ix2 j ⟨416 + (k.val / 128 * 64 + (k.val % 128 - 64)), by omega⟩) := by
  unfold colsC; pointwise
  rw [dif_pos ⟨by omega, h, by omega⟩]
theorem colsC_zero {φ : FTy} (w : FVec Ideal S1024x928 φ) (z : FVec Ideal S_ φ) (hz : ∀ i, z i = (0 : EReal)) (j k : Fin 1024)
    (h : ¬64 ≤ k.val % 128) : colsC w z (ix2 j k) = (0 : EReal) := by
  unfold colsC; pointwise
  rw [dif_neg (fun e => h e.2.1)]
  exact hz _

/-- The weight with its columns padded. -/
def wide (x : Wide) : FVec Ideal S1024x1536 .bf16 :=
  concatenate S1024x1536 1 [⟨S1024x384, colsA (flat x)⟩, ⟨S1024x64, broadcastInDim S1024x64 ![] bcast_S_S1024x64 (constant S_ .bf16 0x0000#16)⟩,
    ⟨S1024x32, colsB (flat x)⟩, ⟨S1024x32, broadcastInDim S1024x32 ![] bcast_S_S1024x32 (constant S_ .bf16 0x0000#16)⟩,
    ⟨S1024x1024, colsC (flat x) (sitofp .bf16 (constantI S_ 32 0#32))⟩]
    concatenates_S1024x384_S1024x64_S1024x32_S1024x32_S1024x1024_S1024x1536_d1

theorem flat_apply (x : Wide) (j : Fin 1024) (k : Fin 928) : flat x (ix2 j k) = x (ix3 0 j k) := by pointwise

theorem wide_apply (x : Wide) (j : Fin 1024) (k : Fin 1536) :
    wide x (ix2 j k) = if Shown k then x (ix3 0 j (src k)) else 0 := by
  have lt := k.isLt
  obtain ⟨va, vb, vc⟩ := src_val k
  pointwise [wide]
  by_cases a : k.val < 384
  · rw [dif_pos a, colsA_apply, flat_apply, if_pos (show Shown k from .inl a)]
    exact congrArg (fun q => x (ix3 0 j q)) (Fin.ext (va a).symm)
  rw [dif_neg a]
  by_cases b : k.val - 384 < 64
  · rw [dif_pos b, if_neg (show ¬Shown k by unfold Shown; omega)]
  rw [dif_neg b]
  by_cases d : k.val - 384 - 64 < 32
  · rw [dif_pos d, colsB_apply, flat_apply, if_pos (show Shown k by unfold Shown; omega)]
    exact congrArg (fun q => x (ix3 0 j q)) (Fin.ext ((show 384 + (k.val - 384 - 64) = k.val - 64 by omega).trans (vb (by omega) (by omega)).symm))
  rw [dif_neg d]
  by_cases e : k.val - 384 - 64 - 32 < 32
  · rw [dif_pos e, if_neg (show ¬Shown k by unfold Shown; omega)]
  rw [dif_neg e]
  have ek : k.val - 384 - 64 - 32 - 32 = k.val - 512 := by omega
  by_cases h : 64 ≤ (k.val - 384 - 64 - 32 - 32) % 128
  · rw [colsC_apply _ _ _ _ h, flat_apply, if_pos (show Shown k by unfold Shown; omega)]
    refine congrArg (fun q => x (ix3 0 j q)) (Fin.ext (Eq.trans ?_ (vc (by omega)).symm))
    dsimp only; omega
  · rw [colsC_zero _ (sitofp .bf16 (constantI S_ 32 0#32)) (fun _ => zero_word16) j ⟨k.val - 384 - 64 - 32 - 32, by omega⟩ h, if_neg (show ¬Shown k by unfold Shown; omega)]

variable (m : (ℓ : Loc nD τ sig) → Buf (Elt Ideal) ℓ)

/-- The block every window shows at grid point `t`: rows `256 t …` of a tiled array, the whole of a parameter. -/
theorem rows_of : ∀ t : Fin cfg0.N, win0_0.index t = ![t.val, 0] ∧ win0_1.index t = ![0, 0]
    ∧ win0_2.index t = ![0, 0] ∧ win0_3.index t = ![0, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

/-- The arguments of the program, by name. -/
abbrev xs (c : Dev nD) : Arr := m ((c.tc : Thread nD τ).loc main_arg0)
abbrev sh (c : Dev nD) : Par := m ((c.tc : Thread nD τ).loc main_arg1)
abbrev sc (c : Dev nD) : Par := m ((c.tc : Thread nD τ).loc main_arg2)
abbrev wt (c : Dev nD) : Wide := m ((c.tc : Thread nD τ).loc main_arg3)
abbrev da (c : Dev nD) : FVec Ideal S1x4096x384 .f32 := m ((c.tc : Thread nD τ).loc main_arg4)
abbrev db (c : Dev nD) : FVec Ideal S1x4096x32 .f32 := m ((c.tc : Thread nD τ).loc main_arg5)
abbrev dg (c : Dev nD) : FVec Ideal S1x4096x512 .f32 := m ((c.tc : Thread nD τ).loc main_arg6)
abbrev ad (c : Dev nD) : Arr := m ((c.tc : Thread nD τ).loc main_arg7)

/-- Row `r` of grid point `t`'s block. -/
def row (t : Fin cfg0.N) (r : Fin 256) : Fin 4096 := ⟨256 * t.val + r.val, by have := t.isLt; have : cfg0.N = 16 := rfl; omega⟩

theorem read0 (c : Dev nD) (t : Fin cfg0.N) (r : Fin 256) (j : Fin 1024) :
    iblk m c 0 t (ix2 r j) = xs m c (ix3 0 (row t r) j) := by
  show V m c main_v18 _ = _
  rw [show V m c main_v18 = shapeCast S4096x1024 (xs m c) shapeCasts_S1x4096x1024_S4096x1024 from rfl]
  pointwise; blk_point [rows_of t, row]
theorem read1 (c : Dev nD) (t : Fin cfg0.N) (j : Fin 1024) : iblk m c 1 t (ix2 0 j) = sh m c (ix2 0 j) := by
  show V m c main_arg1 _ = _
  rw [show V m c main_arg1 = sh m c from rfl]; blk_point [rows_of t]
theorem read2 (c : Dev nD) (t : Fin cfg0.N) (j : Fin 1024) : iblk m c 2 t (ix2 0 j) = sc m c (ix2 0 j) := by
  show V m c main_arg2 _ = _
  rw [show V m c main_arg2 = sc m c from rfl]; blk_point [rows_of t]
theorem read3 (c : Dev nD) (t : Fin cfg0.N) (j : Fin 1024) (k : Fin 1536) :
    iblk m c 3 t (ix2 j k) = if Shown k then wt m c (ix3 0 j (src k)) else 0 := by
  rw [← wide_apply]; show V m c main_v10 _ = _
  rw [show V m c main_v10 = wide (wt m c) from rfl]
  generalize wide (wt m c) = w; blk_point [rows_of t]
/-- The cotangents of the first two parts, side by side with the second one padded. -/
def front (a : FVec Ideal S1x4096x384 .f32) (b : FVec Ideal S1x4096x32 .f32) : FVec Ideal S4096x512 .f32 :=
  concatenate S4096x512 1 [⟨S4096x384, shapeCast S4096x384 a shapeCasts_S1x4096x384_S4096x384⟩,
    ⟨S4096x128, pad S4096x128 ![0, 64] ![0, 32] ![0, 0] (shapeCast S4096x32 b shapeCasts_S1x4096x32_S4096x32)
      (sitofp .f32 (constantI S_ 32 0#32)) pads_S4096x32_S4096x128_000_64320 h_S_⟩] concatenates_S4096x384_S4096x128_S4096x512_d1
/-- The cotangent of the third part, its heads padded. -/
def heads (g : FVec Ideal S1x4096x512 .f32) : FVec Ideal S4096x1024 .f32 :=
  shapeCast S4096x1024 (pad S4096x8x128 ![0, 0, 64] ![0, 0, 0] ![0, 0, 0] (shapeCast S4096x8x64 g shapeCasts_S1x4096x512_S4096x8x64)
    (sitofp .f32 (constantI S_ 32 0#32)) pads_S4096x8x64_S4096x8x128_000_000_6400 h_S_) shapeCasts_S4096x8x128_S4096x1024
theorem read4 (c : Dev nD) (t : Fin cfg0.N) (r : Fin 256) (j : Fin 512) :
    iblk m c 4 t (ix2 r j) = front (da m c) (db m c) (ix2 (row t r) j) := by
  show V m c main_v14 _ = _
  rw [show V m c main_v14 = front (da m c) (db m c) from rfl]
  generalize front (da m c) (db m c) = w; blk_point [rows_of t, row]
theorem read5 (c : Dev nD) (t : Fin cfg0.N) (r : Fin 256) (j : Fin 1024) :
    iblk m c 5 t (ix2 r j) = heads (dg m c) (ix2 (row t r) j) := by
  show V m c main_v17 _ = _
  rw [show V m c main_v17 = heads (dg m c) from rfl]
  generalize heads (dg m c) = w; blk_point [rows_of t, row]
theorem read6 (c : Dev nD) (t : Fin cfg0.N) (r : Fin 256) (j : Fin 1024) :
    iblk m c 6 t (ix2 r j) = ad m c (ix3 0 (row t r) j) := by
  show V m c main_v19 _ = _
  rw [show V m c main_v19 = shapeCast S4096x1024 (ad m c) shapeCasts_S1x4096x1024_S4096x1024 from rfl]
  pointwise; blk_point [rows_of t, row]

/-! ## The cotangent of the modulated rows -/

/-- The cotangent of the product, from the cotangents of its three parts. -/
def dpOf (a : FVec Ideal S1x4096x384 .f32) (b : FVec Ideal S1x4096x32 .f32) (g : FVec Ideal S1x4096x512 .f32) : FVec Ideal Cert.In1ReferenceIdeal.S1x4096x928 .f32 :=
  addf (addf (pad _ ![0, 0, 416] ![0, 0, 0] ![0, 0, 0] g (constant A0 .f32 0x00000000#32) Cert.In1ReferenceIdeal.Gen.pads_S1x4096x512_S1x4096x928_000_000_41600 a_pos)
      (pad _ ![0, 0, 384] ![0, 0, 512] ![0, 0, 0] b (constant A0 .f32 0x00000000#32) Cert.In1ReferenceIdeal.Gen.pads_S1x4096x32_S1x4096x928_000_000_3845120 a_pos))
    (pad _ ![0, 0, 0] ![0, 0, 544] ![0, 0, 0] a (constant A0 .f32 0x00000000#32) Cert.In1ReferenceIdeal.Gen.pads_S1x4096x384_S1x4096x928_000_000_05440 a_pos)
abbrev dp (c : Dev nD) : FVec Ideal Cert.In1ReferenceIdeal.S1x4096x928 .f32 := dpOf (da m c) (db m c) (dg m c)
/-- The cotangent of the modulated rows. -/
def dh (c : Dev nD) : Arr :=
  Host.dotGeneral Cert.In1ReferenceIdeal.dot_S1x4096x928_S1024x928_S1x4096x1024_2_1_01_0_n_n none (dp m c) (shapeCast _ (wt m c) shapeCasts_S1x1024x928_S1024x928)

/-- One entry of the product's cotangent. -/
def dpAt (c : Dev nD) (r : Fin 4096) (k : Fin 928) : EReal :=
  if h : k.val < 384 then da m c (ix3 0 r ⟨k.val, h⟩) else if g : k.val < 416 then db m c (ix3 0 r ⟨k.val - 384, by omega⟩)
  else dg m c (ix3 0 r ⟨k.val - 416, by omega⟩)

theorem dp_apply (c : Dev nD) (r : Fin 4096) (k : Fin 928) : dp m c (ix3 0 r k) = dpAt m c r k := by
  pointwise [dpOf, dpAt]
  by_cases h : k.val < 384
  · rw [dif_neg (by omega), dif_neg (by omega), dif_pos h, dif_pos h, add_zero, zero_add]
  · by_cases g : k.val < 416
    · rw [dif_neg (by omega), dif_pos (by omega), dif_neg h, dif_neg h, dif_pos g, add_zero, zero_add]
    · rw [dif_pos (by omega), dif_neg (by omega), dif_neg h, dif_neg h, dif_neg g, add_zero, add_zero]
theorem dh_apply (c : Dev nD) (r : Fin 4096) (j : Fin 1024) :
    dh m c (ix3 0 r j) = ∑ k : Fin 928, dpAt m c r k * wt m c (ix3 0 j k) := by
  simp only [← dp_apply]
  pointwise [dh]

/-- One entry of the product's cotangent in the padded columns. -/
def wideAt (c : Dev nD) (r : Fin 4096) (k : Fin 1536) : EReal := if Shown k then dpAt m c r (src k) else 0
theorem front_apply (c : Dev nD) (r : Fin 4096) (k : Fin 512) :
    front (da m c) (db m c) (ix2 r k) = wideAt m c r ⟨k.val, by omega⟩ := by
  have lt := k.isLt
  obtain ⟨va, vb, vc⟩ := src_val ⟨k.val, by omega⟩
  unfold wideAt dpAt
  pointwise [front]
  by_cases a : k.val < 384
  · rw [dif_pos a, if_pos (show Shown ⟨k.val, _⟩ from .inl a), dif_pos ((va a).trans_lt a)]
    exact congrArg (fun q => da m c (ix3 0 r q)) (Fin.ext (va a).symm)
  rw [dif_neg a]
  by_cases d : 64 ≤ k.val - 384 ∧ k.val - 384 - 64 < 32
  · have e := vb (by show 448 ≤ k.val; omega) (by show k.val < 480; omega)
    have e' : (src ⟨k.val, by omega⟩).val = k.val - 64 := e
    rw [dif_pos d, if_pos (show Shown ⟨k.val, _⟩ by unfold Shown; dsimp only; omega), dif_neg (by omega), dif_pos (by omega)]
    refine congrArg (fun q => db m c (ix3 0 r q)) (Fin.ext ?_)
    dsimp only; omega
  · rw [dif_neg d, if_neg (show ¬Shown ⟨k.val, _⟩ by unfold Shown; dsimp only; omega)]
    exact zero_word32
theorem heads_apply (c : Dev nD) (r : Fin 4096) (k : Fin 1024) :
    heads (dg m c) (ix2 r k) = wideAt m c r ⟨512 + k.val, by omega⟩ := by
  have lt := k.isLt
  obtain ⟨va, vb, vc⟩ := src_val ⟨512 + k.val, by omega⟩
  have e : (src ⟨512 + k.val, by omega⟩).val = 416 + (512 + k.val - 512) / 128 * 64 + ((512 + k.val) % 128 - 64) := vc (by show 512 ≤ 512 + k.val; omega)
  unfold wideAt dpAt
  pointwise [heads]
  by_cases h : 64 ≤ k.val % 128
  · rw [dif_pos ⟨by omega, h, by omega⟩, if_pos (show Shown ⟨512 + k.val, _⟩ by unfold Shown; dsimp only; omega), dif_neg (by omega), dif_neg (by omega)]
    refine congrArg (fun q => dg m c (ix3 0 r q)) (Fin.ext ?_)
    dsimp only; omega
  · rw [dif_neg (fun e => h e.2.1), if_neg (show ¬Shown ⟨512 + k.val, _⟩ by unfold Shown; dsimp only; omega)]
    exact zero_word32

/-- The block of the product's cotangent at grid point `t`. -/
def dpT (c : Dev nD) (t : Fin cfg0.N) : FVec Ideal S256x1536 .bf16 :=
  k0_pay18 (k0_pay8 (iblk m c 4 t)) (k0_pay9 (iblk m c 5 t)) (FloatOps.ofBits FTy.f32 0#32)
/-- The block of the modulated rows' cotangent at grid point `t`. -/
def dhT (c : Dev nD) (t : Fin cfg0.N) : Tile :=
  k0_pay19 (k0_pay7 (iblk m c 3 t)) (k0_pay8 (iblk m c 4 t)) (k0_pay9 (iblk m c 5 t)) (FloatOps.ofBits FTy.f32 0#32)
/-- The block of the rows at grid point `t`. -/
def xT (c : Dev nD) (t : Fin cfg0.N) : Tile := shapeCast _ (iblk m c 0 t) shapeCasts_S256x1024_S256x1024

/-- One entry of the block's product with the weight, transposed. -/
theorem pay19_apply (w : FVec Ideal S1024x1536 .bf16) (a : FVec Ideal S256x512 .f32) (b : FVec Ideal S256x1024 .f32) (z : EReal) (r : Fin 256) (j : Fin 1024) :
    k0_pay19 w a b z (ix2 r j) = ∑ k, k0_pay18 a b z (ix2 r k) * w (ix2 j k) := by
  pointwise [k0_pay19]
/-- One entry of the modulated rows, transposed, times the product's cotangent. -/
theorem pay20_apply (a : FVec Ideal S256x512 .f32) (b : FVec Ideal S256x1024 .f32) (h : Tile) (z : EReal) (j : Fin 1024) (k : Fin 1536) :
    k0_pay20 a b h z (ix2 j k) = ∑ r, h (ix2 r j) * k0_pay18 a b z (ix2 r k) := by
  pointwise [k0_pay20]

theorem dpT_apply (c : Dev nD) (t : Fin cfg0.N) (r : Fin 256) (k : Fin 1536) :
    dpT m c t (ix2 r k) = wideAt m c (row t r) k := by
  pointwise [dpT, k0_pay18, k0_pay8, k0_pay9]
  by_cases h : k.val < 512
  · simp only [dif_pos h, read4, zero_add, front_apply]
  · simp only [dif_neg h, read5, add_zero, heads_apply]
    exact congrArg _ (Fin.ext (by show 512 + (k.val - 512) = k.val; omega))
theorem row_dh (c : Dev nD) (t : Fin cfg0.N) (r : Fin 256) : rowT (dhT m c t) r = rowA (dh m c) (row t r) := by
  funext j
  show dhT m c t (ix2 r j) = dh m c (ix3 0 (row t r) j)
  rw [dh_apply, ← sum_src]
  rw [dhT, pay19_apply]
  refine Finset.sum_congr rfl fun k _ => ?_
  have e : k0_pay7 (iblk m c 3 t) (ix2 j k) = if Shown k then wt m c (ix3 0 j (src k)) else 0 := by pointwise [k0_pay7, read3]
  refine (congrArg₂ (· * ·) (dpT_apply m c t r k) e).trans ?_
  by_cases h : Shown k
  · simp only [wideAt, if_pos h]
  · simp only [wideAt, if_neg h, zero_mul]
theorem row_x (c : Dev nD) (t : Fin cfg0.N) (r : Fin 256) : rowT (xT m c t) r = rowA (xs m c) (row t r) := by
  funext j
  pointwise [xT, read0]
theorem row_sh (c : Dev nD) (t : Fin cfg0.N) : rowP (iblk m c 1 t) = rowP (sh m c) := funext (read1 m c t)
theorem row_sc (c : Dev nD) (t : Fin cfg0.N) : rowP (iblk m c 2 t) = rowP (sc m c) := funext (read2 m c t)

/-! ## The rows' gradient -/

/-- The rows' gradient, added to what the later parts passed back. -/
abbrev res0 (c : Dev nD) : FVec Ideal S4096x1024 .f32 :=
  shapeCast _ (addf (dxA (xs m c) (dh m c) (sc m c)) (ad m c)) shapeCasts_S1x4096x1024_S4096x1024

theorem out7 (c : Dev nD) (t : Fin cfg0.N) (r : Fin 256) (j : Fin 1024) :
    (outsAt0 m c t.val t.isLt).1 (ix2 r j) = res0 m c (ix2 (row t r) j) := by
  pointwise [res0, dxA_apply]
  rw [← row_dh, ← row_x, ← row_sc m c t, ← dxT_apply, ← read6]
  by_cases h : t.val % 16 = 0
  all_goals
    first | (rw [outsAt0_A m c t h]; frame_out) | (rw [outsAt0_B m c t h]; frame_out)
    show addf (dxT (xT m c t) (dhT m c t) (iblk m c 2 t)) (k0_pay10 (iblk m c 6 t)) (ix2 r j) = _
    pointwise [k0_pay10]

theorem final7 (c : Dev nD) : (dats m 0 c).arrAt 7 cfg0.N = res0 m c := by
  refine (dats m 0 c).arrAt_eq_of_covers 7 _ (by decide +kernel) fun t hf y => ?_
  blk_simp
  rw [after0_7]
  have e : ((View.whole main_v20_0).slice (win0_7.rect t)).emb y = ix2 (row t (y 0)) (y 1) := by blk_ext [rows_of t, row]
  exact ((congrArg _ (eq_ix2 y)).trans (out7 m c t (y 0) (y 1))).trans (congrArg _ e.symm)

/-! ## The gradients of the shift, the scale and the weight -/

/-- A sum over the grid's points and each point's rows is the sum over all rows. -/
theorem sum_rows (f : Fin 4096 → EReal) (t : Fin cfg0.N) (h : ∀ s : Fin 16, 16 * (t.val / 16) + s.val < cfg0.N) :
    ∑ s : Fin 16, ∑ x : Fin 256, f (row ⟨16 * (t.val / 16) + s.val, h s⟩ x) = ∑ r : Fin 4096, f r := by
  refine Fin.sum_mul_add_congr fun s k hl => congrArg f (Fin.ext ?_)
  have h1 := t.isLt
  have h2 : cfg0.N = 16 := rfl
  simp only [row]; omega

/-- One row's term of each gradient. -/
def termSh (c : Dev nD) (j : Fin 1024) (r : Fin 4096) : EReal := dh m c (ix3 0 r j)
def termSc (c : Dev nD) (j : Fin 1024) (r : Fin 4096) : EReal :=
  cen (rowA (xs m c) r) j * rs (cen (rowA (xs m c) r)) * dh m c (ix3 0 r j)
def termW (c : Dev nD) (j : Fin 1024) (k : Fin 1536) (r : Fin 4096) : EReal :=
  mod (rowA (xs m c) r) (rowP (sh m c)) (rowP (sc m c)) j * wideAt m c r k

/-- What grid point `t` adds to the gradient of the shift. -/
def add8 (c : Dev nD) (t : Fin cfg0.N) (i : S1x1024.Idx) : EReal := ∑ x : Fin 256, termSh m c (i 1) (row t x)
/-- What grid point `t` adds to the gradient of the scale. -/
def add9 (c : Dev nD) (t : Fin cfg0.N) (i : S1x1024.Idx) : EReal := ∑ x : Fin 256, termSc m c (i 1) (row t x)
/-- What grid point `t` adds to the gradient of the weight. -/
def add10 (c : Dev nD) (t : Fin cfg0.N) (i : S1024x1536.Idx) : EReal := ∑ x : Fin 256, termW m c (i 0) (i 1) (row t x)

theorem colT_dh (c : Dev nD) (t : Fin cfg0.N) (j : Fin 1024) : colT (dhT m c t) (ix2 0 j) = add8 m c t (ix2 0 j) := by
  rw [colT_apply]
  exact Finset.sum_congr rfl fun r _ => congrFun (row_dh m c t r) j
theorem colT_norm (c : Dev nD) (t : Fin cfg0.N) (j : Fin 1024) :
    colT (mulf (normT (cenT (xT m c t))) (dhT m c t)) (ix2 0 j) = add9 m c t (ix2 0 j) := by
  rw [colT_apply]
  refine Finset.sum_congr rfl fun r _ => ?_
  show normT _ (ix2 r j) * rowT (dhT m c t) r j = _
  rw [normT_apply, rowT_cen, cenT_apply, row_x, row_dh]; rfl
/-- The block's product for the gradient of the weight. -/
def dwT (c : Dev nD) (t : Fin cfg0.N) : FVec Ideal S1024x1536 .f32 :=
  k0_pay20 (k0_pay8 (iblk m c 4 t)) (k0_pay9 (iblk m c 5 t)) (modT (xT m c t) (iblk m c 1 t) (iblk m c 2 t)) (FloatOps.ofBits FTy.f32 0#32)
theorem dwT_apply (c : Dev nD) (t : Fin cfg0.N) (j : Fin 1024) (k : Fin 1536) : dwT m c t (ix2 j k) = add10 m c t (ix2 j k) := by
  rw [dwT, pay20_apply]
  refine Finset.sum_congr rfl fun r _ => congrArg₂ _ ?_ (dpT_apply m c t r k)
  rw [modT_apply, row_x, row_sh, row_sc]; rfl

theorem out8_A (c : Dev nD) (t : Fin cfg0.N) (h : t.val % 16 = 0) (i : S1x1024.Idx) :
    (outsAt0 m c t.val t.isLt).2.1 i = 0 + add8 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← colT_dh]
  show addf (shapeCast S1x1024 (k0_pay1 (F := Ideal)) shapeCasts_S1x1024_S1x1024) (colT (dhT m c t)) (ix2 0 j) = _
  pointwise [k0_pay1]
theorem out8_B (c : Dev nD) (t : Fin cfg0.N) (h : ¬t.val % 16 = 0) (i : S1x1024.Idx) :
    (outsAt0 m c t.val t.isLt).2.1 i = (outsAt0 m c (t.val - 1) (Nat.lt_of_le_of_lt (Nat.sub_le _ _) t.isLt)).2.1 i + add8 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← colT_dh]
  show addf (shapeCast S1x1024 _ shapeCasts_S1x1024_S1x1024) (colT (dhT m c t)) (ix2 0 j) = _
  pointwise
theorem out8 (c : Dev nD) (t : Fin cfg0.N) (hr : t.val % 16 = 16 - 1) (j : Fin 1024) :
    (outsAt0 m c t.val t.isLt).2.1 (ix2 0 j) = colA (dh m c) (ix2 0 j) := by
  refine (Pipeline.eq_sum_fin_of_reset_step_apply_of_flush (fun n h => (outsAt0 m c n h).2.1) 16 (fun _ => (0 : EReal)) (add8 m c) (out8_A m c) (out8_B m c) t hr (ix2 0 j)).trans ?_
  rw [zero_add, colA_apply]
  exact sum_rows (termSh m c j) t _
theorem final8 (c : Dev nD) : (dats m 0 c).arrAt 8 cfg0.N = colA (dh m c) := by
  refine (dats m 0 c).arrAt_eq_of_covers 8 _ (by decide +kernel) fun t hf y => ?_
  blk_simp
  rw [after0_8]
  obtain ⟨j, rfl⟩ : ∃ j : Fin 1024, y = ix2 0 j := ⟨y 1, (eq_ix2 y).trans (congrArg (ix2 · _) (Subsingleton.elim (α := Fin 1) _ _))⟩
  have e : ((win0_8.blk t).view.emb (ix2 0 j)) = ix2 0 j := by blk_ext [rows_of t]
  exact (out8 m c t ((flush0_8 t).mp hf) j).trans (congrArg _ e.symm)

theorem out9_A (c : Dev nD) (t : Fin cfg0.N) (h : t.val % 16 = 0) (i : S1x1024.Idx) :
    (outsAt0 m c t.val t.isLt).2.2.1 i = 0 + add9 m c t i := by
  obtain ⟨j, rfl⟩ : ∃ j : Fin 1024, i = ix2 0 j := ⟨i 1, (eq_ix2 i).trans (congrArg (ix2 · _) (Subsingleton.elim (α := Fin 1) _ _))⟩
  rw [outsAt0_A m c t h]; frame_out
  rw [← colT_norm]
  show addf (shapeCast S1x1024 (k0_pay2 (F := Ideal)) shapeCasts_S1x1024_S1x1024) (colT (mulf (normT (cenT (xT m c t))) (dhT m c t))) (ix2 0 j) = _
  pointwise [k0_pay2]
theorem out9_B (c : Dev nD) (t : Fin cfg0.N) (h : ¬t.val % 16 = 0) (i : S1x1024.Idx) :
    (outsAt0 m c t.val t.isLt).2.2.1 i = (outsAt0 m c (t.val - 1) (Nat.lt_of_le_of_lt (Nat.sub_le _ _) t.isLt)).2.2.1 i + add9 m c t i := by
  obtain ⟨j, rfl⟩ : ∃ j : Fin 1024, i = ix2 0 j := ⟨i 1, (eq_ix2 i).trans (congrArg (ix2 · _) (Subsingleton.elim (α := Fin 1) _ _))⟩
  rw [outsAt0_B m c t h]; frame_out
  rw [← colT_norm]
  show addf (shapeCast S1x1024 _ shapeCasts_S1x1024_S1x1024) (colT (mulf (normT (cenT (xT m c t))) (dhT m c t))) (ix2 0 j) = _
  pointwise
/-- The gradient of the scale. -/
abbrev res2 (c : Dev nD) : Par := colA (mulf (normA (cenA (xs m c))) (dh m c))
theorem res2_apply (c : Dev nD) (j : Fin 1024) : res2 m c (ix2 0 j) = ∑ r, termSc m c j r := by
  rw [res2, colA_apply]
  refine Finset.sum_congr rfl fun r _ => ?_
  show normA _ (ix3 0 r j) * dh m c (ix3 0 r j) = _
  rw [normA_apply, rowA_cen, cenA_apply]; rfl
theorem out9 (c : Dev nD) (t : Fin cfg0.N) (hr : t.val % 16 = 16 - 1) (j : Fin 1024) :
    (outsAt0 m c t.val t.isLt).2.2.1 (ix2 0 j) = res2 m c (ix2 0 j) := by
  refine (Pipeline.eq_sum_fin_of_reset_step_apply_of_flush (fun n h => (outsAt0 m c n h).2.2.1) 16 (fun _ => (0 : EReal)) (add9 m c) (out9_A m c) (out9_B m c) t hr (ix2 0 j)).trans ?_
  rw [zero_add, res2_apply]
  exact sum_rows (termSc m c j) t _
theorem final9 (c : Dev nD) : (dats m 0 c).arrAt 9 cfg0.N = res2 m c := by
  refine (dats m 0 c).arrAt_eq_of_covers 9 _ (by decide +kernel) fun t hf y => ?_
  blk_simp
  rw [after0_9]
  obtain ⟨j, rfl⟩ : ∃ j : Fin 1024, y = ix2 0 j := ⟨y 1, (eq_ix2 y).trans (congrArg (ix2 · _) (Subsingleton.elim (α := Fin 1) _ _))⟩
  have e : ((win0_9.blk t).view.emb (ix2 0 j)) = ix2 0 j := by blk_ext [rows_of t]
  exact (out9 m c t ((flush0_9 t).mp hf) j).trans (congrArg _ e.symm)

theorem out10_A (c : Dev nD) (t : Fin cfg0.N) (h : t.val % 16 = 0) (i : S1024x1536.Idx) :
    (outsAt0 m c t.val t.isLt).2.2.2 i = 0 + add10 m c t i := by
  obtain ⟨j, k, rfl⟩ : ∃ j k, i = ix2 j k := ⟨i 0, i 1, eq_ix2 i⟩
  rw [outsAt0_A m c t h]; frame_out
  rw [← dwT_apply]
  show addf (shapeCast S1024x1536 (k0_pay3 (F := Ideal)) shapeCasts_S1024x1536_S1024x1536) (dwT m c t) (ix2 j k) = _
  pointwise [k0_pay3]
theorem out10_B (c : Dev nD) (t : Fin cfg0.N) (h : ¬t.val % 16 = 0) (i : S1024x1536.Idx) :
    (outsAt0 m c t.val t.isLt).2.2.2 i = (outsAt0 m c (t.val - 1) (Nat.lt_of_le_of_lt (Nat.sub_le _ _) t.isLt)).2.2.2 i + add10 m c t i := by
  obtain ⟨j, k, rfl⟩ : ∃ j k, i = ix2 j k := ⟨i 0, i 1, eq_ix2 i⟩
  rw [outsAt0_B m c t h]; frame_out
  rw [← dwT_apply]
  show addf (shapeCast S1024x1536 _ shapeCasts_S1024x1536_S1024x1536) (dwT m c t) (ix2 j k) = _
  pointwise
/-- The gradient of the weight. -/
def dWOf (x : Arr) (sh sc : Par) (d : FVec Ideal Cert.In1ReferenceIdeal.S1x4096x928 .f32) : FVec Ideal S1024x928 .f32 :=
  shapeCast _ (broadcastInDim S1x1024x928 ![1, 2] Cert.In1ReferenceIdeal.Gen.bcast_S1024x928_S1x1024x928_1_2
    (transpose S1024x928 [1, 0] (Host.dotGeneral Cert.In1ReferenceIdeal.dot_S1x4096x928_S1x4096x1024_S928x1024_01_01_2_2_n_n none d (modA x sh sc))
      Cert.In1ReferenceIdeal.Gen.transposes_S928x1024_S1024x928_1_0)) shapeCasts_S1x1024x928_S1024x928
abbrev dW (c : Dev nD) : FVec Ideal S1024x928 .f32 := dWOf (xs m c) (sh m c) (sc m c) (dp m c)
theorem dW_apply (c : Dev nD) (j : Fin 1024) (k : Fin 928) :
    dW m c (ix2 j k) = ∑ r, mod (rowA (xs m c) r) (rowP (sh m c)) (rowP (sc m c)) j * dpAt m c r k := by
  pointwise [dWOf]
  rw [Fintype.sum_unique]
  refine Finset.sum_congr rfl fun r _ => (mul_comm _ _).trans ?_
  exact congrArg₂ _ (modA_apply _ _ _ r j) (dp_apply m c r k)
/-- An array of the weight's columns, laid out in the padded columns. -/
def layout (w : FVec Ideal S1024x928 .f32) : FVec Ideal S1024x1536 .f32 :=
  concatenate S1024x1536 1 [⟨S1024x384, colsA w⟩,
    ⟨Cert.In1ReferenceIdeal.S1024x128, pad Cert.In1ReferenceIdeal.S1024x128 ![0, 64] ![0, 32] ![0, 0] (colsB w)
      (sitofp .f32 (constantI S_ 32 0#32)) Cert.In1ReferenceIdeal.Gen.pads_S1024x32_S1024x128_000_64320 h_S_⟩,
    ⟨S1024x1024, colsC w (sitofp .f32 (constantI S_ 32 0#32))⟩]
    Cert.In1ReferenceIdeal.Gen.concatenates_S1024x384_S1024x128_S1024x1024_S1024x1536_d1
/-- The gradient of the weight, laid out in the padded columns. -/
abbrev res3 (c : Dev nD) : FVec Ideal S1024x1536 .f32 := layout (dW m c)
theorem res3_shown (c : Dev nD) (j : Fin 1024) (k : Fin 1536) :
    res3 m c (ix2 j k) = if Shown k then dW m c (ix2 j (src k)) else 0 := by
  have lt := k.isLt
  obtain ⟨va, vb, vc⟩ := src_val k
  unfold res3
  generalize dW m c = w
  pointwise [layout]
  by_cases a : k.val < 384
  · rw [dif_pos a, colsA_apply, if_pos (show Shown k from .inl a)]
    exact congrArg (fun q => w (ix2 j q)) (Fin.ext (va a).symm)
  rw [dif_neg a]
  by_cases b : k.val - 384 < 128
  · rw [dif_pos b]
    by_cases d : 64 ≤ k.val - 384 ∧ k.val - 384 - 64 < 32
    · rw [dif_pos d, colsB_apply, if_pos (show Shown k by unfold Shown; omega)]
      exact congrArg (fun q => w (ix2 j q)) (Fin.ext ((show 384 + (k.val - 384 - 64) = k.val - 64 by omega).trans (vb (by omega) (by omega)).symm))
    · rw [dif_neg d, if_neg (show ¬Shown k by unfold Shown; omega)]
      exact zero_word32
  rw [dif_neg b]
  by_cases h : 64 ≤ (k.val - 384 - 128) % 128
  · rw [colsC_apply _ _ _ _ h, if_pos (show Shown k by unfold Shown; omega)]
    refine congrArg (fun q => w (ix2 j q)) (Fin.ext (Eq.trans ?_ (vc (by omega)).symm))
    dsimp only; omega
  · rw [colsC_zero _ (sitofp .f32 (constantI S_ 32 0#32)) (fun _ => zero_word32) j ⟨k.val - 384 - 128, by omega⟩ h, if_neg (show ¬Shown k by unfold Shown; omega)]
theorem res3_apply (c : Dev nD) (j : Fin 1024) (k : Fin 1536) : res3 m c (ix2 j k) = ∑ r, termW m c j k r := by
  rw [res3_shown]
  by_cases h : Shown k
  · simp only [if_pos h, dW_apply, termW, wideAt]
  · simp only [if_neg h, termW, wideAt, mul_zero, Finset.sum_const_zero]
theorem out10 (c : Dev nD) (t : Fin cfg0.N) (hr : t.val % 16 = 16 - 1) (j : Fin 1024) (k : Fin 1536) :
    (outsAt0 m c t.val t.isLt).2.2.2 (ix2 j k) = res3 m c (ix2 j k) := by
  refine (Pipeline.eq_sum_fin_of_reset_step_apply_of_flush (fun n h => (outsAt0 m c n h).2.2.2) 16 (fun _ => (0 : EReal)) (add10 m c) (out10_A m c) (out10_B m c) t hr (ix2 j k)).trans ?_
  rw [zero_add, res3_apply]
  exact sum_rows (termW m c j k) t _
theorem final10 (c : Dev nD) : (dats m 0 c).arrAt 10 cfg0.N = res3 m c := by
  refine (dats m 0 c).arrAt_eq_of_covers 10 _ (by decide +kernel) fun t hf y => ?_
  blk_simp
  rw [after0_10]
  have e : ((win0_10.blk t).view.emb y) = ix2 (y 0) (y 1) := by blk_ext [rows_of t]
  exact ((congrArg _ (eq_ix2 y)).trans (out10 m c t ((flush0_10 t).mp hf) (y 0) (y 1))).trans (congrArg _ e.symm)

end Cert.In1KernelIdeal.Grad

end
end
-- ==== Proof.In1Pair.lean ====
module

public import proofs.«01_k».proof.Defs
public import proofs.«01_k».proof.Proof.Gen.In1Kernel
public import proofs.«01_k».proof.Proof.Gen.In1KernelIdeal.Value
public import proofs.«01_k».proof.Proof.Gen.In1ReferenceIdeal.Run
public import proofs.«01_k».proof.Proof.In1Value
public import Idealize.ShloMosaic.Adequacy
public import Idealize.ShloMosaic.Init
public import Idealize.ShloMosaic.Lib.Claim

@[expose] public section

noncomputable section

namespace Cert.Proof

open Idealize.ShloMosaic Idealize.SL.Sem

/-- The reference's last result is the weight's gradient in the padded columns. -/
theorem weight_eq (m : (ℓ : Loc Cert.In1ReferenceIdeal.nD Cert.In1ReferenceIdeal.τ Cert.In1ReferenceIdeal.sig) → Buf (Elt Ideal) ℓ) (c : Dev Cert.In1ReferenceIdeal.nD) :
    Cert.In1ReferenceIdeal.Value.res_main_v86 m c = Cert.In1KernelIdeal.Grad.layout (Cert.In1KernelIdeal.Grad.dWOf
      (m ((c.tc : Thread Cert.In1ReferenceIdeal.nD Cert.In1ReferenceIdeal.τ).loc Cert.In1ReferenceIdeal.main_arg0))
      (m ((c.tc : Thread Cert.In1ReferenceIdeal.nD Cert.In1ReferenceIdeal.τ).loc Cert.In1ReferenceIdeal.main_arg1))
      (m ((c.tc : Thread Cert.In1ReferenceIdeal.nD Cert.In1ReferenceIdeal.τ).loc Cert.In1ReferenceIdeal.main_arg2))
      (Cert.In1KernelIdeal.Grad.dpOf
        (m ((c.tc : Thread Cert.In1ReferenceIdeal.nD Cert.In1ReferenceIdeal.τ).loc Cert.In1ReferenceIdeal.main_arg4))
        (m ((c.tc : Thread Cert.In1ReferenceIdeal.nD Cert.In1ReferenceIdeal.τ).loc Cert.In1ReferenceIdeal.main_arg5))
        (m ((c.tc : Thread Cert.In1ReferenceIdeal.nD Cert.In1ReferenceIdeal.τ).loc Cert.In1ReferenceIdeal.main_arg6)))) := rfl

/-- The gradients of the first step's normed entry: the kernel's arrays and the reference's are the same functions of the arguments.: the kernel's arrays and the reference's are the same functions of the arguments. -/
theorem in1_algebraic : Cert.algebraic_In1KernelIdeal_In1ReferenceIdeal := by
  pair_intro
  · run_from Cert.In1KernelIdeal.Value.run_blocks m g
  · run_from Cert.In1ReferenceIdeal.Value.run m' g'
    · refine Eq.trans ?_ (Cert.In1KernelIdeal.Grad.final7 m c).symm
      obtain ⟨h0, h1, h2, h3, h4, h5, h6, h7⟩ := hagree c
      simp only [Cert.In1ReferenceIdeal.Value.res_main_v82, h0, h1, h2, h3, h4, h5, h6, h7]
      rfl
    · exact (Cert.In1KernelIdeal.Grad.final8 m c).symm
    · exact (Cert.In1KernelIdeal.Grad.final9 m c).symm
    · refine Eq.trans ?_ (Cert.In1KernelIdeal.Grad.final10 m c).symm
      obtain ⟨h0, h1, h2, h3, h4, h5, h6, h7⟩ := hagree c
      exact (weight_eq m' c).trans (by simp only [h0, h1, h2, h3, h4, h5, h6, h7])

/-- The reference keeps its arguments and declares no semaphore. -/
theorem in1_reference_frame : Cert.quiescent_In1ReferenceIdeal := fun m ρ _ =>
  (θ_run Cert.In1ReferenceIdeal.defs _ _).mono (fun r h => ⟨fun c => (h c).2.2.2.2,
      Idealize.ShloMosaic.sem_eq_zero_of_no_sems (by decide) r.2⟩)
    (Cert.In1ReferenceIdeal.Value.run (F := Ideal) m ρ)

end Cert.Proof

end
-- ==== Proof.InFValue.lean ====
module

public import proofs.«01_k».proof.Proof.Gen.InFKernelIdeal.Frame
public import proofs.«01_k».proof.Proof.Gen.InFReferenceIdeal
public import proofs.«01_k».proof.Proof.In1Value

@[expose] public section

set_option maxRecDepth 16384

noncomputable section

open Idealize.ShloMosaic Idealize.ShloMosaic.TcCoe Idealize.SL.Sem
open Idealize.ShloMosaic.Pipeline (Dat)

namespace Cert.InFKernelIdeal.Parts

open Cert.InFKernelIdeal Cert.InFKernelIdeal.Gen Cert.NormRows
open Cert.In1KernelIdeal.Grad (Shown src src_val zero_word32 zero_word16)

/-! ## The weight as the call's three products take it -/

/-- The weight of all the entry's columns. -/
abbrev Wgt := FVec Ideal S1x1024x5152 .f32
/-- The weight without its leading axis. -/
abbrev flat (x : Wgt) : FVec Ideal S1024x5152 .bf16 := truncf .bf16 (shapeCast S1024x5152 x shapeCasts_S1x1024x5152_S1024x5152) bitsLt_bf16_f32
/-- The four quarters of the weight's columns. -/
def q0 (x : Wgt) : FVec Ideal S1024x1288 .bf16 := extractStridedSlice S1024x1288 ![0, 0] (flat x) slices_S1024x5152_S1024x1288_0_0
def q1 (x : Wgt) : FVec Ideal S1024x1288 .bf16 := extractStridedSlice S1024x1288 ![0, 1288] (flat x) slices_S1024x5152_S1024x1288_0_1288
def q2 (x : Wgt) : FVec Ideal S1024x1288 .bf16 := extractStridedSlice S1024x1288 ![0, 2576] (flat x) slices_S1024x5152_S1024x1288_0_2576
def q3 (x : Wgt) : FVec Ideal S1024x1288 .bf16 := extractStridedSlice S1024x1288 ![0, 3864] (flat x) slices_S1024x5152_S1024x1288_0_3864

theorem q0_apply (x : Wgt) (j : Fin 1024) (k : Fin 1288) : q0 x (ix2 j k) = x (ix3 0 j ⟨k.val, by omega⟩) := by
  unfold q0; pointwise
theorem q1_apply (x : Wgt) (j : Fin 1024) (k : Fin 1288) : q1 x (ix2 j k) = x (ix3 0 j ⟨1288 + k.val, by omega⟩) := by
  unfold q1; pointwise
theorem q2_apply (x : Wgt) (j : Fin 1024) (k : Fin 1288) : q2 x (ix2 j k) = x (ix3 0 j ⟨2576 + k.val, by omega⟩) := by
  unfold q2; pointwise
theorem q3_apply (x : Wgt) (j : Fin 1024) (k : Fin 1288) : q3 x (ix2 j k) = x (ix3 0 j ⟨3864 + k.val, by omega⟩) := by
  unfold q3; pointwise

/-- The pieces of the first product's weight: 384 columns, 32 columns, and eight heads of 64 lanes padded to 128. -/
def colsA (w : FVec Ideal S1024x1288 .bf16) : FVec Ideal S1024x384 .bf16 := extractStridedSlice S1024x384 ![0, 0] w slices_S1024x1288_S1024x384_0_0
def colsB (w : FVec Ideal S1024x1288 .bf16) : FVec Ideal S1024x32 .bf16 := extractStridedSlice S1024x32 ![0, 384] w slices_S1024x1288_S1024x32_0_384
def colsC (w : FVec Ideal S1024x1288 .bf16) (z : FVec Ideal S_ .bf16) : FVec Ideal S1024x1024 .bf16 :=
  shapeCast S1024x1024 (pad S1024x8x128 ![0, 0, 64] ![0, 0, 0] ![0, 0, 0]
      (shapeCast S1024x8x64 (extractStridedSlice S1024x512 ![0, 416] w slices_S1024x1288_S1024x512_0_416) shapeCasts_S1024x512_S1024x8x64)
      z pads_S1024x8x64_S1024x8x128_000_000_6400 h_S_) shapeCasts_S1024x8x128_S1024x1024
/-- The pieces of the other two products' weights. -/
def colsD (w : FVec Ideal S1024x1288 .bf16) : FVec Ideal S1024x360 .bf16 := extractStridedSlice S1024x360 ![0, 928] w slices_S1024x1288_S1024x360_0_928
def colsE (w : FVec Ideal S1024x1288 .bf16) : FVec Ideal S1024x528 .bf16 := extractStridedSlice S1024x528 ![0, 0] w slices_S1024x1288_S1024x528_0_0
def colsF (w : FVec Ideal S1024x1288 .bf16) : FVec Ideal S1024x760 .bf16 := extractStridedSlice S1024x760 ![0, 528] w slices_S1024x1288_S1024x760_0_528

theorem colsA_apply (w : FVec Ideal S1024x1288 .bf16) (j : Fin 1024) (k : Fin 384) : colsA w (ix2 j k) = w (ix2 j ⟨k.val, by omega⟩) := by
  unfold colsA; pointwise
theorem colsB_apply (w : FVec Ideal S1024x1288 .bf16) (j : Fin 1024) (k : Fin 32) : colsB w (ix2 j k) = w (ix2 j ⟨384 + k.val, by omega⟩) := by
  unfold colsB; pointwise
theorem colsC_apply (w : FVec Ideal S1024x1288 .bf16) (z : FVec Ideal S_ .bf16) (j k : Fin 1024) (h : 64 ≤ k.val % 128) :
    colsC w z (ix2 j k) = w (ix2 j ⟨416 + (k.val / 128 * 64 + (k.val % 128 - 64)), by omega⟩) := by
  unfold colsC; pointwise
  rw [dif_pos ⟨by omega, h, by omega⟩]
theorem colsC_zero (w : FVec Ideal S1024x1288 .bf16) (z : FVec Ideal S_ .bf16) (hz : ∀ i, z i = (0 : EReal)) (j k : Fin 1024)
    (h : ¬64 ≤ k.val % 128) : colsC w z (ix2 j k) = (0 : EReal) := by
  unfold colsC; pointwise
  rw [dif_neg (fun e => h e.2.1)]
  exact hz _
theorem colsD_apply (w : FVec Ideal S1024x1288 .bf16) (j : Fin 1024) (k : Fin 360) : colsD w (ix2 j k) = w (ix2 j ⟨928 + k.val, by omega⟩) := by
  unfold colsD; pointwise
theorem colsE_apply (w : FVec Ideal S1024x1288 .bf16) (j : Fin 1024) (k : Fin 528) : colsE w (ix2 j k) = w (ix2 j ⟨k.val, by omega⟩) := by
  unfold colsE; pointwise
theorem colsF_apply (w : FVec Ideal S1024x1288 .bf16) (j : Fin 1024) (k : Fin 760) : colsF w (ix2 j k) = w (ix2 j ⟨528 + k.val, by omega⟩) := by
  unfold colsF; pointwise

/-- The first product's weight: the first 928 columns, padded. -/
def wide (x : Wgt) : FVec Ideal S1024x1536 .bf16 :=
  concatenate S1024x1536 1 [⟨S1024x384, colsA (q0 x)⟩, ⟨S1024x64, broadcastInDim S1024x64 ![] bcast_S_S1024x64 (constant S_ .bf16 0x0000#16)⟩,
    ⟨S1024x32, colsB (q0 x)⟩, ⟨S1024x32, broadcastInDim S1024x32 ![] bcast_S_S1024x32 (constant S_ .bf16 0x0000#16)⟩,
    ⟨S1024x1024, colsC (q0 x) (sitofp .bf16 (constantI S_ 32 0#32))⟩]
    concatenates_S1024x384_S1024x64_S1024x32_S1024x32_S1024x1024_S1024x1536_d1
/-- The second product's weight: the next 2176 columns. -/
def mid (x : Wgt) : FVec Ideal S1024x2176 .bf16 :=
  concatenate S1024x2176 1 [⟨S1024x360, colsD (q0 x)⟩, ⟨S1024x1288, q1 x⟩, ⟨S1024x528, colsE (q2 x)⟩]
    concatenates_S1024x360_S1024x1288_S1024x528_S1024x2176_d1
/-- The third product's weight: the last 2048 columns. -/
def last (x : Wgt) : FVec Ideal S1024x2048 .bf16 :=
  concatenate S1024x2048 1 [⟨S1024x760, colsF (q2 x)⟩, ⟨S1024x1288, q3 x⟩] concatenates_S1024x760_S1024x1288_S1024x2048_d1

/-- The column of the whole weight a padded column shows. -/
def col (k : Fin 1536) : Fin 5152 := ⟨(src k).val, by have := (src k).isLt; omega⟩

theorem wide_apply (x : Wgt) (j : Fin 1024) (k : Fin 1536) :
    wide x (ix2 j k) = if Shown k then x (ix3 0 j (col k)) else 0 := by
  have lt := k.isLt
  obtain ⟨va, vb, vc⟩ := src_val k
  pointwise [wide]
  by_cases a : k.val < 384
  · rw [dif_pos a, colsA_apply, q0_apply, if_pos (show Shown k from .inl a)]
    exact congrArg (fun q => x (ix3 0 j q)) (Fin.ext (va a).symm)
  rw [dif_neg a]
  by_cases b : k.val - 384 < 64
  · rw [dif_pos b, if_neg (show ¬Shown k by unfold Shown; omega)]
  rw [dif_neg b]
  by_cases d : k.val - 384 - 64 < 32
  · rw [dif_pos d, colsB_apply, q0_apply, if_pos (show Shown k by unfold Shown; omega)]
    exact congrArg (fun q => x (ix3 0 j q)) (Fin.ext ((show 384 + (k.val - 384 - 64) = k.val - 64 by omega).trans (vb (by omega) (by omega)).symm))
  rw [dif_neg d]
  by_cases e : k.val - 384 - 64 - 32 < 32
  · rw [dif_pos e, if_neg (show ¬Shown k by unfold Shown; omega)]
  rw [dif_neg e]
  have ek : k.val - 384 - 64 - 32 - 32 = k.val - 512 := by omega
  by_cases h : 64 ≤ (k.val - 384 - 64 - 32 - 32) % 128
  · rw [colsC_apply _ _ _ _ h, q0_apply, if_pos (show Shown k by unfold Shown; omega)]
    refine congrArg (fun q => x (ix3 0 j q)) (Fin.ext (Eq.trans ?_ (vc (by omega)).symm))
    dsimp only; omega
  · rw [colsC_zero _ (sitofp .bf16 (constantI S_ 32 0#32)) (fun _ => zero_word16) j ⟨k.val - 384 - 64 - 32 - 32, by omega⟩ h, if_neg (show ¬Shown k by unfold Shown; omega)]

theorem mid_apply (x : Wgt) (j : Fin 1024) (k : Fin 2176) : mid x (ix2 j k) = x (ix3 0 j ⟨928 + k.val, by omega⟩) := by
  have lt := k.isLt
  pointwise [mid]
  by_cases a : k.val < 360
  · rw [dif_pos a, colsD_apply, q0_apply]
  rw [dif_neg a]
  by_cases b : k.val - 360 < 1288
  · rw [dif_pos b, q1_apply]
    exact congrArg (fun q => x (ix3 0 j q)) (Fin.ext (show 1288 + (k.val - 360) = 928 + k.val by omega))
  rw [dif_neg b, colsE_apply, q2_apply]
  exact congrArg (fun q => x (ix3 0 j q)) (Fin.ext (show 2576 + (k.val - 360 - 1288) = 928 + k.val by omega))

theorem last_apply (x : Wgt) (j : Fin 1024) (k : Fin 2048) : last x (ix2 j k) = x (ix3 0 j ⟨3104 + k.val, by omega⟩) := by
  have lt := k.isLt
  pointwise [last]
  by_cases a : k.val < 760
  · rw [dif_pos a, colsF_apply, q2_apply]
    exact congrArg (fun q => x (ix3 0 j q)) (Fin.ext (show 2576 + (528 + k.val) = 3104 + k.val by omega))
  rw [dif_neg a, q3_apply]
  exact congrArg (fun q => x (ix3 0 j q)) (Fin.ext (show 3864 + (k.val - 760) = 3104 + k.val by omega))

variable (m : (ℓ : Loc nD τ sig) → Buf (Elt Ideal) ℓ)

/-- The block every window shows at grid point `t`: rows `256 t …` of a tiled array, the whole of a parameter. -/
theorem rows_of : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The arguments of the program, by name. -/
abbrev xs (c : Dev nD) : Arr := m ((c.tc : Thread nD τ).loc main_arg0)
abbrev sh (c : Dev nD) : Par := m ((c.tc : Thread nD τ).loc main_arg1)
abbrev sc (c : Dev nD) : Par := m ((c.tc : Thread nD τ).loc main_arg2)
abbrev wt (c : Dev nD) : Wgt := m ((c.tc : Thread nD τ).loc main_arg3)

/-- Row `r` of grid point `t`'s block. -/
def row (t : Fin cfg0.N) (r : Fin 256) : Fin 4096 := ⟨256 * t.val + r.val, by have := t.isLt; have : cfg0.N = 16 := rfl; omega⟩

theorem read0 (c : Dev nD) (t : Fin cfg0.N) (r : Fin 256) (j : Fin 1024) :
    iblk m c 0 t (ix2 r j) = xs m c (ix3 0 (row t r) j) := by
  show V m c main_v20 _ = _
  rw [show V m c main_v20 = shapeCast S4096x1024 (xs m c) shapeCasts_S1x4096x1024_S4096x1024 from rfl]
  pointwise; blk_point [rows_of t, row]
theorem read1 (c : Dev nD) (t : Fin cfg0.N) (j : Fin 1024) : iblk m c 1 t (ix2 0 j) = sh m c (ix2 0 j) := by
  show V m c main_arg1 _ = _
  rw [show V m c main_arg1 = sh m c from rfl]; blk_point [rows_of t]
theorem read2 (c : Dev nD) (t : Fin cfg0.N) (j : Fin 1024) : iblk m c 2 t (ix2 0 j) = sc m c (ix2 0 j) := by
  show V m c main_arg2 _ = _
  rw [show V m c main_arg2 = sc m c from rfl]; blk_point [rows_of t]
theorem read3 (c : Dev nD) (t : Fin cfg0.N) (j : Fin 1024) (k : Fin 1536) :
    iblk m c 3 t (ix2 j k) = if Shown k then wt m c (ix3 0 j (col k)) else 0 := by
  rw [← wide_apply]; show V m c main_v14 _ = _
  rw [show V m c main_v14 = wide (wt m c) from rfl]
  generalize wide (wt m c) = w; blk_point [rows_of t]
theorem read4 (c : Dev nD) (t : Fin cfg0.N) (j : Fin 1024) (k : Fin 2176) :
    iblk m c 4 t (ix2 j k) = wt m c (ix3 0 j ⟨928 + k.val, by omega⟩) := by
  refine Eq.trans ?_ (mid_apply (wt m c) j k); show V m c main_v17 _ = _
  rw [show V m c main_v17 = mid (wt m c) from rfl]
  generalize mid (wt m c) = w; blk_point [rows_of t]
theorem read5 (c : Dev nD) (t : Fin cfg0.N) (j : Fin 1024) (k : Fin 2048) :
    iblk m c 5 t (ix2 j k) = wt m c (ix3 0 j ⟨3104 + k.val, by omega⟩) := by
  refine Eq.trans ?_ (last_apply (wt m c) j k); show V m c main_v19 _ = _
  rw [show V m c main_v19 = last (wt m c) from rfl]
  generalize last (wt m c) = w; blk_point [rows_of t]

/-! ## The product -/

/-- The whole product: the modulated rows times the weight. -/
def proj (x : Arr) (s a : Par) (w : Wgt) : FVec Ideal Cert.InFReferenceIdeal.S4096x5152 .f32 :=
  shapeCast _ (Host.dotGeneral Cert.InFReferenceIdeal.dot_S1x4096x1024_S1024x5152_S1x4096x5152_2_0_01_1_n_n none (modA x s a)
    (shapeCast Cert.InFReferenceIdeal.S1024x5152 w Cert.InFReferenceIdeal.Gen.shapeCasts_S1x1024x5152_S1024x5152)) Cert.InFReferenceIdeal.Gen.shapeCasts_S1x4096x5152_S4096x5152
/-- One entry of the product. -/
theorem proj_apply (x : Arr) (s a : Par) (w : Wgt) (r : Fin 4096) (k : Fin 5152) :
    proj x s a w (ix2 r k) = ∑ j, mod (rowA x r) (rowP s) (rowP a) j * w (ix3 0 j k) := by
  simp only [← modA_apply]
  pointwise [proj]
abbrev pr (c : Dev nD) : FVec Ideal Cert.InFReferenceIdeal.S4096x5152 .f32 := proj (xs m c) (sh m c) (sc m c) (wt m c)

/-- A row of the rows' block is a row of the array; the parameters' blocks are the parameters. -/
theorem row_x (c : Dev nD) (t : Fin cfg0.N) (r : Fin 256) :
    rowT (shapeCast S256x1024 (iblk m c 0 t) shapeCasts_S256x1024_S256x1024) r = rowA (xs m c) (row t r) := by
  funext j
  pointwise [read0]
theorem row_sh (c : Dev nD) (t : Fin cfg0.N) : rowP (iblk m c 1 t) = rowP (sh m c) := funext (read1 m c t)
theorem row_sc (c : Dev nD) (t : Fin cfg0.N) : rowP (iblk m c 2 t) = rowP (sc m c) := funext (read2 m c t)

/-- The block of the modulated rows. -/
theorem pay6_apply (c : Dev nD) (t : Fin cfg0.N) (r : Fin 256) (j : Fin 1024) :
    k0_pay6 (iblk m c 0 t) (iblk m c 1 t) (iblk m c 2 t) (ix2 r j)
      = mod (rowA (xs m c) (row t r)) (rowP (sh m c)) (rowP (sc m c)) j := by
  rw [← row_x, ← row_sh m c t, ← row_sc m c t, ← modT_apply]
  rfl

/-- One entry of each of the block's three products. -/
theorem dot2 (w : FVec Ideal S1024x2048 .bf16) (h : FVec Ideal S256x1024 .f32) (r : Fin 256) (k : Fin 2048) :
    k0_pay2 (F := Ideal) w h (ix2 r k) = ∑ j, h (ix2 r j) * w (ix2 j k) := by
  pointwise [k0_pay2]
theorem dot7 (x : FVec Ideal S256x1024 .f32) (s a : FVec Ideal S1x1024 .f32) (w : FVec Ideal S1024x1536 .bf16) (r : Fin 256) (k : Fin 1536) :
    k0_pay7 (F := Ideal) x s a w (ix2 r k) = ∑ j, k0_pay6 (F := Ideal) x s a (ix2 r j) * w (ix2 j k) := by
  pointwise [k0_pay7]
theorem dot10 (x : FVec Ideal S256x1024 .f32) (s a : FVec Ideal S1x1024 .f32) (w : FVec Ideal S1024x2176 .bf16) (r : Fin 256) (k : Fin 2176) :
    k0_pay10 (F := Ideal) x s a w (ix2 r k) = ∑ j, k0_pay6 (F := Ideal) x s a (ix2 r j) * w (ix2 j k) := by
  pointwise [k0_pay10]

theorem block1 (c : Dev nD) (t : Fin cfg0.N) (r : Fin 256) (k : Fin 1536) :
    k0_pay7 (iblk m c 0 t) (iblk m c 1 t) (iblk m c 2 t) (iblk m c 3 t) (ix2 r k) = if Shown k then pr m c (ix2 (row t r) (col k)) else 0 := by
  rw [dot7]
  by_cases h : Shown k
  · rw [if_pos h]
    refine Eq.trans ?_ (proj_apply _ _ _ _ _ _).symm
    exact Finset.sum_congr rfl fun j _ => congrArg₂ _ (pay6_apply m c t r j) ((read3 m c t j k).trans (if_pos h))
  · rw [if_neg h]
    refine Finset.sum_eq_zero fun j _ => ?_
    rw [(read3 m c t j k).trans (if_neg h)]
    exact mul_zero _
theorem block2 (c : Dev nD) (t : Fin cfg0.N) (r : Fin 256) (k : Fin 2176) :
    k0_pay10 (iblk m c 0 t) (iblk m c 1 t) (iblk m c 2 t) (iblk m c 4 t) (ix2 r k) = pr m c (ix2 (row t r) ⟨928 + k.val, by omega⟩) := by
  refine (dot10 _ _ _ _ r k).trans (Eq.trans ?_ (proj_apply _ _ _ _ _ _).symm)
  exact Finset.sum_congr rfl fun j _ => congrArg₂ _ (pay6_apply m c t r j) (read4 m c t j k)
theorem block3 (c : Dev nD) (t : Fin cfg0.N) (r : Fin 256) (k : Fin 2048) :
    k0_pay2 (k0_pay5 (iblk m c 5 t)) (k0_pay6 (iblk m c 0 t) (iblk m c 1 t) (iblk m c 2 t)) (ix2 r k) = pr m c (ix2 (row t r) ⟨3104 + k.val, by omega⟩) := by
  refine (dot2 _ _ r k).trans (Eq.trans ?_ (proj_apply _ _ _ _ _ _).symm)
  refine Finset.sum_congr rfl fun j _ => congrArg₂ _ (pay6_apply m c t r j) ?_
  pointwise [k0_pay5, read5]

/-! ## The six results -/

/-- Any product's first 384 columns, and its next 32 padded. -/
def headA (p : FVec Ideal Cert.InFReferenceIdeal.S4096x5152 .f32) : FVec Ideal Cert.InFReferenceIdeal.S4096x384 .f32 :=
  extractStridedSlice _ ![0, 0] p Cert.InFReferenceIdeal.Gen.slices_S4096x5152_S4096x384_0_0
def headB (p : FVec Ideal Cert.InFReferenceIdeal.S4096x5152 .f32) : FVec Ideal Cert.InFReferenceIdeal.S4096x128 .f32 :=
  pad _ ![0, 64] ![0, 32] ![0, 0] (extractStridedSlice _ ![0, 384] p Cert.InFReferenceIdeal.Gen.slices_S4096x5152_S4096x32_0_384)
    (sitofp .f32 (constantI Cert.InFReferenceIdeal.S_ 32 0#32)) Cert.InFReferenceIdeal.Gen.pads_S4096x32_S4096x128_000_64320 Cert.InFReferenceIdeal.Gen.h_S_
theorem headA_apply (p : FVec Ideal Cert.InFReferenceIdeal.S4096x5152 .f32) (r : Fin 4096) (k : Fin 384) : headA p (ix2 r k) = p (ix2 r ⟨k.val, by omega⟩) := by
  unfold headA; pointwise
theorem headB_apply (p : FVec Ideal Cert.InFReferenceIdeal.S4096x5152 .f32) (r : Fin 4096) (k : Fin 128) (h : 64 ≤ k.val ∧ k.val - 64 < 32) :
    headB p (ix2 r k) = p (ix2 r ⟨384 + (k.val - 64), by omega⟩) := by
  unfold headB; pointwise
  rw [dif_pos h]
theorem headB_zero (p : FVec Ideal Cert.InFReferenceIdeal.S4096x5152 .f32) (r : Fin 4096) (k : Fin 128) (h : ¬(64 ≤ k.val ∧ k.val - 64 < 32)) :
    headB p (ix2 r k) = (0 : EReal) := by
  unfold headB; pointwise
  rw [dif_neg h]
  exact zero_word32
/-- The first result of a product. -/
def part0 (p : FVec Ideal Cert.InFReferenceIdeal.S4096x5152 .f32) : FVec Ideal S4096x512 .f32 :=
  concatenate Cert.InFReferenceIdeal.S4096x512 1 [⟨Cert.InFReferenceIdeal.S4096x384, headA p⟩, ⟨Cert.InFReferenceIdeal.S4096x128, headB p⟩]
    Cert.InFReferenceIdeal.Gen.concatenates_S4096x384_S4096x128_S4096x512_d1
/-- The second result of a product: eight heads of 64 lanes padded to 128. -/
def part1 (p : FVec Ideal Cert.InFReferenceIdeal.S4096x5152 .f32) : FVec Ideal S4096x1024 .f32 :=
  shapeCast _ (pad Cert.InFReferenceIdeal.S4096x8x128 ![0, 0, 64] ![0, 0, 0] ![0, 0, 0]
    (shapeCast Cert.InFReferenceIdeal.S4096x8x64 (extractStridedSlice Cert.InFReferenceIdeal.S4096x512 ![0, 416] p Cert.InFReferenceIdeal.Gen.slices_S4096x5152_S4096x512_0_416) Cert.InFReferenceIdeal.Gen.shapeCasts_S4096x512_S4096x8x64)
    (sitofp .f32 (constantI Cert.InFReferenceIdeal.S_ 32 0#32)) Cert.InFReferenceIdeal.Gen.pads_S4096x8x64_S4096x8x128_000_000_6400 Cert.InFReferenceIdeal.Gen.h_S_) Cert.InFReferenceIdeal.Gen.shapeCasts_S4096x8x128_S4096x1024
/-- The other four results of a product: runs of its columns. -/
def part2 (p : FVec Ideal Cert.InFReferenceIdeal.S4096x5152 .f32) : FVec Ideal S4096x1664 .f32 :=
  extractStridedSlice _ ![0, 928] p Cert.InFReferenceIdeal.Gen.slices_S4096x5152_S4096x1664_0_928
def part3 (p : FVec Ideal Cert.InFReferenceIdeal.S4096x5152 .f32) : FVec Ideal S4096x512 .f32 :=
  extractStridedSlice _ ![0, 2592] p Cert.InFReferenceIdeal.Gen.slices_S4096x5152_S4096x512_0_2592
def part4 (p : FVec Ideal Cert.InFReferenceIdeal.S4096x5152 .f32) : FVec Ideal S4096x1024 .f32 :=
  extractStridedSlice _ ![0, 3104] p Cert.InFReferenceIdeal.Gen.slices_S4096x5152_S4096x1024_0_3104
def part5 (p : FVec Ideal Cert.InFReferenceIdeal.S4096x5152 .f32) : FVec Ideal S4096x1024 .f32 :=
  extractStridedSlice _ ![0, 4128] p Cert.InFReferenceIdeal.Gen.slices_S4096x5152_S4096x1024_0_4128

theorem part0_apply (p : FVec Ideal Cert.InFReferenceIdeal.S4096x5152 .f32) (r : Fin 4096) (k : Fin 512) :
    part0 p (ix2 r k) = if Shown ⟨k.val, by omega⟩ then p (ix2 r (col ⟨k.val, by omega⟩)) else 0 := by
  have lt := k.isLt
  obtain ⟨va, vb, vc⟩ := src_val ⟨k.val, by omega⟩
  pointwise [part0]
  by_cases a : k.val < 384
  · rw [dif_pos a, if_pos (show Shown ⟨k.val, _⟩ from .inl a), headA_apply]
    exact congrArg (fun q => p (ix2 r q)) (Fin.ext (va a).symm)
  rw [dif_neg a]
  by_cases d : 64 ≤ k.val - 384 ∧ k.val - 384 - 64 < 32
  · have e : (src ⟨k.val, by omega⟩).val = k.val - 64 := vb (by show 448 ≤ k.val; omega) (by show k.val < 480; omega)
    rw [if_pos (show Shown ⟨k.val, _⟩ by unfold Shown; dsimp only; omega)]
    refine (headB_apply p r ⟨k.val - 384, by omega⟩ d).trans (congrArg (fun q => p (ix2 r q)) (Fin.ext ?_))
    show 384 + (k.val - 384 - 64) = (src ⟨k.val, by omega⟩).val
    omega
  · rw [if_neg (show ¬Shown ⟨k.val, _⟩ by unfold Shown; dsimp only; omega)]
    exact headB_zero p r ⟨k.val - 384, by omega⟩ d
theorem part1_apply (p : FVec Ideal Cert.InFReferenceIdeal.S4096x5152 .f32) (r : Fin 4096) (k : Fin 1024) :
    part1 p (ix2 r k) = if Shown ⟨512 + k.val, by omega⟩ then p (ix2 r (col ⟨512 + k.val, by omega⟩)) else 0 := by
  have lt := k.isLt
  obtain ⟨va, vb, vc⟩ := src_val ⟨512 + k.val, by omega⟩
  have e : (src ⟨512 + k.val, by omega⟩).val = 416 + (512 + k.val - 512) / 128 * 64 + ((512 + k.val) % 128 - 64) := vc (by show 512 ≤ 512 + k.val; omega)
  pointwise [part1]
  by_cases h : 64 ≤ k.val % 128
  · rw [dif_pos ⟨by omega, h, by omega⟩, if_pos (show Shown ⟨512 + k.val, _⟩ by unfold Shown; dsimp only; omega)]
    refine congrArg (fun q => p (ix2 r q)) (Fin.ext ?_)
    refine Eq.trans ?_ e.symm
    dsimp only; omega
  · rw [dif_neg (fun e => h e.2.1), if_neg (show ¬Shown ⟨512 + k.val, _⟩ by unfold Shown; dsimp only; omega)]
    exact zero_word32
theorem part2_apply (p : FVec Ideal Cert.InFReferenceIdeal.S4096x5152 .f32) (r : Fin 4096) (k : Fin 1664) : part2 p (ix2 r k) = p (ix2 r ⟨928 + k.val, by omega⟩) := by
  unfold part2; pointwise
theorem part3_apply (p : FVec Ideal Cert.InFReferenceIdeal.S4096x5152 .f32) (r : Fin 4096) (k : Fin 512) : part3 p (ix2 r k) = p (ix2 r ⟨2592 + k.val, by omega⟩) := by
  unfold part3; pointwise
theorem part4_apply (p : FVec Ideal Cert.InFReferenceIdeal.S4096x5152 .f32) (r : Fin 4096) (k : Fin 1024) : part4 p (ix2 r k) = p (ix2 r ⟨3104 + k.val, by omega⟩) := by
  unfold part4; pointwise
theorem part5_apply (p : FVec Ideal Cert.InFReferenceIdeal.S4096x5152 .f32) (r : Fin 4096) (k : Fin 1024) : part5 p (ix2 r k) = p (ix2 r ⟨4128 + k.val, by omega⟩) := by
  unfold part5; pointwise

/-- A slice of a block, at an entry. -/
theorem pay8_apply (x : FVec Ideal S256x1024 .f32) (s a : FVec Ideal S1x1024 .f32) (w : FVec Ideal S1024x1536 .bf16) (r : Fin 256) (k : Fin 512) :
    k0_pay8 (F := Ideal) x s a w (ix2 r k) = k0_pay7 (F := Ideal) x s a w (ix2 r ⟨k.val, by omega⟩) := by
  pointwise [k0_pay8]
theorem pay9_apply (x : FVec Ideal S256x1024 .f32) (s a : FVec Ideal S1x1024 .f32) (w : FVec Ideal S1024x1536 .bf16) (r : Fin 256) (k : Fin 1024) :
    k0_pay9 (F := Ideal) x s a w (ix2 r k) = k0_pay7 (F := Ideal) x s a w (ix2 r ⟨512 + k.val, by omega⟩) := by
  pointwise [k0_pay9]
theorem pay11_apply (x : FVec Ideal S256x1024 .f32) (s a : FVec Ideal S1x1024 .f32) (w : FVec Ideal S1024x2176 .bf16) (r : Fin 256) (k : Fin 1664) :
    k0_pay11 (F := Ideal) x s a w (ix2 r k) = k0_pay10 (F := Ideal) x s a w (ix2 r ⟨k.val, by omega⟩) := by
  pointwise [k0_pay11]
theorem pay1_apply (p : FVec Ideal S256x2176 .f32) (r : Fin 256) (k : Fin 512) : k0_pay1 (F := Ideal) p (ix2 r k) = p (ix2 r ⟨1664 + k.val, by omega⟩) := by
  pointwise [k0_pay1]
theorem pay3_apply (w : FVec Ideal S1024x2048 .bf16) (h : FVec Ideal S256x1024 .f32) (r : Fin 256) (k : Fin 1024) :
    k0_pay3 (F := Ideal) w h (ix2 r k) = k0_pay2 (F := Ideal) w h (ix2 r ⟨k.val, by omega⟩) := by
  pointwise [k0_pay3]
theorem pay4_apply (w : FVec Ideal S1024x2048 .bf16) (h : FVec Ideal S256x1024 .f32) (r : Fin 256) (k : Fin 1024) :
    k0_pay4 (F := Ideal) w h (ix2 r k) = k0_pay2 (F := Ideal) w h (ix2 r ⟨1024 + k.val, by omega⟩) := by
  pointwise [k0_pay4]

/-- A grid point's block of the first result, and the first result. -/
theorem out6 (c : Dev nD) (t : Fin cfg0.N) (r : Fin 256) (k : Fin 512) :
    (dats m 0 c).after 6 t (ix2 r k) = part0 (pr m c) (ix2 (row t r) k) := by
  rw [after0_6, part0_apply]
  frame_out
  exact (pay8_apply _ _ _ _ r k).trans (block1 m c t r ⟨k.val, by omega⟩)
theorem final6 (c : Dev nD) : (dats m 0 c).arrAt 6 cfg0.N = part0 (pr m c) := by
  refine (dats m 0 c).arrAt_eq_of_covers 6 _ (by decide +kernel) fun t hf y => ?_
  blk_simp
  have e : ((View.whole main_v21_0).slice (win0_6.rect t)).emb y = ix2 (row t (y 0)) (y 1) := by blk_ext [rows_of t, row]
  exact ((congrArg _ (eq_ix2 y)).trans (out6 m c t (y 0) (y 1))).trans (congrArg _ e.symm)

/-- A grid point's block of the second result, and the second result. -/
theorem out7 (c : Dev nD) (t : Fin cfg0.N) (r : Fin 256) (k : Fin 1024) :
    (dats m 0 c).after 7 t (ix2 r k) = part1 (pr m c) (ix2 (row t r) k) := by
  rw [after0_7, part1_apply]
  frame_out
  exact (pay9_apply _ _ _ _ r k).trans (block1 m c t r ⟨512 + k.val, by omega⟩)
theorem final7 (c : Dev nD) : (dats m 0 c).arrAt 7 cfg0.N = part1 (pr m c) := by
  refine (dats m 0 c).arrAt_eq_of_covers 7 _ (by decide +kernel) fun t hf y => ?_
  blk_simp
  have e : ((View.whole main_v21_1).slice (win0_7.rect t)).emb y = ix2 (row t (y 0)) (y 1) := by blk_ext [rows_of t, row]
  exact ((congrArg _ (eq_ix2 y)).trans (out7 m c t (y 0) (y 1))).trans (congrArg _ e.symm)

/-- A grid point's block of the third result, and the third result. -/
theorem out8 (c : Dev nD) (t : Fin cfg0.N) (r : Fin 256) (k : Fin 1664) :
    (dats m 0 c).after 8 t (ix2 r k) = part2 (pr m c) (ix2 (row t r) k) := by
  rw [after0_8, part2_apply]
  frame_out
  exact (pay11_apply _ _ _ _ r k).trans (block2 m c t r ⟨k.val, by omega⟩)
theorem final8 (c : Dev nD) : (dats m 0 c).arrAt 8 cfg0.N = part2 (pr m c) := by
  refine (dats m 0 c).arrAt_eq_of_covers 8 _ (by decide +kernel) fun t hf y => ?_
  blk_simp
  have e : ((View.whole main_v21_2).slice (win0_8.rect t)).emb y = ix2 (row t (y 0)) (y 1) := by blk_ext [rows_of t, row]
  exact ((congrArg _ (eq_ix2 y)).trans (out8 m c t (y 0) (y 1))).trans (congrArg _ e.symm)

/-- A grid point's block of the fourth result, and the fourth result. -/
theorem out9 (c : Dev nD) (t : Fin cfg0.N) (r : Fin 256) (k : Fin 512) :
    (dats m 0 c).after 9 t (ix2 r k) = part3 (pr m c) (ix2 (row t r) k) := by
  rw [after0_9, part3_apply]
  frame_out
  exact ((pay1_apply _ r k).trans (block2 m c t r ⟨1664 + k.val, by omega⟩)).trans (congrArg (fun q => pr m c (ix2 (row t r) q)) (Fin.ext (show 928 + (1664 + k.val) = 2592 + k.val by omega)))
theorem final9 (c : Dev nD) : (dats m 0 c).arrAt 9 cfg0.N = part3 (pr m c) := by
  refine (dats m 0 c).arrAt_eq_of_covers 9 _ (by decide +kernel) fun t hf y => ?_
  blk_simp
  have e : ((View.whole main_v21_3).slice (win0_9.rect t)).emb y = ix2 (row t (y 0)) (y 1) := by blk_ext [rows_of t, row]
  exact ((congrArg _ (eq_ix2 y)).trans (out9 m c t (y 0) (y 1))).trans (congrArg _ e.symm)

/-- A grid point's block of the fifth result, and the fifth result. -/
theorem out10 (c : Dev nD) (t : Fin cfg0.N) (r : Fin 256) (k : Fin 1024) :
    (dats m 0 c).after 10 t (ix2 r k) = part4 (pr m c) (ix2 (row t r) k) := by
  rw [after0_10, part4_apply]
  unfold_out out0_10; frame_out
  exact (pay3_apply _ _ r k).trans (block3 m c t r ⟨k.val, by omega⟩)
theorem final10 (c : Dev nD) : (dats m 0 c).arrAt 10 cfg0.N = part4 (pr m c) := by
  refine (dats m 0 c).arrAt_eq_of_covers 10 _ (by decide +kernel) fun t hf y => ?_
  blk_simp
  have e : ((View.whole main_v21_4).slice (win0_10.rect t)).emb y = ix2 (row t (y 0)) (y 1) := by blk_ext [rows_of t, row]
  exact ((congrArg _ (eq_ix2 y)).trans (out10 m c t (y 0) (y 1))).trans (congrArg _ e.symm)

/-- A grid point's block of the sixth result, and the sixth result. -/
theorem out11 (c : Dev nD) (t : Fin cfg0.N) (r : Fin 256) (k : Fin 1024) :
    (dats m 0 c).after 11 t (ix2 r k) = part5 (pr m c) (ix2 (row t r) k) := by
  rw [after0_11, part5_apply]
  unfold_out out0_11; frame_out
  exact ((pay4_apply _ _ r k).trans (block3 m c t r ⟨1024 + k.val, by omega⟩)).trans (congrArg (fun q => pr m c (ix2 (row t r) q)) (Fin.ext (show 3104 + (1024 + k.val) = 4128 + k.val by omega)))
theorem final11 (c : Dev nD) : (dats m 0 c).arrAt 11 cfg0.N = part5 (pr m c) := by
  refine (dats m 0 c).arrAt_eq_of_covers 11 _ (by decide +kernel) fun t hf y => ?_
  blk_simp
  have e : ((View.whole main_v21_5).slice (win0_11.rect t)).emb y = ix2 (row t (y 0)) (y 1) := by blk_ext [rows_of t, row]
  exact ((congrArg _ (eq_ix2 y)).trans (out11 m c t (y 0) (y 1))).trans (congrArg _ e.symm)

end Cert.InFKernelIdeal.Parts

end
end
-- ==== Proof.InFPair.lean ====
module

public import proofs.«01_k».proof.Defs
public import proofs.«01_k».proof.Proof.Gen.InFKernel
public import proofs.«01_k».proof.Proof.Gen.InFKernelIdeal.Value
public import proofs.«01_k».proof.Proof.Gen.InFReferenceIdeal.Run
public import proofs.«01_k».proof.Proof.InFValue
public import Idealize.ShloMosaic.Adequacy
public import Idealize.ShloMosaic.Init
public import Idealize.ShloMosaic.Lib.Claim

@[expose] public section

noncomputable section

namespace Cert.Proof

open Idealize.ShloMosaic Idealize.SL.Sem

/-- The reference's first result is the first part of the whole product. -/
theorem entry_eq (m : (ℓ : Loc Cert.InFReferenceIdeal.nD Cert.InFReferenceIdeal.τ Cert.InFReferenceIdeal.sig) → Buf (Elt Ideal) ℓ) (c : Dev Cert.InFReferenceIdeal.nD) :
    Cert.InFReferenceIdeal.Value.res_main_v30 m c = Cert.InFKernelIdeal.Parts.part0 (Cert.InFKernelIdeal.Parts.proj
      (m ((c.tc : Thread Cert.InFReferenceIdeal.nD Cert.InFReferenceIdeal.τ).loc Cert.InFReferenceIdeal.main_arg0))
      (m ((c.tc : Thread Cert.InFReferenceIdeal.nD Cert.InFReferenceIdeal.τ).loc Cert.InFReferenceIdeal.main_arg1))
      (m ((c.tc : Thread Cert.InFReferenceIdeal.nD Cert.InFReferenceIdeal.τ).loc Cert.InFReferenceIdeal.main_arg2))
      (m ((c.tc : Thread Cert.InFReferenceIdeal.nD Cert.InFReferenceIdeal.τ).loc Cert.InFReferenceIdeal.main_arg3))) := rfl

/-- The fused entry's six results: the kernel's arrays and the reference's are the same functions of the arguments. -/
theorem inf_algebraic : Cert.algebraic_InFKernelIdeal_InFReferenceIdeal := by
  pair_intro
  · run_from Cert.InFKernelIdeal.Value.run_blocks m g
  · run_from Cert.InFReferenceIdeal.Value.run m' g'
    · refine Eq.trans ?_ (Cert.InFKernelIdeal.Parts.final6 m c).symm
      obtain ⟨h0, h1, h2, h3⟩ := hagree c
      exact (entry_eq m' c).trans (by simp only [h0, h1, h2, h3])
    · exact (Cert.InFKernelIdeal.Parts.final7 m c).symm
    · exact (Cert.InFKernelIdeal.Parts.final8 m c).symm
    · exact (Cert.InFKernelIdeal.Parts.final9 m c).symm
    · exact (Cert.InFKernelIdeal.Parts.final10 m c).symm
    · exact (Cert.InFKernelIdeal.Parts.final11 m c).symm

/-- The reference keeps its arguments and declares no semaphore. -/
theorem inf_reference_frame : Cert.quiescent_InFReferenceIdeal := fun m ρ _ =>
  (θ_run Cert.InFReferenceIdeal.defs _ _).mono (fun r h => ⟨fun c => (h c).2.2.2.2.2.2,
      Idealize.ShloMosaic.sem_eq_zero_of_no_sems (by decide) r.2⟩)
    (Cert.InFReferenceIdeal.Value.run (F := Ideal) m ρ)

end Cert.Proof

end
-- ==== Proof.lean ====
module

public import proofs.«01_k».proof.Defs
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.AttnKernel
public import proofs.«01_k».proof.Proof.Gen.AttnKernel.Frame
public import proofs.«01_k».proof.Proof.Gen.AttnKernel.Loops
public import proofs.«01_k».proof.Proof.Gen.AttnKernelIdeal
public import proofs.«01_k».proof.Proof.Gen.AttnKernelIdeal.Skeleton
public import proofs.«01_k».proof.Proof.Gen.AttnKernelIdeal.Loops
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnReferenceIdeal.Run
public import proofs.«01_k».proof.Proof.Gen.Pre_finite_attn
public import proofs.«01_k».proof.Proof.MergeValue
public import proofs.«01_k».proof.Proof.AttnArgs
public import proofs.«01_k».proof.Proof.LossPair
public import proofs.«01_k».proof.Proof.In3Pair
public import proofs.«01_k».proof.Proof.In2Pair
public import proofs.«01_k».proof.Proof.In1Pair
public import proofs.«01_k».proof.Proof.InFPair
public import Idealize.ShloMosaic.Adequacy
public import Idealize.ShloMosaic.Init
public import Idealize.ShloMosaic.Lib.Claim
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.In3Kernel
public import proofs.«01_k».proof.Proof.Gen.In3Kernel.Frame
public import proofs.«01_k».proof.Proof.Gen.In3KernelIdeal
public import proofs.«01_k».proof.Proof.Gen.In3KernelIdeal.Frame
public import proofs.«01_k».proof.Proof.Gen.In3KernelIdeal.Value
public import proofs.«01_k».proof.Proof.Gen.In3ReferenceIdeal
public import proofs.«01_k».proof.Proof.Gen.In3ReferenceIdeal.Run
public import proofs.«01_k».proof.Proof.Gen.In2Kernel
public import proofs.«01_k».proof.Proof.Gen.In2Kernel.Frame
public import proofs.«01_k».proof.Proof.Gen.In2KernelIdeal
public import proofs.«01_k».proof.Proof.Gen.In2KernelIdeal.Frame
public import proofs.«01_k».proof.Proof.Gen.In2KernelIdeal.Value
public import proofs.«01_k».proof.Proof.Gen.In2ReferenceIdeal
public import proofs.«01_k».proof.Proof.Gen.In2ReferenceIdeal.Run
public import proofs.«01_k».proof.Proof.Gen.In1Kernel
public import proofs.«01_k».proof.Proof.Gen.In1Kernel.Frame
public import proofs.«01_k».proof.Proof.Gen.In1KernelIdeal
public import proofs.«01_k».proof.Proof.Gen.In1KernelIdeal.Frame
public import proofs.«01_k».proof.Proof.Gen.In1KernelIdeal.Value
public import proofs.«01_k».proof.Proof.Gen.In1ReferenceIdeal
public import proofs.«01_k».proof.Proof.Gen.In1ReferenceIdeal.Run
public import proofs.«01_k».proof.Proof.Gen.InFKernel
public import proofs.«01_k».proof.Proof.Gen.InFKernel.Frame
public import proofs.«01_k».proof.Proof.Gen.InFKernelIdeal
public import proofs.«01_k».proof.Proof.Gen.InFKernelIdeal.Frame
public import proofs.«01_k».proof.Proof.Gen.InFKernelIdeal.Value
public import proofs.«01_k».proof.Proof.Gen.InFReferenceIdeal
public import proofs.«01_k».proof.Proof.Gen.InFReferenceIdeal.Run
public import proofs.«01_k».proof.Proof.Gen.PostKernel
public import proofs.«01_k».proof.Proof.Gen.PostKernel.Frame
public import proofs.«01_k».proof.Proof.Gen.PostKernelIdeal
public import proofs.«01_k».proof.Proof.Gen.PostKernelIdeal.Frame
public import proofs.«01_k».proof.Proof.Gen.PostReferenceIdeal
public import proofs.«01_k».proof.Proof.Gen.PostReferenceIdeal.Run
public import proofs.«01_k».proof.Proof.Gen.MlaKernel
public import proofs.«01_k».proof.Proof.Gen.MlaKernel.Frame
public import proofs.«01_k».proof.Proof.Gen.MlaKernelIdeal
public import proofs.«01_k».proof.Proof.Gen.MlaKernelIdeal.Frame
public import proofs.«01_k».proof.Proof.Gen.MlaReferenceIdeal
public import proofs.«01_k».proof.Proof.Gen.MlaReferenceIdeal.Run

@[expose] public section

noncomputable section

namespace Cert.Proof

open Idealize.ShloMosaic Idealize.SL.Sem

/-- The merge's gradients: the kernel's arrays and the reference's are the same functions of the arguments. -/
theorem merge_algebraic : Cert.algebraic_MergeKernelIdeal_MergeReferenceIdeal := by
  pair_intro
  · run_from Cert.MergeKernelIdeal.Value.run_blocks m g
  · run_from Cert.MergeReferenceIdeal.Value.run m' g'
    · exact (Cert.MergeKernelIdeal.Grad.final9 m c).symm
    · exact (Cert.MergeKernelIdeal.Grad.final10 m c).symm
    · exact (Cert.MergeKernelIdeal.Grad.final11 m c).symm
    · exact (Cert.MergeKernelIdeal.Grad.final12 m c).symm
    · exact (Cert.MergeKernelIdeal.Grad.final13 m c).symm
    · exact (Cert.MergeKernelIdeal.Grad.final14 m c).symm
    · exact (Cert.MergeKernelIdeal.Grad.final15 m c).symm
    · exact (Cert.MergeKernelIdeal.Grad.final16 m c).symm

/-- The merge's reference keeps its arguments and declares no semaphore. -/
theorem merge_reference_frame : Cert.quiescent_MergeReferenceIdeal := fun m ρ _ =>
  (θ_run Cert.MergeReferenceIdeal.defs _ _).mono (fun r h => ⟨fun c => (h c).2.2.2.2.2.2.2.2,
      Idealize.ShloMosaic.sem_eq_zero_of_no_sems (by decide) r.2⟩)
    (Cert.MergeReferenceIdeal.Value.run (F := Ideal) m ρ)

/-- What every run of the attention's gradient leaves: its three arrays head by head, and the arguments unchanged. -/
theorem attn_run (m : (ℓ : Loc Cert.AttnKernelIdeal.nD Cert.AttnKernelIdeal.τ Cert.AttnKernelIdeal.sig) → Buf (Elt Ideal) ℓ) (g : Dev Cert.AttnKernelIdeal.nD → PrngReg)
    (hpre : Cert.Pre_AttnKernelIdeal_finite_attn m) :
    θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
      r.2.mem ((c.tc : Thread Cert.AttnKernelIdeal.nD Cert.AttnKernelIdeal.τ).loc Cert.AttnKernelIdeal.main_v44_0) = Cert.AttnReferenceIdeal.Grad.res0 (Cert.AttnKernelIdeal.Grad.aq m c) (Cert.AttnKernelIdeal.Grad.akv m c) (Cert.AttnKernelIdeal.Grad.ape m c) (Cert.AttnKernelIdeal.Grad.ag m c)
      ∧ r.2.mem ((c.tc : Thread Cert.AttnKernelIdeal.nD Cert.AttnKernelIdeal.τ).loc Cert.AttnKernelIdeal.main_v44_1) = Cert.AttnReferenceIdeal.Grad.res1 (Cert.AttnKernelIdeal.Grad.aq m c) (Cert.AttnKernelIdeal.Grad.akv m c) (Cert.AttnKernelIdeal.Grad.ape m c) (Cert.AttnKernelIdeal.Grad.ag m c)
      ∧ r.2.mem ((c.tc : Thread Cert.AttnKernelIdeal.nD Cert.AttnKernelIdeal.τ).loc Cert.AttnKernelIdeal.main_v44_2) = Cert.AttnReferenceIdeal.Grad.res2 (Cert.AttnKernelIdeal.Grad.aq m c) (Cert.AttnKernelIdeal.Grad.akv m c) (Cert.AttnKernelIdeal.Grad.ape m c) (Cert.AttnKernelIdeal.Grad.ag m c)) :=
  (θ_run Cert.AttnKernelIdeal.defs _ _).mono (fun r h c => by
      have hc : c = 0 := Subsingleton.elim _ _
      subst hc
      exact Cert.AttnKernelIdeal.Grad.gradients m 0 hpre _ _ _ (Cert.AttnKernelIdeal.Grad.final m r 0 h.1))
    (Cert.AttnKernelIdeal.Grad.run_main m g (Cert.AttnKernelIdeal.Grad.left m 0) fun c => by
      have hc : c = 0 := Subsingleton.elim _ _
      subst hc
      exact Cert.AttnKernelIdeal.Grad.meets m 0)

/-- The attention's gradients: on real arguments the kernel's arrays and the reference's are the same functions of the arguments. -/
theorem attn_algebraic : Cert.algebraic_AttnKernelIdeal_AttnReferenceIdeal_pre_finite_attn := by
  intro m g m' g' hpre hagree
  refine ⟨fun c => Cert.AttnReferenceIdeal.Grad.res0 (Cert.AttnKernelIdeal.Grad.aq m c) (Cert.AttnKernelIdeal.Grad.akv m c) (Cert.AttnKernelIdeal.Grad.ape m c) (Cert.AttnKernelIdeal.Grad.ag m c), fun c => Cert.AttnReferenceIdeal.Grad.res1 (Cert.AttnKernelIdeal.Grad.aq m c) (Cert.AttnKernelIdeal.Grad.akv m c) (Cert.AttnKernelIdeal.Grad.ape m c) (Cert.AttnKernelIdeal.Grad.ag m c), fun c => Cert.AttnReferenceIdeal.Grad.res2 (Cert.AttnKernelIdeal.Grad.aq m c) (Cert.AttnKernelIdeal.Grad.akv m c) (Cert.AttnKernelIdeal.Grad.ape m c) (Cert.AttnKernelIdeal.Grad.ag m c), ?_, ?_⟩
  · refine θ_run_mono (θ_run_and (attn_run m g hpre) (Cert.AttnKernelIdeal.Grad.frame_any m g)) fun r h c => ?_
    exact ⟨(h.1 c).1, (h.1 c).2.1, (h.1 c).2.2, h.2.1 c⟩
  · refine θ_run_mono (Cert.AttnReferenceIdeal.Value.run m' g') fun r h c => ?_
    have ha := hagree c
    refine ⟨(h c).1.trans ((Cert.AttnReferenceIdeal.Grad.res0_eq m' c).trans ?_), (h c).2.1.trans ((Cert.AttnReferenceIdeal.Grad.res1_eq m' c).trans ?_),
      (h c).2.2.1.trans ((Cert.AttnReferenceIdeal.Grad.res2_eq m' c).trans ?_), (h c).2.2.2⟩
    all_goals rw [ha.1, ha.2.1, ha.2.2.1, ha.2.2.2]

/-- The attention's reference keeps its arguments and declares no semaphore. -/
theorem attn_reference_frame : Cert.quiescent_AttnReferenceIdeal := fun m ρ _ =>
  (θ_run Cert.AttnReferenceIdeal.defs _ _).mono (fun r h => ⟨fun c => (h c).2.2.2,
      Idealize.ShloMosaic.sem_eq_zero_of_no_sems (by decide) r.2⟩)
    (Cert.AttnReferenceIdeal.Value.run (F := Ideal) m ρ)

/-- The reference of the group norm's gradients keeps its arguments and declares no semaphore. -/
theorem post_reference_frame : Cert.quiescent_PostReferenceIdeal := fun m ρ _ =>
  (θ_run Cert.PostReferenceIdeal.defs _ _).mono (fun r h => ⟨fun c => (h c).2.2.2.2.2.2.2,
      Idealize.ShloMosaic.sem_eq_zero_of_no_sems (by decide) r.2⟩)
    (Cert.PostReferenceIdeal.Value.run (F := Ideal) m ρ)

/-- The reference of the rms norms' gradients keeps its arguments and declares no semaphore. -/
theorem mla_reference_frame : Cert.quiescent_MlaReferenceIdeal := fun m ρ _ =>
  (θ_run Cert.MlaReferenceIdeal.defs _ _).mono (fun r h => ⟨fun c => (h c).2.2.2.2.2,
      Idealize.ShloMosaic.sem_eq_zero_of_no_sems (by decide) r.2⟩)
    (Cert.MlaReferenceIdeal.Value.run (F := Ideal) m ρ)

/-- Everything the statement claims. -/
theorem claim : Cert.Claim := ⟨Cert.MergeKernel.Gen.facts, Cert.MergeKernelIdeal.Gen.facts, Cert.MergeReferenceIdeal.Gen.facts,
  Cert.AttnKernel.Gen.facts, Cert.AttnKernelIdeal.Gen.facts, Cert.AttnReferenceIdeal.Gen.facts,
  Cert.LossKernel.Gen.facts, Cert.LossKernelIdeal.Gen.facts, Cert.LossReferenceIdeal.Gen.facts,
  Cert.In3Kernel.Gen.facts, Cert.In3KernelIdeal.Gen.facts, Cert.In3ReferenceIdeal.Gen.facts,
  Cert.In2Kernel.Gen.facts, Cert.In2KernelIdeal.Gen.facts, Cert.In2ReferenceIdeal.Gen.facts,
  Cert.In1Kernel.Gen.facts, Cert.In1KernelIdeal.Gen.facts, Cert.In1ReferenceIdeal.Gen.facts,
  Cert.InFKernel.Gen.facts, Cert.InFKernelIdeal.Gen.facts, Cert.InFReferenceIdeal.Gen.facts,
  Cert.PostKernel.Gen.facts, Cert.PostKernelIdeal.Gen.facts, Cert.PostReferenceIdeal.Gen.facts,
  Cert.MlaKernel.Gen.facts, Cert.MlaKernelIdeal.Gen.facts, Cert.MlaReferenceIdeal.Gen.facts, Cert.Pre_finite_attn.Gen.facts,
  fun m ρ _ => Cert.MergeKernel.Gen.frame m ρ, fun m ρ _ => Cert.MergeKernelIdeal.Gen.frame m ρ, merge_reference_frame,
  Cert.AttnKernelIdeal.Grad.frame_kernel, Cert.AttnKernelIdeal.Grad.frame_ideal, fun m ρ _ => Cert.AttnKernelIdeal.Grad.frame_any m ρ,
  attn_reference_frame, fun m ρ _ => attn_reference_frame m ρ trivial,
  fun m ρ _ => Cert.LossKernel.Gen.frame m ρ, fun m ρ _ => Cert.LossKernelIdeal.Gen.frame m ρ, loss_reference_frame,
  fun m ρ _ => Cert.In3Kernel.Gen.frame m ρ, fun m ρ _ => Cert.In3KernelIdeal.Gen.frame m ρ, in3_reference_frame,
  fun m ρ _ => Cert.In2Kernel.Gen.frame m ρ, fun m ρ _ => Cert.In2KernelIdeal.Gen.frame m ρ, in2_reference_frame,
  fun m ρ _ => Cert.In1Kernel.Gen.frame m ρ, fun m ρ _ => Cert.In1KernelIdeal.Gen.frame m ρ, in1_reference_frame,
  fun m ρ _ => Cert.InFKernel.Gen.frame m ρ, fun m ρ _ => Cert.InFKernelIdeal.Gen.frame m ρ, inf_reference_frame,
  fun m ρ _ => Cert.PostKernel.Gen.frame m ρ, fun m ρ _ => Cert.PostKernelIdeal.Gen.frame m ρ, post_reference_frame,
  fun m ρ _ => Cert.MlaKernel.Gen.frame m ρ, fun m ρ _ => Cert.MlaKernelIdeal.Gen.frame m ρ, mla_reference_frame,
  trivial, merge_algebraic, trivial, attn_algebraic, trivial, loss_algebraic, trivial, in3_algebraic, trivial, in2_algebraic, trivial, in1_algebraic,
  trivial, inf_algebraic, trivial, trivial⟩

end Cert.Proof

end
